-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_resolved [hPre_resolved : Cert.Pre_resolved.Facts] (m : (ℓ : Loc Cert.KernelIdeal.nD Cert.KernelIdeal.τ Cert.KernelIdeal.sig) → Buf (Elt Ideal) ℓ) : Prop :=
  ∀ c : Dev Cert.KernelIdeal.nD,
    (Cert.Pre_resolved.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_resolved [hPre_resolved : Cert.Pre_resolved.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_resolved.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_resolved [hKernelIdeal : Cert.KernelIdeal.Facts] [hPre_resolved : Cert.Pre_resolved.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_resolved m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_resolved [hReferenceIdeal : Cert.ReferenceIdeal.Facts] [hPre_resolved : Cert.Pre_resolved.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_resolved m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_resolved [hKernelIdeal : Cert.KernelIdeal.Facts] [hReferenceIdeal : Cert.ReferenceIdeal.Facts] [hPre_resolved : Cert.Pre_resolved.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_resolved m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_resolved : Cert.Pre_resolved.Facts),
    quiescent_Kernel (hKernel := hKernel)
    ∧ quiescent_KernelIdeal (hKernelIdeal := hKernelIdeal)
    ∧ quiescent_KernelIdeal_pre_resolved (hKernelIdeal := hKernelIdeal) (hPre_resolved := hPre_resolved)
    ∧ quiescent_ReferenceIdeal (hReferenceIdeal := hReferenceIdeal)
    ∧ quiescent_ReferenceIdeal_pre_resolved (hReferenceIdeal := hReferenceIdeal) (hPre_resolved := hPre_resolved)
    ∧ preserves_Kernel_KernelIdeal
    ∧ algebraic_KernelIdeal_ReferenceIdeal_pre_resolved (hKernelIdeal := hKernelIdeal) (hReferenceIdeal := hReferenceIdeal) (hPre_resolved := hPre_resolved)
-- ==== Pre_resolved.lean ====
abbrev S64x768 : Shape := ⟨2, ![64, 768]⟩
abbrev S100000x768 : Shape := ⟨2, ![100000, 768]⟩
abbrev S64 : Shape := ⟨1, ![64]⟩
abbrev S768x100000 : Shape := ⟨2, ![768, 100000]⟩
abbrev S64x100000 : Shape := ⟨2, ![64, 100000]⟩
abbrev S64x1 : Shape := ⟨2, ![64, 1]⟩
abbrev S_ : Shape := ⟨0, ![]⟩
abbrev S64x100000x1 : Shape := ⟨3, ![64, 100000, 1]⟩
abbrev S1 : Shape := ⟨1, ![1]⟩
abbrev S1x1x1 : Shape := ⟨3, ![1, 1, 1]⟩
abbrev S2 : Shape := ⟨1, ![2]⟩
abbrev S1x1 : Shape := ⟨2, ![1, 1]⟩

class Facts : Prop where
  transposes_S100000x768_S768x100000_1_0 : S100000x768.Transposes [1, 0] S768x100000
  bcast_S64_S64x1_0 : S64.BroadcastsInDim S64x1 (![0] : Fin 1 → Fin S64x1.rank)
  bcast_S64x1_S64x100000_0_1 : S64x1.BroadcastsInDim S64x100000 (![0, 1] : Fin 2 → Fin S64x100000.rank)
  bcast_S_S64x100000 : S_.BroadcastsInDim S64x100000 (![] : Fin 0 → Fin S64x100000.rank)
  shapeCasts_S64x100000_S64x100000x1 : S64x100000.ShapeCasts S64x100000x1
  bcast_S_S64x100000x1 : S_.BroadcastsInDim S64x100000x1 (![] : Fin 0 → Fin S64x100000x1.rank)
  bcast_S1_S1x1x1_2 : S1.BroadcastsInDim S1x1x1 (![2] : Fin 1 → Fin S1x1x1.rank)
  bcast_S1x1x1_S64x100000x1_0_1_2 : S1x1x1.BroadcastsInDim S64x100000x1 (![0, 1, 2] : Fin 3 → Fin S64x100000x1.rank)
  reducesTo_S64x100000x1_S64x100000_d2 : S64x100000x1.ReducesTo [2] S64x100000
  h_S_ : 0 < S_.numel
  reducesTo_S64x100000_S64_d1 : S64x100000.ReducesTo [1] S64
  bcast_S_S64 : S_.BroadcastsInDim S64 (![] : Fin 0 → Fin S64.rank)
  bcast_S_S_ : S_.BroadcastsInDim S_ (![] : Fin 0 → Fin S_.rank)
  reduceWindows_S64x100000_S64x100000_w1s1p0_0_w100000s1p99999_0 : S64x100000.ReduceWindows (![1, 100000] : Fin 2 → Nat) ![1, 1] ![0, 99999] ![0, 0] S64x100000
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  natLt_32_64 : 32 < 64
  bcast_S1x1_S64x100000_0_1 : S1x1.BroadcastsInDim S64x100000 (![0, 1] : Fin 2 → Fin S64x100000.rank)
  bcast_S_S64x1 : S_.BroadcastsInDim S64x1 (![] : Fin 0 → Fin S64x1.rank)
  reducesTo_S64x100000_S_d0_1 : S64x100000.ReducesTo [0, 1] S_
  reducesTo_S64_S_d0 : S64.ReducesTo [0] S_
  dot_S64x768_S768x100000_S64x100000_1_0_0_1_n_n_wf : DotDims.WF S64x768 S768x100000 S64x100000 [1] [0] [0] [1] [] []
  gather_S64x100000_S64x100000x1_S64x100000_n_1_0_0_1_2_11_wf : GatherDims.WF S64x100000 S64x100000x1 S64x100000 [] [1] [0] [1] [0] 2 ![1, 1]

variable [Facts]

variable {F : FTy → Type} [FloatOps F]
def dot_S64x768_S768x100000_S64x100000_1_0_0_1_n_n : DotDims S64x768 S768x100000 S64x100000 where
  lhsContracting := [1]
  rhsContracting := [0]
  lhsNonContracting := [0]
  rhsNonContracting := [1]
  lhsBatch := []
  rhsBatch := []
  wf := dot_S64x768_S768x100000_S64x100000_1_0_0_1_n_n_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S64x100000_S64x100000x1_S64x100000_n_1_0_0_1_2_11 : GatherDims S64x100000 S64x100000x1 S64x100000 where
  offsetDims := []
  collapsedSliceDims := [1]
  operandBatchingDims := [0]
  startIndicesBatchingDims := [0]
  startIndexMap := [1]
  indexVectorDim := 2
  sliceSizes := ![1, 1]
  wf := gather_S64x100000_S64x100000x1_S64x100000_n_1_0_0_1_2_11_wf
def comparator_i32_i32_d1 : BitVec 32 × BitVec 32 → BitVec 32 × BitVec 32 → BitVec 1 :=
  fun l r =>
    let v2 := IntOp.cmpi .slt l.1 r.1
    v2
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argsort {F : FTy → Type} [FloatOps F] (arg0 : FVec F S64x100000 .f32) : IVec S64x100000 32 :=
  let v0 : IVec S64x100000 32 := iotaInDim S64x100000 32 1
  let v1_0 : FVec F S64x100000 .f32 := (fun x y => (Host.sort2 S64x100000 1 comparator_f32_i32_d1 x y).1) arg0 v0
  let v1_1 : IVec S64x100000 32 := (fun x y => (Host.sort2 S64x100000 1 comparator_f32_i32_d1 x y).2) arg0 v0
  v1_1

def fn_take_along_axis {F : FTy → Type} [FloatOps F] (arg0 : FVec F S64x100000 .f32) (arg1 : IVec S64x100000 32) : FVec F S64x100000 .f32 :=
  let c : IVec S_ 32 := constantI S_ 32 0#32
  let v0 : IVec S64x100000 32 := broadcastInDim S64x100000 ![] bcast_S_S64x100000 c
  let v1 : IVec S64x100000 1 := cmpi .slt arg1 v0
  let c_0 : IVec S_ 32 := constantI S_ 32 100000#32
  let v2 : IVec S64x100000 32 := broadcastInDim S64x100000 ![] bcast_S_S64x100000 c_0
  let v3 : IVec S64x100000 32 := addi arg1 v2
  let v4 : IVec S64x100000 32 := select v1 v3 arg1
  let v5 : IVec S64x100000x1 32 := shapeCast S64x100000x1 v4 shapeCasts_S64x100000_S64x100000x1
  let c_1 : IVec S1 32 := constantI S1 32 99999#32
  let c_2 : IVec S_ 32 := constantI S_ 32 0#32
  let v6 : IVec S64x100000x1 32 := broadcastInDim S64x100000x1 ![] bcast_S_S64x100000x1 c_2
  let v7 : IVec S64x100000x1 1 := cmpi .sge v5 v6
  let v8 : IVec S1x1x1 32 := broadcastInDim S1x1x1 ![2] bcast_S1_S1x1x1_2 c_1
  let v9 : IVec S64x100000x1 32 := broadcastInDim S64x100000x1 ![0, 1, 2] bcast_S1x1x1_S64x100000x1_0_1_2 v8
  let v10 : IVec S64x100000x1 1 := cmpi .sle v5 v9
  let v11 : IVec S64x100000x1 1 := andi v7 v10
  let c_3 : IVec S_ 1 := constantI S_ 1 1#1
  let v12 : IVec S64x100000 1 := (fun x v => Host.reduce IntOp.andi x v reducesTo_S64x100000x1_S64x100000_d2 h_S_) v11 c_3
  let v13 : FVec F S64x100000 .f32 := (fun x i => Host.gather gather_S64x100000_S64x100000x1_S64x100000_n_1_0_0_1_2_11 x i) arg0 v5
  let cst : FVec F S_ .f32 := constant S_ .f32 0x7FC00000#32
  let v14 : FVec F S64x100000 .f32 := broadcastInDim S64x100000 ![] bcast_S_S64x100000 cst
  let v15 : FVec F S64x100000 .f32 := select v12 v13 v14
  v15

def fn_cumsum_0 {F : FTy → Type} [FloatOps F] (arg0 : FVec F S64x100000 .f32) : FVec F S64x100000 .f32 :=
  let cst : FVec F S_ .f32 := constant S_ .f32 0x00000000#32
  let v0 : FVec F S_ .f32 := broadcastInDim S_ ![] bcast_S_S_ cst
  let v1 : FVec F S64x100000 .f32 := (fun x v => Host.reduceWindowAdd ![1, 100000] ![1, 1] ![0, 99999] ![0, 0] x v reduceWindows_S64x100000_S64x100000_w1s1p0_0_w100000s1p99999_0 h_S_) arg0 v0
  v1

def fn_cumsum {F : FTy → Type} [FloatOps F] (arg0 : FVec F S64x100000 .f32) : FVec F S64x100000 .f32 :=
  let v0 : FVec F S64x100000 .f32 := fn_cumsum_0 (F := F) arg0
  v0

def fn_where {F : FTy → Type} [FloatOps F] (arg0 : IVec S64x100000 1) (arg1 : FVec F S_ .f32) (arg2 : FVec F S64x100000 .f32) : FVec F S64x100000 .f32 :=
  let v0 : FVec F S_ .f32 := id arg1
  let v1 : FVec F S64x100000 .f32 := broadcastInDim S64x100000 ![] bcast_S_S64x100000 v0
  let v2 : FVec F S64x100000 .f32 := select arg0 v1 arg2
  v2

def fn_argsort_1 {F : FTy → Type} [FloatOps F] (arg0 : IVec S64x100000 32) : IVec S64x100000 32 :=
  let v0 : IVec S64x100000 32 := iotaInDim S64x100000 32 1
  let v1_0 : IVec S64x100000 32 := (fun x y => (Host.sort2 S64x100000 1 comparator_i32_i32_d1 x y).1) arg0 v0
  let v1_1 : IVec S64x100000 32 := (fun x y => (Host.sort2 S64x100000 1 comparator_i32_i32_d1 x y).2) arg0 v0
  v1_1

def fn_threefry2x32_part9 {F : FTy → Type} [FloatOps F] (arg0 : IVec S_ 32) (v163 : IVec S64x100000 32) (v169 : IVec S64x100000 32) (v170 : IVec S64x100000 32) : IVec S64x100000 32 × IVec S64x100000 32 :=
  let v171 : IVec S64x100000 32 := addi v163 v170
  let v172 : IVec S64x100000 32 := broadcastInDim S64x100000 ![] bcast_S_S64x100000 arg0
  let v173 : IVec S64x100000 32 := addi v169 v172
  let c_44 : IVec S_ 32 := constantI S_ 32 5#32
  let v174 : IVec S64x100000 32 := broadcastInDim S64x100000 ![] bcast_S_S64x100000 c_44
  let v175 : IVec S64x100000 32 := addi v173 v174
  (v171, v175)

def fn_threefry2x32_part8 {F : FTy → Type} [FloatOps F] (arg0 : IVec S_ 32) (v1 : IVec S_ 32) (v148 : IVec S64x100000 32) (v149 : IVec S64x100000 32) (v151 : IVec S64x100000 32) : IVec S64x100000 32 × IVec S64x100000 32 :=
  let c_39 : IVec S_ 32 := constantI S_ 32 17#32
  let v152 : IVec S64x100000 32 := broadcastInDim S64x100000 ![] bcast_S_S64x100000 c_39
  let v153 : IVec S64x100000 32 := Host.shrui v148 v152
  let v154 : IVec S64x100000 32 := ori v151 v153
  let v155 : IVec S64x100000 32 := xori v149 v154
  let v156 : IVec S64x100000 32 := addi v149 v155
  let c_40 : IVec S_ 32 := constantI S_ 32 26#32
  let v157 : IVec S64x100000 32 := broadcastInDim S64x100000 ![] bcast_S_S64x100000 c_40
  let v158 : IVec S64x100000 32 := Host.shli v155 v157
  let c_41 : IVec S_ 32 := constantI S_ 32 6#32
  let v159 : IVec S64x100000 32 := broadcastInDim S64x100000 ![] bcast_S_S64x100000 c_41
  let v160 : IVec S64x100000 32 := Host.shrui v155 v159
  let v161 : IVec S64x100000 32 := ori v158 v160
  let v162 : IVec S64x100000 32 := xori v156 v161
  let v163 : IVec S64x100000 32 := addi v156 v162
  let c_42 : IVec S_ 32 := constantI S_ 32 6#32
  let v164 : IVec S64x100000 32 := broadcastInDim S64x100000 ![] bcast_S_S64x100000 c_42
  let v165 : IVec S64x100000 32 := Host.shli v162 v164
  let c_43 : IVec S_ 32 := constantI S_ 32 26#32
  let v166 : IVec S64x100000 32 := broadcastInDim S64x100000 ![] bcast_S_S64x100000 c_43
  let v167 : IVec S64x100000 32 := Host.shrui v162 v166
  let v168 : IVec S64x100000 32 := ori v165 v167
  let v169 : IVec S64x100000 32 := xori v163 v168
  let v170 : IVec S64x100000 32 := broadcastInDim S64x100000 ![] bcast_S_S64x100000 v1
  fn_threefry2x32_part9 (F := F) arg0 v163 v169 v170

def fn_threefry2x32_part7 {F : FTy → Type} [FloatOps F] (arg0 : IVec S_ 32) (arg1 : IVec S_ 32) (v1 : IVec S_ 32) (v128 : IVec S64x100000 32) (v129 : IVec S64x100000 32) (v131 : IVec S64x100000 32) (c_34 : IVec S_ 32) : IVec S64x100000 32 × IVec S64x100000 32 :=
  let v132 : IVec S64x100000 32 := broadcastInDim S64x100000 ![] bcast_S_S64x100000 c_34
  let v133 : IVec S64x100000 32 := Host.shrui v128 v132
  let v134 : IVec S64x100000 32 := ori v131 v133
  let v135 : IVec S64x100000 32 := xori v129 v134
  let v136 : IVec S64x100000 32 := broadcastInDim S64x100000 ![] bcast_S_S64x100000 arg1
  let v137 : IVec S64x100000 32 := addi v129 v136
  let v138 : IVec S64x100000 32 := broadcastInDim S64x100000 ![] bcast_S_S64x100000 v1
  let v139 : IVec S64x100000 32 := addi v135 v138
  let c_35 : IVec S_ 32 := constantI S_ 32 4#32
  let v140 : IVec S64x100000 32 := broadcastInDim S64x100000 ![] bcast_S_S64x100000 c_35
  let v141 : IVec S64x100000 32 := addi v139 v140
  let v142 : IVec S64x100000 32 := addi v137 v141
  let c_36 : IVec S_ 32 := constantI S_ 32 13#32
  let v143 : IVec S64x100000 32 := broadcastInDim S64x100000 ![] bcast_S_S64x100000 c_36
  let v144 : IVec S64x100000 32 := Host.shli v141 v143
  let c_37 : IVec S_ 32 := constantI S_ 32 19#32
  let v145 : IVec S64x100000 32 := broadcastInDim S64x100000 ![] bcast_S_S64x100000 c_37
  let v146 : IVec S64x100000 32 := Host.shrui v141 v145
  let v147 : IVec S64x100000 32 := ori v144 v146
  let v148 : IVec S64x100000 32 := xori v142 v147
  let v149 : IVec S64x100000 32 := addi v142 v148
  let c_38 : IVec S_ 32 := constantI S_ 32 15#32
  let v150 : IVec S64x100000 32 := broadcastInDim S64x100000 ![] bcast_S_S64x100000 c_38
  let v151 : IVec S64x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S64x100000 32) (v113 : IVec S64x100000 32) : IVec S64x100000 32 × IVec S64x100000 32 :=
  let v114 : IVec S64x100000 32 := xori v108 v113
  let v115 : IVec S64x100000 32 := addi v108 v114
  let c_29 : IVec S_ 32 := constantI S_ 32 29#32
  let v116 : IVec S64x100000 32 := broadcastInDim S64x100000 ![] bcast_S_S64x100000 c_29
  let v117 : IVec S64x100000 32 := Host.shli v114 v116
  let c_30 : IVec S_ 32 := constantI S_ 32 3#32
  let v118 : IVec S64x100000 32 := broadcastInDim S64x100000 ![] bcast_S_S64x100000 c_30
  let v119 : IVec S64x100000 32 := Host.shrui v114 v118
  let v120 : IVec S64x100000 32 := ori v117 v119
  let v121 : IVec S64x100000 32 := xori v115 v120
  let v122 : IVec S64x100000 32 := addi v115 v121
  let c_31 : IVec S_ 32 := constantI S_ 32 16#32
  let v123 : IVec S64x100000 32 := broadcastInDim S64x100000 ![] bcast_S_S64x100000 c_31
  let v124 : IVec S64x100000 32 := Host.shli v121 v123
  let c_32 : IVec S_ 32 := constantI S_ 32 16#32
  let v125 : IVec S64x100000 32 := broadcastInDim S64x100000 ![] bcast_S_S64x100000 c_32
  let v126 : IVec S64x100000 32 := Host.shrui v121 v125
  let v127 : IVec S64x100000 32 := ori v124 v126
  let v128 : IVec S64x100000 32 := xori v122 v127
  let v129 : IVec S64x100000 32 := addi v122 v128
  let c_33 : IVec S_ 32 := constantI S_ 32 24#32
  let v130 : IVec S64x100000 32 := broadcastInDim S64x100000 ![] bcast_S_S64x100000 c_33
  let v131 : IVec S64x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S64x100000 32) (v94 : IVec S64x100000 32) : IVec S64x100000 32 × IVec S64x100000 32 :=
  let v95 : IVec S64x100000 32 := addi v88 v94
  let c_24 : IVec S_ 32 := constantI S_ 32 6#32
  let v96 : IVec S64x100000 32 := broadcastInDim S64x100000 ![] bcast_S_S64x100000 c_24
  let v97 : IVec S64x100000 32 := Host.shli v94 v96
  let c_25 : IVec S_ 32 := constantI S_ 32 26#32
  let v98 : IVec S64x100000 32 := broadcastInDim S64x100000 ![] bcast_S_S64x100000 c_25
  let v99 : IVec S64x100000 32 := Host.shrui v94 v98
  let v100 : IVec S64x100000 32 := ori v97 v99
  let v101 : IVec S64x100000 32 := xori v95 v100
  let v102 : IVec S64x100000 32 := broadcastInDim S64x100000 ![] bcast_S_S64x100000 arg0
  let v103 : IVec S64x100000 32 := addi v95 v102
  let v104 : IVec S64x100000 32 := broadcastInDim S64x100000 ![] bcast_S_S64x100000 arg1
  let v105 : IVec S64x100000 32 := addi v101 v104
  let c_26 : IVec S_ 32 := constantI S_ 32 3#32
  let v106 : IVec S64x100000 32 := broadcastInDim S64x100000 ![] bcast_S_S64x100000 c_26
  let v107 : IVec S64x100000 32 := addi v105 v106
  let v108 : IVec S64x100000 32 := addi v103 v107
  let c_27 : IVec S_ 32 := constantI S_ 32 17#32
  let v109 : IVec S64x100000 32 := broadcastInDim S64x100000 ![] bcast_S_S64x100000 c_27
  let v110 : IVec S64x100000 32 := Host.shli v107 v109
  let c_28 : IVec S_ 32 := constantI S_ 32 15#32
  let v111 : IVec S64x100000 32 := broadcastInDim S64x100000 ![] bcast_S_S64x100000 c_28
  let v112 : IVec S64x100000 32 := Host.shrui v107 v111
  let v113 : IVec S64x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S64x100000 32) (v74 : IVec S64x100000 32) (v75 : IVec S64x100000 32) : IVec S64x100000 32 × IVec S64x100000 32 :=
  let v76 : IVec S64x100000 32 := Host.shli v73 v75
  let c_19 : IVec S_ 32 := constantI S_ 32 19#32
  let v77 : IVec S64x100000 32 := broadcastInDim S64x100000 ![] bcast_S_S64x100000 c_19
  let v78 : IVec S64x100000 32 := Host.shrui v73 v77
  let v79 : IVec S64x100000 32 := ori v76 v78
  let v80 : IVec S64x100000 32 := xori v74 v79
  let v81 : IVec S64x100000 32 := addi v74 v80
  let c_20 : IVec S_ 32 := constantI S_ 32 15#32
  let v82 : IVec S64x100000 32 := broadcastInDim S64x100000 ![] bcast_S_S64x100000 c_20
  let v83 : IVec S64x100000 32 := Host.shli v80 v82
  let c_21 : IVec S_ 32 := constantI S_ 32 17#32
  let v84 : IVec S64x100000 32 := broadcastInDim S64x100000 ![] bcast_S_S64x100000 c_21
  let v85 : IVec S64x100000 32 := Host.shrui v80 v84
  let v86 : IVec S64x100000 32 := ori v83 v85
  let v87 : IVec S64x100000 32 := xori v81 v86
  let v88 : IVec S64x100000 32 := addi v81 v87
  let c_22 : IVec S_ 32 := constantI S_ 32 26#32
  let v89 : IVec S64x100000 32 := broadcastInDim S64x100000 ![] bcast_S_S64x100000 c_22
  let v90 : IVec S64x100000 32 := Host.shli v87 v89
  let c_23 : IVec S_ 32 := constantI S_ 32 6#32
  let v91 : IVec S64x100000 32 := broadcastInDim S64x100000 ![] bcast_S_S64x100000 c_23
  let v92 : IVec S64x100000 32 := Host.shrui v87 v91
  let v93 : IVec S64x100000 32 := ori v90 v92
  let v94 : IVec S64x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S64x100000 32) (v54 : IVec S64x100000 32) (v56 : IVec S64x100000 32) : IVec S64x100000 32 × IVec S64x100000 32 :=
  let c_14 : IVec S_ 32 := constantI S_ 32 16#32
  let v57 : IVec S64x100000 32 := broadcastInDim S64x100000 ![] bcast_S_S64x100000 c_14
  let v58 : IVec S64x100000 32 := Host.shrui v53 v57
  let v59 : IVec S64x100000 32 := ori v56 v58
  let v60 : IVec S64x100000 32 := xori v54 v59
  let v61 : IVec S64x100000 32 := addi v54 v60
  let c_15 : IVec S_ 32 := constantI S_ 32 24#32
  let v62 : IVec S64x100000 32 := broadcastInDim S64x100000 ![] bcast_S_S64x100000 c_15
  let v63 : IVec S64x100000 32 := Host.shli v60 v62
  let c_16 : IVec S_ 32 := constantI S_ 32 8#32
  let v64 : IVec S64x100000 32 := broadcastInDim S64x100000 ![] bcast_S_S64x100000 c_16
  let v65 : IVec S64x100000 32 := Host.shrui v60 v64
  let v66 : IVec S64x100000 32 := ori v63 v65
  let v67 : IVec S64x100000 32 := xori v61 v66
  let v68 : IVec S64x100000 32 := broadcastInDim S64x100000 ![] bcast_S_S64x100000 v1
  let v69 : IVec S64x100000 32 := addi v61 v68
  let v70 : IVec S64x100000 32 := broadcastInDim S64x100000 ![] bcast_S_S64x100000 arg0
  let v71 : IVec S64x100000 32 := addi v67 v70
  let c_17 : IVec S_ 32 := constantI S_ 32 2#32
  let v72 : IVec S64x100000 32 := broadcastInDim S64x100000 ![] bcast_S_S64x100000 c_17
  let v73 : IVec S64x100000 32 := addi v71 v72
  let v74 : IVec S64x100000 32 := addi v69 v73
  let c_18 : IVec S_ 32 := constantI S_ 32 13#32
  let v75 : IVec S64x100000 32 := broadcastInDim S64x100000 ![] bcast_S_S64x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S64x100000 32) (v37 : IVec S64x100000 32) (c_8 : IVec S_ 32) : IVec S64x100000 32 × IVec S64x100000 32 :=
  let v38 : IVec S64x100000 32 := broadcastInDim S64x100000 ![] bcast_S_S64x100000 c_8
  let v39 : IVec S64x100000 32 := addi v37 v38
  let v40 : IVec S64x100000 32 := addi v35 v39
  let c_9 : IVec S_ 32 := constantI S_ 32 17#32
  let v41 : IVec S64x100000 32 := broadcastInDim S64x100000 ![] bcast_S_S64x100000 c_9
  let v42 : IVec S64x100000 32 := Host.shli v39 v41
  let c_10 : IVec S_ 32 := constantI S_ 32 15#32
  let v43 : IVec S64x100000 32 := broadcastInDim S64x100000 ![] bcast_S_S64x100000 c_10
  let v44 : IVec S64x100000 32 := Host.shrui v39 v43
  let v45 : IVec S64x100000 32 := ori v42 v44
  let v46 : IVec S64x100000 32 := xori v40 v45
  let v47 : IVec S64x100000 32 := addi v40 v46
  let c_11 : IVec S_ 32 := constantI S_ 32 29#32
  let v48 : IVec S64x100000 32 := broadcastInDim S64x100000 ![] bcast_S_S64x100000 c_11
  let v49 : IVec S64x100000 32 := Host.shli v46 v48
  let c_12 : IVec S_ 32 := constantI S_ 32 3#32
  let v50 : IVec S64x100000 32 := broadcastInDim S64x100000 ![] bcast_S_S64x100000 c_12
  let v51 : IVec S64x100000 32 := Host.shrui v46 v50
  let v52 : IVec S64x100000 32 := ori v49 v51
  let v53 : IVec S64x100000 32 := xori v47 v52
  let v54 : IVec S64x100000 32 := addi v47 v53
  let c_13 : IVec S_ 32 := constantI S_ 32 16#32
  let v55 : IVec S64x100000 32 := broadcastInDim S64x100000 ![] bcast_S_S64x100000 c_13
  let v56 : IVec S64x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S64x100000 32) (v18 : IVec S64x100000 32) : IVec S64x100000 32 × IVec S64x100000 32 :=
  let v19 : IVec S64x100000 32 := xori v13 v18
  let v20 : IVec S64x100000 32 := addi v13 v19
  let c_4 : IVec S_ 32 := constantI S_ 32 26#32
  let v21 : IVec S64x100000 32 := broadcastInDim S64x100000 ![] bcast_S_S64x100000 c_4
  let v22 : IVec S64x100000 32 := Host.shli v19 v21
  let c_5 : IVec S_ 32 := constantI S_ 32 6#32
  let v23 : IVec S64x100000 32 := broadcastInDim S64x100000 ![] bcast_S_S64x100000 c_5
  let v24 : IVec S64x100000 32 := Host.shrui v19 v23
  let v25 : IVec S64x100000 32 := ori v22 v24
  let v26 : IVec S64x100000 32 := xori v20 v25
  let v27 : IVec S64x100000 32 := addi v20 v26
  let c_6 : IVec S_ 32 := constantI S_ 32 6#32
  let v28 : IVec S64x100000 32 := broadcastInDim S64x100000 ![] bcast_S_S64x100000 c_6
  let v29 : IVec S64x100000 32 := Host.shli v26 v28
  let c_7 : IVec S_ 32 := constantI S_ 32 26#32
  let v30 : IVec S64x100000 32 := broadcastInDim S64x100000 ![] bcast_S_S64x100000 c_7
  let v31 : IVec S64x100000 32 := Host.shrui v26 v30
  let v32 : IVec S64x100000 32 := ori v29 v31
  let v33 : IVec S64x100000 32 := xori v27 v32
  let v34 : IVec S64x100000 32 := broadcastInDim S64x100000 ![] bcast_S_S64x100000 arg1
  let v35 : IVec S64x100000 32 := addi v27 v34
  let v36 : IVec S64x100000 32 := broadcastInDim S64x100000 ![] bcast_S_S64x100000 v1
  let v37 : IVec S64x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S64x100000 32) (arg3 : IVec S64x100000 32) : IVec S64x100000 32 × IVec S64x100000 32 :=
  let v0 : IVec S_ 32 := xori arg0 arg1
  let c : IVec S_ 32 := constantI S_ 32 466688986#32
  let v1 : IVec S_ 32 := xori v0 c
  let v2 : IVec S64x100000 32 := broadcastInDim S64x100000 ![] bcast_S_S64x100000 arg0
  let v3 : IVec S64x100000 32 := addi arg2 v2
  let v4 : IVec S64x100000 32 := broadcastInDim S64x100000 ![] bcast_S_S64x100000 arg1
  let v5 : IVec S64x100000 32 := addi arg3 v4
  let v6 : IVec S64x100000 32 := addi v3 v5
  let c_0 : IVec S_ 32 := constantI S_ 32 13#32
  let v7 : IVec S64x100000 32 := broadcastInDim S64x100000 ![] bcast_S_S64x100000 c_0
  let v8 : IVec S64x100000 32 := Host.shli v5 v7
  let c_1 : IVec S_ 32 := constantI S_ 32 19#32
  let v9 : IVec S64x100000 32 := broadcastInDim S64x100000 ![] bcast_S_S64x100000 c_1
  let v10 : IVec S64x100000 32 := Host.shrui v5 v9
  let v11 : IVec S64x100000 32 := ori v8 v10
  let v12 : IVec S64x100000 32 := xori v6 v11
  let v13 : IVec S64x100000 32 := addi v6 v12
  let c_2 : IVec S_ 32 := constantI S_ 32 15#32
  let v14 : IVec S64x100000 32 := broadcastInDim S64x100000 ![] bcast_S_S64x100000 c_2
  let v15 : IVec S64x100000 32 := Host.shli v12 v14
  let c_3 : IVec S_ 32 := constantI S_ 32 17#32
  let v16 : IVec S64x100000 32 := broadcastInDim S64x100000 ![] bcast_S_S64x100000 c_3
  let v17 : IVec S64x100000 32 := Host.shrui v12 v16
  let v18 : IVec S64x100000 32 := ori v15 v17
  fn_threefry2x32_part1 (F := F) arg0 arg1 v1 v13 v18

def fn_uniform_part1 {F : FTy → Type} [FloatOps F] (v1 : FVec F S1x1 .f32) (v2 : FVec F S1x1 .f32) (v19 : IVec S64x100000 32) : FVec F S64x100000 .f32 :=
  let c_2 : IVec S_ 32 := constantI S_ 32 9#32
  let v20 : IVec S64x100000 32 := broadcastInDim S64x100000 ![] bcast_S_S64x100000 c_2
  let v21 : IVec S64x100000 32 := Host.shrui v19 v20
  let c_3 : IVec S_ 32 := constantI S_ 32 1065353216#32
  let v22 : IVec S64x100000 32 := broadcastInDim S64x100000 ![] bcast_S_S64x100000 c_3
  let v23 : IVec S64x100000 32 := ori v21 v22
  let v24 : FVec F S64x100000 .f32 := bitcastToFloat .f32 v23
  let cst : FVec F S_ .f32 := constant S_ .f32 0x3F800000#32
  let v25 : FVec F S64x100000 .f32 := broadcastInDim S64x100000 ![] bcast_S_S64x100000 cst
  let v26 : FVec F S64x100000 .f32 := subf v24 v25
  let v27 : FVec F S1x1 .f32 := subf v2 v1
  let v28 : FVec F S64x100000 .f32 := broadcastInDim S64x100000 ![0, 1] bcast_S1x1_S64x100000_0_1 v27
  let v29 : FVec F S64x100000 .f32 := mulf v26 v28
  let v30 : FVec F S64x100000 .f32 := broadcastInDim S64x100000 ![0, 1] bcast_S1x1_S64x100000_0_1 v1
  let v31 : FVec F S64x100000 .f32 := addf v29 v30
  let v32 : FVec F S64x100000 .f32 := broadcastInDim S64x100000 ![0, 1] bcast_S1x1_S64x100000_0_1 v1
  let v33 : FVec F S64x100000 .f32 := maximumf v32 v31
  v33

def fn_uniform {F : FTy → Type} [FloatOps F] (arg0 : IVec S2 32) (arg1 : FVec F S_ .f32) (arg2 : FVec F S_ .f32) : FVec F S64x100000 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S64x100000 64 := iotaInDim S64x100000 64 0
  let v8 : IVec S64x100000 64 := iotaInDim S64x100000 64 1
  let c : IVec S_ 64 := constantI S_ 64 100000#64
  let v9 : IVec S64x100000 64 := broadcastInDim S64x100000 ![] bcast_S_S64x100000 c
  let v10 : IVec S64x100000 64 := muli v9 v7
  let c_0 : IVec S_ 64 := constantI S_ 64 1#64
  let v11 : IVec S64x100000 64 := broadcastInDim S64x100000 ![] bcast_S_S64x100000 c_0
  let v12 : IVec S64x100000 64 := muli v11 v8
  let v13 : IVec S64x100000 64 := addi v10 v12
  let c_1 : IVec S_ 64 := constantI S_ 64 32#64
  let v14 : IVec S64x100000 64 := broadcastInDim S64x100000 ![] bcast_S_S64x100000 c_1
  let v15 : IVec S64x100000 64 := Host.shrui v13 v14
  let v16 : IVec S64x100000 32 := (trunci 32 · natLt_32_64) v13
  let v17 : IVec S64x100000 32 := (trunci 32 · natLt_32_64) v15
  let v18_0 : IVec S64x100000 32 := (fn_threefry2x32 (F := F) v4 v6 v17 v16).1
  let v18_1 : IVec S64x100000 32 := (fn_threefry2x32 (F := F) v4 v6 v17 v16).2
  let v19 : IVec S64x100000 32 := xori v18_0 v18_1
  fn_uniform_part1 (F := F) v1 v2 v19

def fn_gumbel {F : FTy → Type} [FloatOps F] (arg0 : IVec S2 32) : FVec F S64x100000 .f32 :=
  let cst : FVec F S_ .f32 := constant S_ .f32 0x3F800000#32
  let cst_0 : FVec F S_ .f32 := constant S_ .f32 0x00800000#32
  let v0 : FVec F S64x100000 .f32 := fn_uniform (F := F) arg0 cst cst_0
  let v1 : FVec F S64x100000 .f32 := Host.log v0
  let v2 : FVec F S64x100000 .f32 := Host.negf v1
  let v3 : FVec F S64x100000 .f32 := Host.log v2
  let v4 : FVec F S64x100000 .f32 := Host.negf v3
  v4

def fn_argmax {F : FTy → Type} [FloatOps F] (arg0 : FVec F S64x100000 .f32) : IVec S64 32 :=
  let v0 : IVec S64x100000 32 := iotaInDim S64x100000 32 1
  let cst : FVec F S_ .f32 := constant S_ .f32 0xFF800000#32
  let c : IVec S_ 32 := constantI S_ 32 0#32
  let v1_0 : FVec F S64 .f32 := (fun x y u v j => (Host.argReduce reducer_argmax_f32_i32 x y u v reducesTo_S64x100000_S64_d1 h_S_ j).1) arg0 v0 cst c
  let v1_1 : IVec S64 32 := (fun x y u v j => (Host.argReduce reducer_argmax_f32_i32 x y u v reducesTo_S64x100000_S64_d1 h_S_ j).2) arg0 v0 cst c
  v1_1

def fn_where_2 {F : FTy → Type} [FloatOps F] (arg0 : IVec S64x100000 1) (arg1 : FVec F S64x100000 .f32) (arg2 : FVec F S_ .f32) : FVec F S64x100000 .f32 :=
  let v0 : FVec F S_ .f32 := id arg2
  let v1 : FVec F S64x100000 .f32 := broadcastInDim S64x100000 ![] bcast_S_S64x100000 v0
  let v2 : FVec F S64x100000 .f32 := select arg0 arg1 v1
  v2

def fn_part3 {F : FTy → Type} [FloatOps F] (main_arg3 : FVec F S64 .f32) (main_v4 : FVec F S64x100000 .f32) (main_v38 : IVec S64x100000 1) (main_v41 : FVec F S64x1 .f32) (main_v53 : IVec S64x100000 1) (main_v57 : IVec S64x100000 1) (main_v58 : FVec F S64x100000 .f32) : IVec S_ 1 :=
  let main_cst_11 : FVec F S_ .f32 := constant S_ .f32 0x7F800000#32
  let main_v59 : FVec F S64x100000 .f32 := broadcastInDim S64x100000 ![] bcast_S_S64x100000 main_cst_11
  let main_v60 : IVec S64x100000 1 := cmpf .olt main_v58 main_v59
  let main_c_12 : IVec S_ 1 := constantI S_ 1 1#1
  let main_v61 : IVec S_ 1 := (fun x v => Host.reduce IntOp.andi x v reducesTo_S64x100000_S_d0_1 h_S_) main_v60 main_c_12
  let main_cst_13 : FVec F S_ .f32 := constant S_ .f32 0x00000000#32
  let main_v62 : FVec F S64 .f32 := broadcastInDim S64 ![] bcast_S_S64 main_cst_13
  let main_v63 : IVec S64 1 := cmpf .oge main_arg3 main_v62
  let main_c_14 : IVec S_ 1 := constantI S_ 1 1#1
  let main_v64 : IVec S_ 1 := (fun x v => Host.reduce IntOp.andi x v reducesTo_S64_S_d0 h_S_) main_v63 main_c_14
  let main_v65 : IVec S_ 1 := andi main_v61 main_v64
  let main_v66 : FVec F S64x100000 .f32 := broadcastInDim S64x100000 ![0, 1] bcast_S64x1_S64x100000_0_1 main_v41
  let main_v67 : IVec S64x100000 1 := cmpf .olt main_v4 main_v66
  let main_v68 : IVec S64x100000 1 := ori main_v38 main_v67
  let main_c_15 : IVec S_ 1 := constantI S_ 1 1#1
  let main_v69 : IVec S_ 1 := (fun x v => Host.reduce IntOp.andi x v reducesTo_S64x100000_S_d0_1 h_S_) main_v68 main_c_15
  let main_v70 : IVec S_ 1 := andi main_v65 main_v69
  let main_v71 : IVec S64x100000 1 := andi main_v57 main_v53
  let main_c_16 : IVec S_ 1 := constantI S_ 1 0#1
  let main_v72 : IVec S64 1 := (fun x v => Host.reduce IntOp.ori x v reducesTo_S64x100000_S64_d1 h_S_) main_v71 main_c_16
  let main_c_17 : IVec S_ 1 := constantI S_ 1 1#1
  let main_v73 : IVec S_ 1 := (fun x v => Host.reduce IntOp.andi x v reducesTo_S64_S_d0 h_S_) main_v72 main_c_17
  let main_v74 : IVec S_ 1 := andi main_v70 main_v73
  main_v74

def fn_part2 {F : FTy → Type} [FloatOps F] (main_arg3 : FVec F S64 .f32) (main_v4 : FVec F S64x100000 .f32) (main_v36 : IVec S64 32) (main_v38 : IVec S64x100000 1) (main_cst_6 : FVec F S_ .f32) : IVec S_ 1 :=
  let main_v39 : FVec F S64x100000 .f32 := fn_where_2 (F := F) main_v38 main_v4 main_cst_6
  let main_cst_7 : FVec F S_ .f32 := constant S_ .f32 0x7F800000#32
  let main_v40 : FVec F S64 .f32 := (fun x v => Host.reduce FloatOps.minimumf x v reducesTo_S64x100000_S64_d1 h_S_) main_v39 main_cst_7
  let main_v41 : FVec F S64x1 .f32 := broadcastInDim S64x1 ![0] bcast_S64_S64x1_0 main_v40
  let main_cst_8 : FVec F S_ .f32 := constant S_ .f32 0xFF800000#32
  let main_v42 : FVec F S64 .f32 := (fun x v => Host.reduce FloatOps.maximumf x v reducesTo_S64x100000_S64_d1 h_S_) main_v4 main_cst_8
  let main_v43 : FVec F S64x1 .f32 := broadcastInDim S64x1 ![0] bcast_S64_S64x1_0 main_v42
  let main_v44 : FVec F S64x100000 .f32 := broadcastInDim S64x100000 ![0, 1] bcast_S64x1_S64x100000_0_1 main_v43
  let main_v45 : IVec S64x100000 1 := cmpf .oeq main_v4 main_v44
  let main_cst_9 : FVec F S_ .f32 := constant S_ .f32 0x41F00000#32
  let main_v46 : FVec F S64x1 .f32 := broadcastInDim S64x1 ![] bcast_S_S64x1 main_cst_9
  let main_v47 : FVec F S64x1 .f32 := subf main_v43 main_v46
  let main_v48 : FVec F S64x1 .f32 := maximumf main_v41 main_v47
  let main_cst_10 : FVec F S_ .f32 := constant S_ .f32 0x34F00000#32
  let main_v49 : FVec F S64x1 .f32 := broadcastInDim S64x1 ![] bcast_S_S64x1 main_cst_10
  let main_v50 : FVec F S64x1 .f32 := addf main_v48 main_v49
  let main_v51 : FVec F S64x100000 .f32 := broadcastInDim S64x100000 ![0, 1] bcast_S64x1_S64x100000_0_1 main_v50
  let main_v52 : IVec S64x100000 1 := cmpf .oge main_v4 main_v51
  let main_v53 : IVec S64x100000 1 := ori main_v45 main_v52
  let main_v54 : IVec S64x100000 32 := iotaInDim S64x100000 32 1
  let main_v55 : IVec S64x1 32 := broadcastInDim S64x1 ![0] bcast_S64_S64x1_0 main_v36
  let main_v56 : IVec S64x100000 32 := broadcastInDim S64x100000 ![0, 1] bcast_S64x1_S64x100000_0_1 main_v55
  let main_v57 : IVec S64x100000 1 := cmpi .eq main_v54 main_v56
  let main_v58 : FVec F S64x100000 .f32 := Host.absf main_v4
  fn_part3 (F := F) main_arg3 main_v4 main_v38 main_v41 main_v53 main_v57 main_v58

def fn_part1 {F : FTy → Type} [FloatOps F] (main_arg3 : FVec F S64 .f32) (main_v4 : FVec F S64x100000 .f32) (main_v6 : IVec S64x100000 32) (main_v7 : FVec F S64x100000 .f32) (main_v20 : FVec F S64x100000 .f32) : IVec S_ 1 :=
  let main_v21 : FVec F S64x1 .f32 := broadcastInDim S64x1 ![0] bcast_S64_S64x1_0 main_arg3
  let main_v22 : FVec F S64x100000 .f32 := broadcastInDim S64x100000 ![0, 1] bcast_S64x1_S64x100000_0_1 main_v21
  let main_v23 : IVec S64x100000 1 := cmpf .ogt main_v20 main_v22
  let main_cst_2 : FVec F S_ .f32 := constant S_ .f32 0xFF800000#32
  let main_v24 : FVec F S64x100000 .f32 := fn_where (F := F) main_v23 main_cst_2 main_v7
  let main_v25 : IVec S64x100000 32 := fn_argsort_1 (F := F) main_v6
  let main_v26 : FVec F S64x100000 .f32 := fn_take_along_axis (F := F) main_v24 main_v25
  let main_c : IVec S_ 32 := constantI S_ 32 42#32
  let main_c_3 : IVec S_ 32 := constantI S_ 32 32#32
  let main_v27 : IVec S_ 32 := Host.shrui main_c main_c_3
  let main_v28 : IVec S_ 32 := id main_v27
  let main_v29 : IVec S1 32 := broadcastInDim S1 ![] bcast_S_S1 main_v28
  let main_c_4 : IVec S_ 32 := constantI S_ 32 4294967295#32
  let main_v30 : IVec S_ 32 := andi main_c main_c_4
  let main_v31 : IVec S_ 32 := id main_v30
  let main_v32 : IVec S1 32 := broadcastInDim S1 ![] bcast_S_S1 main_v31
  let main_v33 : IVec S2 32 := (fun a b => concatenate S2 0 [⟨S1, a⟩, ⟨S1, b⟩] concatenates_S1_S1_S2_d0) main_v29 main_v32
  let main_v34 : FVec F S64x100000 .f32 := fn_gumbel (F := F) main_v33
  let main_v35 : FVec F S64x100000 .f32 := addf main_v34 main_v26
  let main_v36 : IVec S64 32 := fn_argmax (F := F) main_v35
  let main_cst_5 : FVec F S_ .f32 := constant S_ .f32 0xFF800000#32
  let main_v37 : FVec F S64x100000 .f32 := broadcastInDim S64x100000 ![] bcast_S_S64x100000 main_cst_5
  let main_v38 : IVec S64x100000 1 := cmpf .ogt main_v26 main_v37
  let main_cst_6 : FVec F S_ .f32 := constant S_ .f32 0x7F800000#32
  fn_part2 (F := F) main_arg3 main_v4 main_v36 main_v38 main_cst_6

def fn {F : FTy → Type} [FloatOps F] (main_arg0 : FVec F S64x768 .f32) (main_arg1 : FVec F S100000x768 .f32) (main_arg2 : FVec F S64 .f32) (main_arg3 : FVec F S64 .f32) : IVec S_ 1 :=
  let main_v0 : FVec F S768x100000 .f32 := (transpose S768x100000 [1, 0] · transposes_S100000x768_S768x100000_1_0) main_arg1
  let main_v1 : FVec F S64x100000 .f32 := (fun l r => Host.dotGeneral dot_S64x768_S768x100000_S64x100000_1_0_0_1_n_n none l r) main_arg0 main_v0
  let main_v2 : FVec F S64x1 .f32 := broadcastInDim S64x1 ![0] bcast_S64_S64x1_0 main_arg2
  let main_v3 : FVec F S64x100000 .f32 := broadcastInDim S64x100000 ![0, 1] bcast_S64x1_S64x100000_0_1 main_v2
  let main_v4 : FVec F S64x100000 .f32 := Host.divf main_v1 main_v3
  let main_v5 : FVec F S64x100000 .f32 := Host.negf main_v4
  let main_v6 : IVec S64x100000 32 := fn_argsort (F := F) main_v5
  let main_v7 : FVec F S64x100000 .f32 := fn_take_along_axis (F := F) main_v4 main_v6
  let main_cst : FVec F S_ .f32 := constant S_ .f32 0xFF800000#32
  let main_v8 : FVec F S64 .f32 := (fun x v => Host.reduce FloatOps.maximumf x v reducesTo_S64x100000_S64_d1 h_S_) main_v7 main_cst
  let main_cst_0 : FVec F S_ .f32 := constant S_ .f32 0xFF800000#32
  let main_v9 : FVec F S64 .f32 := broadcastInDim S64 ![] bcast_S_S64 main_cst_0
  let main_v10 : FVec F S64 .f32 := maximumf main_v9 main_v8
  let main_v11 : FVec F S64x1 .f32 := broadcastInDim S64x1 ![0] bcast_S64_S64x1_0 main_v10
  let main_v12 : FVec F S64x100000 .f32 := broadcastInDim S64x100000 ![0, 1] bcast_S64x1_S64x100000_0_1 main_v11
  let main_v13 : FVec F S64x100000 .f32 := subf main_v7 main_v12
  let main_v14 : FVec F S64x100000 .f32 := Host.exp main_v13
  let main_cst_1 : FVec F S_ .f32 := constant S_ .f32 0x00000000#32
  let main_v15 : FVec F S64 .f32 := (fun x v => Host.reduceAdd x v reducesTo_S64x100000_S64_d1 h_S_) main_v14 main_cst_1
  let main_v16 : FVec F S64x1 .f32 := broadcastInDim S64x1 ![0] bcast_S64_S64x1_0 main_v15
  let main_v17 : FVec F S64x100000 .f32 := broadcastInDim S64x100000 ![0, 1] bcast_S64x1_S64x100000_0_1 main_v16
  let main_v18 : FVec F S64x100000 .f32 := Host.divf main_v14 main_v17
  let main_v19 : FVec F S64x100000 .f32 := fn_cumsum (F := F) main_v18
  let main_v20 : FVec F S64x100000 .f32 := subf main_v19 main_v18
  fn_part1 (F := F) main_arg3 main_v4 main_v6 main_v7 main_v20
-- ==== Kernel.lean ====
abbrev S64x768 : Shape := ⟨2, ![64, 768]⟩
abbrev S100000x768 : Shape := ⟨2, ![100000, 768]⟩
abbrev S64 : Shape := ⟨1, ![64]⟩
abbrev S64x1 : Shape := ⟨2, ![64, 1]⟩
abbrev S64x128 : Shape := ⟨2, ![64, 128]⟩
abbrev S_ : Shape := ⟨0, ![]⟩
abbrev S1 : Shape := ⟨1, ![1]⟩
abbrev S2 : Shape := ⟨1, ![2]⟩
abbrev S1x1 : Shape := ⟨2, ![1, 1]⟩
abbrev S64x100000 : Shape := ⟨2, ![64, 100000]⟩
abbrev S2048x768 : Shape := ⟨2, ![2048, 768]⟩
abbrev S64x2048 : Shape := ⟨2, ![64, 2048]⟩
abbrev S64x100352 : Shape := ⟨2, ![64, 100352]⟩

abbrev nBuf : Space → Nat
  | .hbm => 291
  | .vmem => 23
  | .smem => 0
  | _ => 0

abbrev hbmTy0_0 (i : Nat) : BufTy := match i % 128 with
  | 0 => ⟨S64x768, .f32⟩
  | 1 => ⟨S100000x768, .f32⟩
  | 2 => ⟨S64, .f32⟩
  | 3 => ⟨S64, .f32⟩
  | 4 => ⟨S64x1, .f32⟩
  | 5 => ⟨S64x128, .f32⟩
  | 6 => ⟨S64x1, .f32⟩
  | 7 => ⟨S64x128, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .f32⟩
  | 19 => ⟨S_, .f32⟩
  | 20 => ⟨S_, .f32⟩
  | 21 => ⟨S1x1, .f32⟩
  | 22 => ⟨S1x1, .f32⟩
  | 23 => ⟨S1, .i32⟩
  | 24 => ⟨S_, .i32⟩
  | 25 => ⟨S1, .i32⟩
  | 26 => ⟨S_, .i32⟩
  | 27 => ⟨S64x100000, .i64⟩
  | 28 => ⟨S64x100000, .i64⟩
  | 29 => ⟨S_, .i64⟩
  | 30 => ⟨S64x100000, .i64⟩
  | 31 => ⟨S64x100000, .i64⟩
  | 32 => ⟨S_, .i64⟩
  | 33 => ⟨S64x100000, .i64⟩
  | 34 => ⟨S64x100000, .i64⟩
  | 35 => ⟨S64x100000, .i64⟩
  | 36 => ⟨S_, .i64⟩
  | 37 => ⟨S64x100000, .i64⟩
  | 38 => ⟨S64x100000, .i64⟩
  | 39 => ⟨S64x100000, .i32⟩
  | 40 => ⟨S64x100000, .i32⟩
  | 41 => ⟨S_, .i32⟩
  | 42 => ⟨S_, .i32⟩
  | 43 => ⟨S_, .i32⟩
  | 44 => ⟨S64x100000, .i32⟩
  | 45 => ⟨S64x100000, .i32⟩
  | 46 => ⟨S64x100000, .i32⟩
  | 47 => ⟨S64x100000, .i32⟩
  | 48 => ⟨S64x100000, .i32⟩
  | 49 => ⟨S_, .i32⟩
  | 50 => ⟨S64x100000, .i32⟩
  | 51 => ⟨S64x100000, .i32⟩
  | 52 => ⟨S_, .i32⟩
  | 53 => ⟨S64x100000, .i32⟩
  | 54 => ⟨S64x100000, .i32⟩
  | 55 => ⟨S64x100000, .i32⟩
  | 56 => ⟨S64x100000, .i32⟩
  | 57 => ⟨S64x100000, .i32⟩
  | 58 => ⟨S_, .i32⟩
  | 59 => ⟨S64x100000, .i32⟩
  | 60 => ⟨S64x100000, .i32⟩
  | 61 => ⟨S_, .i32⟩
  | 62 => ⟨S64x100000, .i32⟩
  | 63 => ⟨S64x100000, .i32⟩
  | 64 => ⟨S64x100000, .i32⟩
  | 65 => ⟨S64x100000, .i32⟩
  | 66 => ⟨S64x100000, .i32⟩
  | 67 => ⟨S_, .i32⟩
  | 68 => ⟨S64x100000, .i32⟩
  | 69 => ⟨S64x100000, .i32⟩
  | 70 => ⟨S_, .i32⟩
  | 71 => ⟨S64x100000, .i32⟩
  | 72 => ⟨S64x100000, .i32⟩
  | 73 => ⟨S64x100000, .i32⟩
  | 74 => ⟨S64x100000, .i32⟩
  | 75 => ⟨S64x100000, .i32⟩
  | 76 => ⟨S_, .i32⟩
  | 77 => ⟨S64x100000, .i32⟩
  | 78 => ⟨S64x100000, .i32⟩
  | 79 => ⟨S_, .i32⟩
  | 80 => ⟨S64x100000, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S_, .i32⟩
  | 89 => ⟨S64x100000, .i32⟩
  | 90 => ⟨S64x100000, .i32⟩
  | 91 => ⟨S64x100000, .i32⟩
  | 92 => ⟨S_, .i32⟩
  | 93 => ⟨S64x100000, .i32⟩
  | 94 => ⟨S64x100000, .i32⟩
  | 95 => ⟨S_, .i32⟩
  | 96 => ⟨S64x100000, .i32⟩
  | 97 => ⟨S64x100000, .i32⟩
  | 98 => ⟨S64x100000, .i32⟩
  | 99 => ⟨S64x100000, .i32⟩
  | 100 => ⟨S64x100000, .i32⟩
  | 101 => ⟨S_, .i32⟩
  | 102 => ⟨S64x100000, .i32⟩
  | 103 => ⟨S64x100000, .i32⟩
  | 104 => ⟨S_, .i32⟩
  | 105 => ⟨S64x100000, .i32⟩
  | 106 => ⟨S64x100000, .i32⟩
  | 107 => ⟨S64x100000, .i32⟩
  | 108 => ⟨S64x100000, .i32⟩
  | 109 => ⟨S64x100000, .i32⟩
  | 110 => ⟨S_, .i32⟩
  | 111 => ⟨S64x100000, .i32⟩
  | 112 => ⟨S64x100000, .i32⟩
  | 113 => ⟨S_, .i32⟩
  | 114 => ⟨S64x100000, .i32⟩
  | 115 => ⟨S64x100000, .i32⟩
  | 116 => ⟨S64x100000, .i32⟩
  | 117 => ⟨S64x100000, .i32⟩
  | 118 => ⟨S64x100000, .i32⟩
  | 119 => ⟨S_, .i32⟩
  | 120 => ⟨S64x100000, .i32⟩
  | 121 => ⟨S64x100000, .i32⟩
  | 122 => ⟨S_, .i32⟩
  | 123 => ⟨S64x100000, .i32⟩
  | 124 => ⟨S64x100000, .i32⟩
  | 125 => ⟨S64x100000, .i32⟩
  | 126 => ⟨S64x100000, .i32⟩
  | 127 => ⟨S64x100000, .i32⟩
  | _ => ⟨S64x768, .f32⟩

abbrev hbmTy0_1 (i : Nat) : BufTy := match i % 128 with
  | 0 => ⟨S64x100000, .i32⟩
  | 1 => ⟨S64x100000, .i32⟩
  | 2 => ⟨S64x100000, .i32⟩
  | 3 => ⟨S_, .i32⟩
  | 4 => ⟨S64x100000, .i32⟩
  | 5 => ⟨S64x100000, .i32⟩
  | 6 => ⟨S64x100000, .i32⟩
  | 7 => ⟨S_, .i32⟩
  | 8 => ⟨S64x100000, .i32⟩
  | 9 => ⟨S64x100000, .i32⟩
  | 10 => ⟨S_, .i32⟩
  | 11 => ⟨S64x100000, .i32⟩
  | 12 => ⟨S64x100000, .i32⟩
  | 13 => ⟨S64x100000, .i32⟩
  | 14 => ⟨S64x100000, .i32⟩
  | 15 => ⟨S64x100000, .i32⟩
  | 16 => ⟨S_, .i32⟩
  | 17 => ⟨S64x100000, .i32⟩
  | 18 => ⟨S64x100000, .i32⟩
  | 19 => ⟨S_, .i32⟩
  | 20 => ⟨S64x100000, .i32⟩
  | 21 => ⟨S64x100000, .i32⟩
  | 22 => ⟨S64x100000, .i32⟩
  | 23 => ⟨S64x100000, .i32⟩
  | 24 => ⟨S64x100000, .i32⟩
  | 25 => ⟨S_, .i32⟩
  | 26 => ⟨S64x100000, .i32⟩
  | 27 => ⟨S64x100000, .i32⟩
  | 28 => ⟨S_, .i32⟩
  | 29 => ⟨S64x100000, .i32⟩
  | 30 => ⟨S64x100000, .i32⟩
  | 31 => ⟨S64x100000, .i32⟩
  | 32 => ⟨S64x100000, .i32⟩
  | 33 => ⟨S64x100000, .i32⟩
  | 34 => ⟨S_, .i32⟩
  | 35 => ⟨S64x100000, .i32⟩
  | 36 => ⟨S64x100000, .i32⟩
  | 37 => ⟨S_, .i32⟩
  | 38 => ⟨S64x100000, .i32⟩
  | 39 => ⟨S64x100000, .i32⟩
  | 40 => ⟨S64x100000, .i32⟩
  | 41 => ⟨S64x100000, .i32⟩
  | 42 => ⟨S64x100000, .i32⟩
  | 43 => ⟨S64x100000, .i32⟩
  | 44 => ⟨S64x100000, .i32⟩
  | 45 => ⟨S64x100000, .i32⟩
  | 46 => ⟨S_, .i32⟩
  | 47 => ⟨S64x100000, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S_, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S_, .i32⟩
  | 63 => ⟨S64x100000, .i32⟩
  | 64 => ⟨S64x100000, .i32⟩
  | 65 => ⟨S64x100000, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S_, .i32⟩
  | 72 => ⟨S64x100000, .i32⟩
  | 73 => ⟨S64x100000, .i32⟩
  | 74 => ⟨S64x100000, .i32⟩
  | 75 => ⟨S64x100000, .i32⟩
  | 76 => ⟨S64x100000, .i32⟩
  | 77 => ⟨S_, .i32⟩
  | 78 => ⟨S64x100000, .i32⟩
  | 79 => ⟨S64x100000, .i32⟩
  | 80 => ⟨S_, .i32⟩
  | 81 => ⟨S64x100000, .i32⟩
  | 82 => ⟨S64x100000, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S_, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S64x100000, .i32⟩
  | 109 => ⟨S64x100000, .i32⟩
  | 110 => ⟨S64x100000, .i32⟩
  | 111 => ⟨S_, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S64x100000, .i32⟩
  | 118 => ⟨S64x100000, .i32⟩
  | 119 => ⟨S64x100000, .i32⟩
  | 120 => ⟨S_, .i32⟩
  | 121 => ⟨S64x100000, .i32⟩
  | 122 => ⟨S64x100000, .i32⟩
  | 123 => ⟨S_, .i32⟩
  | 124 => ⟨S64x100000, .i32⟩
  | 125 => ⟨S64x100000, .i32⟩
  | 126 => ⟨S64x100000, .i32⟩
  | 127 => ⟨S64x100000, .i32⟩
  | _ => ⟨S64x768, .f32⟩

abbrev hbmTy0_2 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S_, .i32⟩
  | 5 => ⟨S64x100000, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S_, .i32⟩
  | 12 => ⟨S64x100000, .i32⟩
  | 13 => ⟨S64x100000, .i32⟩
  | 14 => ⟨S64x100000, .f32⟩
  | 15 => ⟨S_, .f32⟩
  | 16 => ⟨S64x100000, .f32⟩
  | 17 => ⟨S64x100000, .f32⟩
  | 18 => ⟨S1x1, .f32⟩
  | 19 => ⟨S64x100000, .f32⟩
  | 20 => ⟨S64x100000, .f32⟩
  | 21 => ⟨S64x100000, .f32⟩
  | 22 => ⟨S64x100000, .f32⟩
  | 23 => ⟨S64x100000, .f32⟩
  | 24 => ⟨S64x100000, .f32⟩
  | 25 => ⟨S64x100000, .f32⟩
  | 26 => ⟨S64x100000, .f32⟩
  | 27 => ⟨S64x100000, .f32⟩
  | 28 => ⟨S64x100000, .f32⟩
  | 29 => ⟨S64x100000, .f32⟩
  | 30 => ⟨S64x128, .f32⟩
  | 31 => ⟨S64x128, .f32⟩
  | 32 => ⟨S64x128, .i32⟩
  | 33 => ⟨S64x1, .i32⟩
  | 34 => ⟨S64, .i32⟩
  | _ => ⟨S64x768, .f32⟩

abbrev hbmTy (i : Nat) : BufTy := match i / 128 with
  | 0 => hbmTy0_0 i
  | 1 => hbmTy0_1 i
  | 2 => hbmTy0_2 i
  | _ => ⟨S64x768, .f32⟩

abbrev bufTy : (tb : Table) → Fin (tcTables nBuf tb) → BufTy
  | .hbm, ⟨i, _⟩ => hbmTy i
  | .local _ .vmem, ⟨0, _⟩ => ⟨S64x768, .f32⟩
  | .local _ .vmem, ⟨1, _⟩ => ⟨S2048x768, .f32⟩
  | .local _ .vmem, ⟨2, _⟩ => ⟨S2048x768, .f32⟩
  | .local _ .vmem, ⟨3, _⟩ => ⟨S64x128, .f32⟩
  | .local _ .vmem, ⟨4, _⟩ => ⟨S64x2048, .f32⟩
  | .local _ .vmem, ⟨5, _⟩ => ⟨S64x2048, .f32⟩
  | .local _ .vmem, ⟨6, _⟩ => ⟨S64x128, .f32⟩
  | .local _ .vmem, ⟨7, _⟩ => ⟨S64x2048, .f32⟩
  | .local _ .vmem, ⟨8, _⟩ => ⟨S64x2048, .f32⟩
  | .local _ .vmem, ⟨9, _⟩ => ⟨S64x128, .f32⟩
  | .local _ .vmem, ⟨10, _⟩ => ⟨S64x128, .f32⟩
  | .local _ .vmem, ⟨11, _⟩ => ⟨S64x128, .f32⟩
  | .local _ .vmem, ⟨12, _⟩ => ⟨S64x100352, .f32⟩
  | .local _ .vmem, ⟨13, _⟩ => ⟨S64x128, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x128, .f32⟩
  | .local _ .vmem, ⟨19, _⟩ => ⟨S64x128, .f32⟩
  | .local _ .vmem, ⟨20, _⟩ => ⟨S64x128, .i32⟩
  | .local _ .vmem, ⟨21, _⟩ => ⟨S64x128, .f32⟩
  | .local _ .vmem, ⟨22, _⟩ => ⟨S64x128, .i32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_cst_0 : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_c : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_c_0 : Ref sig .tc := ⟨.hbm, 32, rfl⟩
abbrev main_call0_call0_v11 : Ref sig .tc := ⟨.hbm, 33, rfl⟩
abbrev main_call0_call0_v12 : Ref sig .tc := ⟨.hbm, 34, rfl⟩
abbrev main_call0_call0_v13 : Ref sig .tc := ⟨.hbm, 35, rfl⟩
abbrev main_call0_call0_c_1 : Ref sig .tc := ⟨.hbm, 36, rfl⟩
abbrev main_call0_call0_v14 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_v17 : Ref sig .tc := ⟨.hbm, 40, rfl⟩
abbrev main_call0_call0_call0_v0 : Ref sig .tc := ⟨.hbm, 41, rfl⟩
abbrev main_call0_call0_call0_c : Ref sig .tc := ⟨.hbm, 42, rfl⟩
abbrev main_call0_call0_call0_v1 : Ref sig .tc := ⟨.hbm, 43, rfl⟩
abbrev main_call0_call0_call0_v2 : Ref sig .tc := ⟨.hbm, 44, rfl⟩
abbrev main_call0_call0_call0_v3 : Ref sig .tc := ⟨.hbm, 45, rfl⟩
abbrev main_call0_call0_call0_v4 : Ref sig .tc := ⟨.hbm, 46, rfl⟩
abbrev main_call0_call0_call0_v5 : Ref sig .tc := ⟨.hbm, 47, rfl⟩
abbrev main_call0_call0_call0_v6 : Ref sig .tc := ⟨.hbm, 48, rfl⟩
abbrev main_call0_call0_call0_c_0 : Ref sig .tc := ⟨.hbm, 49, rfl⟩
abbrev main_call0_call0_call0_v7 : Ref sig .tc := ⟨.hbm, 50, rfl⟩
abbrev main_call0_call0_call0_v8 : Ref sig .tc := ⟨.hbm, 51, rfl⟩
abbrev main_call0_call0_call0_c_1 : Ref sig .tc := ⟨.hbm, 52, rfl⟩
abbrev main_call0_call0_call0_v9 : Ref sig .tc := ⟨.hbm, 53, rfl⟩
abbrev main_call0_call0_call0_v10 : Ref sig .tc := ⟨.hbm, 54, rfl⟩
abbrev main_call0_call0_call0_v11 : Ref sig .tc := ⟨.hbm, 55, rfl⟩
abbrev main_call0_call0_call0_v12 : Ref sig .tc := ⟨.hbm, 56, rfl⟩
abbrev main_call0_call0_call0_v13 : Ref sig .tc := ⟨.hbm, 57, rfl⟩
abbrev main_call0_call0_call0_c_2 : Ref sig .tc := ⟨.hbm, 58, rfl⟩
abbrev main_call0_call0_call0_v14 : Ref sig .tc := ⟨.hbm, 59, rfl⟩
abbrev main_call0_call0_call0_v15 : Ref sig .tc := ⟨.hbm, 60, rfl⟩
abbrev main_call0_call0_call0_c_3 : Ref sig .tc := ⟨.hbm, 61, rfl⟩
abbrev main_call0_call0_call0_v16 : Ref sig .tc := ⟨.hbm, 62, rfl⟩
abbrev main_call0_call0_call0_v17 : Ref sig .tc := ⟨.hbm, 63, rfl⟩
abbrev main_call0_call0_call0_v18 : Ref sig .tc := ⟨.hbm, 64, rfl⟩
abbrev main_call0_call0_call0_v19 : Ref sig .tc := ⟨.hbm, 65, rfl⟩
abbrev main_call0_call0_call0_v20 : Ref sig .tc := ⟨.hbm, 66, rfl⟩
abbrev main_call0_call0_call0_c_4 : Ref sig .tc := ⟨.hbm, 67, rfl⟩
abbrev main_call0_call0_call0_v21 : Ref sig .tc := ⟨.hbm, 68, rfl⟩
abbrev main_call0_call0_call0_v22 : Ref sig .tc := ⟨.hbm, 69, rfl⟩
abbrev main_call0_call0_call0_c_5 : Ref sig .tc := ⟨.hbm, 70, rfl⟩
abbrev main_call0_call0_call0_v23 : Ref sig .tc := ⟨.hbm, 71, rfl⟩
abbrev main_call0_call0_call0_v24 : Ref sig .tc := ⟨.hbm, 72, rfl⟩
abbrev main_call0_call0_call0_v25 : Ref sig .tc := ⟨.hbm, 73, rfl⟩
abbrev main_call0_call0_call0_v26 : Ref sig .tc := ⟨.hbm, 74, rfl⟩
abbrev main_call0_call0_call0_v27 : Ref sig .tc := ⟨.hbm, 75, rfl⟩
abbrev main_call0_call0_call0_c_6 : Ref sig .tc := ⟨.hbm, 76, rfl⟩
abbrev main_call0_call0_call0_v28 : Ref sig .tc := ⟨.hbm, 77, rfl⟩
abbrev main_call0_call0_call0_v29 : Ref sig .tc := ⟨.hbm, 78, rfl⟩
abbrev main_call0_call0_call0_c_7 : Ref sig .tc := ⟨.hbm, 79, rfl⟩
abbrev main_call0_call0_call0_v30 : Ref sig .tc := ⟨.hbm, 80, rfl⟩
abbrev main_call0_call0_call0_v31 : Ref sig .tc := ⟨.hbm, 81, rfl⟩
abbrev main_call0_call0_call0_v32 : Ref sig .tc := ⟨.hbm, 82, rfl⟩
abbrev main_call0_call0_call0_v33 : Ref sig .tc := ⟨.hbm, 83, rfl⟩
abbrev main_call0_call0_call0_v34 : Ref sig .tc := ⟨.hbm, 84, rfl⟩
abbrev main_call0_call0_call0_v35 : Ref sig .tc := ⟨.hbm, 85, rfl⟩
abbrev main_call0_call0_call0_v36 : Ref sig .tc := ⟨.hbm, 86, rfl⟩
abbrev main_call0_call0_call0_v37 : Ref sig .tc := ⟨.hbm, 87, rfl⟩
abbrev main_call0_call0_call0_c_8 : Ref sig .tc := ⟨.hbm, 88, rfl⟩
abbrev main_call0_call0_call0_v38 : Ref sig .tc := ⟨.hbm, 89, rfl⟩
abbrev main_call0_call0_call0_v39 : Ref sig .tc := ⟨.hbm, 90, rfl⟩
abbrev main_call0_call0_call0_v40 : Ref sig .tc := ⟨.hbm, 91, rfl⟩
abbrev main_call0_call0_call0_c_9 : Ref sig .tc := ⟨.hbm, 92, rfl⟩
abbrev main_call0_call0_call0_v41 : Ref sig .tc := ⟨.hbm, 93, rfl⟩
abbrev main_call0_call0_call0_v42 : Ref sig .tc := ⟨.hbm, 94, rfl⟩
abbrev main_call0_call0_call0_c_10 : Ref sig .tc := ⟨.hbm, 95, rfl⟩
abbrev main_call0_call0_call0_v43 : Ref sig .tc := ⟨.hbm, 96, rfl⟩
abbrev main_call0_call0_call0_v44 : Ref sig .tc := ⟨.hbm, 97, rfl⟩
abbrev main_call0_call0_call0_v45 : Ref sig .tc := ⟨.hbm, 98, rfl⟩
abbrev main_call0_call0_call0_v46 : Ref sig .tc := ⟨.hbm, 99, rfl⟩
abbrev main_call0_call0_call0_v47 : Ref sig .tc := ⟨.hbm, 100, rfl⟩
abbrev main_call0_call0_call0_c_11 : Ref sig .tc := ⟨.hbm, 101, rfl⟩
abbrev main_call0_call0_call0_v48 : Ref sig .tc := ⟨.hbm, 102, rfl⟩
abbrev main_call0_call0_call0_v49 : Ref sig .tc := ⟨.hbm, 103, rfl⟩
abbrev main_call0_call0_call0_c_12 : Ref sig .tc := ⟨.hbm, 104, rfl⟩
abbrev main_call0_call0_call0_v50 : Ref sig .tc := ⟨.hbm, 105, rfl⟩
abbrev main_call0_call0_call0_v51 : Ref sig .tc := ⟨.hbm, 106, rfl⟩
abbrev main_call0_call0_call0_v52 : Ref sig .tc := ⟨.hbm, 107, rfl⟩
abbrev main_call0_call0_call0_v53 : Ref sig .tc := ⟨.hbm, 108, rfl⟩
abbrev main_call0_call0_call0_v54 : Ref sig .tc := ⟨.hbm, 109, rfl⟩
abbrev main_call0_call0_call0_c_13 : Ref sig .tc := ⟨.hbm, 110, rfl⟩
abbrev main_call0_call0_call0_v55 : Ref sig .tc := ⟨.hbm, 111, rfl⟩
abbrev main_call0_call0_call0_v56 : Ref sig .tc := ⟨.hbm, 112, rfl⟩
abbrev main_call0_call0_call0_c_14 : Ref sig .tc := ⟨.hbm, 113, rfl⟩
abbrev main_call0_call0_call0_v57 : Ref sig .tc := ⟨.hbm, 114, rfl⟩
abbrev main_call0_call0_call0_v58 : Ref sig .tc := ⟨.hbm, 115, rfl⟩
abbrev main_call0_call0_call0_v59 : Ref sig .tc := ⟨.hbm, 116, rfl⟩
abbrev main_call0_call0_call0_v60 : Ref sig .tc := ⟨.hbm, 117, rfl⟩
abbrev main_call0_call0_call0_v61 : Ref sig .tc := ⟨.hbm, 118, rfl⟩
abbrev main_call0_call0_call0_c_15 : Ref sig .tc := ⟨.hbm, 119, rfl⟩
abbrev main_call0_call0_call0_v62 : Ref sig .tc := ⟨.hbm, 120, rfl⟩
abbrev main_call0_call0_call0_v63 : Ref sig .tc := ⟨.hbm, 121, rfl⟩
abbrev main_call0_call0_call0_c_16 : Ref sig .tc := ⟨.hbm, 122, rfl⟩
abbrev main_call0_call0_call0_v64 : Ref sig .tc := ⟨.hbm, 123, rfl⟩
abbrev main_call0_call0_call0_v65 : Ref sig .tc := ⟨.hbm, 124, rfl⟩
abbrev main_call0_call0_call0_v66 : Ref sig .tc := ⟨.hbm, 125, rfl⟩
abbrev main_call0_call0_call0_v67 : Ref sig .tc := ⟨.hbm, 126, rfl⟩
abbrev main_call0_call0_call0_v68 : Ref sig .tc := ⟨.hbm, 127, rfl⟩
abbrev main_call0_call0_call0_v69 : Ref sig .tc := ⟨.hbm, 128, rfl⟩
abbrev main_call0_call0_call0_v70 : Ref sig .tc := ⟨.hbm, 129, rfl⟩
abbrev main_call0_call0_call0_v71 : Ref sig .tc := ⟨.hbm, 130, rfl⟩
abbrev main_call0_call0_call0_c_17 : Ref sig .tc := ⟨.hbm, 131, rfl⟩
abbrev main_call0_call0_call0_v72 : Ref sig .tc := ⟨.hbm, 132, rfl⟩
abbrev main_call0_call0_call0_v73 : Ref sig .tc := ⟨.hbm, 133, rfl⟩
abbrev main_call0_call0_call0_v74 : Ref sig .tc := ⟨.hbm, 134, rfl⟩
abbrev main_call0_call0_call0_c_18 : Ref sig .tc := ⟨.hbm, 135, rfl⟩
abbrev main_call0_call0_call0_v75 : Ref sig .tc := ⟨.hbm, 136, rfl⟩
abbrev main_call0_call0_call0_v76 : Ref sig .tc := ⟨.hbm, 137, rfl⟩
abbrev main_call0_call0_call0_c_19 : Ref sig .tc := ⟨.hbm, 138, rfl⟩
abbrev main_call0_call0_call0_v77 : Ref sig .tc := ⟨.hbm, 139, rfl⟩
abbrev main_call0_call0_call0_v78 : Ref sig .tc := ⟨.hbm, 140, rfl⟩
abbrev main_call0_call0_call0_v79 : Ref sig .tc := ⟨.hbm, 141, rfl⟩
abbrev main_call0_call0_call0_v80 : Ref sig .tc := ⟨.hbm, 142, rfl⟩
abbrev main_call0_call0_call0_v81 : Ref sig .tc := ⟨.hbm, 143, rfl⟩
abbrev main_call0_call0_call0_c_20 : Ref sig .tc := ⟨.hbm, 144, rfl⟩
abbrev main_call0_call0_call0_v82 : Ref sig .tc := ⟨.hbm, 145, rfl⟩
abbrev main_call0_call0_call0_v83 : Ref sig .tc := ⟨.hbm, 146, rfl⟩
abbrev main_call0_call0_call0_c_21 : Ref sig .tc := ⟨.hbm, 147, rfl⟩
abbrev main_call0_call0_call0_v84 : Ref sig .tc := ⟨.hbm, 148, rfl⟩
abbrev main_call0_call0_call0_v85 : Ref sig .tc := ⟨.hbm, 149, rfl⟩
abbrev main_call0_call0_call0_v86 : Ref sig .tc := ⟨.hbm, 150, rfl⟩
abbrev main_call0_call0_call0_v87 : Ref sig .tc := ⟨.hbm, 151, rfl⟩
abbrev main_call0_call0_call0_v88 : Ref sig .tc := ⟨.hbm, 152, rfl⟩
abbrev main_call0_call0_call0_c_22 : Ref sig .tc := ⟨.hbm, 153, rfl⟩
abbrev main_call0_call0_call0_v89 : Ref sig .tc := ⟨.hbm, 154, rfl⟩
abbrev main_call0_call0_call0_v90 : Ref sig .tc := ⟨.hbm, 155, rfl⟩
abbrev main_call0_call0_call0_c_23 : Ref sig .tc := ⟨.hbm, 156, rfl⟩
abbrev main_call0_call0_call0_v91 : Ref sig .tc := ⟨.hbm, 157, rfl⟩
abbrev main_call0_call0_call0_v92 : Ref sig .tc := ⟨.hbm, 158, rfl⟩
abbrev main_call0_call0_call0_v93 : Ref sig .tc := ⟨.hbm, 159, rfl⟩
abbrev main_call0_call0_call0_v94 : Ref sig .tc := ⟨.hbm, 160, rfl⟩
abbrev main_call0_call0_call0_v95 : Ref sig .tc := ⟨.hbm, 161, rfl⟩
abbrev main_call0_call0_call0_c_24 : Ref sig .tc := ⟨.hbm, 162, rfl⟩
abbrev main_call0_call0_call0_v96 : Ref sig .tc := ⟨.hbm, 163, rfl⟩
abbrev main_call0_call0_call0_v97 : Ref sig .tc := ⟨.hbm, 164, rfl⟩
abbrev main_call0_call0_call0_c_25 : Ref sig .tc := ⟨.hbm, 165, rfl⟩
abbrev main_call0_call0_call0_v98 : Ref sig .tc := ⟨.hbm, 166, rfl⟩
abbrev main_call0_call0_call0_v99 : Ref sig .tc := ⟨.hbm, 167, rfl⟩
abbrev main_call0_call0_call0_v100 : Ref sig .tc := ⟨.hbm, 168, rfl⟩
abbrev main_call0_call0_call0_v101 : Ref sig .tc := ⟨.hbm, 169, rfl⟩
abbrev main_call0_call0_call0_v102 : Ref sig .tc := ⟨.hbm, 170, rfl⟩
abbrev main_call0_call0_call0_v103 : Ref sig .tc := ⟨.hbm, 171, rfl⟩
abbrev main_call0_call0_call0_v104 : Ref sig .tc := ⟨.hbm, 172, rfl⟩
abbrev main_call0_call0_call0_v105 : Ref sig .tc := ⟨.hbm, 173, rfl⟩
abbrev main_call0_call0_call0_c_26 : Ref sig .tc := ⟨.hbm, 174, rfl⟩
abbrev main_call0_call0_call0_v106 : Ref sig .tc := ⟨.hbm, 175, rfl⟩
abbrev main_call0_call0_call0_v107 : Ref sig .tc := ⟨.hbm, 176, rfl⟩
abbrev main_call0_call0_call0_v108 : Ref sig .tc := ⟨.hbm, 177, rfl⟩
abbrev main_call0_call0_call0_c_27 : Ref sig .tc := ⟨.hbm, 178, rfl⟩
abbrev main_call0_call0_call0_v109 : Ref sig .tc := ⟨.hbm, 179, rfl⟩
abbrev main_call0_call0_call0_v110 : Ref sig .tc := ⟨.hbm, 180, rfl⟩
abbrev main_call0_call0_call0_c_28 : Ref sig .tc := ⟨.hbm, 181, rfl⟩
abbrev main_call0_call0_call0_v111 : Ref sig .tc := ⟨.hbm, 182, rfl⟩
abbrev main_call0_call0_call0_v112 : Ref sig .tc := ⟨.hbm, 183, rfl⟩
abbrev main_call0_call0_call0_v113 : Ref sig .tc := ⟨.hbm, 184, rfl⟩
abbrev main_call0_call0_call0_v114 : Ref sig .tc := ⟨.hbm, 185, rfl⟩
abbrev main_call0_call0_call0_v115 : Ref sig .tc := ⟨.hbm, 186, rfl⟩
abbrev main_call0_call0_call0_c_29 : Ref sig .tc := ⟨.hbm, 187, rfl⟩
abbrev main_call0_call0_call0_v116 : Ref sig .tc := ⟨.hbm, 188, rfl⟩
abbrev main_call0_call0_call0_v117 : Ref sig .tc := ⟨.hbm, 189, rfl⟩
abbrev main_call0_call0_call0_c_30 : Ref sig .tc := ⟨.hbm, 190, rfl⟩
abbrev main_call0_call0_call0_v118 : Ref sig .tc := ⟨.hbm, 191, rfl⟩
abbrev main_call0_call0_call0_v119 : Ref sig .tc := ⟨.hbm, 192, rfl⟩
abbrev main_call0_call0_call0_v120 : Ref sig .tc := ⟨.hbm, 193, rfl⟩
abbrev main_call0_call0_call0_v121 : Ref sig .tc := ⟨.hbm, 194, rfl⟩
abbrev main_call0_call0_call0_v122 : Ref sig .tc := ⟨.hbm, 195, rfl⟩
abbrev main_call0_call0_call0_c_31 : Ref sig .tc := ⟨.hbm, 196, rfl⟩
abbrev main_call0_call0_call0_v123 : Ref sig .tc := ⟨.hbm, 197, rfl⟩
abbrev main_call0_call0_call0_v124 : Ref sig .tc := ⟨.hbm, 198, rfl⟩
abbrev main_call0_call0_call0_c_32 : Ref sig .tc := ⟨.hbm, 199, rfl⟩
abbrev main_call0_call0_call0_v125 : Ref sig .tc := ⟨.hbm, 200, rfl⟩
abbrev main_call0_call0_call0_v126 : Ref sig .tc := ⟨.hbm, 201, rfl⟩
abbrev main_call0_call0_call0_v127 : Ref sig .tc := ⟨.hbm, 202, rfl⟩
abbrev main_call0_call0_call0_v128 : Ref sig .tc := ⟨.hbm, 203, rfl⟩
abbrev main_call0_call0_call0_v129 : Ref sig .tc := ⟨.hbm, 204, rfl⟩
abbrev main_call0_call0_call0_c_33 : Ref sig .tc := ⟨.hbm, 205, rfl⟩
abbrev main_call0_call0_call0_v130 : Ref sig .tc := ⟨.hbm, 206, rfl⟩
abbrev main_call0_call0_call0_v131 : Ref sig .tc := ⟨.hbm, 207, rfl⟩
abbrev main_call0_call0_call0_c_34 : Ref sig .tc := ⟨.hbm, 208, rfl⟩
abbrev main_call0_call0_call0_v132 : Ref sig .tc := ⟨.hbm, 209, rfl⟩
abbrev main_call0_call0_call0_v133 : Ref sig .tc := ⟨.hbm, 210, rfl⟩
abbrev main_call0_call0_call0_v134 : Ref sig .tc := ⟨.hbm, 211, rfl⟩
abbrev main_call0_call0_call0_v135 : Ref sig .tc := ⟨.hbm, 212, rfl⟩
abbrev main_call0_call0_call0_v136 : Ref sig .tc := ⟨.hbm, 213, rfl⟩
abbrev main_call0_call0_call0_v137 : Ref sig .tc := ⟨.hbm, 214, rfl⟩
abbrev main_call0_call0_call0_v138 : Ref sig .tc := ⟨.hbm, 215, rfl⟩
abbrev main_call0_call0_call0_v139 : Ref sig .tc := ⟨.hbm, 216, rfl⟩
abbrev main_call0_call0_call0_c_35 : Ref sig .tc := ⟨.hbm, 217, rfl⟩
abbrev main_call0_call0_call0_v140 : Ref sig .tc := ⟨.hbm, 218, rfl⟩
abbrev main_call0_call0_call0_v141 : Ref sig .tc := ⟨.hbm, 219, rfl⟩
abbrev main_call0_call0_call0_v142 : Ref sig .tc := ⟨.hbm, 220, rfl⟩
abbrev main_call0_call0_call0_c_36 : Ref sig .tc := ⟨.hbm, 221, rfl⟩
abbrev main_call0_call0_call0_v143 : Ref sig .tc := ⟨.hbm, 222, rfl⟩
abbrev main_call0_call0_call0_v144 : Ref sig .tc := ⟨.hbm, 223, rfl⟩
abbrev main_call0_call0_call0_c_37 : Ref sig .tc := ⟨.hbm, 224, rfl⟩
abbrev main_call0_call0_call0_v145 : Ref sig .tc := ⟨.hbm, 225, rfl⟩
abbrev main_call0_call0_call0_v146 : Ref sig .tc := ⟨.hbm, 226, rfl⟩
abbrev main_call0_call0_call0_v147 : Ref sig .tc := ⟨.hbm, 227, rfl⟩
abbrev main_call0_call0_call0_v148 : Ref sig .tc := ⟨.hbm, 228, rfl⟩
abbrev main_call0_call0_call0_v149 : Ref sig .tc := ⟨.hbm, 229, rfl⟩
abbrev main_call0_call0_call0_c_38 : Ref sig .tc := ⟨.hbm, 230, rfl⟩
abbrev main_call0_call0_call0_v150 : Ref sig .tc := ⟨.hbm, 231, rfl⟩
abbrev main_call0_call0_call0_v151 : Ref sig .tc := ⟨.hbm, 232, rfl⟩
abbrev main_call0_call0_call0_c_39 : Ref sig .tc := ⟨.hbm, 233, rfl⟩
abbrev main_call0_call0_call0_v152 : Ref sig .tc := ⟨.hbm, 234, rfl⟩
abbrev main_call0_call0_call0_v153 : Ref sig .tc := ⟨.hbm, 235, rfl⟩
abbrev main_call0_call0_call0_v154 : Ref sig .tc := ⟨.hbm, 236, rfl⟩
abbrev main_call0_call0_call0_v155 : Ref sig .tc := ⟨.hbm, 237, rfl⟩
abbrev main_call0_call0_call0_v156 : Ref sig .tc := ⟨.hbm, 238, rfl⟩
abbrev main_call0_call0_call0_c_40 : Ref sig .tc := ⟨.hbm, 239, rfl⟩
abbrev main_call0_call0_call0_v157 : Ref sig .tc := ⟨.hbm, 240, rfl⟩
abbrev main_call0_call0_call0_v158 : Ref sig .tc := ⟨.hbm, 241, rfl⟩
abbrev main_call0_call0_call0_c_41 : Ref sig .tc := ⟨.hbm, 242, rfl⟩
abbrev main_call0_call0_call0_v159 : Ref sig .tc := ⟨.hbm, 243, rfl⟩
abbrev main_call0_call0_call0_v160 : Ref sig .tc := ⟨.hbm, 244, rfl⟩
abbrev main_call0_call0_call0_v161 : Ref sig .tc := ⟨.hbm, 245, rfl⟩
abbrev main_call0_call0_call0_v162 : Ref sig .tc := ⟨.hbm, 246, rfl⟩
abbrev main_call0_call0_call0_v163 : Ref sig .tc := ⟨.hbm, 247, rfl⟩
abbrev main_call0_call0_call0_c_42 : Ref sig .tc := ⟨.hbm, 248, rfl⟩
abbrev main_call0_call0_call0_v164 : Ref sig .tc := ⟨.hbm, 249, rfl⟩
abbrev main_call0_call0_call0_v165 : Ref sig .tc := ⟨.hbm, 250, rfl⟩
abbrev main_call0_call0_call0_c_43 : Ref sig .tc := ⟨.hbm, 251, rfl⟩
abbrev main_call0_call0_call0_v166 : Ref sig .tc := ⟨.hbm, 252, rfl⟩
abbrev main_call0_call0_call0_v167 : Ref sig .tc := ⟨.hbm, 253, rfl⟩
abbrev main_call0_call0_call0_v168 : Ref sig .tc := ⟨.hbm, 254, rfl⟩
abbrev main_call0_call0_call0_v169 : Ref sig .tc := ⟨.hbm, 255, rfl⟩
abbrev main_call0_call0_call0_v170 : Ref sig .tc := ⟨.hbm, 256, rfl⟩
abbrev main_call0_call0_v18_0 : Ref sig .tc := ⟨.hbm, 257, rfl⟩
abbrev main_call0_call0_call0_v172 : Ref sig .tc := ⟨.hbm, 258, rfl⟩
abbrev main_call0_call0_call0_v173 : Ref sig .tc := ⟨.hbm, 259, rfl⟩
abbrev main_call0_call0_call0_c_44 : Ref sig .tc := ⟨.hbm, 260, rfl⟩
abbrev main_call0_call0_call0_v174 : Ref sig .tc := ⟨.hbm, 261, rfl⟩
abbrev main_call0_call0_v18_1 : Ref sig .tc := ⟨.hbm, 262, rfl⟩
abbrev main_call0_call0_v19 : Ref sig .tc := ⟨.hbm, 263, rfl⟩
abbrev main_call0_call0_c_2 : Ref sig .tc := ⟨.hbm, 264, rfl⟩
abbrev main_call0_call0_v20 : Ref sig .tc := ⟨.hbm, 265, rfl⟩
abbrev main_call0_call0_v21 : Ref sig .tc := ⟨.hbm, 266, rfl⟩
abbrev main_call0_call0_c_3 : Ref sig .tc := ⟨.hbm, 267, rfl⟩
abbrev main_call0_call0_v22 : Ref sig .tc := ⟨.hbm, 268, rfl⟩
abbrev main_call0_call0_v23 : Ref sig .tc := ⟨.hbm, 269, rfl⟩
abbrev main_call0_call0_v24 : Ref sig .tc := ⟨.hbm, 270, rfl⟩
abbrev main_call0_call0_cst : Ref sig .tc := ⟨.hbm, 271, rfl⟩
abbrev main_call0_call0_v25 : Ref sig .tc := ⟨.hbm, 272, rfl⟩
abbrev main_call0_call0_v26 : Ref sig .tc := ⟨.hbm, 273, rfl⟩
abbrev main_call0_call0_v27 : Ref sig .tc := ⟨.hbm, 274, rfl⟩
abbrev main_call0_call0_v28 : Ref sig .tc := ⟨.hbm, 275, rfl⟩
abbrev main_call0_call0_v29 : Ref sig .tc := ⟨.hbm, 276, rfl⟩
abbrev main_call0_call0_v30 : Ref sig .tc := ⟨.hbm, 277, rfl⟩
abbrev main_call0_call0_v31 : Ref sig .tc := ⟨.hbm, 278, rfl⟩
abbrev main_call0_call0_v32 : Ref sig .tc := ⟨.hbm, 279, rfl⟩
abbrev main_call0_v0 : Ref sig .tc := ⟨.hbm, 280, rfl⟩
abbrev main_call0_v1 : Ref sig .tc := ⟨.hbm, 281, rfl⟩
abbrev main_call0_v2 : Ref sig .tc := ⟨.hbm, 282, rfl⟩
abbrev main_call0_v3 : Ref sig .tc := ⟨.hbm, 283, rfl⟩
abbrev main_v11 : Ref sig .tc := ⟨.hbm, 284, rfl⟩
abbrev main_v12_0 : Ref sig .tc := ⟨.hbm, 285, rfl⟩
abbrev main_v12_1 : Ref sig .tc := ⟨.hbm, 286, rfl⟩
abbrev main_v13 : Ref sig .tc := ⟨.hbm, 287, rfl⟩
abbrev main_v14 : Ref sig .tc := ⟨.hbm, 288, rfl⟩
abbrev main_v15 : Ref sig .tc := ⟨.hbm, 289, rfl⟩
abbrev main_v16 : Ref sig .tc := ⟨.hbm, 290, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_scratch0 : Ref sig .tc := ⟨.vmem, 21, rfl⟩
abbrev cc2_scratch1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![49], ![false]⟩

def k1_mult1 (i : grid1.Coords) : BitVec 32 :=
  let arg0 : BitVec 32 := BitVec.ofNat 32 (i 0).val
  let c2048_i32_3 : BitVec 32 := 2048#32
  let v15 : BitVec 32 := Scalar.muli arg0 c2048_i32_3
  v15
def k1_off1 (i : grid1.Coords) : Fin 2 → Nat :=
  let c0_4 : Index := 0#32
  let arg0 : BitVec 32 := BitVec.ofNat 32 (i 0).val
  let c2048_i32_3 : BitVec 32 := 2048#32
  let v15 : BitVec 32 := Scalar.muli arg0 c2048_i32_3
  let v16 : BitVec 32 := v15
  let v17 : Index := Scalar.indexCast v16
  ![0, v17.toNat]
def k1_cond2 (i : grid1.Coords) : BitVec 1 :=
  let arg0 : BitVec 32 := BitVec.ofNat 32 (i 0).val
  let c48_i32 : BitVec 32 := 48#32
  let v33 : BitVec 1 := Scalar.cmpi .eq arg0 c48_i32
  let v34 : BitVec 32 := Scalar.extui v33
  let c0_i32_11 : BitVec 32 := 0#32
  let v35 : BitVec 1 := Scalar.cmpi .ne v34 c0_i32_11
  v35

@[reducible] def k1_t1_loop : Scf.Loop 32 :=
  let c0_i32_18 : BitVec 32 := 0#32
  let c26_i32 : BitVec 32 := 26#32
  let v42 : BitVec 32 := Scalar.addi c0_i32_18 c26_i32
  let c1_i32 : BitVec 32 := 1#32
  ⟨c0_i32_18, v42, c1_i32⟩
@[reducible] def k1_t2_loop : Scf.Loop 32 :=
  let c0_i32_23 : BitVec 32 := 0#32
  let c49_i32 : BitVec 32 := 49#32
  let v53 : BitVec 32 := Scalar.addi c0_i32_23 c49_i32
  let c1_i32_24 : BitVec 32 := 1#32
  ⟨c0_i32_23, v53, c1_i32_24⟩
def k1_mult2 (k1_t2 : Fin k1_t2_loop.trips) : BitVec 32 :=
  let c0_i32_23 : BitVec 32 := 0#32
  let c1_i32_24 : BitVec 32 := 1#32
  let arg10 : BitVec 32 := Scf.iv c0_i32_23 c1_i32_24 k1_t2
  let c2048_i32_26 : BitVec 32 := 2048#32
  let v58 : BitVec 32 := Scalar.muli arg10 c2048_i32_26
  v58
def k1_off2 (k1_t2 : Fin k1_t2_loop.trips) : Fin 2 → Nat :=
  let c0_27 : Index := 0#32
  let c0_i32_23 : BitVec 32 := 0#32
  let c1_i32_24 : BitVec 32 := 1#32
  let arg10 : BitVec 32 := Scf.iv c0_i32_23 c1_i32_24 k1_t2
  let c2048_i32_26 : BitVec 32 := 2048#32
  let v58 : BitVec 32 := Scalar.muli arg10 c2048_i32_26
  let v59 : BitVec 32 := v58
  let v60 : Index := Scalar.indexCast v59
  ![0, v60.toNat]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![49], ![false]⟩

def k2_cond2 (i : grid2.Coords) : BitVec 1 :=
  let arg0 : BitVec 32 := BitVec.ofNat 32 (i 0).val
  let c48_i32 : BitVec 32 := 48#32
  let v54 : BitVec 1 := Scalar.cmpi .eq arg0 c48_i32
  let v55 : BitVec 32 := Scalar.extui v54
  let c0_i32_20 : BitVec 32 := 0#32
  let v56 : BitVec 1 := Scalar.cmpi .ne v55 c0_i32_20
  v56

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S64x768 : Shape := ⟨2, ![64, 768]⟩
abbrev S100000x768 : Shape := ⟨2, ![100000, 768]⟩
abbrev S64 : Shape := ⟨1, ![64]⟩
abbrev S768x100000 : Shape := ⟨2, ![768, 100000]⟩
abbrev S64x100000 : Shape := ⟨2, ![64, 100000]⟩
abbrev S64x1 : Shape := ⟨2, ![64, 1]⟩
abbrev S_ : Shape := ⟨0, ![]⟩
abbrev S64x100000x1 : Shape := ⟨3, ![64, 100000, 1]⟩
abbrev S1 : Shape := ⟨1, ![1]⟩
abbrev S1x1x1 : Shape := ⟨3, ![1, 1, 1]⟩
abbrev S2 : Shape := ⟨1, ![2]⟩
abbrev S1x1 : Shape := ⟨2, ![1, 1]⟩

abbrev nBuf : Space → Nat
  | .hbm => 368
  | .vmem => 0
  | .smem => 0
  | _ => 0

abbrev hbmTy0_0 (i : Nat) : BufTy := match i % 128 with
  | 0 => ⟨S64x768, .f32⟩
  | 1 => ⟨S100000x768, .f32⟩
  | 2 => ⟨S64, .f32⟩
  | 3 => ⟨S64, .f32⟩
  | 4 => ⟨S768x100000, .f32⟩
  | 5 => ⟨S64x100000, .f32⟩
  | 6 => ⟨S64x1, .f32⟩
  | 7 => ⟨S64x100000, .f32⟩
  | 8 => ⟨S64x100000, .f32⟩
  | 9 => ⟨S64x100000, .f32⟩
  | 10 => ⟨S64x100000, .i32⟩
  | 11 => ⟨S64x100000, .f32⟩
  | 12 => ⟨S64x100000, .i32⟩
  | 13 => ⟨S_, .i32⟩
  | 14 => ⟨S64x100000, .i32⟩
  | 15 => ⟨S64x100000, .i1⟩
  | 16 => ⟨S_, .i32⟩
  | 17 => ⟨S64x100000, .i32⟩
  | 18 => ⟨S64x100000, .i32⟩
  | 19 => ⟨S64x100000, .i32⟩
  | 20 => ⟨S64x100000x1, .i32⟩
  | 21 => ⟨S1, .i32⟩
  | 22 => ⟨S_, .i32⟩
  | 23 => ⟨S64x100000x1, .i32⟩
  | 24 => ⟨S64x100000x1, .i1⟩
  | 25 => ⟨S1x1x1, .i32⟩
  | 26 => ⟨S64x100000x1, .i32⟩
  | 27 => ⟨S64x100000x1, .i1⟩
  | 28 => ⟨S64x100000x1, .i1⟩
  | 29 => ⟨S_, .i1⟩
  | 30 => ⟨S64x100000, .i1⟩
  | 31 => ⟨S64x100000, .f32⟩
  | 32 => ⟨S_, .f32⟩
  | 33 => ⟨S64x100000, .f32⟩
  | 34 => ⟨S64x100000, .f32⟩
  | 35 => ⟨S_, .f32⟩
  | 36 => ⟨S64, .f32⟩
  | 37 => ⟨S_, .f32⟩
  | 38 => ⟨S64, .f32⟩
  | 39 => ⟨S64, .f32⟩
  | 40 => ⟨S64x1, .f32⟩
  | 41 => ⟨S64x100000, .f32⟩
  | 42 => ⟨S64x100000, .f32⟩
  | 43 => ⟨S64x100000, .f32⟩
  | 44 => ⟨S_, .f32⟩
  | 45 => ⟨S64, .f32⟩
  | 46 => ⟨S64x1, .f32⟩
  | 47 => ⟨S64x100000, .f32⟩
  | 48 => ⟨S64x100000, .f32⟩
  | 49 => ⟨S_, .f32⟩
  | 50 => ⟨S_, .f32⟩
  | 51 => ⟨S64x100000, .f32⟩
  | 52 => ⟨S64x100000, .f32⟩
  | 53 => ⟨S64x1, .f32⟩
  | 54 => ⟨S64x100000, .f32⟩
  | 55 => ⟨S64x100000, .i1⟩
  | 56 => ⟨S_, .f32⟩
  | 57 => ⟨S_, .f32⟩
  | 58 => ⟨S64x100000, .f32⟩
  | 59 => ⟨S64x100000, .f32⟩
  | 60 => ⟨S64x100000, .i32⟩
  | 61 => ⟨S64x100000, .i32⟩
  | 62 => ⟨S64x100000, .i32⟩
  | 63 => ⟨S_, .i32⟩
  | 64 => ⟨S64x100000, .i32⟩
  | 65 => ⟨S64x100000, .i1⟩
  | 66 => ⟨S_, .i32⟩
  | 67 => ⟨S64x100000, .i32⟩
  | 68 => ⟨S64x100000, .i32⟩
  | 69 => ⟨S64x100000, .i32⟩
  | 70 => ⟨S64x100000x1, .i32⟩
  | 71 => ⟨S1, .i32⟩
  | 72 => ⟨S_, .i32⟩
  | 73 => ⟨S64x100000x1, .i32⟩
  | 74 => ⟨S64x100000x1, .i1⟩
  | 75 => ⟨S1x1x1, .i32⟩
  | 76 => ⟨S64x100000x1, .i32⟩
  | 77 => ⟨S64x100000x1, .i1⟩
  | 78 => ⟨S64x100000x1, .i1⟩
  | 79 => ⟨S_, .i1⟩
  | 80 => ⟨S64x100000, .i1⟩
  | 81 => ⟨S64x100000, .f32⟩
  | 82 => ⟨S_, .f32⟩
  | 83 => ⟨S64x100000, .f32⟩
  | 84 => ⟨S64x100000, .f32⟩
  | 85 => ⟨S_, .i32⟩
  | 86 => ⟨S_, .i32⟩
  | 87 => ⟨S_, .i32⟩
  | 88 => ⟨S_, .i32⟩
  | 89 => ⟨S1, .i32⟩
  | 90 => ⟨S_, .i32⟩
  | 91 => ⟨S_, .i32⟩
  | 92 => ⟨S_, .i32⟩
  | 93 => ⟨S1, .i32⟩
  | 94 => ⟨S2, .i32⟩
  | 95 => ⟨S_, .f32⟩
  | 96 => ⟨S_, .f32⟩
  | 97 => ⟨S_, .f32⟩
  | 98 => ⟨S1x1, .f32⟩
  | 99 => ⟨S1x1, .f32⟩
  | 100 => ⟨S1, .i32⟩
  | 101 => ⟨S_, .i32⟩
  | 102 => ⟨S1, .i32⟩
  | 103 => ⟨S_, .i32⟩
  | 104 => ⟨S64x100000, .i64⟩
  | 105 => ⟨S64x100000, .i64⟩
  | 106 => ⟨S_, .i64⟩
  | 107 => ⟨S64x100000, .i64⟩
  | 108 => ⟨S64x100000, .i64⟩
  | 109 => ⟨S_, .i64⟩
  | 110 => ⟨S64x100000, .i64⟩
  | 111 => ⟨S64x100000, .i64⟩
  | 112 => ⟨S64x100000, .i64⟩
  | 113 => ⟨S_, .i64⟩
  | 114 => ⟨S64x100000, .i64⟩
  | 115 => ⟨S64x100000, .i64⟩
  | 116 => ⟨S64x100000, .i32⟩
  | 117 => ⟨S64x100000, .i32⟩
  | 118 => ⟨S_, .i32⟩
  | 119 => ⟨S_, .i32⟩
  | 120 => ⟨S_, .i32⟩
  | 121 => ⟨S64x100000, .i32⟩
  | 122 => ⟨S64x100000, .i32⟩
  | 123 => ⟨S64x100000, .i32⟩
  | 124 => ⟨S64x100000, .i32⟩
  | 125 => ⟨S64x100000, .i32⟩
  | 126 => ⟨S_, .i32⟩
  | 127 => ⟨S64x100000, .i32⟩
  | _ => ⟨S64x768, .f32⟩

abbrev hbmTy0_1 (i : Nat) : BufTy := match i % 128 with
  | 0 => ⟨S64x100000, .i32⟩
  | 1 => ⟨S_, .i32⟩
  | 2 => ⟨S64x100000, .i32⟩
  | 3 => ⟨S64x100000, .i32⟩
  | 4 => ⟨S64x100000, .i32⟩
  | 5 => ⟨S64x100000, .i32⟩
  | 6 => ⟨S64x100000, .i32⟩
  | 7 => ⟨S_, .i32⟩
  | 8 => ⟨S64x100000, .i32⟩
  | 9 => ⟨S64x100000, .i32⟩
  | 10 => ⟨S_, .i32⟩
  | 11 => ⟨S64x100000, .i32⟩
  | 12 => ⟨S64x100000, .i32⟩
  | 13 => ⟨S64x100000, .i32⟩
  | 14 => ⟨S64x100000, .i32⟩
  | 15 => ⟨S64x100000, .i32⟩
  | 16 => ⟨S_, .i32⟩
  | 17 => ⟨S64x100000, .i32⟩
  | 18 => ⟨S64x100000, .i32⟩
  | 19 => ⟨S_, .i32⟩
  | 20 => ⟨S64x100000, .i32⟩
  | 21 => ⟨S64x100000, .i32⟩
  | 22 => ⟨S64x100000, .i32⟩
  | 23 => ⟨S64x100000, .i32⟩
  | 24 => ⟨S64x100000, .i32⟩
  | 25 => ⟨S_, .i32⟩
  | 26 => ⟨S64x100000, .i32⟩
  | 27 => ⟨S64x100000, .i32⟩
  | 28 => ⟨S_, .i32⟩
  | 29 => ⟨S64x100000, .i32⟩
  | 30 => ⟨S64x100000, .i32⟩
  | 31 => ⟨S64x100000, .i32⟩
  | 32 => ⟨S64x100000, .i32⟩
  | 33 => ⟨S64x100000, .i32⟩
  | 34 => ⟨S64x100000, .i32⟩
  | 35 => ⟨S64x100000, .i32⟩
  | 36 => ⟨S64x100000, .i32⟩
  | 37 => ⟨S_, .i32⟩
  | 38 => ⟨S64x100000, .i32⟩
  | 39 => ⟨S64x100000, .i32⟩
  | 40 => ⟨S64x100000, .i32⟩
  | 41 => ⟨S_, .i32⟩
  | 42 => ⟨S64x100000, .i32⟩
  | 43 => ⟨S64x100000, .i32⟩
  | 44 => ⟨S_, .i32⟩
  | 45 => ⟨S64x100000, .i32⟩
  | 46 => ⟨S64x100000, .i32⟩
  | 47 => ⟨S64x100000, .i32⟩
  | 48 => ⟨S64x100000, .i32⟩
  | 49 => ⟨S64x100000, .i32⟩
  | 50 => ⟨S_, .i32⟩
  | 51 => ⟨S64x100000, .i32⟩
  | 52 => ⟨S64x100000, .i32⟩
  | 53 => ⟨S_, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S_, .i32⟩
  | 60 => ⟨S64x100000, .i32⟩
  | 61 => ⟨S64x100000, .i32⟩
  | 62 => ⟨S_, .i32⟩
  | 63 => ⟨S64x100000, .i32⟩
  | 64 => ⟨S64x100000, .i32⟩
  | 65 => ⟨S64x100000, .i32⟩
  | 66 => ⟨S64x100000, .i32⟩
  | 67 => ⟨S64x100000, .i32⟩
  | 68 => ⟨S_, .i32⟩
  | 69 => ⟨S64x100000, .i32⟩
  | 70 => ⟨S64x100000, .i32⟩
  | 71 => ⟨S_, .i32⟩
  | 72 => ⟨S64x100000, .i32⟩
  | 73 => ⟨S64x100000, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S64x100000, .i32⟩
  | 80 => ⟨S_, .i32⟩
  | 81 => ⟨S64x100000, .i32⟩
  | 82 => ⟨S64x100000, .i32⟩
  | 83 => ⟨S64x100000, .i32⟩
  | 84 => ⟨S_, .i32⟩
  | 85 => ⟨S64x100000, .i32⟩
  | 86 => ⟨S64x100000, .i32⟩
  | 87 => ⟨S_, .i32⟩
  | 88 => ⟨S64x100000, .i32⟩
  | 89 => ⟨S64x100000, .i32⟩
  | 90 => ⟨S64x100000, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S_, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S64x100000, .i32⟩
  | 109 => ⟨S64x100000, .i32⟩
  | 110 => ⟨S64x100000, .i32⟩
  | 111 => ⟨S_, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S64x100000, .i32⟩
  | 118 => ⟨S64x100000, .i32⟩
  | 119 => ⟨S64x100000, .i32⟩
  | 120 => ⟨S64x100000, .i32⟩
  | 121 => ⟨S64x100000, .i32⟩
  | 122 => ⟨S64x100000, .i32⟩
  | 123 => ⟨S_, .i32⟩
  | 124 => ⟨S64x100000, .i32⟩
  | 125 => ⟨S64x100000, .i32⟩
  | 126 => ⟨S64x100000, .i32⟩
  | 127 => ⟨S_, .i32⟩
  | _ => ⟨S64x768, .f32⟩

abbrev hbmTy0_2 (i : Nat) : BufTy := match i % 128 with
  | 0 => ⟨S64x100000, .i32⟩
  | 1 => ⟨S64x100000, .i32⟩
  | 2 => ⟨S_, .i32⟩
  | 3 => ⟨S64x100000, .i32⟩
  | 4 => ⟨S64x100000, .i32⟩
  | 5 => ⟨S64x100000, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S_, .i32⟩
  | 12 => ⟨S64x100000, .i32⟩
  | 13 => ⟨S64x100000, .i32⟩
  | 14 => ⟨S64x100000, .i32⟩
  | 15 => ⟨S64x100000, .i32⟩
  | 16 => ⟨S64x100000, .i32⟩
  | 17 => ⟨S_, .i32⟩
  | 18 => ⟨S64x100000, .i32⟩
  | 19 => ⟨S64x100000, .i32⟩
  | 20 => ⟨S_, .i32⟩
  | 21 => ⟨S64x100000, .i32⟩
  | 22 => ⟨S64x100000, .i32⟩
  | 23 => ⟨S64x100000, .i32⟩
  | 24 => ⟨S64x100000, .i32⟩
  | 25 => ⟨S64x100000, .i32⟩
  | 26 => ⟨S_, .i32⟩
  | 27 => ⟨S64x100000, .i32⟩
  | 28 => ⟨S64x100000, .i32⟩
  | 29 => ⟨S_, .i32⟩
  | 30 => ⟨S64x100000, .i32⟩
  | 31 => ⟨S64x100000, .i32⟩
  | 32 => ⟨S64x100000, .i32⟩
  | 33 => ⟨S64x100000, .i32⟩
  | 34 => ⟨S64x100000, .i32⟩
  | 35 => ⟨S64x100000, .i32⟩
  | 36 => ⟨S64x100000, .i32⟩
  | 37 => ⟨S64x100000, .i32⟩
  | 38 => ⟨S_, .i32⟩
  | 39 => ⟨S64x100000, .i32⟩
  | 40 => ⟨S64x100000, .i32⟩
  | 41 => ⟨S64x100000, .i32⟩
  | 42 => ⟨S_, .i32⟩
  | 43 => ⟨S64x100000, .i32⟩
  | 44 => ⟨S64x100000, .i32⟩
  | 45 => ⟨S_, .i32⟩
  | 46 => ⟨S64x100000, .i32⟩
  | 47 => ⟨S64x100000, .i32⟩
  | 48 => ⟨S64x100000, .i32⟩
  | 49 => ⟨S64x100000, .i32⟩
  | 50 => ⟨S64x100000, .i32⟩
  | 51 => ⟨S_, .i32⟩
  | 52 => ⟨S64x100000, .i32⟩
  | 53 => ⟨S64x100000, .i32⟩
  | 54 => ⟨S_, .i32⟩
  | 55 => ⟨S64x100000, .i32⟩
  | 56 => ⟨S64x100000, .i32⟩
  | 57 => ⟨S64x100000, .i32⟩
  | 58 => ⟨S64x100000, .i32⟩
  | 59 => ⟨S64x100000, .i32⟩
  | 60 => ⟨S_, .i32⟩
  | 61 => ⟨S64x100000, .i32⟩
  | 62 => ⟨S64x100000, .i32⟩
  | 63 => ⟨S_, .i32⟩
  | 64 => ⟨S64x100000, .i32⟩
  | 65 => ⟨S64x100000, .i32⟩
  | 66 => ⟨S64x100000, .i32⟩
  | 67 => ⟨S64x100000, .i32⟩
  | 68 => ⟨S64x100000, .i32⟩
  | 69 => ⟨S_, .i32⟩
  | 70 => ⟨S64x100000, .i32⟩
  | 71 => ⟨S64x100000, .i32⟩
  | 72 => ⟨S_, .i32⟩
  | 73 => ⟨S64x100000, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S64x100000, .i32⟩
  | 80 => ⟨S64x100000, .i32⟩
  | 81 => ⟨S_, .i32⟩
  | 82 => ⟨S64x100000, .i32⟩
  | 83 => ⟨S64x100000, .i32⟩
  | 84 => ⟨S64x100000, .i32⟩
  | 85 => ⟨S_, .i32⟩
  | 86 => ⟨S64x100000, .i32⟩
  | 87 => ⟨S64x100000, .i32⟩
  | 88 => ⟨S_, .i32⟩
  | 89 => ⟨S64x100000, .i32⟩
  | 90 => ⟨S64x100000, .i32⟩
  | 91 => ⟨S64x100000, .f32⟩
  | 92 => ⟨S_, .f32⟩
  | 93 => ⟨S64x100000, .f32⟩
  | 94 => ⟨S64x100000, .f32⟩
  | 95 => ⟨S1x1, .f32⟩
  | 96 => ⟨S64x100000, .f32⟩
  | 97 => ⟨S64x100000, .f32⟩
  | 98 => ⟨S64x100000, .f32⟩
  | 99 => ⟨S64x100000, .f32⟩
  | 100 => ⟨S64x100000, .f32⟩
  | 101 => ⟨S64x100000, .f32⟩
  | 102 => ⟨S64x100000, .f32⟩
  | 103 => ⟨S64x100000, .f32⟩
  | 104 => ⟨S64x100000, .f32⟩
  | 105 => ⟨S64x100000, .f32⟩
  | 106 => ⟨S64x100000, .f32⟩
  | 107 => ⟨S64x100000, .i32⟩
  | 108 => ⟨S_, .f32⟩
  | 109 => ⟨S_, .i32⟩
  | 110 => ⟨S64, .f32⟩
  | 111 => ⟨S64, .i32⟩
  | _ => ⟨S64x768, .f32⟩

abbrev hbmTy (i : Nat) : BufTy := match i / 128 with
  | 0 => hbmTy0_0 i
  | 1 => hbmTy0_1 i
  | 2 => hbmTy0_2 i
  | _ => ⟨S64x768, .f32⟩

abbrev bufTy : (tb : Table) → Fin (tcTables nBuf tb) → BufTy
  | .hbm, ⟨i, _⟩ => hbmTy i
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1_0 : Ref sig .tc := ⟨.hbm, 11, rfl⟩
abbrev main_v6 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_call2_call0_cst : Ref sig .tc := ⟨.hbm, 49, rfl⟩
abbrev main_call2_call0_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_2 : Ref sig .tc := ⟨.hbm, 56, rfl⟩
abbrev main_call3_v0 : Ref sig .tc := ⟨.hbm, 57, rfl⟩
abbrev main_call3_v1 : Ref sig .tc := ⟨.hbm, 58, rfl⟩
abbrev main_v24 : Ref sig .tc := ⟨.hbm, 59, rfl⟩
abbrev main_call4_v0 : Ref sig .tc := ⟨.hbm, 60, rfl⟩
abbrev main_call4_v1_0 : Ref sig .tc := ⟨.hbm, 61, rfl⟩
abbrev main_v25 : Ref sig .tc := ⟨.hbm, 62, rfl⟩
abbrev main_call5_c : Ref sig .tc := ⟨.hbm, 63, rfl⟩
abbrev main_call5_v0 : Ref sig .tc := ⟨.hbm, 64, rfl⟩
abbrev main_call5_v1 : Ref sig .tc := ⟨.hbm, 65, rfl⟩
abbrev main_call5_c_0 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_v5 : Ref sig .tc := ⟨.hbm, 70, rfl⟩
abbrev main_call5_c_1 : Ref sig .tc := ⟨.hbm, 71, rfl⟩
abbrev main_call5_c_2 : Ref sig .tc := ⟨.hbm, 72, rfl⟩
abbrev main_call5_v6 : Ref sig .tc := ⟨.hbm, 73, rfl⟩
abbrev main_call5_v7 : Ref sig .tc := ⟨.hbm, 74, rfl⟩
abbrev main_call5_v8 : Ref sig .tc := ⟨.hbm, 75, rfl⟩
abbrev main_call5_v9 : Ref sig .tc := ⟨.hbm, 76, rfl⟩
abbrev main_call5_v10 : Ref sig .tc := ⟨.hbm, 77, rfl⟩
abbrev main_call5_v11 : Ref sig .tc := ⟨.hbm, 78, rfl⟩
abbrev main_call5_c_3 : Ref sig .tc := ⟨.hbm, 79, rfl⟩
abbrev main_call5_v12 : Ref sig .tc := ⟨.hbm, 80, rfl⟩
abbrev main_call5_v13 : Ref sig .tc := ⟨.hbm, 81, rfl⟩
abbrev main_call5_cst : Ref sig .tc := ⟨.hbm, 82, rfl⟩
abbrev main_call5_v14 : Ref sig .tc := ⟨.hbm, 83, rfl⟩
abbrev main_v26 : Ref sig .tc := ⟨.hbm, 84, rfl⟩
abbrev main_c : Ref sig .tc := ⟨.hbm, 85, rfl⟩
abbrev main_c_3 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_c_4 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_call6_cst : Ref sig .tc := ⟨.hbm, 95, rfl⟩
abbrev main_call6_cst_0 : Ref sig .tc := ⟨.hbm, 96, rfl⟩
abbrev main_call6_call0_v0 : Ref sig .tc := ⟨.hbm, 97, rfl⟩
abbrev main_call6_call0_v1 : Ref sig .tc := ⟨.hbm, 98, rfl⟩
abbrev main_call6_call0_v2 : Ref sig .tc := ⟨.hbm, 99, rfl⟩
abbrev main_call6_call0_v3 : Ref sig .tc := ⟨.hbm, 100, rfl⟩
abbrev main_call6_call0_v4 : Ref sig .tc := ⟨.hbm, 101, rfl⟩
abbrev main_call6_call0_v5 : Ref sig .tc := ⟨.hbm, 102, rfl⟩
abbrev main_call6_call0_v6 : Ref sig .tc := ⟨.hbm, 103, rfl⟩
abbrev main_call6_call0_v7 : Ref sig .tc := ⟨.hbm, 104, rfl⟩
abbrev main_call6_call0_v8 : Ref sig .tc := ⟨.hbm, 105, rfl⟩
abbrev main_call6_call0_c : Ref sig .tc := ⟨.hbm, 106, rfl⟩
abbrev main_call6_call0_v9 : Ref sig .tc := ⟨.hbm, 107, rfl⟩
abbrev main_call6_call0_v10 : Ref sig .tc := ⟨.hbm, 108, rfl⟩
abbrev main_call6_call0_c_0 : Ref sig .tc := ⟨.hbm, 109, rfl⟩
abbrev main_call6_call0_v11 : Ref sig .tc := ⟨.hbm, 110, rfl⟩
abbrev main_call6_call0_v12 : Ref sig .tc := ⟨.hbm, 111, rfl⟩
abbrev main_call6_call0_v13 : Ref sig .tc := ⟨.hbm, 112, rfl⟩
abbrev main_call6_call0_c_1 : Ref sig .tc := ⟨.hbm, 113, rfl⟩
abbrev main_call6_call0_v14 : Ref sig .tc := ⟨.hbm, 114, rfl⟩
abbrev main_call6_call0_v15 : Ref sig .tc := ⟨.hbm, 115, rfl⟩
abbrev main_call6_call0_v16 : Ref sig .tc := ⟨.hbm, 116, rfl⟩
abbrev main_call6_call0_v17 : Ref sig .tc := ⟨.hbm, 117, rfl⟩
abbrev main_call6_call0_call0_v0 : Ref sig .tc := ⟨.hbm, 118, rfl⟩
abbrev main_call6_call0_call0_c : Ref sig .tc := ⟨.hbm, 119, rfl⟩
abbrev main_call6_call0_call0_v1 : Ref sig .tc := ⟨.hbm, 120, rfl⟩
abbrev main_call6_call0_call0_v2 : Ref sig .tc := ⟨.hbm, 121, rfl⟩
abbrev main_call6_call0_call0_v3 : Ref sig .tc := ⟨.hbm, 122, rfl⟩
abbrev main_call6_call0_call0_v4 : Ref sig .tc := ⟨.hbm, 123, rfl⟩
abbrev main_call6_call0_call0_v5 : Ref sig .tc := ⟨.hbm, 124, rfl⟩
abbrev main_call6_call0_call0_v6 : Ref sig .tc := ⟨.hbm, 125, rfl⟩
abbrev main_call6_call0_call0_c_0 : Ref sig .tc := ⟨.hbm, 126, rfl⟩
abbrev main_call6_call0_call0_v7 : Ref sig .tc := ⟨.hbm, 127, rfl⟩
abbrev main_call6_call0_call0_v8 : Ref sig .tc := ⟨.hbm, 128, rfl⟩
abbrev main_call6_call0_call0_c_1 : Ref sig .tc := ⟨.hbm, 129, rfl⟩
abbrev main_call6_call0_call0_v9 : Ref sig .tc := ⟨.hbm, 130, rfl⟩
abbrev main_call6_call0_call0_v10 : Ref sig .tc := ⟨.hbm, 131, rfl⟩
abbrev main_call6_call0_call0_v11 : Ref sig .tc := ⟨.hbm, 132, rfl⟩
abbrev main_call6_call0_call0_v12 : Ref sig .tc := ⟨.hbm, 133, rfl⟩
abbrev main_call6_call0_call0_v13 : Ref sig .tc := ⟨.hbm, 134, rfl⟩
abbrev main_call6_call0_call0_c_2 : Ref sig .tc := ⟨.hbm, 135, rfl⟩
abbrev main_call6_call0_call0_v14 : Ref sig .tc := ⟨.hbm, 136, rfl⟩
abbrev main_call6_call0_call0_v15 : Ref sig .tc := ⟨.hbm, 137, rfl⟩
abbrev main_call6_call0_call0_c_3 : Ref sig .tc := ⟨.hbm, 138, rfl⟩
abbrev main_call6_call0_call0_v16 : Ref sig .tc := ⟨.hbm, 139, rfl⟩
abbrev main_call6_call0_call0_v17 : Ref sig .tc := ⟨.hbm, 140, rfl⟩
abbrev main_call6_call0_call0_v18 : Ref sig .tc := ⟨.hbm, 141, rfl⟩
abbrev main_call6_call0_call0_v19 : Ref sig .tc := ⟨.hbm, 142, rfl⟩
abbrev main_call6_call0_call0_v20 : Ref sig .tc := ⟨.hbm, 143, rfl⟩
abbrev main_call6_call0_call0_c_4 : Ref sig .tc := ⟨.hbm, 144, rfl⟩
abbrev main_call6_call0_call0_v21 : Ref sig .tc := ⟨.hbm, 145, rfl⟩
abbrev main_call6_call0_call0_v22 : Ref sig .tc := ⟨.hbm, 146, rfl⟩
abbrev main_call6_call0_call0_c_5 : Ref sig .tc := ⟨.hbm, 147, rfl⟩
abbrev main_call6_call0_call0_v23 : Ref sig .tc := ⟨.hbm, 148, rfl⟩
abbrev main_call6_call0_call0_v24 : Ref sig .tc := ⟨.hbm, 149, rfl⟩
abbrev main_call6_call0_call0_v25 : Ref sig .tc := ⟨.hbm, 150, rfl⟩
abbrev main_call6_call0_call0_v26 : Ref sig .tc := ⟨.hbm, 151, rfl⟩
abbrev main_call6_call0_call0_v27 : Ref sig .tc := ⟨.hbm, 152, rfl⟩
abbrev main_call6_call0_call0_c_6 : Ref sig .tc := ⟨.hbm, 153, rfl⟩
abbrev main_call6_call0_call0_v28 : Ref sig .tc := ⟨.hbm, 154, rfl⟩
abbrev main_call6_call0_call0_v29 : Ref sig .tc := ⟨.hbm, 155, rfl⟩
abbrev main_call6_call0_call0_c_7 : Ref sig .tc := ⟨.hbm, 156, rfl⟩
abbrev main_call6_call0_call0_v30 : Ref sig .tc := ⟨.hbm, 157, rfl⟩
abbrev main_call6_call0_call0_v31 : Ref sig .tc := ⟨.hbm, 158, rfl⟩
abbrev main_call6_call0_call0_v32 : Ref sig .tc := ⟨.hbm, 159, rfl⟩
abbrev main_call6_call0_call0_v33 : Ref sig .tc := ⟨.hbm, 160, rfl⟩
abbrev main_call6_call0_call0_v34 : Ref sig .tc := ⟨.hbm, 161, rfl⟩
abbrev main_call6_call0_call0_v35 : Ref sig .tc := ⟨.hbm, 162, rfl⟩
abbrev main_call6_call0_call0_v36 : Ref sig .tc := ⟨.hbm, 163, rfl⟩
abbrev main_call6_call0_call0_v37 : Ref sig .tc := ⟨.hbm, 164, rfl⟩
abbrev main_call6_call0_call0_c_8 : Ref sig .tc := ⟨.hbm, 165, rfl⟩
abbrev main_call6_call0_call0_v38 : Ref sig .tc := ⟨.hbm, 166, rfl⟩
abbrev main_call6_call0_call0_v39 : Ref sig .tc := ⟨.hbm, 167, rfl⟩
abbrev main_call6_call0_call0_v40 : Ref sig .tc := ⟨.hbm, 168, rfl⟩
abbrev main_call6_call0_call0_c_9 : Ref sig .tc := ⟨.hbm, 169, rfl⟩
abbrev main_call6_call0_call0_v41 : Ref sig .tc := ⟨.hbm, 170, rfl⟩
abbrev main_call6_call0_call0_v42 : Ref sig .tc := ⟨.hbm, 171, rfl⟩
abbrev main_call6_call0_call0_c_10 : Ref sig .tc := ⟨.hbm, 172, rfl⟩
abbrev main_call6_call0_call0_v43 : Ref sig .tc := ⟨.hbm, 173, rfl⟩
abbrev main_call6_call0_call0_v44 : Ref sig .tc := ⟨.hbm, 174, rfl⟩
abbrev main_call6_call0_call0_v45 : Ref sig .tc := ⟨.hbm, 175, rfl⟩
abbrev main_call6_call0_call0_v46 : Ref sig .tc := ⟨.hbm, 176, rfl⟩
abbrev main_call6_call0_call0_v47 : Ref sig .tc := ⟨.hbm, 177, rfl⟩
abbrev main_call6_call0_call0_c_11 : Ref sig .tc := ⟨.hbm, 178, rfl⟩
abbrev main_call6_call0_call0_v48 : Ref sig .tc := ⟨.hbm, 179, rfl⟩
abbrev main_call6_call0_call0_v49 : Ref sig .tc := ⟨.hbm, 180, rfl⟩
abbrev main_call6_call0_call0_c_12 : Ref sig .tc := ⟨.hbm, 181, rfl⟩
abbrev main_call6_call0_call0_v50 : Ref sig .tc := ⟨.hbm, 182, rfl⟩
abbrev main_call6_call0_call0_v51 : Ref sig .tc := ⟨.hbm, 183, rfl⟩
abbrev main_call6_call0_call0_v52 : Ref sig .tc := ⟨.hbm, 184, rfl⟩
abbrev main_call6_call0_call0_v53 : Ref sig .tc := ⟨.hbm, 185, rfl⟩
abbrev main_call6_call0_call0_v54 : Ref sig .tc := ⟨.hbm, 186, rfl⟩
abbrev main_call6_call0_call0_c_13 : Ref sig .tc := ⟨.hbm, 187, rfl⟩
abbrev main_call6_call0_call0_v55 : Ref sig .tc := ⟨.hbm, 188, rfl⟩
abbrev main_call6_call0_call0_v56 : Ref sig .tc := ⟨.hbm, 189, rfl⟩
abbrev main_call6_call0_call0_c_14 : Ref sig .tc := ⟨.hbm, 190, rfl⟩
abbrev main_call6_call0_call0_v57 : Ref sig .tc := ⟨.hbm, 191, rfl⟩
abbrev main_call6_call0_call0_v58 : Ref sig .tc := ⟨.hbm, 192, rfl⟩
abbrev main_call6_call0_call0_v59 : Ref sig .tc := ⟨.hbm, 193, rfl⟩
abbrev main_call6_call0_call0_v60 : Ref sig .tc := ⟨.hbm, 194, rfl⟩
abbrev main_call6_call0_call0_v61 : Ref sig .tc := ⟨.hbm, 195, rfl⟩
abbrev main_call6_call0_call0_c_15 : Ref sig .tc := ⟨.hbm, 196, rfl⟩
abbrev main_call6_call0_call0_v62 : Ref sig .tc := ⟨.hbm, 197, rfl⟩
abbrev main_call6_call0_call0_v63 : Ref sig .tc := ⟨.hbm, 198, rfl⟩
abbrev main_call6_call0_call0_c_16 : Ref sig .tc := ⟨.hbm, 199, rfl⟩
abbrev main_call6_call0_call0_v64 : Ref sig .tc := ⟨.hbm, 200, rfl⟩
abbrev main_call6_call0_call0_v65 : Ref sig .tc := ⟨.hbm, 201, rfl⟩
abbrev main_call6_call0_call0_v66 : Ref sig .tc := ⟨.hbm, 202, rfl⟩
abbrev main_call6_call0_call0_v67 : Ref sig .tc := ⟨.hbm, 203, rfl⟩
abbrev main_call6_call0_call0_v68 : Ref sig .tc := ⟨.hbm, 204, rfl⟩
abbrev main_call6_call0_call0_v69 : Ref sig .tc := ⟨.hbm, 205, rfl⟩
abbrev main_call6_call0_call0_v70 : Ref sig .tc := ⟨.hbm, 206, rfl⟩
abbrev main_call6_call0_call0_v71 : Ref sig .tc := ⟨.hbm, 207, rfl⟩
abbrev main_call6_call0_call0_c_17 : Ref sig .tc := ⟨.hbm, 208, rfl⟩
abbrev main_call6_call0_call0_v72 : Ref sig .tc := ⟨.hbm, 209, rfl⟩
abbrev main_call6_call0_call0_v73 : Ref sig .tc := ⟨.hbm, 210, rfl⟩
abbrev main_call6_call0_call0_v74 : Ref sig .tc := ⟨.hbm, 211, rfl⟩
abbrev main_call6_call0_call0_c_18 : Ref sig .tc := ⟨.hbm, 212, rfl⟩
abbrev main_call6_call0_call0_v75 : Ref sig .tc := ⟨.hbm, 213, rfl⟩
abbrev main_call6_call0_call0_v76 : Ref sig .tc := ⟨.hbm, 214, rfl⟩
abbrev main_call6_call0_call0_c_19 : Ref sig .tc := ⟨.hbm, 215, rfl⟩
abbrev main_call6_call0_call0_v77 : Ref sig .tc := ⟨.hbm, 216, rfl⟩
abbrev main_call6_call0_call0_v78 : Ref sig .tc := ⟨.hbm, 217, rfl⟩
abbrev main_call6_call0_call0_v79 : Ref sig .tc := ⟨.hbm, 218, rfl⟩
abbrev main_call6_call0_call0_v80 : Ref sig .tc := ⟨.hbm, 219, rfl⟩
abbrev main_call6_call0_call0_v81 : Ref sig .tc := ⟨.hbm, 220, rfl⟩
abbrev main_call6_call0_call0_c_20 : Ref sig .tc := ⟨.hbm, 221, rfl⟩
abbrev main_call6_call0_call0_v82 : Ref sig .tc := ⟨.hbm, 222, rfl⟩
abbrev main_call6_call0_call0_v83 : Ref sig .tc := ⟨.hbm, 223, rfl⟩
abbrev main_call6_call0_call0_c_21 : Ref sig .tc := ⟨.hbm, 224, rfl⟩
abbrev main_call6_call0_call0_v84 : Ref sig .tc := ⟨.hbm, 225, rfl⟩
abbrev main_call6_call0_call0_v85 : Ref sig .tc := ⟨.hbm, 226, rfl⟩
abbrev main_call6_call0_call0_v86 : Ref sig .tc := ⟨.hbm, 227, rfl⟩
abbrev main_call6_call0_call0_v87 : Ref sig .tc := ⟨.hbm, 228, rfl⟩
abbrev main_call6_call0_call0_v88 : Ref sig .tc := ⟨.hbm, 229, rfl⟩
abbrev main_call6_call0_call0_c_22 : Ref sig .tc := ⟨.hbm, 230, rfl⟩
abbrev main_call6_call0_call0_v89 : Ref sig .tc := ⟨.hbm, 231, rfl⟩
abbrev main_call6_call0_call0_v90 : Ref sig .tc := ⟨.hbm, 232, rfl⟩
abbrev main_call6_call0_call0_c_23 : Ref sig .tc := ⟨.hbm, 233, rfl⟩
abbrev main_call6_call0_call0_v91 : Ref sig .tc := ⟨.hbm, 234, rfl⟩
abbrev main_call6_call0_call0_v92 : Ref sig .tc := ⟨.hbm, 235, rfl⟩
abbrev main_call6_call0_call0_v93 : Ref sig .tc := ⟨.hbm, 236, rfl⟩
abbrev main_call6_call0_call0_v94 : Ref sig .tc := ⟨.hbm, 237, rfl⟩
abbrev main_call6_call0_call0_v95 : Ref sig .tc := ⟨.hbm, 238, rfl⟩
abbrev main_call6_call0_call0_c_24 : Ref sig .tc := ⟨.hbm, 239, rfl⟩
abbrev main_call6_call0_call0_v96 : Ref sig .tc := ⟨.hbm, 240, rfl⟩
abbrev main_call6_call0_call0_v97 : Ref sig .tc := ⟨.hbm, 241, rfl⟩
abbrev main_call6_call0_call0_c_25 : Ref sig .tc := ⟨.hbm, 242, rfl⟩
abbrev main_call6_call0_call0_v98 : Ref sig .tc := ⟨.hbm, 243, rfl⟩
abbrev main_call6_call0_call0_v99 : Ref sig .tc := ⟨.hbm, 244, rfl⟩
abbrev main_call6_call0_call0_v100 : Ref sig .tc := ⟨.hbm, 245, rfl⟩
abbrev main_call6_call0_call0_v101 : Ref sig .tc := ⟨.hbm, 246, rfl⟩
abbrev main_call6_call0_call0_v102 : Ref sig .tc := ⟨.hbm, 247, rfl⟩
abbrev main_call6_call0_call0_v103 : Ref sig .tc := ⟨.hbm, 248, rfl⟩
abbrev main_call6_call0_call0_v104 : Ref sig .tc := ⟨.hbm, 249, rfl⟩
abbrev main_call6_call0_call0_v105 : Ref sig .tc := ⟨.hbm, 250, rfl⟩
abbrev main_call6_call0_call0_c_26 : Ref sig .tc := ⟨.hbm, 251, rfl⟩
abbrev main_call6_call0_call0_v106 : Ref sig .tc := ⟨.hbm, 252, rfl⟩
abbrev main_call6_call0_call0_v107 : Ref sig .tc := ⟨.hbm, 253, rfl⟩
abbrev main_call6_call0_call0_v108 : Ref sig .tc := ⟨.hbm, 254, rfl⟩
abbrev main_call6_call0_call0_c_27 : Ref sig .tc := ⟨.hbm, 255, rfl⟩
abbrev main_call6_call0_call0_v109 : Ref sig .tc := ⟨.hbm, 256, rfl⟩
abbrev main_call6_call0_call0_v110 : Ref sig .tc := ⟨.hbm, 257, rfl⟩
abbrev main_call6_call0_call0_c_28 : Ref sig .tc := ⟨.hbm, 258, rfl⟩
abbrev main_call6_call0_call0_v111 : Ref sig .tc := ⟨.hbm, 259, rfl⟩
abbrev main_call6_call0_call0_v112 : Ref sig .tc := ⟨.hbm, 260, rfl⟩
abbrev main_call6_call0_call0_v113 : Ref sig .tc := ⟨.hbm, 261, rfl⟩
abbrev main_call6_call0_call0_v114 : Ref sig .tc := ⟨.hbm, 262, rfl⟩
abbrev main_call6_call0_call0_v115 : Ref sig .tc := ⟨.hbm, 263, rfl⟩
abbrev main_call6_call0_call0_c_29 : Ref sig .tc := ⟨.hbm, 264, rfl⟩
abbrev main_call6_call0_call0_v116 : Ref sig .tc := ⟨.hbm, 265, rfl⟩
abbrev main_call6_call0_call0_v117 : Ref sig .tc := ⟨.hbm, 266, rfl⟩
abbrev main_call6_call0_call0_c_30 : Ref sig .tc := ⟨.hbm, 267, rfl⟩
abbrev main_call6_call0_call0_v118 : Ref sig .tc := ⟨.hbm, 268, rfl⟩
abbrev main_call6_call0_call0_v119 : Ref sig .tc := ⟨.hbm, 269, rfl⟩
abbrev main_call6_call0_call0_v120 : Ref sig .tc := ⟨.hbm, 270, rfl⟩
abbrev main_call6_call0_call0_v121 : Ref sig .tc := ⟨.hbm, 271, rfl⟩
abbrev main_call6_call0_call0_v122 : Ref sig .tc := ⟨.hbm, 272, rfl⟩
abbrev main_call6_call0_call0_c_31 : Ref sig .tc := ⟨.hbm, 273, rfl⟩
abbrev main_call6_call0_call0_v123 : Ref sig .tc := ⟨.hbm, 274, rfl⟩
abbrev main_call6_call0_call0_v124 : Ref sig .tc := ⟨.hbm, 275, rfl⟩
abbrev main_call6_call0_call0_c_32 : Ref sig .tc := ⟨.hbm, 276, rfl⟩
abbrev main_call6_call0_call0_v125 : Ref sig .tc := ⟨.hbm, 277, rfl⟩
abbrev main_call6_call0_call0_v126 : Ref sig .tc := ⟨.hbm, 278, rfl⟩
abbrev main_call6_call0_call0_v127 : Ref sig .tc := ⟨.hbm, 279, rfl⟩
abbrev main_call6_call0_call0_v128 : Ref sig .tc := ⟨.hbm, 280, rfl⟩
abbrev main_call6_call0_call0_v129 : Ref sig .tc := ⟨.hbm, 281, rfl⟩
abbrev main_call6_call0_call0_c_33 : Ref sig .tc := ⟨.hbm, 282, rfl⟩
abbrev main_call6_call0_call0_v130 : Ref sig .tc := ⟨.hbm, 283, rfl⟩
abbrev main_call6_call0_call0_v131 : Ref sig .tc := ⟨.hbm, 284, rfl⟩
abbrev main_call6_call0_call0_c_34 : Ref sig .tc := ⟨.hbm, 285, rfl⟩
abbrev main_call6_call0_call0_v132 : Ref sig .tc := ⟨.hbm, 286, rfl⟩
abbrev main_call6_call0_call0_v133 : Ref sig .tc := ⟨.hbm, 287, rfl⟩
abbrev main_call6_call0_call0_v134 : Ref sig .tc := ⟨.hbm, 288, rfl⟩
abbrev main_call6_call0_call0_v135 : Ref sig .tc := ⟨.hbm, 289, rfl⟩
abbrev main_call6_call0_call0_v136 : Ref sig .tc := ⟨.hbm, 290, rfl⟩
abbrev main_call6_call0_call0_v137 : Ref sig .tc := ⟨.hbm, 291, rfl⟩
abbrev main_call6_call0_call0_v138 : Ref sig .tc := ⟨.hbm, 292, rfl⟩
abbrev main_call6_call0_call0_v139 : Ref sig .tc := ⟨.hbm, 293, rfl⟩
abbrev main_call6_call0_call0_c_35 : Ref sig .tc := ⟨.hbm, 294, rfl⟩
abbrev main_call6_call0_call0_v140 : Ref sig .tc := ⟨.hbm, 295, rfl⟩
abbrev main_call6_call0_call0_v141 : Ref sig .tc := ⟨.hbm, 296, rfl⟩
abbrev main_call6_call0_call0_v142 : Ref sig .tc := ⟨.hbm, 297, rfl⟩
abbrev main_call6_call0_call0_c_36 : Ref sig .tc := ⟨.hbm, 298, rfl⟩
abbrev main_call6_call0_call0_v143 : Ref sig .tc := ⟨.hbm, 299, rfl⟩
abbrev main_call6_call0_call0_v144 : Ref sig .tc := ⟨.hbm, 300, rfl⟩
abbrev main_call6_call0_call0_c_37 : Ref sig .tc := ⟨.hbm, 301, rfl⟩
abbrev main_call6_call0_call0_v145 : Ref sig .tc := ⟨.hbm, 302, rfl⟩
abbrev main_call6_call0_call0_v146 : Ref sig .tc := ⟨.hbm, 303, rfl⟩
abbrev main_call6_call0_call0_v147 : Ref sig .tc := ⟨.hbm, 304, rfl⟩
abbrev main_call6_call0_call0_v148 : Ref sig .tc := ⟨.hbm, 305, rfl⟩
abbrev main_call6_call0_call0_v149 : Ref sig .tc := ⟨.hbm, 306, rfl⟩
abbrev main_call6_call0_call0_c_38 : Ref sig .tc := ⟨.hbm, 307, rfl⟩
abbrev main_call6_call0_call0_v150 : Ref sig .tc := ⟨.hbm, 308, rfl⟩
abbrev main_call6_call0_call0_v151 : Ref sig .tc := ⟨.hbm, 309, rfl⟩
abbrev main_call6_call0_call0_c_39 : Ref sig .tc := ⟨.hbm, 310, rfl⟩
abbrev main_call6_call0_call0_v152 : Ref sig .tc := ⟨.hbm, 311, rfl⟩
abbrev main_call6_call0_call0_v153 : Ref sig .tc := ⟨.hbm, 312, rfl⟩
abbrev main_call6_call0_call0_v154 : Ref sig .tc := ⟨.hbm, 313, rfl⟩
abbrev main_call6_call0_call0_v155 : Ref sig .tc := ⟨.hbm, 314, rfl⟩
abbrev main_call6_call0_call0_v156 : Ref sig .tc := ⟨.hbm, 315, rfl⟩
abbrev main_call6_call0_call0_c_40 : Ref sig .tc := ⟨.hbm, 316, rfl⟩
abbrev main_call6_call0_call0_v157 : Ref sig .tc := ⟨.hbm, 317, rfl⟩
abbrev main_call6_call0_call0_v158 : Ref sig .tc := ⟨.hbm, 318, rfl⟩
abbrev main_call6_call0_call0_c_41 : Ref sig .tc := ⟨.hbm, 319, rfl⟩
abbrev main_call6_call0_call0_v159 : Ref sig .tc := ⟨.hbm, 320, rfl⟩
abbrev main_call6_call0_call0_v160 : Ref sig .tc := ⟨.hbm, 321, rfl⟩
abbrev main_call6_call0_call0_v161 : Ref sig .tc := ⟨.hbm, 322, rfl⟩
abbrev main_call6_call0_call0_v162 : Ref sig .tc := ⟨.hbm, 323, rfl⟩
abbrev main_call6_call0_call0_v163 : Ref sig .tc := ⟨.hbm, 324, rfl⟩
abbrev main_call6_call0_call0_c_42 : Ref sig .tc := ⟨.hbm, 325, rfl⟩
abbrev main_call6_call0_call0_v164 : Ref sig .tc := ⟨.hbm, 326, rfl⟩
abbrev main_call6_call0_call0_v165 : Ref sig .tc := ⟨.hbm, 327, rfl⟩
abbrev main_call6_call0_call0_c_43 : Ref sig .tc := ⟨.hbm, 328, rfl⟩
abbrev main_call6_call0_call0_v166 : Ref sig .tc := ⟨.hbm, 329, rfl⟩
abbrev main_call6_call0_call0_v167 : Ref sig .tc := ⟨.hbm, 330, rfl⟩
abbrev main_call6_call0_call0_v168 : Ref sig .tc := ⟨.hbm, 331, rfl⟩
abbrev main_call6_call0_call0_v169 : Ref sig .tc := ⟨.hbm, 332, rfl⟩
abbrev main_call6_call0_call0_v170 : Ref sig .tc := ⟨.hbm, 333, rfl⟩
abbrev main_call6_call0_v18_0 : Ref sig .tc := ⟨.hbm, 334, rfl⟩
abbrev main_call6_call0_call0_v172 : Ref sig .tc := ⟨.hbm, 335, rfl⟩
abbrev main_call6_call0_call0_v173 : Ref sig .tc := ⟨.hbm, 336, rfl⟩
abbrev main_call6_call0_call0_c_44 : Ref sig .tc := ⟨.hbm, 337, rfl⟩
abbrev main_call6_call0_call0_v174 : Ref sig .tc := ⟨.hbm, 338, rfl⟩
abbrev main_call6_call0_v18_1 : Ref sig .tc := ⟨.hbm, 339, rfl⟩
abbrev main_call6_call0_v19 : Ref sig .tc := ⟨.hbm, 340, rfl⟩
abbrev main_call6_call0_c_2 : Ref sig .tc := ⟨.hbm, 341, rfl⟩
abbrev main_call6_call0_v20 : Ref sig .tc := ⟨.hbm, 342, rfl⟩
abbrev main_call6_call0_v21 : Ref sig .tc := ⟨.hbm, 343, rfl⟩
abbrev main_call6_call0_c_3 : Ref sig .tc := ⟨.hbm, 344, rfl⟩
abbrev main_call6_call0_v22 : Ref sig .tc := ⟨.hbm, 345, rfl⟩
abbrev main_call6_call0_v23 : Ref sig .tc := ⟨.hbm, 346, rfl⟩
abbrev main_call6_call0_v24 : Ref sig .tc := ⟨.hbm, 347, rfl⟩
abbrev main_call6_call0_cst : Ref sig .tc := ⟨.hbm, 348, rfl⟩
abbrev main_call6_call0_v25 : Ref sig .tc := ⟨.hbm, 349, rfl⟩
abbrev main_call6_call0_v26 : Ref sig .tc := ⟨.hbm, 350, rfl⟩
abbrev main_call6_call0_v27 : Ref sig .tc := ⟨.hbm, 351, rfl⟩
abbrev main_call6_call0_v28 : Ref sig .tc := ⟨.hbm, 352, rfl⟩
abbrev main_call6_call0_v29 : Ref sig .tc := ⟨.hbm, 353, rfl⟩
abbrev main_call6_call0_v30 : Ref sig .tc := ⟨.hbm, 354, rfl⟩
abbrev main_call6_call0_v31 : Ref sig .tc := ⟨.hbm, 355, rfl⟩
abbrev main_call6_call0_v32 : Ref sig .tc := ⟨.hbm, 356, rfl⟩
abbrev main_call6_v0 : Ref sig .tc := ⟨.hbm, 357, rfl⟩
abbrev main_call6_v1 : Ref sig .tc := ⟨.hbm, 358, rfl⟩
abbrev main_call6_v2 : Ref sig .tc := ⟨.hbm, 359, rfl⟩
abbrev main_call6_v3 : Ref sig .tc := ⟨.hbm, 360, rfl⟩
abbrev main_v34 : Ref sig .tc := ⟨.hbm, 361, rfl⟩
abbrev main_v35 : Ref sig .tc := ⟨.hbm, 362, rfl⟩
abbrev main_call7_v0 : Ref sig .tc := ⟨.hbm, 363, rfl⟩
abbrev main_call7_cst : Ref sig .tc := ⟨.hbm, 364, rfl⟩
abbrev main_call7_c : Ref sig .tc := ⟨.hbm, 365, rfl⟩
abbrev main_call7_v1_0 : Ref sig .tc := ⟨.hbm, 366, rfl⟩
abbrev main_v36 : Ref sig .tc := ⟨.hbm, 367, rfl⟩

abbrev nD : Nat := 1
abbrev τ : Topo := Topo.v7x

variable {F : FTy → Type} [FloatOps F]
-- ==== Proof.Ideal.Common.lean ====
/-
  What the three regions of the idealized kernel's run share: the resource algebra (one copy of the pipeline
  library's per region, beside the counters), how a buffer is held, and the references the thread state holds
  between the regions.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.RegionsLoop
public import Idealize.ShloMosaic.Lib.Pipeline.DatRel
public import Idealize.ShloMosaic.Lib.Pipeline.FrameBody
public import Idealize.ShloMosaic.Lib.Pipeline.Value
public import Idealize.ShloMosaic.Lib.VecWindow
public import Idealize.ShloMosaic.Lib.ValueIdxCore
public import Idealize.ShloMosaic.Lib.Tactic

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- The resource algebra of the whole run: one copy of the pipeline library's per region, and the counters. -/
abbrev UU : Type := IProdConst (Fin 3) (UR sig nD τ) × Counters

local notation "𝕄" => MT nD τ sig Unit (Elt F) ℕ UU ℕ

/-- The contents of memref `M`'s buffer on core `c`, and the buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The kernels' variants: none. -/
abbrev 𝒱₀ : Variants := Variants.none

/-- Proof data of a pipeline that an entry does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- The unscoped references of the TensorCore: what the thread state holds between the regions. -/
def ucRefs : Finset (DevRef τ sig) := (StableHlo.tcRefs τ sig).filter fun b => ¬ b.isScoped

/-- The unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- No core owes another anything: no level is assigned. -/
abbrev L : GSem nD τ sig → Finset Unit := fun _ => ∅
abbrev lv : GSem nD τ sig → Unit → ℕ := fun _ _ => 0

/-- Zero offsets in two dimensions, however spelt. -/
theorem zero2 : (![0, 0] : Fin 2 → Nat) = fun _ => 0 := funext fun a => by fin_cases a <;> rfl

/-- The first lane of a 64 × 128 buffer. -/
abbrev col {α : EltTy → Type} {e : EltTy} (X : S64x128.Idx → α e) : S64x1.Idx → α e :=
  View.ld X (Rect.unit (s := S64x128) ![0, 0] S64x1.size inb_S64x128_S64x1_0_0)

/-- What is read of a buffer last stored whole is the payload of that store. -/
theorem read_stored {sp : Space} {S : Shape} {e : EltTy} (v : View sig .tc sp S e) (f : v.ty.Contents (Elt F)) {off : Fin S.rank → Nat} (h : off = fun _ => 0)
    (inb : ∀ a, off a + S.size a ≤ S.size a) (w : S.Idx → Elt F e) (Lw : List (View.Piece (Elt F) S e)) :
    v.read (Elt F) (v.writes (Elt F) f ((⟨Rect.unit off S.size inb, w⟩ : View.Piece (Elt F) S e) :: Lw)) = w := by
  rw [View.read_writes_eq_canon _ _ _ fun y => ⟨_, List.mem_cons_self, View.mem_set_unit_zero h inb y⟩, View.canon_cons_unit_zero h]

/-- The first lane read of a buffer stored whole since is the payload's. -/
theorem readCov_col {sp : Space} {e : EltTy} (v : View sig .tc sp S64x128 e) (inb : ∀ a, (![0, 0] : Fin 2 → ℕ) a + S64x128.size a ≤ S64x128.size a) (inb' : ∀ a, (![0, 0] : Fin 2 → ℕ) a + S64x1.size a ≤ S64x128.size a) (w : S64x128.Idx → Elt F e) (Lw : List (View.Piece (Elt F) S64x128 e)) :
    v.readCov ((⟨Rect.unit ![0, 0] S64x128.size inb, w⟩ : View.Piece (Elt F) S64x128 e) :: Lw) (Rect.unit (s := S64x128) ![0, 0] S64x1.size inb').toLoadRect = col w := by
  rw [View.readCov_eq_canon_ld _ _ _ fun y => ⟨_, List.mem_cons_self, View.mem_set_unit_zero zero2 inb y⟩, View.canon_cons_unit_zero zero2]

/-- All of a buffer stored whole since. -/
theorem readCov_whole {sp : Space} {e : EltTy} (v : View sig .tc sp S64x128 e) (inb : ∀ a, (![0, 0] : Fin 2 → ℕ) a + S64x128.size a ≤ S64x128.size a) (inb' : ∀ a, (![0, 0] : Fin 2 → ℕ) a + S64x128.size a ≤ S64x128.size a) (w : S64x128.Idx → Elt F e) (Lw : List (View.Piece (Elt F) S64x128 e)) :
    v.readCov ((⟨Rect.unit ![0, 0] S64x128.size inb, w⟩ : View.Piece (Elt F) S64x128 e) :: Lw) (Rect.unit (s := S64x128) ![0, 0] S64x128.size inb').toLoadRect = w := by
  rw [View.readCov_eq_canon_ld _ _ _ fun y => ⟨_, List.mem_cons_self, View.mem_set_unit_zero zero2 inb y⟩, View.canon_cons_unit_zero zero2, View.ld_unit_zero zero2]

end Cert.KernelIdeal.Run

end
-- ==== Proof.Ideal.Body0.lean ====
/-
  The first region's body (the logits tile and the running row maximum) run once at a symbolic grid point, from any
  contents of its five staging buffers.
-/
module

public import proofs.«01_k».proof.Proof.Ideal.Common

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The condition of the first conditional, at the grid's first point. -/
abbrev cond0 (i : grid0.Coords) : BitVec 1 := Scalar.cmpi .ne (Scalar.extui (Scalar.cmpi .eq (BitVec.ofNat 32 (i 0).val) 0#32)) 0#32

/-- At the first point: the row maximum starts from its initial value. -/
theorem mm_first (c : Dev nD) (i : grid0.Coords) (hc : cond0 i = 1#1) (M1 : Memref sig .tc .vmem S64x768 .f32) (h1 : M1.IsWhole) (M2 : Memref sig .tc .vmem S2048x768 .f32) (h2 : M2.IsWhole)
    (M3 : Memref sig .tc .vmem S64x128 .f32) (h3 : M3.IsWhole) (M4 : Memref sig .tc .vmem S64x2048 .f32) (h4 : M4.IsWhole) (M5 : Memref sig .tc .vmem S64x128 .f32) (h5 : M5.IsWhole)
    (X1 : S64x768.Idx → Elt F .f32) (X2 : S2048x768.Idx → Elt F .f32) (X3 : S64x128.Idx → Elt F .f32) (X4 : S64x2048.Idx → Elt F .f32) (X5 : S64x128.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5
        ∗ (iprop(owns (c : Thread nD τ) M1 fullShare X1 ∗ owns (c : Thread nD τ) M2 fullShare X2 ∗ owns (c : Thread nD τ) M3 fullShare X3
            ∗ owns (c : Thread nD τ) M4 fullShare (k0_pay1 i X1 X2 (col X3))
            ∗ owns (c : Thread nD τ) M5 fullShare (k0_pay3 i X1 X2 (col X3) (k0_pay2 (F := F)))) -∗ Q ⟨⟩))
      ⊢ wp frame (wpE (defs₀ (F := F)) 𝒱₀ c none) E (cc0__mm_body i M1 h1 M2 h2 M3 h3 M4 h4 M5 h5) Q := by
  simp only [cc0__mm_body_eq_skeleton]; unfold cc0__mm_body_skel owns
  iintro ⟨⟨%f1, %e1, H1⟩, ⟨%f2, %e2, H2⟩, ⟨%f3, %e3, H3⟩, ⟨%f4, %e4, H4⟩, ⟨%f5, %e5, H5⟩, Hk⟩
  sl_exec (disch := sl_exact hc)
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  subst e1 e2 e3 e4 e5
  isplitl [H4]
  · iexists _; isplitr; swap; · iexact H4
    ipureintro
    rw [read_stored _ _ zero2, View.readAt_full, View.readAt_full]; rfl
  iexists _; isplitr; swap; · iexact H5
  ipureintro
  rw [read_stored _ _ zero2, View.readAt_full, View.readAt_full]
  unfold mm_first.sl.v21 mm_first.sl.H5_1
  rw [View.readCov_unit_zero _ zero2]; rfl

/-- At a later point: the row maximum goes on from what the points before left. -/
theorem mm_later (c : Dev nD) (i : grid0.Coords) (hc : ¬ cond0 i = 1#1) (M1 : Memref sig .tc .vmem S64x768 .f32) (h1 : M1.IsWhole) (M2 : Memref sig .tc .vmem S2048x768 .f32) (h2 : M2.IsWhole)
    (M3 : Memref sig .tc .vmem S64x128 .f32) (h3 : M3.IsWhole) (M4 : Memref sig .tc .vmem S64x2048 .f32) (h4 : M4.IsWhole) (M5 : Memref sig .tc .vmem S64x128 .f32) (h5 : M5.IsWhole)
    (X1 : S64x768.Idx → Elt F .f32) (X2 : S2048x768.Idx → Elt F .f32) (X3 : S64x128.Idx → Elt F .f32) (X4 : S64x2048.Idx → Elt F .f32) (X5 : S64x128.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5
        ∗ (iprop(owns (c : Thread nD τ) M1 fullShare X1 ∗ owns (c : Thread nD τ) M2 fullShare X2 ∗ owns (c : Thread nD τ) M3 fullShare X3
            ∗ owns (c : Thread nD τ) M4 fullShare (k0_pay1 i X1 X2 (col X3))
            ∗ owns (c : Thread nD τ) M5 fullShare (k0_pay3 i X1 X2 (col X3) X5)) -∗ Q ⟨⟩))
      ⊢ wp frame (wpE (defs₀ (F := F)) 𝒱₀ c none) E (cc0__mm_body i M1 h1 M2 h2 M3 h3 M4 h4 M5 h5) Q := by
  simp only [cc0__mm_body_eq_skeleton]; unfold cc0__mm_body_skel owns
  iintro ⟨⟨%f1, %e1, H1⟩, ⟨%f2, %e2, H2⟩, ⟨%f3, %e3, H3⟩, ⟨%f4, %e4, H4⟩, ⟨%f5, %e5, H5⟩, Hk⟩
  sl_exec (disch := sl_exact hc)
  sl_step
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  subst e1 e2 e3 e4 e5
  isplitl [H4]
  · iexists _; isplitr; swap; · iexact H4
    ipureintro
    rw [read_stored _ _ zero2, View.readAt_full, View.readAt_full]; rfl
  iexists _; isplitr; swap; · iexact H5
  ipureintro
  rw [read_stored _ _ zero2, View.readAt_full, View.readAt_full, View.readAt_full]; rfl

end Cert.KernelIdeal.Run

end
-- ==== Proof.Ideal.Body1.lean ====
/-
  The second region's body (the weights' tiles, their running sum, and at the last point the bisection for the
  threshold) run once at a symbolic grid point, in its three cases, with its two nested loops by invariants.
-/
module

public import proofs.«01_k».proof.Proof.Ideal.Common

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The condition of the first conditional, at the grid's first point. -/
abbrev cond1 (i : grid1.Coords) : BitVec 1 := Scalar.cmpi .ne (Scalar.extui (Scalar.cmpi .eq (BitVec.ofNat 32 (i 0).val) 0#32)) 0#32

/-- Tile `k` of the weights' buffer: its columns from `2048 k`. -/
def tileAt (X : S64x100352.Idx → Elt F .f32) (k : ℕ) : S64x2048.Idx → Elt F .f32 :=
  fun y => X (ValueIdx.ix2 (y 0) (⟨(2048 * k + (y 1).val) % 100352, Nat.mod_lt _ (by decide)⟩ : Fin 100352))

/-- The mass above the middle of `lo` and `hi` in the tiles `T` before tile `k`. -/
def massSt (T : ℕ → S64x2048.Idx → Elt F .f32) (lo hi : FVec F S64x1 .f32) : ℕ → FVec F S64x1 .f32
  | 0 => k1_pay8
  | k + 1 => k1_pay9 lo hi (massSt T lo hi k) (T k)

/-- The bracket of the threshold before step `k` of the bisection over the tiles `T`, at total mass `z` and share `p`. -/
def bisSt (T : ℕ → S64x2048.Idx → Elt F .f32) (z p : S64x1.Idx → Elt F .f32) : ℕ → FVec F S64x1 .f32 × FVec F S64x1 .f32
  | 0 => (k1_pay5, k1_pay6)
  | k + 1 => (k1_pay11 z p (bisSt T z p k).1 (bisSt T z p k).2 (massSt T (bisSt T z p k).1 (bisSt T z p k).2 49),
      k1_pay12 z p (bisSt T z p k).1 (bisSt T z p k).2 (massSt T (bisSt T z p k).1 (bisSt T z p k).2 49))

/-- A tile read of the buffer is its tile. -/
theorem readAt_tile (v : View sig .tc .vmem S64x100352 .f32) (f : v.ty.Contents (Elt F)) (k : Fin k1_t2_loop.trips)
    (inb : ∀ a, k1_off2 k a + S64x2048.size a ≤ S64x100352.size a) :
    v.readAt (Elt F) (Rect.unit (s := S64x100352) (k1_off2 k) S64x2048.size inb).toLoadRect f = tileAt (v.read (Elt F) f) k.val := by
  have hk : k.val < 49 := Nat.lt_of_lt_of_le k.isLt k1_t2_abs.2.1
  rw [View.readAt_unit v f inb (k1_off2_eq k) (by rw [← k1_off2_eq k]; exact inb)]
  funext y
  unfold VecWindow.window tileAt
  congr 1
  funext a
  apply Fin.ext
  have h1 : (y 1).val < 2048 := (y 1).isLt
  fin_cases a
  · simp [Rect.emb, Rect.unit, ValueIdx.ix2]
  · simp [Rect.emb, Rect.unit, ValueIdx.ix2]
    omega

set_option warn.classDefReducibility false in
/-- The inner loop by its invariant. -/
@[sl_loop] def massLoop (𝒱 : Variants) (c : Dev nD) (bd : Option 𝒱.V) (E : Set ℕ) (i : grid1.Coords) (arg1 : Memref sig .tc .vmem S64x2048 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x100352 .f32) (harg5 : arg5.IsWhole) (arg6 : Memref sig .tc .vmem S64x128 .f32) (harg6 : arg6.IsWhole) (k1_h2 : k1_cond2 i = 1#1)
    (arg8 arg9 : FVec F S64x1 .f32) (X : BufTy.Contents (Elt F) arg5.view.ty) :
    LoopInvTy_k1_t2 (F := F) Unit ℕ UU ℕ 𝒱 c bd E i arg1 harg1 arg2 harg2 arg3 harg3 arg4 harg4 arg5 harg5 arg6 harg6 k1_h2 arg8 arg9 (k1_pay8 (F := F)) where
  inv k acc := iprop((arg5.view.loc (c : Thread nD τ) ↦[arg5.view.set]{fullShare} X) ∗ ⌜acc = massSt (tileAt (arg5.view.read (Elt F) X)) arg8 arg9 k⌝)
  step k acc := by
    have hk : k.val < 49 := Nat.lt_of_lt_of_le k.isLt k1_t2_abs.2.1
    iintro ⟨H, %h⟩
    subst h
    unfold k1_t2_body
    sl_exec
    sl_step
    isplitl [H]; · iexact H
    ipureintro
    rw [readAt_tile]
    rfl

set_option warn.classDefReducibility false in
/-- The outer loop by its invariant. -/
@[sl_loop] def bisLoop (𝒱 : Variants) (c : Dev nD) (bd : Option 𝒱.V) (E : Set ℕ) (i : grid1.Coords) (arg1 : Memref sig .tc .vmem S64x2048 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x100352 .f32) (harg5 : arg5.IsWhole) (arg6 : Memref sig .tc .vmem S64x128 .f32) (harg6 : arg6.IsWhole) (k1_h2 : k1_cond2 i = 1#1)
    (v36 v37 : Vec F S64x1 .f32) (X : BufTy.Contents (Elt F) arg5.view.ty) :
    LoopInvTy_k1_t1 (F := F) Unit ℕ UU ℕ 𝒱 c bd E i arg1 harg1 arg2 harg2 arg3 harg3 arg4 harg4 arg5 harg5 arg6 harg6 k1_h2 v36 v37 (k1_pay5 (F := F), k1_pay6 (F := F)) where
  inv k acc := iprop((arg5.view.loc (c : Thread nD τ) ↦[arg5.view.set]{fullShare} X) ∗ ⌜acc = bisSt (tileAt (arg5.view.read (Elt F) X)) v36 v37 k⌝)
  step k acc := by
    have hk : k.val < 26 := Nat.lt_of_lt_of_le k.isLt k1_t1_abs.2.1
    iintro ⟨H, %h⟩
    subst h
    unfold k1_t1_body
    sl_exec
    sl_step
    sl_close

/-- At the first point: the sum starts from zero. -/
theorem thresh_first (c : Dev nD) (i : grid1.Coords) (hc : cond1 i = 1#1) (hl : ¬ k1_cond2 i = 1#1) (M1 : Memref sig .tc .vmem S64x2048 .f32) (h1 : M1.IsWhole) (M2 : Memref sig .tc .vmem S64x128 .f32) (h2 : M2.IsWhole) (M3 : Memref sig .tc .vmem S64x128 .f32) (h3 : M3.IsWhole) (M4 : Memref sig .tc .vmem S64x128 .f32) (h4 : M4.IsWhole) (M5 : Memref sig .tc .vmem S64x100352 .f32) (h5 : M5.IsWhole) (M6 : Memref sig .tc .vmem S64x128 .f32) (h6 : M6.IsWhole)
    (X1 : S64x2048.Idx → Elt F .f32) (X2 : S64x128.Idx → Elt F .f32) (X3 : S64x128.Idx → Elt F .f32) (X4 : S64x128.Idx → Elt F .f32) (X5 : S64x100352.Idx → Elt F .f32) (X6 : S64x128.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
        ∗ (iprop(owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare (VecWindow.put X5 ![0, 2048 * (i 0).val] S64x2048.size (k1_pay2 i (col X2) X1))
            ∗ owns (c : Thread nD τ) M6 fullShare (k1_pay4 i (col X2) X1 (k1_pay3 (F := F) : S64x128.Idx → Elt F .f32))) -∗ Q ⟨⟩))
      ⊢ wp frame (wpE (defs₀ (F := F)) 𝒱₀ c none) E (cc1__thresh_body i M1 h1 M2 h2 M3 h3 M4 h4 M5 h5 M6 h6) Q := by
  simp only [cc1__thresh_body_eq_skeleton]; unfold cc1__thresh_body_skel owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  sl_exec (disch := first | exact hc | exact hl)
  sl_step
  iapply Hk
  subst e1 e2 e3 e4 e5 e6
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rw [View.read_writes_cons_put _ _ _ _ _ (k1_off1_eq i), View.readAt_full]; rfl
  iexists _; isplitr; swap; · iexact H6
  ipureintro
  unfold thresh_first.sl.v24 thresh_first.sl.H6_1
  rw [read_stored _ _ zero2]
  dsimp only
  repeat rw [View.readAt_full]
  repeat first | rw [readCov_col] | rw [readCov_whole]
  repeat rw [View.readAt_full]
  rfl

/-- At a later point before the last. -/
theorem thresh_mid (c : Dev nD) (i : grid1.Coords) (hc : ¬ cond1 i = 1#1) (hl : ¬ k1_cond2 i = 1#1) (M1 : Memref sig .tc .vmem S64x2048 .f32) (h1 : M1.IsWhole) (M2 : Memref sig .tc .vmem S64x128 .f32) (h2 : M2.IsWhole) (M3 : Memref sig .tc .vmem S64x128 .f32) (h3 : M3.IsWhole) (M4 : Memref sig .tc .vmem S64x128 .f32) (h4 : M4.IsWhole) (M5 : Memref sig .tc .vmem S64x100352 .f32) (h5 : M5.IsWhole) (M6 : Memref sig .tc .vmem S64x128 .f32) (h6 : M6.IsWhole)
    (X1 : S64x2048.Idx → Elt F .f32) (X2 : S64x128.Idx → Elt F .f32) (X3 : S64x128.Idx → Elt F .f32) (X4 : S64x128.Idx → Elt F .f32) (X5 : S64x100352.Idx → Elt F .f32) (X6 : S64x128.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
        ∗ (iprop(owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare (VecWindow.put X5 ![0, 2048 * (i 0).val] S64x2048.size (k1_pay2 i (col X2) X1))
            ∗ owns (c : Thread nD τ) M6 fullShare (k1_pay4 i (col X2) X1 X6)) -∗ Q ⟨⟩))
      ⊢ wp frame (wpE (defs₀ (F := F)) 𝒱₀ c none) E (cc1__thresh_body i M1 h1 M2 h2 M3 h3 M4 h4 M5 h5 M6 h6) Q := by
  simp only [cc1__thresh_body_eq_skeleton]; unfold cc1__thresh_body_skel owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  sl_exec (disch := first | exact hc | exact hl)
  sl_step
  iapply Hk
  subst e1 e2 e3 e4 e5 e6
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rw [View.read_writes_cons_put _ _ _ _ _ (k1_off1_eq i), View.readAt_full]; rfl
  iexists _; isplitr; swap; · iexact H6
  ipureintro
  rw [read_stored _ _ zero2]
  dsimp only
  repeat rw [View.readAt_full]
  repeat first | rw [readCov_col] | rw [readCov_whole]
  repeat rw [View.readAt_full]
  rfl

/-- At the last point: the threshold too is found and stored. -/
theorem thresh_last (c : Dev nD) (i : grid1.Coords) (hc : ¬ cond1 i = 1#1) (hl : k1_cond2 i = 1#1) (M1 : Memref sig .tc .vmem S64x2048 .f32) (h1 : M1.IsWhole) (M2 : Memref sig .tc .vmem S64x128 .f32) (h2 : M2.IsWhole) (M3 : Memref sig .tc .vmem S64x128 .f32) (h3 : M3.IsWhole) (M4 : Memref sig .tc .vmem S64x128 .f32) (h4 : M4.IsWhole) (M5 : Memref sig .tc .vmem S64x100352 .f32) (h5 : M5.IsWhole) (M6 : Memref sig .tc .vmem S64x128 .f32) (h6 : M6.IsWhole)
    (X1 : S64x2048.Idx → Elt F .f32) (X2 : S64x128.Idx → Elt F .f32) (X3 : S64x128.Idx → Elt F .f32) (X4 : S64x128.Idx → Elt F .f32) (X5 : S64x100352.Idx → Elt F .f32) (X6 : S64x128.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6
        ∗ (iprop(owns (c : Thread nD τ) M1 fullShare X1
            ∗ owns (c : Thread nD τ) M2 fullShare X2
            ∗ owns (c : Thread nD τ) M3 fullShare X3
            ∗ owns (c : Thread nD τ) M4 fullShare (k1_pay13 (bisSt (tileAt (VecWindow.put X5 ![0, 2048 * (i 0).val] S64x2048.size (k1_pay2 i (col X2) X1))) (col (k1_pay4 i (col X2) X1 X6)) (col X3) 26).2)
            ∗ owns (c : Thread nD τ) M5 fullShare (VecWindow.put X5 ![0, 2048 * (i 0).val] S64x2048.size (k1_pay2 i (col X2) X1))
            ∗ owns (c : Thread nD τ) M6 fullShare (k1_pay4 i (col X2) X1 X6)) -∗ Q ⟨⟩))
      ⊢ wp frame (wpE (defs₀ (F := F)) 𝒱₀ c none) E (cc1__thresh_body i M1 h1 M2 h2 M3 h3 M4 h4 M5 h5 M6 h6) Q := by
  simp only [cc1__thresh_body_eq_skeleton]; unfold cc1__thresh_body_skel owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  sl_exec (disch := first | exact hc | exact hl)
  sl_step
  iapply Hk
  subst e1 e2 e3 e4 e5 e6
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rw [read_stored _ _ zero2, View.read_writes_cons_put _ _ _ _ _ (k1_off1_eq i), View.readAt_full]
    unfold thresh_last.sl.v36 thresh_last.sl.H6_1
    rw [readCov_col]
    repeat rw [View.readAt_full]
    rw [show Scf.trips k1_t1_loop.lb k1_t1_loop.ub k1_t1_loop.st = 26 from rfl]
    rfl
  isplitl [H5]
  · iexists _; isplitr; swap; · iexact H5
    ipureintro
    rw [View.read_writes_cons_put _ _ _ _ _ (k1_off1_eq i), View.readAt_full]; rfl
  iexists _; isplitr; swap; · iexact H6
  ipureintro
  unfold thresh_last.sl.H6_1
  rw [read_stored _ _ zero2]
  dsimp only
  repeat rw [View.readAt_full]
  repeat first | rw [readCov_col] | rw [readCov_whole]
  repeat rw [View.readAt_full]
  rfl

end Cert.KernelIdeal.Run

end
-- ==== Proof.Ideal.Body2.lean ====
/-
  The third region's body (the running first maximum of the perturbed logits) run once at a symbolic grid point, in
  its three cases: the first point, a point between, the last point.
-/
module

public import proofs.«01_k».proof.Proof.Ideal.Common

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The condition of the first conditional, at the grid's first point. -/
abbrev cond2 (i : grid2.Coords) : BitVec 1 := Scalar.cmpi .ne (Scalar.extui (Scalar.cmpi .eq (BitVec.ofNat 32 (i 0).val) 0#32)) 0#32

/-- At the first point: the running maximum and its position start from their initial values. -/
theorem sample_first (c : Dev nD) (i : grid2.Coords) (hc : cond2 i = 1#1) (hl : ¬ k2_cond2 i = 1#1) (M1 : Memref sig .tc .vmem S64x2048 .f32) (h1 : M1.IsWhole) (M2 : Memref sig .tc .vmem S64x2048 .f32) (h2 : M2.IsWhole) (M3 : Memref sig .tc .vmem S64x128 .f32) (h3 : M3.IsWhole) (M4 : Memref sig .tc .vmem S64x128 .f32) (h4 : M4.IsWhole) (M5 : Memref sig .tc .vmem S64x128 .i32) (h5 : M5.IsWhole) (M6 : Memref sig .tc .vmem S64x128 .f32) (h6 : M6.IsWhole) (M7 : Memref sig .tc .vmem S64x128 .i32) (h7 : M7.IsWhole)
    (X1 : S64x2048.Idx → Elt F .f32) (X2 : S64x2048.Idx → Elt F .f32) (X3 : S64x128.Idx → Elt F .f32) (X4 : S64x128.Idx → Elt F .f32) (X5 : S64x128.Idx → Elt F .i32) (X6 : S64x128.Idx → Elt F .f32) (X7 : S64x128.Idx → Elt F .i32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7
        ∗ (iprop(owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare X5
            ∗ owns (c : Thread nD τ) M6 fullShare (k2_pay1 (k2_pay9 i X1 (col X3) (col X4) X2 (col (k2_pay5 (F := F) : S64x128.Idx → Elt F .f32))) (k2_pay10 i X1 (col X3) (col X4) X2) (k2_pay5 (F := F) : S64x128.Idx → Elt F .f32))
            ∗ owns (c : Thread nD τ) M7 fullShare (k2_pay2 (F := F) (k2_pay8 i X1 (col X3) (col X4) X2) (k2_pay9 i X1 (col X3) (col X4) X2 (col (k2_pay5 (F := F) : S64x128.Idx → Elt F .f32))) k2_pay6)) -∗ Q ⟨⟩))
      ⊢ wp frame (wpE (defs₀ (F := F)) 𝒱₀ c none) E (cc2__sample_body i M1 h1 M2 h2 M3 h3 M4 h4 M5 h5 M6 h6 M7 h7) Q := by
  simp only [cc2__sample_body_eq_skeleton]; unfold cc2__sample_body_skel; simp only [k2_part1_eq_skeleton]; unfold k2_part1_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec (disch := first | exact hc | exact hl)
  sl_step
  iapply Hk
  subst e1 e2 e3 e4 e5 e6 e7
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    unfold sample_first.sl.v34 sample_first.sl.v38 sample_first.sl.H6_1
    rw [read_stored _ _ zero2]
    dsimp only
    repeat rw [View.readAt_full]
    repeat first | rw [readCov_col] | rw [readCov_whole]
    repeat rw [View.readAt_full]
    rfl
  iexists _; isplitr; swap; · iexact H7
  ipureintro
  unfold sample_first.sl.v34 sample_first.sl.v47 sample_first.sl.H6_1 sample_first.sl.H7_1
  rw [read_stored _ _ zero2]
  dsimp only
  repeat rw [View.readAt_full]
  repeat first | rw [readCov_col] | rw [readCov_whole]
  repeat rw [View.readAt_full]
  rfl

/-- At a later point before the last: both go on from what the points before left. -/
theorem sample_mid (c : Dev nD) (i : grid2.Coords) (hc : ¬ cond2 i = 1#1) (hl : ¬ k2_cond2 i = 1#1) (M1 : Memref sig .tc .vmem S64x2048 .f32) (h1 : M1.IsWhole) (M2 : Memref sig .tc .vmem S64x2048 .f32) (h2 : M2.IsWhole) (M3 : Memref sig .tc .vmem S64x128 .f32) (h3 : M3.IsWhole) (M4 : Memref sig .tc .vmem S64x128 .f32) (h4 : M4.IsWhole) (M5 : Memref sig .tc .vmem S64x128 .i32) (h5 : M5.IsWhole) (M6 : Memref sig .tc .vmem S64x128 .f32) (h6 : M6.IsWhole) (M7 : Memref sig .tc .vmem S64x128 .i32) (h7 : M7.IsWhole)
    (X1 : S64x2048.Idx → Elt F .f32) (X2 : S64x2048.Idx → Elt F .f32) (X3 : S64x128.Idx → Elt F .f32) (X4 : S64x128.Idx → Elt F .f32) (X5 : S64x128.Idx → Elt F .i32) (X6 : S64x128.Idx → Elt F .f32) (X7 : S64x128.Idx → Elt F .i32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7
        ∗ (iprop(owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare X5
            ∗ owns (c : Thread nD τ) M6 fullShare (k2_pay1 (k2_pay9 i X1 (col X3) (col X4) X2 (col X6)) (k2_pay10 i X1 (col X3) (col X4) X2) X6)
            ∗ owns (c : Thread nD τ) M7 fullShare (k2_pay2 (F := F) (k2_pay8 i X1 (col X3) (col X4) X2) (k2_pay9 i X1 (col X3) (col X4) X2 (col X6)) X7)) -∗ Q ⟨⟩))
      ⊢ wp frame (wpE (defs₀ (F := F)) 𝒱₀ c none) E (cc2__sample_body i M1 h1 M2 h2 M3 h3 M4 h4 M5 h5 M6 h6 M7 h7) Q := by
  simp only [cc2__sample_body_eq_skeleton]; unfold cc2__sample_body_skel; simp only [k2_part1_eq_skeleton]; unfold k2_part1_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec (disch := first | exact hc | exact hl)
  sl_step
  iapply Hk
  subst e1 e2 e3 e4 e5 e6 e7
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rfl
  isplitl [H6]
  · iexists _; isplitr; swap; · iexact H6
    ipureintro
    rw [read_stored _ _ zero2]
    dsimp only
    repeat rw [View.readAt_full]
    repeat first | rw [readCov_col] | rw [readCov_whole]
    repeat rw [View.readAt_full]
    rfl
  iexists _; isplitr; swap; · iexact H7
  ipureintro
  rw [read_stored _ _ zero2]
  dsimp only
  repeat rw [View.readAt_full]
  repeat first | rw [readCov_col] | rw [readCov_whole]
  repeat rw [View.readAt_full]
  rfl

/-- At the last point: as between, and the positions are stored to the result. -/
theorem sample_last (c : Dev nD) (i : grid2.Coords) (hc : ¬ cond2 i = 1#1) (hl : k2_cond2 i = 1#1) (M1 : Memref sig .tc .vmem S64x2048 .f32) (h1 : M1.IsWhole) (M2 : Memref sig .tc .vmem S64x2048 .f32) (h2 : M2.IsWhole) (M3 : Memref sig .tc .vmem S64x128 .f32) (h3 : M3.IsWhole) (M4 : Memref sig .tc .vmem S64x128 .f32) (h4 : M4.IsWhole) (M5 : Memref sig .tc .vmem S64x128 .i32) (h5 : M5.IsWhole) (M6 : Memref sig .tc .vmem S64x128 .f32) (h6 : M6.IsWhole) (M7 : Memref sig .tc .vmem S64x128 .i32) (h7 : M7.IsWhole)
    (X1 : S64x2048.Idx → Elt F .f32) (X2 : S64x2048.Idx → Elt F .f32) (X3 : S64x128.Idx → Elt F .f32) (X4 : S64x128.Idx → Elt F .f32) (X5 : S64x128.Idx → Elt F .i32) (X6 : S64x128.Idx → Elt F .f32) (X7 : S64x128.Idx → Elt F .i32)
    (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7
        ∗ (iprop(owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare (k2_pay2 (F := F) (k2_pay8 i X1 (col X3) (col X4) X2) (k2_pay9 i X1 (col X3) (col X4) X2 (col X6)) X7)
            ∗ owns (c : Thread nD τ) M6 fullShare (k2_pay1 (k2_pay9 i X1 (col X3) (col X4) X2 (col X6)) (k2_pay10 i X1 (col X3) (col X4) X2) X6)
            ∗ owns (c : Thread nD τ) M7 fullShare (k2_pay2 (F := F) (k2_pay8 i X1 (col X3) (col X4) X2) (k2_pay9 i X1 (col X3) (col X4) X2 (col X6)) X7)) -∗ Q ⟨⟩))
      ⊢ wp frame (wpE (defs₀ (F := F)) 𝒱₀ c none) E (cc2__sample_body i M1 h1 M2 h2 M3 h3 M4 h4 M5 h5 M6 h6 M7 h7) Q := by
  simp only [cc2__sample_body_eq_skeleton]; unfold cc2__sample_body_skel; simp only [k2_part1_eq_skeleton]; unfold k2_part1_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec (disch := first | exact hc | exact hl)
  sl_step
  iapply Hk
  subst e1 e2 e3 e4 e5 e6 e7
  isplitl [H1]
  · iexists _; isplitr; swap; · iexact H1
    ipureintro
    rfl
  isplitl [H2]
  · iexists _; isplitr; swap; · iexact H2
    ipureintro
    rfl
  isplitl [H3]
  · iexists _; isplitr; swap; · iexact H3
    ipureintro
    rfl
  isplitl [H4]
  · iexists _; isplitr; swap; · iexact H4
    ipureintro
    rfl
  isplitl [H5]
  · iexists _; isplitr; swap; · iexact H5
    ipureintro
    rw [read_stored _ _ zero2]
    unfold sample_last.sl.v57 sample_last.sl.H7_1
    rw [View.readCov_unit_zero _ zero2]
    dsimp only
    repeat rw [View.readAt_full]
    rfl
  isplitl [H6]
  · iexists _; isplitr; swap; · iexact H6
    ipureintro
    rw [read_stored _ _ zero2]
    dsimp only
    repeat rw [View.readAt_full]
    repeat first | rw [readCov_col] | rw [readCov_whole]
    repeat rw [View.readAt_full]
    rfl
  iexists _; isplitr; swap; · iexact H7
  ipureintro
  unfold sample_last.sl.H7_1
  rw [read_stored _ _ zero2]
  dsimp only
  repeat rw [View.readAt_full]
  repeat first | rw [readCov_col] | rw [readCov_whole]
  repeat rw [View.readAt_full]
  rfl

end Cert.KernelIdeal.Run

end
-- ==== Proof.Ideal.Tiles.lean ====
module

public import proofs.«01_k».proof.Proof.Ideal.Body1
public import proofs.«01_k».proof.Proof.Ideal.Body2
public import Idealize.ShloMosaic.Lib.Pipeline.ValueKit

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- Tile `k` of a 64 × 100000 array: its columns from `2048 k`, a filler past the array's end. -/
def tile (A : S64x100000.Idx → Elt F .f32) (k : ℕ) : S64x2048.Idx → Elt F .f32 :=
  fun y => if h : 2048 * k + (y 1).val < 100000 then A (ValueIdx.ix2 (y 0) (⟨2048 * k + (y 1).val, h⟩ : Fin 100000)) else Scalar.ofBits .f32 0#32

/-- Two tiles agree on the columns inside the array. -/
def Agree (k : ℕ) (X Y : S64x2048.Idx → Elt F .f32) : Prop := ∀ y : S64x2048.Idx, 2048 * k + (y 1).val < 100000 → X y = Y y

/-- Where the clipped windows' blocks sit: block `t` starts at column (for the embedding table: row) `2048 t` and is cut at the array's end. -/
theorem geo0_1 : ∀ t : Fin grid0.N, win0_1.xsize (grid0.coords t) 0 = min 2048 (100000 - 2048 * t.val) ∧ win0_1.xsize (grid0.coords t) 1 = 768
    ∧ win0_1.index t 0 = t.val ∧ win0_1.index t 1 = 0 := by decide +kernel
theorem geo0_3 : ∀ t : Fin grid0.N, win0_3.xsize (grid0.coords t) 0 = 64 ∧ win0_3.xsize (grid0.coords t) 1 = min 2048 (100000 - 2048 * t.val)
    ∧ win0_3.index t 0 = 0 ∧ win0_3.index t 1 = t.val := by decide +kernel
theorem geo1_0 : ∀ t : Fin grid1.N, win1_0.xsize (grid1.coords t) 0 = 64 ∧ win1_0.xsize (grid1.coords t) 1 = min 2048 (100000 - 2048 * t.val)
    ∧ win1_0.index t 0 = 0 ∧ win1_0.index t 1 = t.val := by decide +kernel
theorem geo2_0 : ∀ t : Fin grid2.N, win2_0.xsize (grid2.coords t) 0 = 64 ∧ win2_0.xsize (grid2.coords t) 1 = min 2048 (100000 - 2048 * t.val)
    ∧ win2_0.index t 0 = 0 ∧ win2_0.index t 1 = t.val := by decide +kernel
theorem geo2_1 : ∀ t : Fin grid2.N, win2_1.xsize (grid2.coords t) 0 = 64 ∧ win2_1.xsize (grid2.coords t) 1 = min 2048 (100000 - 2048 * t.val)
    ∧ win2_1.index t 0 = 0 ∧ win2_1.index t 1 = t.val := by decide +kernel

/-- The grids' coordinate at a point is the point. -/
theorem coords0 : ∀ t : Fin grid0.N, (grid0.coords t 0).val = t.val := by decide +kernel
theorem coords1 : ∀ t : Fin grid1.N, (grid1.coords t 0).val = t.val := by decide +kernel
theorem coords2 : ∀ t : Fin grid2.N, (grid2.coords t 0).val = t.val := by decide +kernel

/-- What a fetch of a clipped block leaves is the array's tile, on the columns inside the array. -/
theorem fetched1_0 (A : S64x100000.Idx → Elt F .f32) (t : Fin cfg1.N) (d : S64x2048.Idx → Elt F .f32) :
    Agree t.val (win1_0.fill (grid1.coords t) d ((win1_0.blk t).view.read (Elt F) A)) (tile A t.val) := by
  intro y hy
  obtain ⟨h0, h1, h2, h3⟩ := geo1_0 t
  have hy1 : (y 1).val < 2048 := (y 1).isLt
  have hy0 : (y 0).val < 64 := (y 0).isLt
  unfold tile Window.fill
  rw [dif_pos hy, dif_pos (by
    rw [win1_0.moved_iff]
    intro a
    match a with
    | ⟨0, _⟩ => exact lt_of_lt_of_eq hy0 h0.symm
    | ⟨1, _⟩ => refine lt_of_lt_of_eq ?_ h1.symm; show (y 1).val < _; omega)]
  rw [View.read_apply]
  refine (cast_eq _ _).trans (congrArg A (funext fun a => Fin.ext ?_))
  match a with
  | ⟨0, _⟩ =>
    refine (win1_0.rect_emb_val t _ 0).trans ?_
    rw [h2]; simp
  | ⟨1, _⟩ =>
    refine (win1_0.rect_emb_val t _ 1).trans ?_
    rw [h3]; show t.val * 2048 + (y 1).val = 2048 * t.val + (y 1).val; omega

/-- What a fetch of a clipped block leaves is the array's tile, on the columns inside the array. -/
theorem fetched2_0 (A : S64x100000.Idx → Elt F .f32) (t : Fin cfg2.N) (d : S64x2048.Idx → Elt F .f32) :
    Agree t.val (win2_0.fill (grid2.coords t) d ((win2_0.blk t).view.read (Elt F) A)) (tile A t.val) := by
  intro y hy
  obtain ⟨h0, h1, h2, h3⟩ := geo2_0 t
  have hy1 : (y 1).val < 2048 := (y 1).isLt
  have hy0 : (y 0).val < 64 := (y 0).isLt
  unfold tile Window.fill
  rw [dif_pos hy, dif_pos (by
    rw [win2_0.moved_iff]
    intro a
    match a with
    | ⟨0, _⟩ => exact lt_of_lt_of_eq hy0 h0.symm
    | ⟨1, _⟩ => refine lt_of_lt_of_eq ?_ h1.symm; show (y 1).val < _; omega)]
  rw [View.read_apply]
  refine (cast_eq _ _).trans (congrArg A (funext fun a => Fin.ext ?_))
  match a with
  | ⟨0, _⟩ =>
    refine (win2_0.rect_emb_val t _ 0).trans ?_
    rw [h2]; simp
  | ⟨1, _⟩ =>
    refine (win2_0.rect_emb_val t _ 1).trans ?_
    rw [h3]; show t.val * 2048 + (y 1).val = 2048 * t.val + (y 1).val; omega

/-- What a fetch of a clipped block leaves is the array's tile, on the columns inside the array. -/
theorem fetched2_1 (A : S64x100000.Idx → Elt F .f32) (t : Fin cfg2.N) (d : S64x2048.Idx → Elt F .f32) :
    Agree t.val (win2_1.fill (grid2.coords t) d ((win2_1.blk t).view.read (Elt F) A)) (tile A t.val) := by
  intro y hy
  obtain ⟨h0, h1, h2, h3⟩ := geo2_1 t
  have hy1 : (y 1).val < 2048 := (y 1).isLt
  have hy0 : (y 0).val < 64 := (y 0).isLt
  unfold tile Window.fill
  rw [dif_pos hy, dif_pos (by
    rw [win2_1.moved_iff]
    intro a
    match a with
    | ⟨0, _⟩ => exact lt_of_lt_of_eq hy0 h0.symm
    | ⟨1, _⟩ => refine lt_of_lt_of_eq ?_ h1.symm; show (y 1).val < _; omega)]
  rw [View.read_apply]
  refine (cast_eq _ _).trans (congrArg A (funext fun a => Fin.ext ?_))
  match a with
  | ⟨0, _⟩ =>
    refine (win2_1.rect_emb_val t _ 0).trans ?_
    rw [h2]; simp
  | ⟨1, _⟩ =>
    refine (win2_1.rect_emb_val t _ 1).trans ?_
    rw [h3]; show t.val * 2048 + (y 1).val = 2048 * t.val + (y 1).val; omega

/-- Rows `2048 t` on of the embedding table, a filler past the table's end. -/
def etile (A : S100000x768.Idx → Elt F .f32) (k : ℕ) : S2048x768.Idx → Elt F .f32 :=
  fun y => if h : 2048 * k + (y 0).val < 100000 then A (ValueIdx.ix2 (⟨2048 * k + (y 0).val, h⟩ : Fin 100000) (y 1)) else Scalar.ofBits .f32 0#32

/-- Two blocks of rows agree on the rows inside the table. -/
def EAgree (k : ℕ) (X Y : S2048x768.Idx → Elt F .f32) : Prop := ∀ y : S2048x768.Idx, 2048 * k + (y 0).val < 100000 → X y = Y y

theorem fetched0_1 (A : S100000x768.Idx → Elt F .f32) (t : Fin cfg0.N) (d : S2048x768.Idx → Elt F .f32) :
    EAgree t.val (win0_1.fill (grid0.coords t) d ((win0_1.blk t).view.read (Elt F) A)) (etile A t.val) := by
  intro y hy
  obtain ⟨h0, h1, h2, h3⟩ := geo0_1 t
  have hy0 : (y 0).val < 2048 := (y 0).isLt
  have hy1 : (y 1).val < 768 := (y 1).isLt
  unfold etile Window.fill
  rw [dif_pos hy, dif_pos (by
    rw [win0_1.moved_iff]
    intro a
    match a with
    | ⟨0, _⟩ => refine lt_of_lt_of_eq ?_ h0.symm; show (y 0).val < _; omega
    | ⟨1, _⟩ => exact lt_of_lt_of_eq hy1 h1.symm)]
  rw [View.read_apply]
  refine (cast_eq _ _).trans (congrArg A (funext fun a => Fin.ext ?_))
  match a with
  | ⟨0, _⟩ =>
    refine (win0_1.rect_emb_val t _ 0).trans ?_
    rw [h2]; show t.val * 2048 + (y 0).val = 2048 * t.val + (y 0).val; omega
  | ⟨1, _⟩ =>
    refine (win0_1.rect_emb_val t _ 1).trans ?_
    rw [h3]; simp

/-- A window over all of its array stages the array. -/
theorem fetched0_0 (A : S64x768.Idx → Elt F .f32) (t : Fin cfg0.N) (d : S64x768.Idx → Elt F .f32) :
    win0_0.fill (grid0.coords t) d ((win0_0.blk t).view.read (Elt F) A) = A := by
  funext y
  unfold Window.fill
  rw [dif_pos (by rw [win0_0.moved_iff]; exact fun a => (y a).isLt), View.read_apply]
  refine (cast_eq _ _).trans (congrArg A (funext fun a => Fin.ext ?_))
  match a with
  | ⟨0, _⟩ => exact win0_0.rect_emb_val_of_index_zero t 0 rfl _
  | ⟨1, _⟩ => exact win0_0.rect_emb_val_of_index_zero t 1 rfl _

/-- A window over all of its array stages the array. -/
theorem fetched0_2 (A : S64x128.Idx → Elt F .f32) (t : Fin cfg0.N) (d : S64x128.Idx → Elt F .f32) :
    win0_2.fill (grid0.coords t) d ((win0_2.blk t).view.read (Elt F) A) = A := by
  funext y
  unfold Window.fill
  rw [dif_pos (by rw [win0_2.moved_iff]; exact fun a => (y a).isLt), View.read_apply]
  refine (cast_eq _ _).trans (congrArg A (funext fun a => Fin.ext ?_))
  match a with
  | ⟨0, _⟩ => exact win0_2.rect_emb_val_of_index_zero t 0 rfl _
  | ⟨1, _⟩ => exact win0_2.rect_emb_val_of_index_zero t 1 rfl _

/-- A window over all of its array stages the array. -/
theorem fetched1_1 (A : S64x128.Idx → Elt F .f32) (t : Fin cfg1.N) (d : S64x128.Idx → Elt F .f32) :
    win1_1.fill (grid1.coords t) d ((win1_1.blk t).view.read (Elt F) A) = A := by
  funext y
  unfold Window.fill
  rw [dif_pos (by rw [win1_1.moved_iff]; exact fun a => (y a).isLt), View.read_apply]
  refine (cast_eq _ _).trans (congrArg A (funext fun a => Fin.ext ?_))
  match a with
  | ⟨0, _⟩ => exact win1_1.rect_emb_val_of_index_zero t 0 rfl _
  | ⟨1, _⟩ => exact win1_1.rect_emb_val_of_index_zero t 1 rfl _

/-- A window over all of its array stages the array. -/
theorem fetched1_2 (A : S64x128.Idx → Elt F .f32) (t : Fin cfg1.N) (d : S64x128.Idx → Elt F .f32) :
    win1_2.fill (grid1.coords t) d ((win1_2.blk t).view.read (Elt F) A) = A := by
  funext y
  unfold Window.fill
  rw [dif_pos (by rw [win1_2.moved_iff]; exact fun a => (y a).isLt), View.read_apply]
  refine (cast_eq _ _).trans (congrArg A (funext fun a => Fin.ext ?_))
  match a with
  | ⟨0, _⟩ => exact win1_2.rect_emb_val_of_index_zero t 0 rfl _
  | ⟨1, _⟩ => exact win1_2.rect_emb_val_of_index_zero t 1 rfl _

/-- A window over all of its array stages the array. -/
theorem fetched2_2 (A : S64x128.Idx → Elt F .f32) (t : Fin cfg2.N) (d : S64x128.Idx → Elt F .f32) :
    win2_2.fill (grid2.coords t) d ((win2_2.blk t).view.read (Elt F) A) = A := by
  funext y
  unfold Window.fill
  rw [dif_pos (by rw [win2_2.moved_iff]; exact fun a => (y a).isLt), View.read_apply]
  refine (cast_eq _ _).trans (congrArg A (funext fun a => Fin.ext ?_))
  match a with
  | ⟨0, _⟩ => exact win2_2.rect_emb_val_of_index_zero t 0 rfl _
  | ⟨1, _⟩ => exact win2_2.rect_emb_val_of_index_zero t 1 rfl _

/-- A window over all of its array stages the array. -/
theorem fetched2_3 (A : S64x128.Idx → Elt F .f32) (t : Fin cfg2.N) (d : S64x128.Idx → Elt F .f32) :
    win2_3.fill (grid2.coords t) d ((win2_3.blk t).view.read (Elt F) A) = A := by
  funext y
  unfold Window.fill
  rw [dif_pos (by rw [win2_3.moved_iff]; exact fun a => (y a).isLt), View.read_apply]
  refine (cast_eq _ _).trans (congrArg A (funext fun a => Fin.ext ?_))
  match a with
  | ⟨0, _⟩ => exact win2_3.rect_emb_val_of_index_zero t 0 rfl _
  | ⟨1, _⟩ => exact win2_3.rect_emb_val_of_index_zero t 1 rfl _

end Cert.KernelIdeal.Run

end
-- ==== Proof.Ideal.Local.lean ====
module

public import proofs.«01_k».proof.Proof.Ideal.Body0
public import proofs.«01_k».proof.Proof.Ideal.Tiles

@[expose] public section

noncomputable section

namespace Cert.KernelIdeal.Run

open Cert.KernelIdeal Cert.KernelIdeal.Gen

open Idealize.ShloMosaic

variable {F : FTy → Type} [FloatOps F]

/-! ## Which points are first and last -/

theorem first0 : ∀ t : Fin grid0.N, cond0 (grid0.coords t) = 1#1 ↔ t.val = 0 := by decide +kernel
theorem first1 : ∀ t : Fin grid1.N, cond1 (grid1.coords t) = 1#1 ↔ t.val = 0 := by decide +kernel
theorem first2 : ∀ t : Fin grid2.N, cond2 (grid2.coords t) = 1#1 ↔ t.val = 0 := by decide +kernel
theorem last1 : ∀ t : Fin grid1.N, k1_cond2 (grid1.coords t) = 1#1 ↔ t.val = 48 := by decide +kernel
theorem last2 : ∀ t : Fin grid2.N, k2_cond2 (grid2.coords t) = 1#1 ↔ t.val = 48 := by decide +kernel

/-! ## The column mask -/

theorem sel_neg {α : Type} {c : BitVec 1} (h : ¬ c = 1#1) {a b : α} : Scalar.select c a b = b := if_neg h

theorem sel_pos {α : Type} {c : BitVec 1} (h : c = 1#1) {a b : α} : Scalar.select c a b = a := if_pos h

/-- The word of a tile's column number, as the bodies compute it. -/
theorem colWord (k j : ℕ) : IntOp.addi (Scalar.muli (BitVec.ofNat 32 k) 2048#32) (BitVec.ofNat 32 j) = BitVec.ofNat 32 (2048 * k + j) := by
  unfold IntOp.addi Scalar.muli IntOp.muli
  rw [show (2048#32 : BitVec 32) = BitVec.ofNat 32 2048 from rfl, ← BitVec.ofNat_mul, ← BitVec.ofNat_add, Nat.mul_comm]

theorem colMask {k j : ℕ} (hk : k < 49) (hj : j < 2048) :
    IntOp.cmpi .slt (BitVec.ofNat 32 (2048 * k + j)) 100000#32 = 1#1 ↔ 2048 * k + j < 100000 := by
  rw [IntOp.cmpi_slt, show (100000#32 : BitVec 32).toInt = 100000 from by decide, BitVec.toInt_eq_toNat_of_lt (by rw [BitVec.toNat_ofNat]; omega), BitVec.toNat_ofNat]
  omega

/-! ## The payloads read only columns inside the array -/

/-- The masked exponential of a tile at an element. -/
theorem k1_pay1_apply (i : grid1.Coords) (m : S64x1.Idx → Elt F .f32) (X : S64x2048.Idx → Elt F .f32) (y : S64x2048.Idx) :
    k1_pay1 i m X y = Scalar.select (IntOp.cmpi .slt (BitVec.ofNat 32 (2048 * (i 0).val + (y 1).val)) 100000#32)
      (FloatOps.exp (FloatOps.subf (X y) (m (ValueIdx.ix2 (y 0) (0 : Fin 1))))) (Scalar.ofBits .f32 0#32) := by
  rw [← colWord]
  simp only [k1_pay1, ValueIdx.select_apply, shapeCast_self]
  have e : broadcastTo S64x2048 m broadcasts_S64x1_S64x2048 y = m (ValueIdx.ix2 (y 0) (0 : Fin 1)) := by
    unfold broadcastTo
    congr 1
    funext a
    match a with
    | ⟨0, _⟩ => rfl
    | ⟨1, _⟩ => rfl
  show Scalar.select (IntOp.cmpi .slt (IntOp.addi _ (BitVec.ofNat 32 (0 * 2048 + (y 1).val))) _) (FloatOps.exp (FloatOps.subf (X y) (broadcastTo S64x2048 m broadcasts_S64x1_S64x2048 y))) _ = _
  rw [e, Nat.zero_mul, Nat.zero_add]
  rfl

theorem k1_pay1_agree (i : grid1.Coords) (m : S64x1.Idx → Elt F .f32) {X Y : S64x2048.Idx → Elt F .f32} (h : Agree (i 0).val X Y) :
    k1_pay1 i m X = k1_pay1 i m Y := by
  funext y
  have hk : (i 0).val < 49 := (i 0).isLt
  have hy : (y 1).val < 2048 := (y 1).isLt
  rw [k1_pay1_apply, k1_pay1_apply]
  by_cases hc : 2048 * (i 0).val + (y 1).val < 100000
  · rw [h y hc]
  · have hm := mt (colMask hk hy).mp hc
    exact (sel_neg hm).trans (sel_neg hm).symm

theorem k1_pay2_agree (i : grid1.Coords) (m : S64x1.Idx → Elt F .f32) {X Y : S64x2048.Idx → Elt F .f32} (h : Agree (i 0).val X Y) :
    k1_pay2 i m X = k1_pay2 i m Y := by
  unfold k1_pay2; rw [k1_pay1_agree i m h]

theorem k1_pay4_agree (i : grid1.Coords) (m : S64x1.Idx → Elt F .f32) {X Y : S64x2048.Idx → Elt F .f32} (h : Agree (i 0).val X Y)
    (B : S64x128.Idx → Elt F .f32) : k1_pay4 i m X B = k1_pay4 i m Y B := by
  unfold k1_pay4; rw [k1_pay1_agree i m h]

/-- The column numbers of a tile. -/
theorem k2_pay3_apply (i : grid2.Coords) (y : S64x2048.Idx) : k2_pay3 i y = BitVec.ofNat 32 (2048 * (i 0).val + (y 1).val) := by
  rw [← colWord]
  show IntOp.addi _ (BitVec.ofNat 32 (0 * 2048 + (y 1).val)) = _
  rw [Nat.zero_mul, Nat.zero_add]
  rfl

/-- The masked noisy logits of a tile at an element. -/
theorem k2_pay4_apply (i : grid2.Coords) (X : S64x2048.Idx → Elt F .f32) (m x : S64x1.Idx → Elt F .f32) (G : S64x2048.Idx → Elt F .f32) (y : S64x2048.Idx) :
    k2_pay4 i X m x G y = Scalar.select (IntOp.andi (FloatOps.cmpf .oge (FloatOps.exp (FloatOps.subf (X y) (m (ValueIdx.ix2 (y 0) (0 : Fin 1))))) (x (ValueIdx.ix2 (y 0) (0 : Fin 1))))
        (IntOp.cmpi .slt (BitVec.ofNat 32 (2048 * (i 0).val + (y 1).val)) 100000#32))
      (FloatOps.addf (X y) (G y)) (Scalar.ofBits .f32 0xFF800000#32) := by
  have e : ∀ m : S64x1.Idx → Elt F .f32, broadcastTo S64x2048 m broadcasts_S64x1_S64x2048 y = m (ValueIdx.ix2 (y 0) (0 : Fin 1)) := fun m => by
    unfold broadcastTo
    congr 1
    funext a
    match a with
    | ⟨0, _⟩ => rfl
    | ⟨1, _⟩ => rfl
  rw [← k2_pay3_apply]
  simp only [k2_pay4, ValueIdx.select_apply, shapeCast_self]
  show Scalar.select (IntOp.andi (FloatOps.cmpf .oge (FloatOps.exp (FloatOps.subf (X y) (broadcastTo S64x2048 m broadcasts_S64x1_S64x2048 y))) (broadcastTo S64x2048 x broadcasts_S64x1_S64x2048 y)) _) _ _ = _
  rw [e, e]
  rfl

theorem k2_pay4_agree (i : grid2.Coords) (m x : S64x1.Idx → Elt F .f32) {X Y G H : S64x2048.Idx → Elt F .f32} (h : Agree (i 0).val X Y)
    (g : Agree (i 0).val G H) : k2_pay4 i X m x G = k2_pay4 i Y m x H := by
  funext y
  have hk : (i 0).val < 49 := (i 0).isLt
  have hy : (y 1).val < 2048 := (y 1).isLt
  rw [k2_pay4_apply, k2_pay4_apply]
  by_cases hc : 2048 * (i 0).val + (y 1).val < 100000
  · rw [h y hc, g y hc]
  · have hm := mt (colMask hk hy).mp hc
    exact (sel_neg fun e => hm (IntOp.andi_eq_one.mp e).2).trans (sel_neg fun e => hm (IntOp.andi_eq_one.mp e).2).symm

section
variable (i : grid2.Coords) (m x : S64x1.Idx → Elt F .f32) {X Y G H : S64x2048.Idx → Elt F .f32} (h : Agree (i 0).val X Y) (g : Agree (i 0).val G H)
include h g

theorem k2_pay7_agree : k2_pay7 i X m x G = k2_pay7 i Y m x H := by unfold k2_pay7; rw [k2_pay4_agree i m x h g]

theorem k2_pay8_agree : k2_pay8 i X m x G = k2_pay8 i Y m x H := by unfold k2_pay8; rw [k2_pay4_agree i m x h g, k2_pay7_agree i m x h g]

theorem k2_pay9_agree (B : S64x1.Idx → Elt F .f32) : k2_pay9 i X m x G B = k2_pay9 i Y m x H B := by unfold k2_pay9; rw [k2_pay7_agree i m x h g]

theorem k2_pay10_agree : k2_pay10 i X m x G = k2_pay10 i Y m x H := by unfold k2_pay10; rw [k2_pay7_agree i m x h g]
end

/-! ## Tiles of the buffer of exponentials -/

theorem tileAt_put_same (X : S64x100352.Idx → Elt F .f32) {k : ℕ} (hk : k < 49) (w : S64x2048.Idx → Elt F .f32) :
    tileAt (VecWindow.put X ![0, 2048 * k] S64x2048.size w) k = w := by
  funext y
  have h0 : (y 0).val < 64 := (y 0).isLt
  have h1 : (y 1).val < 2048 := (y 1).isLt
  unfold tileAt VecWindow.put
  rw [dif_pos (by
    intro a
    match a with
    | ⟨0, _⟩ => exact ⟨Nat.zero_le _, by show (y 0).val < 0 + 64; omega⟩
    | ⟨1, _⟩ => exact ⟨by show 2048 * k ≤ (2048 * k + (y 1).val) % 100352; omega, by show (2048 * k + (y 1).val) % 100352 < 2048 * k + 2048; omega⟩)]
  congr 1
  funext a
  apply Fin.ext
  match a with
  | ⟨0, _⟩ => show (y 0).val - 0 = (y 0).val; omega
  | ⟨1, _⟩ => show (2048 * k + (y 1).val) % 100352 - 2048 * k = (y 1).val; omega

theorem tileAt_put_ne (X : S64x100352.Idx → Elt F .f32) {k j : ℕ} (hj : j < 49) (h : j ≠ k) (w : S64x2048.Idx → Elt F .f32) :
    tileAt (VecWindow.put X ![0, 2048 * k] S64x2048.size w) j = tileAt X j := by
  funext y
  have h1 : (y 1).val < 2048 := (y 1).isLt
  unfold tileAt VecWindow.put
  rw [dif_neg]
  intro hh
  have := hh 1
  have h2 : 2048 * k ≤ (2048 * j + (y 1).val) % 100352 ∧ (2048 * j + (y 1).val) % 100352 < 2048 * k + 2048 := this
  omega

theorem massSt_congr {T T' : ℕ → S64x2048.Idx → Elt F .f32} (lo hi : FVec F S64x1 .f32) (n : ℕ) (h : ∀ k < n, T k = T' k) :
    massSt T lo hi n = massSt T' lo hi n := by
  induction n with
  | zero => rfl
  | succ n ih =>
    show k1_pay9 _ _ _ _ = k1_pay9 _ _ _ _
    rw [ih fun k hk => h k (by omega), h n (by omega)]

theorem bisSt_congr {T T' : ℕ → S64x2048.Idx → Elt F .f32} (z p : S64x1.Idx → Elt F .f32) (n : ℕ) (h : ∀ k < 49, T k = T' k) :
    bisSt T z p n = bisSt T' z p n := by
  induction n with
  | zero => rfl
  | succ n ih =>
    unfold bisSt
    rw [ih, massSt_congr _ _ 49 h]

end Cert.KernelIdeal.Run
-- ==== Proof.Ideal.Region0.lean ====
module

public import proofs.«01_k».proof.Proof.Ideal.Local

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-! ## Region 0: the logits and their row maxima, from the hidden states, the embedding table and the temperatures

The last block of the embedding table is cut at the table's end, and what the staging buffer holds past that end is not known.
The multiplication is one operation on the whole tile, so what it leaves is stated as a relation: the result for SOME tile that
agrees with the table's block on the rows inside the table. -/

/-- Point `k` of the grid. -/
def coord0 (k : ℕ) : grid0.Coords := fun a => match a with | ⟨0, _⟩ => (⟨k % 49, Nat.mod_lt _ (by decide)⟩ : Fin 49)

section
variable (H : S64x768.Idx → Elt F .f32) (E : S100000x768.Idx → Elt F .f32) (T : S64x128.Idx → Elt F .f32)

/-- What the body may leave of the logits at point `k`. -/
def LogitTile (k : ℕ) (X : S64x2048.Idx → Elt F .f32) : Prop :=
  ∃ W, EAgree k W (etile E k) ∧ X = k0_pay1 (coord0 k) H W (col T)

/-- What the running row maximum may be before point `k`. -/
inductive RowMax : ℕ → (S64x128.Idx → Elt F .f32) → Prop
  | zero : RowMax 0 k0_pay2
  | succ (k : ℕ) (W : S2048x768.Idx → Elt F .f32) (Y : S64x128.Idx → Elt F .f32) (hY : RowMax k Y) (hW : EAgree k W (etile E k)) :
      RowMax (k + 1) (k0_pay3 (coord0 k) H W (col T) Y)
end

theorem coord0_eq (t : Fin grid0.N) : grid0.coords t = coord0 t.val := by
  funext a
  match a with
  | ⟨0, _⟩ =>
    refine Fin.ext ((coords0 t).trans ?_)
    have h : t.val < 49 := lt_of_lt_of_eq t.isLt N_0
    exact (Nat.mod_eq_of_lt h).symm

variable (V : (c : Dev nD) → (b : Ref sig .tc) → Buf (Elt F) ((c : Thread nD τ).loc b))

/-- The proof data of region 0 from the valuation `V`: exact for the inputs. -/
def dat0 (c : Dev nD) : Dat τ (Elt F) Unit ℕ UU ℕ cfg0 c where
  A w := V c (Pipeline.arrRef spec0 w)
  after w t := match w with
    | ⟨0, _⟩ => V c main_arg0
    | ⟨1, _⟩ => win0_1.fill (grid0.coords t) (fun _ => Scalar.ofBits .f32 0#32) ((win0_1.blk t).view.read (Elt F) (V c main_arg1))
    | ⟨2, _⟩ => V c main_v1
    | ⟨3, _⟩ => fun _ => Scalar.ofBits .f32 0#32
    | ⟨4, _⟩ => fun _ => Scalar.ofBits .f32 0#32
  Φ _ := Pipeline.scopedRest (Ix := Unit) (Name := ℕ) (U := UU) (Lvl := ℕ) (Val := Elt F) spec0 c
  q _ := fullShare
  owed _ := 0

/-- The windows held to a relation: the two outputs. -/
abbrev rel0 : Fin cfg0.W → Bool := fun w => match w with | ⟨0, _⟩ => false | ⟨1, _⟩ => false | ⟨2, _⟩ => false | ⟨3, _⟩ => true | ⟨4, _⟩ => true

/-- The relation. -/
abbrev Rl0 (c : Dev nD) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun X => LogitTile (V c main_arg0) (V c main_arg1) (V c main_v1) t.val X
  | ⟨4, _⟩ => fun X => RowMax (V c main_arg0) (V c main_arg1) (V c main_v1) (t.val + 1) X

/-- The relational proof data of region 0. -/
abbrev rdat0 (c : Dev nD) : RDat τ (Elt F) Unit ℕ UU ℕ cfg0 c := (dat0 V c).toRRel rel0 (Rl0 V c)

theorem before0_0 (c : Dev nD) (t : Fin cfg0.N) (d : S64x768.Idx → Elt F .f32) : (dat0 V c).before 0 t d = V c main_arg0 :=
  ((dat0 V c).before_in_eq_fetched 0 rfl (fun _ => rfl) (fun _ _ _ => rfl) (fun s => (fetched0_0 (F := F) _ s d).symm) t d).trans (fetched0_0 _ t d)

theorem before0_1 (c : Dev nD) (t : Fin cfg0.N) (d : S2048x768.Idx → Elt F .f32) :
    (dat0 V c).before 1 t d = win0_1.fill (grid0.coords t) d ((win0_1.blk t).view.read (Elt F) (V c main_arg1)) :=
  (dat0 V c).before_fetched 1 t (fetch0_1 t) d

theorem before0_2 (c : Dev nD) (t : Fin cfg0.N) (d : S64x128.Idx → Elt F .f32) : (dat0 V c).before 2 t d = V c main_v1 :=
  ((dat0 V c).before_in_eq_fetched 2 rfl (fun _ => rfl) (fun _ _ _ => rfl) (fun s => (fetched0_2 (F := F) _ s d).symm) t d).trans (fetched0_2 _ t d)

/-- After the first point the running maximum is found as it was left. -/
theorem finds0_4 (c : Dev nD) (t : Fin cfg0.N) (h0 : t.val ≠ 0) (Y : S64x128.Idx → Elt F .f32) (hY : (rdat0 V c).Finds 4 t Y) :
    RowMax (V c main_arg0) (V c main_arg1) (V c main_v1) t.val Y := by
  have hN : t.val < 49 := lt_of_lt_of_eq t.isLt N_0
  rcases ((rdat0 V c).finds_of_pos (w := 4) (win0_4.fetch_out rfl t) h0 Y).mp hY with hfl | ⟨Y', -, hR⟩
  · have := (flush0_4 _).mp hfl
    simp at this; omega
  · have h : Rl0 V c 4 ⟨t.val - 1, by omega⟩ Y := hR
    have h' : RowMax (V c main_arg0) (V c main_arg1) (V c main_v1) (t.val - 1 + 1) Y := h
    rwa [Nat.sub_add_cancel (Nat.pos_of_ne_zero h0)] at h'

theorem body0 (c : Dev nD) : Pipeline.BodyObligationRel (dat0 V c) (defs₀ (F := F)) 𝒱₀ () Set.univ rel0 (Rl0 V c) := fun t => by
  rw [bigSep_W0, bigSep_W0]
  simp only
  rw [show (dat0 V c).Φ t.succ = (dat0 V c).Φ t.castSucc from rfl,
    show (dat0 V c).owesAt () t.succ = (dat0 V c).owesAt () t.castSucc from rfl]
  show _ ⊢ wp frame _ _ (bodyAt0 (F := F) t) _
  have hN : t.val < 49 := lt_of_lt_of_eq t.isLt N_0
  have hg : ((grid0.coords t) 0).val = t.val := coords0 t
  iintro ⟨HΦ, Howes, ⟨%d0, H0⟩, ⟨%d1, H1⟩, ⟨%d2, H2⟩, ⟨%Y3, %e3, H3⟩, ⟨%Y4, %e4, H4⟩⟩
  rw [before0_0, before0_2]
  have hE : EAgree t.val ((dat0 V c).before 1 t d1) (etile (V c main_arg1) t.val) := by rw [before0_1]; exact fetched0_1 _ t d1
  by_cases h0 : t.val = 0
  · iapply (mm_first c (grid0.coords t) ((first0 t).mpr h0) (win0_0.stage (cfg0.slots t 0)) _ (win0_1.stage (cfg0.slots t 1)) _ (win0_2.stage (cfg0.slots t 2)) _ (win0_3.stage (cfg0.slots t 3)) _ (win0_4.stage (cfg0.slots t 4)) _ (V c main_arg0) ((dat0 V c).before 1 t d1) (V c main_v1) Y3 Y4)
    isplitl [H0]; · iexact H0
    isplitl [H1]; · iexact H1
    isplitl [H2]; · iexact H2
    isplitl [H3]; · iexact H3
    isplitl [H4]; · iexact H4
    iintro ⟨H0, H1, H2, H3, H4⟩
    rw [coord0_eq]
    isplitl [HΦ]; · iexact HΦ
    isplitl [Howes]; · iexact Howes
    isplitl [H0]; · iexact H0
    isplitl [H1]
    · iexists d1
      rw [before0_1, ← coord0_eq, ← (show win0_1.cut (grid0.coords t) ((dat0 V c).after 1 t) = (win0_1.blk t).view.read (Elt F) (V c main_arg1) from win0_1.cut_fill _ _ _)]
      iexact H1
    isplitl [H2]; · iexact H2
    isplitl [H3]
    · iexists _; isplitr; swap; (· iexact H3); ipureintro; exact ⟨_, hE, rfl⟩
    iexists _; isplitr; swap; (· iexact H4); ipureintro
    show RowMax _ _ _ (t.val + 1) _
    rw [h0] at hE ⊢
    exact RowMax.succ 0 _ _ RowMax.zero hE
  · iapply (mm_later c (grid0.coords t) (fun h => h0 ((first0 t).mp h)) (win0_0.stage (cfg0.slots t 0)) _ (win0_1.stage (cfg0.slots t 1)) _ (win0_2.stage (cfg0.slots t 2)) _ (win0_3.stage (cfg0.slots t 3)) _ (win0_4.stage (cfg0.slots t 4)) _ (V c main_arg0) ((dat0 V c).before 1 t d1) (V c main_v1) Y3 Y4)
    isplitl [H0]; · iexact H0
    isplitl [H1]; · iexact H1
    isplitl [H2]; · iexact H2
    isplitl [H3]; · iexact H3
    isplitl [H4]; · iexact H4
    iintro ⟨H0, H1, H2, H3, H4⟩
    rw [coord0_eq]
    isplitl [HΦ]; · iexact HΦ
    isplitl [Howes]; · iexact Howes
    isplitl [H0]; · iexact H0
    isplitl [H1]
    · iexists d1
      rw [before0_1, ← coord0_eq, ← (show win0_1.cut (grid0.coords t) ((dat0 V c).after 1 t) = (win0_1.blk t).view.read (Elt F) (V c main_arg1) from win0_1.cut_fill _ _ _)]
      iexact H1
    isplitl [H2]; · iexact H2
    isplitl [H3]
    · iexists _; isplitr; swap; (· iexact H3); ipureintro; exact ⟨_, hE, rfl⟩
    iexists _; isplitr; swap; (· iexact H4); ipureintro
    exact RowMax.succ t.val _ _ (finds0_4 V c t h0 Y4 e4) hE

end Cert.KernelIdeal.Run
-- ==== Proof.Ideal.Record0.lean ====
module

public import proofs.«01_k».proof.Proof.Ideal.Region0
public import proofs.«01_k».proof.Proof.Gen.KernelIdeal.Regions

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-! ## Region 0 as a segment of the run: the logits and the row maxima written, at contents held to a relation -/

variable (V : (c : Dev nD) → (b : Ref sig .tc) → Buf (Elt F) ((c : Thread nD τ).loc b))

/-- The proof data of the pipelines when region 0 runs from the valuation `V`, read relationally. -/
def rdats0 : (p : Fin 3) → (c : Dev nD) → RDat τ (Elt F) Unit ℕ UU ℕ (Pipeline.pin (pcfgs (F := F)) adm p) c
  | ⟨0,_⟩ => fun c => rdat0 V c
  | ⟨1,_⟩ => fun c => (junkDat c).toR
  | ⟨2,_⟩ => fun c => (junkDat c).toR

/-- The same data, read exactly. -/
def pdats0 : (p : Fin 3) → (c : Dev nD) → Dat τ (Elt F) Unit ℕ UU ℕ (Pipeline.pin (pcfgs (F := F)) adm p) c
  | ⟨0,_⟩ => fun c => dat0 V c
  | ⟨1,_⟩ => fun c => junkDat c
  | ⟨2,_⟩ => fun c => junkDat c

/-- The logits and the row maxima: what region 0 writes. -/
abbrev Wr0 (c : Dev nD) : Type := Buf (Elt F) ((c : Thread nD τ).loc main_v12_0) × Buf (Elt F) ((c : Thread nD τ).loc main_v12_1)

/-- What region 0 may leave of the two. -/
def Ends0 (c : Dev nD) (x : Wr0 (F := F) c) : Prop := (rdat0 V c).ArrAt 3 cfg0.N x.1 ∧ (rdat0 V c).ArrAt 4 cfg0.N x.2

/-- The valuation region 0 leaves when it leaves `x`. -/
def left0 (c : Dev nD) (x : Wr0 (F := F) c) : (b : Ref sig .tc) → Buf (Elt F) ((c : Thread nD τ).loc b) :=
  Function.update (Function.update (V c) main_v12_0 x.1) main_v12_1 x.2

theorem left0_max (c : Dev nD) (x : Wr0 (F := F) c) : left0 V c x main_v12_1 = x.2 := Function.update_self _ _ _

theorem left0_logits (c : Dev nD) (x : Wr0 (F := F) c) : left0 V c x main_v12_0 = x.1 :=
  (Function.update_of_ne (by decide) _ _).trans (Function.update_self _ _ _)

theorem left0_ne (c : Dev nD) (x : Wr0 (F := F) c) (b : Ref sig .tc) (h : b ≠ main_v12_0) (h' : b ≠ main_v12_1) : left0 V c x b = V c b :=
  (Function.update_of_ne h' _ _).trans (Function.update_of_ne h _ _)

/-- The arrays after the region are held at some contents that they may then hold. -/
theorem arraysAt0 (c : Dev nD) :
    ((rdat0 V c).arraysAt cfg0.N : sProp 𝕄) ⊢ iprop(∃ A : (w : Fin cfg0.W) → Buf (Elt F) ((cfg0.win w).arr.view.loc (c.tc : Thread nD τ)),
      ⌜∀ w, (rdat0 V c).ArrAt w cfg0.N (A w)⌝ ∗ (dat0 V c).arrays A) := by
  unfold RDat.arraysAt Dat.arrays
  refine (BI.bigSep_exists_pi Finset.univ _).trans ?_
  iintro ⟨%A, H⟩
  ihave H' := (BI.bigSep_pure_sep Finset.univ (fun w => (rdat0 V c).ArrAt w cfg0.N (A w)) _) $$ H
  icases H' with ⟨%hA, H⟩
  iexists A
  isplitr
  · ipureintro; exact fun w => hA w (Finset.mem_univ w)
  iexact H

set_option backward.isDefEq.respectTransparency.types false in
/-- Region 0 as a segment, entered at `V`. -/
def seg0 : Pipeline.RDat.RegionSeg (pcfgs (F := F)) adm (rdats0 V) () defs₀ 𝒱₀ L lv 0 where
  win := launch0.win.to₀
  block_pos := launch0.block_pos
  stage_whole := launch0.stage_whole
  K := PEmpty
  osem k := k.elim
  ho := Pipeline.OwnSemFacts.none _
  hbody c := (body0 V c).toRRel
  hwaits := Pipeline.RDat.hwaits_of_owed_zero _ _ _ _ L lv 0 fun _ _ => rfl
  pre c := iprop(unscopedBufs c (V c) ∗ ∃ W, owes (c : Thread nD τ) (0 : CellTallies nD τ sig Unit) W)
  post c := iprop((∃ x, ⌜Ends0 V c x⌝ ∗ unscopedBufs c (left0 V c x)) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.RDat.arrays_of_unscopedBufs (p := 0) (pcfgs (F := F)) adm (rdats0 V) launch0.win launch0.arr_whole c
      (fun w => (dat0 V c).share_full (fun _ => rfl) w) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdats0 V 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rdats0 V 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hsome : ((rdats0 V 0 c).arraysAt (Pipeline.pin (pcfgs (F := F)) adm 0).N : sProp 𝕄) ⊢ _ := arraysAt0 V c
    have hjoin : ∀ (A : (w : Fin cfg0.W) → Buf (Elt F) ((cfg0.win w).arr.view.loc (c.tc : Thread nD τ))) (_ : ∀ w, (rdat0 V c).ArrAt w cfg0.N (A w)),
        iprop((dat0 V c).arrays A ∗ Pipeline.unscopedRest (Ix := Unit) (Name := ℕ) (U := UU) (Lvl := ℕ) spec0 c (V c)) ⊢ (unscopedBufs c (left0 V c (A 3, A 4)) : sProp 𝕄) := fun A hA =>
      Pipeline.unscopedBufs_of_arrays (p := 0) (pcfgs (F := F)) adm (Ix := Unit) (Name := ℕ) (U := UU) (Lvl := ℕ) launch0.win launch0.arr_whole c
      (pdats0 V) ((pdats0 V 0 c).share_full fun _ => rfl) (V c) (left0 V c (A 3, A 4)) A
      (fun w => by
        have hin : ∀ w, (cfg0.win w).isOut = false → A w = V c (Pipeline.arrRef spec0 w) := fun w hw => by
          have h := hA w
          rw [(rdat0 V c).ArrAt_in w hw] at h
          exact h
        fin_cases w
        · exact (hin 0 rfl).trans (left0_ne V c _ (Pipeline.arrRef spec0 0) (by decide) (by decide)).symm
        · exact (hin 1 rfl).trans (left0_ne V c _ (Pipeline.arrRef spec0 1) (by decide) (by decide)).symm
        · exact (hin 2 rfl).trans (left0_ne V c _ (Pipeline.arrRef spec0 2) (by decide) (by decide)).symm
        · exact (left0_logits V c (A 3, A 4)).symm
        · exact (left0_max V c (A 3, A 4)).symm)
      (fun b hb => left0_ne V c _ b (fun h => hb (h ▸ Finset.mem_image.mpr ⟨3, Finset.mem_univ _, rfl⟩)) fun h => hb (h ▸ Finset.mem_image.mpr ⟨4, Finset.mem_univ _, rfl⟩))
    iintro ⟨Ha, HO, -, Hrest⟩
    ihave Ha' := hsome $$ Ha
    icases Ha' with ⟨%A, %hA, Ha⟩
    imodintro
    isplitl [Ha Hrest]
    · iexists (A 3, A 4)
      isplitr; · ipureintro; exact ⟨hA 3, hA 4⟩
      iapply (hjoin A hA); isplitl [Ha] <;> iassumption
    unfold Pipeline.RDat.owesAt Pipeline.owesWithin
    icases HO with ⟨%W, -, HO⟩; iexists W; iexact HO

end Cert.KernelIdeal.Run

end
-- ==== Proof.Ideal.Region1.lean ====
module

public import proofs.«01_k».proof.Proof.Ideal.Local

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-! ## Region 1: the thresholds, from the logits, their row maxima and the shares -/

section
variable (A : S64x100000.Idx → Elt F .f32) (R P : S64x128.Idx → Elt F .f32)

/-- Point `k` of the grid. -/
def coord1 (k : ℕ) : grid1.Coords := fun a => match a with | ⟨0, _⟩ => (⟨k % 49, Nat.mod_lt _ (by decide)⟩ : Fin 49)

/-- The exponentials of tile `k`. -/
def ew (k : ℕ) : S64x2048.Idx → Elt F .f32 := k1_pay2 (coord1 k) (col R) (tile A k)

/-- The mass of the tiles before tile `k`. -/
def zs : ℕ → S64x128.Idx → Elt F .f32
  | 0 => k1_pay3
  | k + 1 => k1_pay4 (coord1 k) (col R) (tile A k) (zs k)

/-- The thresholds. -/
def chi : S64x128.Idx → Elt F .f32 := k1_pay13 (bisSt (ew A R) (col (zs A R 49)) (col P) 26).2
end

theorem coord1_eq (t : Fin grid1.N) : grid1.coords t = coord1 t.val := by
  funext a
  match a with
  | ⟨0, _⟩ =>
    refine Fin.ext ((coords1 t).trans ?_)
    have h : t.val < 49 := lt_of_lt_of_eq t.isLt N_1
    exact (Nat.mod_eq_of_lt h).symm

/-- The scoped buffers of the other two kernels, at some contents. -/
abbrev oth1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))

variable (V : (c : Dev nD) → (b : Ref sig .tc) → Buf (Elt F) ((c : Thread nD τ).loc b))

/-- Before point `t`: the buffer holds the exponentials of the tiles before `t`, the accumulator their mass. -/
def Φ1 (c : Dev nD) (t : ℕ) : sProp 𝕄 :=
  iprop((∃ Y, ⌜∀ k < t, tileAt Y k = ew (V c main_v12_0) (V c main_v12_1) k⌝ ∗ owns (c : Thread nD τ) (Memref.whole cc1_scratch0) fullShare Y)
    ∗ (∃ Y, ⌜t ≠ 0 → Y = zs (V c main_v12_0) (V c main_v12_1) t⌝ ∗ owns (c : Thread nD τ) (Memref.whole cc1_scratch1) fullShare Y)
    ∗ oth1 c)

/-- The proof data of region 1 from the valuation `V`. -/
def dat1 (c : Dev nD) : Dat τ (Elt F) Unit ℕ UU ℕ cfg1 c where
  A w := V c (Pipeline.arrRef spec1 w)
  after w t := match w with
    | ⟨0, _⟩ => win1_0.fill (grid1.coords t) (fun _ => Scalar.ofBits .f32 0#32) ((win1_0.blk t).view.read (Elt F) (V c main_v12_0))
    | ⟨1, _⟩ => V c main_v12_1
    | ⟨2, _⟩ => V c main_v3
    | ⟨3, _⟩ => chi (V c main_v12_0) (V c main_v12_1) (V c main_v3)
  Φ t := Φ1 V c t.val
  q _ := fullShare
  owed _ := 0

theorem before1_0 (c : Dev nD) (t : Fin cfg1.N) (d : S64x2048.Idx → Elt F .f32) :
    (dat1 V c).before 0 t d = win1_0.fill (grid1.coords t) d ((win1_0.blk t).view.read (Elt F) (V c main_v12_0)) :=
  (dat1 V c).before_fetched 0 t (fetch1_0 t) d

theorem before1_1 (c : Dev nD) (t : Fin cfg1.N) (d : S64x128.Idx → Elt F .f32) : (dat1 V c).before 1 t d = V c main_v12_1 :=
  ((dat1 V c).before_in_eq_fetched 1 rfl (fun _ => rfl) (fun _ _ _ => rfl) (fun s => (fetched1_1 (F := F) _ s d).symm) t d).trans (fetched1_1 _ t d)

theorem before1_2 (c : Dev nD) (t : Fin cfg1.N) (d : S64x128.Idx → Elt F .f32) : (dat1 V c).before 2 t d = V c main_v3 :=
  ((dat1 V c).before_in_eq_fetched 2 rfl (fun _ => rfl) (fun _ _ _ => rfl) (fun s => (fetched1_2 (F := F) _ s d).symm) t d).trans (fetched1_2 _ t d)

theorem body1 (c : Dev nD) : Pipeline.BodyObligationLoose (dat1 V c) (defs₀ (F := F)) 𝒱₀ () Set.univ := fun t => by
  rw [bigSep_W1, bigSep_W1]
  simp only
  rw [show (dat1 V c).Φ t.castSucc = Φ1 V c t.val from rfl, show (dat1 V c).Φ t.succ = Φ1 V c (t.val + 1) from rfl,
    show (dat1 V c).owesAt () t.succ = (dat1 V c).owesAt () t.castSucc from rfl]
  show _ ⊢ wp frame _ _ (bodyAt1 (F := F) t) _
  unfold Φ1
  have hN : t.val < 49 := lt_of_lt_of_eq t.isLt N_1
  have hg : ((grid1.coords t) 0).val = t.val := coords1 t
  have hAg : ∀ d, Agree ((grid1.coords t) 0).val ((dat1 V c).before 0 t d) (tile (V c main_v12_0) t.val) := fun d => by
    rw [hg, before1_0]; exact fetched1_0 _ t d
  iintro ⟨⟨⟨%Y5, %e5, H5⟩, ⟨%Y6, %e6, H6⟩, Ho⟩, Howes, ⟨%d0, H0⟩, ⟨%d1, H1⟩, ⟨%d2, H2⟩, ⟨%d3, H3⟩⟩
  rw [before1_1, before1_2]
  have hput : ∀ k < t.val + 1, tileAt (VecWindow.put Y5 ![0, 2048 * t.val] S64x2048.size (ew (V c main_v12_0) (V c main_v12_1) t.val)) k = ew (V c main_v12_0) (V c main_v12_1) k := fun k hk => by
    by_cases h : k = t.val
    · subst h; exact tileAt_put_same _ hN _
    · rw [tileAt_put_ne _ (by omega) h]; exact e5 k (by omega)
  have hew : k1_pay2 (grid1.coords t) (col (V c main_v12_1)) ((dat1 V c).before 0 t d0) = ew (V c main_v12_0) (V c main_v12_1) t.val := by
    rw [k1_pay2_agree _ _ (hAg d0), coord1_eq]; rfl
  have hz : ∀ B, B = zs (V c main_v12_0) (V c main_v12_1) t.val → k1_pay4 (grid1.coords t) (col (V c main_v12_1)) ((dat1 V c).before 0 t d0) B = zs (V c main_v12_0) (V c main_v12_1) (t.val + 1) := fun B hB => by
    rw [k1_pay4_agree _ _ (hAg d0), coord1_eq, hB]; rfl
  by_cases h0 : t.val = 0
  · have hi : idle1 3 (grid1.coords t) = true := by
      have : ¬ k1_cond2 (grid1.coords t) = 1#1 := fun h => by have := (last1 t).mp h; omega
      show (!(k1_cond2 (grid1.coords t) == 1#1)) = true
      simpa using this
    have hfl : (win1 3).flush t = false := by
      rw [← Bool.not_eq_true]; intro h; have := (flush1_3 t).mp h; omega
    rw [hi, hfl]
    iapply (thresh_first c (grid1.coords t) ((first1 t).mpr h0) (fun h => by have := (last1 t).mp h; omega) (win1_0.stage (cfg1.slots t 0)) _ (win1_1.stage (cfg1.slots t 1)) _ (win1_2.stage (cfg1.slots t 2)) _ (win1_3.stage (cfg1.slots t 3)) _ (Memref.whole cc1_scratch0) _ (Memref.whole cc1_scratch1) _ ((dat1 V c).before 0 t d0) (V c main_v12_1) (V c main_v3) ((dat1 V c).before 3 t d3) Y5 Y6)
    isplitl [H0]; · iexact H0
    isplitl [H1]; · iexact H1
    isplitl [H2]; · iexact H2
    isplitl [H3]; · iexact H3
    isplitl [H5]; · iexact H5
    isplitl [H6]; · iexact H6
    iintro ⟨H0, H1, H2, H3, H5, H6⟩
    rw [hg, hew, hz _ (by rw [h0]; rfl)]
    isplitl [H5 H6 Ho]
    · isplitl [H5]
      · iexists _; isplitr; swap; (· iexact H5); ipureintro; exact hput
      isplitl [H6]
      · iexists _; isplitr; swap; (· iexact H6); ipureintro; exact fun _ => rfl
      iexact Ho
    isplitl [Howes]; · iexact Howes
    isplitl [H0]
    · iexists d0
      rw [before1_0, ← (show win1_0.cut (grid1.coords t) ((dat1 V c).after 0 t) = (win1_0.blk t).view.read (Elt F) (V c main_v12_0) from win1_0.cut_fill _ _ _)]
      iexact H0
    isplitl [H1]; · iexact H1
    isplitl [H2]; · iexact H2
    iexists d3; iexact H3
  · by_cases hl : t.val = 48
    · have hi : idle1 3 (grid1.coords t) = false := by
        show (!(k1_cond2 (grid1.coords t) == 1#1)) = false
        rw [(last1 t).mpr hl]; rfl
      rw [hi]
      iapply (thresh_last c (grid1.coords t) (fun h => h0 ((first1 t).mp h)) ((last1 t).mpr hl) (win1_0.stage (cfg1.slots t 0)) _ (win1_1.stage (cfg1.slots t 1)) _ (win1_2.stage (cfg1.slots t 2)) _ (win1_3.stage (cfg1.slots t 3)) _ (Memref.whole cc1_scratch0) _ (Memref.whole cc1_scratch1) _ ((dat1 V c).before 0 t d0) (V c main_v12_1) (V c main_v3) ((dat1 V c).before 3 t d3) Y5 Y6)
      isplitl [H0]; · iexact H0
      isplitl [H1]; · iexact H1
      isplitl [H2]; · iexact H2
      isplitl [H3]; · iexact H3
      isplitl [H5]; · iexact H5
      isplitl [H6]; · iexact H6
      iintro ⟨H0, H1, H2, H3, H5, H6⟩
      obtain rfl := e6 h0
      rw [hg, hew, hz _ rfl]
      have hchi : (k1_pay13 (bisSt (tileAt (VecWindow.put Y5 ![0, 2048 * t.val] S64x2048.size (ew (V c main_v12_0) (V c main_v12_1) t.val))) (col (zs (V c main_v12_0) (V c main_v12_1) (t.val + 1))) (col (V c main_v3)) 26).2 : S64x128.Idx → Elt F .f32) = chi (V c main_v12_0) (V c main_v12_1) (V c main_v3) := by
        unfold chi; rw [bisSt_congr _ _ 26 fun k hk => hput k (by omega), hl]
      rw [hchi]
      isplitl [H5 H6 Ho]
      · isplitl [H5]
        · iexists _; isplitr; swap; (· iexact H5); ipureintro; exact hput
        isplitl [H6]
        · iexists _; isplitr; swap; (· iexact H6); ipureintro; exact fun _ => rfl
        iexact Ho
      isplitl [Howes]; · iexact Howes
      isplitl [H0]
      · iexists d0
        rw [before1_0, ← (show win1_0.cut (grid1.coords t) ((dat1 V c).after 0 t) = (win1_0.blk t).view.read (Elt F) (V c main_v12_0) from win1_0.cut_fill _ _ _)]
        iexact H0
      isplitl [H1]; · iexact H1
      isplitl [H2]; · iexact H2
      iexact H3
    · have hi : idle1 3 (grid1.coords t) = true := by
        have : ¬ k1_cond2 (grid1.coords t) = 1#1 := fun h => hl ((last1 t).mp h)
        show (!(k1_cond2 (grid1.coords t) == 1#1)) = true
        simpa using this
      have hfl : (win1 3).flush t = false := by
        rw [← Bool.not_eq_true]; intro h; have := (flush1_3 t).mp h; omega
      rw [hi, hfl]
      iapply (thresh_mid c (grid1.coords t) (fun h => h0 ((first1 t).mp h)) (fun h => hl ((last1 t).mp h)) (win1_0.stage (cfg1.slots t 0)) _ (win1_1.stage (cfg1.slots t 1)) _ (win1_2.stage (cfg1.slots t 2)) _ (win1_3.stage (cfg1.slots t 3)) _ (Memref.whole cc1_scratch0) _ (Memref.whole cc1_scratch1) _ ((dat1 V c).before 0 t d0) (V c main_v12_1) (V c main_v3) ((dat1 V c).before 3 t d3) Y5 Y6)
      isplitl [H0]; · iexact H0
      isplitl [H1]; · iexact H1
      isplitl [H2]; · iexact H2
      isplitl [H3]; · iexact H3
      isplitl [H5]; · iexact H5
      isplitl [H6]; · iexact H6
      iintro ⟨H0, H1, H2, H3, H5, H6⟩
      obtain rfl := e6 h0
      rw [hg, hew, hz _ rfl]
      isplitl [H5 H6 Ho]
      · isplitl [H5]
        · iexists _; isplitr; swap; (· iexact H5); ipureintro; exact hput
        isplitl [H6]
        · iexists _; isplitr; swap; (· iexact H6); ipureintro; exact fun _ => rfl
        iexact Ho
      isplitl [Howes]; · iexact Howes
      isplitl [H0]
      · iexists d0
        rw [before1_0, ← (show win1_0.cut (grid1.coords t) ((dat1 V c).after 0 t) = (win1_0.blk t).view.read (Elt F) (V c main_v12_0) from win1_0.cut_fill _ _ _)]
        iexact H0
      isplitl [H1]; · iexact H1
      isplitl [H2]; · iexact H2
      iexists d3; iexact H3

end Cert.KernelIdeal.Run
-- ==== Proof.Ideal.Record1.lean ====
module

public import proofs.«01_k».proof.Proof.Ideal.Region1
public import proofs.«01_k».proof.Proof.Gen.KernelIdeal.Regions

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-! ## Region 1 as a segment of the run: the thresholds written -/

variable (V : (c : Dev nD) → (b : Ref sig .tc) → Buf (Elt F) ((c : Thread nD τ).loc b))

/-- The proof data of the pipelines when region 1 runs from the valuation `V`. -/
def pdats1 : (p : Fin 3) → (c : Dev nD) → Dat τ (Elt F) Unit ℕ UU ℕ (Pipeline.pin (pcfgs (F := F)) adm p) c
  | ⟨0,_⟩ => fun c => junkDat c
  | ⟨1,_⟩ => fun c => dat1 V c
  | ⟨2,_⟩ => fun c => junkDat c

/-- The result of region 1 from the valuation `V`. -/
def res1 (c : Dev nD) : Buf (Elt F) ((c : Thread nD τ).loc main_v13) := chi (V c main_v12_0) (V c main_v12_1) (V c main_v3)

/-- The valuation region 1 leaves. -/
def left1 (c : Dev nD) : (b : Ref sig .tc) → Buf (Elt F) ((c : Thread nD τ).loc b) := Function.update (V c) main_v13 (res1 V c)

theorem left1_self (c : Dev nD) : left1 V c main_v13 = res1 V c := Function.update_self _ _ _

theorem left1_ne (c : Dev nD) (b : Ref sig .tc) (h : b ≠ main_v13) : left1 V c b = V c b := Function.update_of_ne h _ _

/-- The result's array after the region: the one block written back, at the last point. -/
theorem final1 (c : Dev nD) : (dat1 V c).arrAt 3 cfg1.N = res1 V c := by
  refine (dat1 V c).arrAt_eq_of_after_last 3 ⟨48, by decide +kernel⟩ (by decide +kernel) _ fun j => ?_
  have e : ((cfg1.win 3).arr.view.emb j) = j := rfl
  rw [e]; rfl

theorem restIn1 (c : Dev nD) : (Pipeline.scopedRest (Ix := Unit) (Name := ℕ) (U := UU) (Lvl := ℕ) (Val := Elt F) spec1 c : sProp 𝕄) ⊢ Φ1 V c 0 := by
  rw [scopedRest1_eq]
  unfold Φ1 oth1
  iintro ⟨H0, H1, H2, H3, H4, H5, H6, H7, H8, H9, H10, H11, H12, H13, H14, H15, H16, H17⟩
  isplitl [H7]
  · icases H7 with ⟨%f, H⟩; iexists f; isplitr
    · ipureintro; exact fun k hk => absurd hk (Nat.not_lt_zero k)
    · rw [owns_whole_eq]; iexists f; isplitr; · ipureintro; rfl
      iexact H
  isplitl [H8]
  · icases H8 with ⟨%f, H⟩; iexists f; isplitr
    · ipureintro; exact fun h => absurd rfl h
    · rw [owns_whole_eq]; iexists f; isplitr; · ipureintro; rfl
      iexact H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem restOut1 (c : Dev nD) : Φ1 V c cfg1.N ⊢ (Pipeline.scopedRest (Ix := Unit) (Name := ℕ) (U := UU) (Lvl := ℕ) (Val := Elt F) spec1 c : sProp 𝕄) := by
  rw [scopedRest1_eq]
  unfold Φ1 oth1
  simp only [owns_whole_eq]
  iintro ⟨⟨%f', -, %f, -, H7⟩, ⟨%g', -, %g, -, H8⟩, ⟨H0, H1, H2, H3, H4, H5, H6, H9, H10, H11, H12, H13, H14, H15, H16, H17⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists f; iexact H7
  isplitl [H8]; · iexists g; iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

set_option backward.isDefEq.respectTransparency.types false in
/-- Region 1 as a segment, entered at `V` and left at `left1 V`. -/
def seg1 : Pipeline.RegionSeg (pcfgs (F := F)) adm (pdats1 V) () defs₀ 𝒱₀ L lv 1 where
  win := launch1.win.to₀
  block_pos := launch1.block_pos
  stage_whole := launch1.stage_whole
  K := PEmpty
  osem k := k.elim
  ho := Pipeline.OwnSemFacts.none _
  hbody c := body1 V c
  hwaits := Pipeline.hwaits_of_owed_zero _ _ _ _ L lv 1 fun _ _ => rfl
  pre c := iprop(unscopedBufs c (V c) ∗ ∃ W, owes (c : Thread nD τ) (0 : CellTallies nD τ sig Unit) W)
  post c := iprop(unscopedBufs c (left1 V c) ∗ ∃ W, owes (c : Thread nD τ) (0 : CellTallies nD τ sig Unit) W)
  X _ := BI.emp
  Y _ := BI.emp
  Z c := Pipeline.unscopedRest (Ix := Unit) (Name := ℕ) (U := UU) (Lvl := ℕ) spec1 c (V c)
  hentry c := by
    rw [Pipeline.ownSems0_none]
    have hsplit := Pipeline.arrays_of_unscopedBufs (p := 1) (pcfgs (F := F)) adm (pdats1 V) launch1.win launch1.arr_whole c
      ((pdats1 V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats1 V 1 c).Φ 0 = Φ1 V c 0 from rfl]
    have h := restIn1 V c
    iintro ⟨-, -, Hr⟩; iapply h; iexact Hr
  hout c := by
    rw [Pipeline.ownSems0_none, show (pdats1 V 1 c).Φ (Fin.last _) = Φ1 V c cfg1.N from rfl]
    have h := restOut1 V c
    iintro Hr
    isplitr; · iempintro
    isplitr; · iempintro
    iapply h; iexact Hr
  hexit c := by
    have hjoin := Pipeline.unscopedBufs_of_arrays (p := 1) (pcfgs (F := F)) adm (Ix := Unit) (Name := ℕ) (U := UU) (Lvl := ℕ) launch1.win launch1.arr_whole c
      (pdats1 V) ((pdats1 V 1 c).share_full fun _ => rfl) (V c) (left1 V c) ((pdats1 V 1 c).arrAt · cfg1.N)
      (fun w => by
        fin_cases w
        · exact ((pdats1 V 1 c).arrAt_in 0 rfl _).trans (left1_ne V c (Pipeline.arrRef spec1 0) (by decide)).symm
        · exact ((pdats1 V 1 c).arrAt_in 1 rfl _).trans (left1_ne V c (Pipeline.arrRef spec1 1) (by decide)).symm
        · exact ((pdats1 V 1 c).arrAt_in 2 rfl _).trans (left1_ne V c (Pipeline.arrRef spec1 2) (by decide)).symm
        · exact (final1 V c).trans (left1_self V c).symm)
      (fun b hb => left1_ne V c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Run

end
-- ==== Proof.Ideal.Region2.lean ====
module

public import proofs.«01_k».proof.Proof.Ideal.Local

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-! ## Region 2: the drawn tokens, from the logits, the noise, the row maxima and the thresholds -/

/-- Point `k` of the grid. -/
def coord2 (k : ℕ) : grid2.Coords := fun a => match a with | ⟨0, _⟩ => (⟨k % 49, Nat.mod_lt _ (by decide)⟩ : Fin 49)

section
variable (A G : S64x100000.Idx → Elt F .f32) (R X : S64x128.Idx → Elt F .f32)

/-- The best noisy logit in the tiles before tile `k`, and the token that has it. -/
def best : ℕ → (S64x128.Idx → Elt F .f32) × (S64x128.Idx → Elt F .i32)
  | 0 => (k2_pay5, k2_pay6)
  | k + 1 => (k2_pay1 (k2_pay9 (coord2 k) (tile A k) (col R) (col X) (tile G k) (col (best k).1)) (k2_pay10 (coord2 k) (tile A k) (col R) (col X) (tile G k)) (best k).1,
      k2_pay2 (F := F) (k2_pay8 (coord2 k) (tile A k) (col R) (col X) (tile G k)) (k2_pay9 (coord2 k) (tile A k) (col R) (col X) (tile G k) (col (best k).1)) (best k).2)
end

theorem coord2_eq (t : Fin grid2.N) : grid2.coords t = coord2 t.val := by
  funext a
  match a with
  | ⟨0, _⟩ =>
    refine Fin.ext ((coords2 t).trans ?_)
    have h : t.val < 49 := lt_of_lt_of_eq t.isLt N_2
    exact (Nat.mod_eq_of_lt h).symm

/-- The scoped buffers of the other two kernels, at some contents. -/
abbrev oth2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

variable (V : (c : Dev nD) → (b : Ref sig .tc) → Buf (Elt F) ((c : Thread nD τ).loc b))

/-- Before point `t`: after the first point the two accumulators hold the best of the tiles before `t`. -/
def Φ2 (c : Dev nD) (t : ℕ) : sProp 𝕄 :=
  iprop((∃ Y, ⌜t ≠ 0 → Y = (best (V c main_v12_0) (V c main_v11) (V c main_v12_1) (V c main_v13) t).1⌝ ∗ owns (c : Thread nD τ) (Memref.whole cc2_scratch0) fullShare Y)
    ∗ (∃ Y, ⌜t ≠ 0 → Y = (best (V c main_v12_0) (V c main_v11) (V c main_v12_1) (V c main_v13) t).2⌝ ∗ owns (c : Thread nD τ) (Memref.whole cc2_scratch1) fullShare Y)
    ∗ oth2 c)

/-- The proof data of region 2 from the valuation `V`. -/
def dat2 (c : Dev nD) : Dat τ (Elt F) Unit ℕ UU ℕ cfg2 c where
  A w := V c (Pipeline.arrRef spec2 w)
  after w t := match w with
    | ⟨0, _⟩ => win2_0.fill (grid2.coords t) (fun _ => Scalar.ofBits .f32 0#32) ((win2_0.blk t).view.read (Elt F) (V c main_v12_0))
    | ⟨1, _⟩ => win2_1.fill (grid2.coords t) (fun _ => Scalar.ofBits .f32 0#32) ((win2_1.blk t).view.read (Elt F) (V c main_v11))
    | ⟨2, _⟩ => V c main_v12_1
    | ⟨3, _⟩ => V c main_v13
    | ⟨4, _⟩ => (best (V c main_v12_0) (V c main_v11) (V c main_v12_1) (V c main_v13) 49).2
  Φ t := Φ2 V c t.val
  q _ := fullShare
  owed _ := 0

theorem before2_0 (c : Dev nD) (t : Fin cfg2.N) (d : S64x2048.Idx → Elt F .f32) :
    (dat2 V c).before 0 t d = win2_0.fill (grid2.coords t) d ((win2_0.blk t).view.read (Elt F) (V c main_v12_0)) :=
  (dat2 V c).before_fetched 0 t (fetch2_0 t) d

theorem before2_1 (c : Dev nD) (t : Fin cfg2.N) (d : S64x2048.Idx → Elt F .f32) :
    (dat2 V c).before 1 t d = win2_1.fill (grid2.coords t) d ((win2_1.blk t).view.read (Elt F) (V c main_v11)) :=
  (dat2 V c).before_fetched 1 t (fetch2_1 t) d

theorem before2_2 (c : Dev nD) (t : Fin cfg2.N) (d : S64x128.Idx → Elt F .f32) : (dat2 V c).before 2 t d = V c main_v12_1 :=
  ((dat2 V c).before_in_eq_fetched 2 rfl (fun _ => rfl) (fun _ _ _ => rfl) (fun s => (fetched2_2 (F := F) _ s d).symm) t d).trans (fetched2_2 _ t d)

theorem before2_3 (c : Dev nD) (t : Fin cfg2.N) (d : S64x128.Idx → Elt F .f32) : (dat2 V c).before 3 t d = V c main_v13 :=
  ((dat2 V c).before_in_eq_fetched 3 rfl (fun _ => rfl) (fun _ _ _ => rfl) (fun s => (fetched2_3 (F := F) _ s d).symm) t d).trans (fetched2_3 _ t d)

theorem body2 (c : Dev nD) : Pipeline.BodyObligationLoose (dat2 V c) (defs₀ (F := F)) 𝒱₀ () Set.univ := fun t => by
  rw [bigSep_W2, bigSep_W2]
  simp only
  rw [show (dat2 V c).Φ t.castSucc = Φ2 V c t.val from rfl, show (dat2 V c).Φ t.succ = Φ2 V c (t.val + 1) from rfl,
    show (dat2 V c).owesAt () t.succ = (dat2 V c).owesAt () t.castSucc from rfl]
  show _ ⊢ wp frame _ _ (bodyAt2 (F := F) t) _
  unfold Φ2
  have hN : t.val < 49 := lt_of_lt_of_eq t.isLt N_2
  have hg : ((grid2.coords t) 0).val = t.val := coords2 t
  have hA0 : ∀ d, Agree ((grid2.coords t) 0).val ((dat2 V c).before 0 t d) (tile (V c main_v12_0) t.val) := fun d => by
    rw [hg, before2_0]; exact fetched2_0 _ t d
  have hA1 : ∀ d, Agree ((grid2.coords t) 0).val ((dat2 V c).before 1 t d) (tile (V c main_v11) t.val) := fun d => by
    rw [hg, before2_1]; exact fetched2_1 _ t d
  iintro ⟨⟨⟨%Y6, %e6, H6⟩, ⟨%Y7, %e7, H7⟩, Ho⟩, Howes, ⟨%d0, H0⟩, ⟨%d1, H1⟩, ⟨%d2, H2⟩, ⟨%d3, H3⟩, ⟨%d4, H4⟩⟩
  rw [before2_2, before2_3]
  have hv : ∀ B, B = (best (V c main_v12_0) (V c main_v11) (V c main_v12_1) (V c main_v13) t.val).1 → k2_pay1 (k2_pay9 (grid2.coords t) ((dat2 V c).before 0 t d0) (col (V c main_v12_1)) (col (V c main_v13)) ((dat2 V c).before 1 t d1) (col B)) (k2_pay10 (grid2.coords t) ((dat2 V c).before 0 t d0) (col (V c main_v12_1)) (col (V c main_v13)) ((dat2 V c).before 1 t d1)) B
      = (best (V c main_v12_0) (V c main_v11) (V c main_v12_1) (V c main_v13) (t.val + 1)).1 := fun B hB => by
    rw [k2_pay9_agree _ _ _ (hA0 d0) (hA1 d1), k2_pay10_agree _ _ _ (hA0 d0) (hA1 d1), coord2_eq, hB]; rfl
  have hx : ∀ B C, B = (best (V c main_v12_0) (V c main_v11) (V c main_v12_1) (V c main_v13) t.val).1 → C = (best (V c main_v12_0) (V c main_v11) (V c main_v12_1) (V c main_v13) t.val).2 → k2_pay2 (F := F) (k2_pay8 (grid2.coords t) ((dat2 V c).before 0 t d0) (col (V c main_v12_1)) (col (V c main_v13)) ((dat2 V c).before 1 t d1)) (k2_pay9 (grid2.coords t) ((dat2 V c).before 0 t d0) (col (V c main_v12_1)) (col (V c main_v13)) ((dat2 V c).before 1 t d1) (col B)) C
      = (best (V c main_v12_0) (V c main_v11) (V c main_v12_1) (V c main_v13) (t.val + 1)).2 := fun B C hB hC => by
    rw [k2_pay9_agree _ _ _ (hA0 d0) (hA1 d1), k2_pay8_agree _ _ _ (hA0 d0) (hA1 d1), coord2_eq, hB, hC]; rfl
  by_cases h0 : t.val = 0
  · have hi : idle2 4 (grid2.coords t) = true := by
      have : ¬ k2_cond2 (grid2.coords t) = 1#1 := fun h => by have := (last2 t).mp h; omega
      show (!(k2_cond2 (grid2.coords t) == 1#1)) = true
      simpa using this
    have hfl : (win2 4).flush t = false := by
      rw [← Bool.not_eq_true]; intro h; have := (flush2_4 t).mp h; omega
    rw [hi, hfl]
    iapply (sample_first c (grid2.coords t) ((first2 t).mpr h0) (fun h => by have := (last2 t).mp h; omega) (win2_0.stage (cfg2.slots t 0)) _ (win2_1.stage (cfg2.slots t 1)) _ (win2_2.stage (cfg2.slots t 2)) _ (win2_3.stage (cfg2.slots t 3)) _ (win2_4.stage (cfg2.slots t 4)) _ (Memref.whole cc2_scratch0) _ (Memref.whole cc2_scratch1) _ ((dat2 V c).before 0 t d0) ((dat2 V c).before 1 t d1) (V c main_v12_1) (V c main_v13) ((dat2 V c).before 4 t d4) Y6 Y7)
    isplitl [H0]; · iexact H0
    isplitl [H1]; · iexact H1
    isplitl [H2]; · iexact H2
    isplitl [H3]; · iexact H3
    isplitl [H4]; · iexact H4
    isplitl [H6]; · iexact H6
    isplitl [H7]; · iexact H7
    iintro ⟨H0, H1, H2, H3, H4, H6, H7⟩
    rw [hv _ (by rw [h0]; rfl), hx _ _ (by rw [h0]; rfl) (by rw [h0]; rfl)]
    isplitl [H6 H7 Ho]
    · isplitl [H6]
      · iexists _; isplitr; swap; (· iexact H6); ipureintro; exact fun _ => rfl
      isplitl [H7]
      · iexists _; isplitr; swap; (· iexact H7); ipureintro; exact fun _ => rfl
      iexact Ho
    isplitl [Howes]; · iexact Howes
    isplitl [H0]
    · iexists d0
      rw [before2_0, ← (show win2_0.cut (grid2.coords t) ((dat2 V c).after 0 t) = (win2_0.blk t).view.read (Elt F) (V c main_v12_0) from win2_0.cut_fill _ _ _)]
      iexact H0
    isplitl [H1]
    · iexists d1
      rw [before2_1, ← (show win2_1.cut (grid2.coords t) ((dat2 V c).after 1 t) = (win2_1.blk t).view.read (Elt F) (V c main_v11) from win2_1.cut_fill _ _ _)]
      iexact H1
    isplitl [H2]; · iexact H2
    isplitl [H3]; · iexact H3
    iexists d4; iexact H4
  · by_cases hl : t.val = 48
    · have hi : idle2 4 (grid2.coords t) = false := by
        show (!(k2_cond2 (grid2.coords t) == 1#1)) = false
        rw [(last2 t).mpr hl]; rfl
      rw [hi]
      iapply (sample_last c (grid2.coords t) (fun h => h0 ((first2 t).mp h)) ((last2 t).mpr hl) (win2_0.stage (cfg2.slots t 0)) _ (win2_1.stage (cfg2.slots t 1)) _ (win2_2.stage (cfg2.slots t 2)) _ (win2_3.stage (cfg2.slots t 3)) _ (win2_4.stage (cfg2.slots t 4)) _ (Memref.whole cc2_scratch0) _ (Memref.whole cc2_scratch1) _ ((dat2 V c).before 0 t d0) ((dat2 V c).before 1 t d1) (V c main_v12_1) (V c main_v13) ((dat2 V c).before 4 t d4) Y6 Y7)
      isplitl [H0]; · iexact H0
      isplitl [H1]; · iexact H1
      isplitl [H2]; · iexact H2
      isplitl [H3]; · iexact H3
      isplitl [H4]; · iexact H4
      isplitl [H6]; · iexact H6
      isplitl [H7]; · iexact H7
      iintro ⟨H0, H1, H2, H3, H4, H6, H7⟩
      obtain rfl := e6 h0
      obtain rfl := e7 h0
      rw [hv _ rfl, hx _ _ rfl rfl]
      isplitl [H6 H7 Ho]
      · isplitl [H6]
        · iexists _; isplitr; swap; (· iexact H6); ipureintro; exact fun _ => rfl
        isplitl [H7]
        · iexists _; isplitr; swap; (· iexact H7); ipureintro; exact fun _ => rfl
        iexact Ho
      isplitl [Howes]; · iexact Howes
      isplitl [H0]
      · iexists d0
        rw [before2_0, ← (show win2_0.cut (grid2.coords t) ((dat2 V c).after 0 t) = (win2_0.blk t).view.read (Elt F) (V c main_v12_0) from win2_0.cut_fill _ _ _)]
        iexact H0
      isplitl [H1]
      · iexists d1
        rw [before2_1, ← (show win2_1.cut (grid2.coords t) ((dat2 V c).after 1 t) = (win2_1.blk t).view.read (Elt F) (V c main_v11) from win2_1.cut_fill _ _ _)]
        iexact H1
      isplitl [H2]; · iexact H2
      isplitl [H3]; · iexact H3
      rw [show t.val + 1 = 49 by omega]
      iexact H4
    · have hi : idle2 4 (grid2.coords t) = true := by
        have : ¬ k2_cond2 (grid2.coords t) = 1#1 := fun h => hl ((last2 t).mp h)
        show (!(k2_cond2 (grid2.coords t) == 1#1)) = true
        simpa using this
      have hfl : (win2 4).flush t = false := by
        rw [← Bool.not_eq_true]; intro h; have := (flush2_4 t).mp h; omega
      rw [hi, hfl]
      iapply (sample_mid c (grid2.coords t) (fun h => h0 ((first2 t).mp h)) (fun h => hl ((last2 t).mp h)) (win2_0.stage (cfg2.slots t 0)) _ (win2_1.stage (cfg2.slots t 1)) _ (win2_2.stage (cfg2.slots t 2)) _ (win2_3.stage (cfg2.slots t 3)) _ (win2_4.stage (cfg2.slots t 4)) _ (Memref.whole cc2_scratch0) _ (Memref.whole cc2_scratch1) _ ((dat2 V c).before 0 t d0) ((dat2 V c).before 1 t d1) (V c main_v12_1) (V c main_v13) ((dat2 V c).before 4 t d4) Y6 Y7)
      isplitl [H0]; · iexact H0
      isplitl [H1]; · iexact H1
      isplitl [H2]; · iexact H2
      isplitl [H3]; · iexact H3
      isplitl [H4]; · iexact H4
      isplitl [H6]; · iexact H6
      isplitl [H7]; · iexact H7
      iintro ⟨H0, H1, H2, H3, H4, H6, H7⟩
      obtain rfl := e6 h0
      obtain rfl := e7 h0
      rw [hv _ rfl, hx _ _ rfl rfl]
      isplitl [H6 H7 Ho]
      · isplitl [H6]
        · iexists _; isplitr; swap; (· iexact H6); ipureintro; exact fun _ => rfl
        isplitl [H7]
        · iexists _; isplitr; swap; (· iexact H7); ipureintro; exact fun _ => rfl
        iexact Ho
      isplitl [Howes]; · iexact Howes
      isplitl [H0]
      · iexists d0
        rw [before2_0, ← (show win2_0.cut (grid2.coords t) ((dat2 V c).after 0 t) = (win2_0.blk t).view.read (Elt F) (V c main_v12_0) from win2_0.cut_fill _ _ _)]
        iexact H0
      isplitl [H1]
      · iexists d1
        rw [before2_1, ← (show win2_1.cut (grid2.coords t) ((dat2 V c).after 1 t) = (win2_1.blk t).view.read (Elt F) (V c main_v11) from win2_1.cut_fill _ _ _)]
        iexact H1
      isplitl [H2]; · iexact H2
      isplitl [H3]; · iexact H3
      iexists d4; iexact H4

end Cert.KernelIdeal.Run
-- ==== Proof.Ideal.Record2.lean ====
module

public import proofs.«01_k».proof.Proof.Ideal.Region2
public import proofs.«01_k».proof.Proof.Gen.KernelIdeal.Regions

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-! ## Region 2 as a segment of the run: the drawn tokens written -/

variable (V : (c : Dev nD) → (b : Ref sig .tc) → Buf (Elt F) ((c : Thread nD τ).loc b))

/-- The proof data of the pipelines when region 2 runs from the valuation `V`. -/
def pdats2 : (p : Fin 3) → (c : Dev nD) → Dat τ (Elt F) Unit ℕ UU ℕ (Pipeline.pin (pcfgs (F := F)) adm p) c
  | ⟨0,_⟩ => fun c => junkDat c
  | ⟨1,_⟩ => fun c => junkDat c
  | ⟨2,_⟩ => fun c => dat2 V c

/-- The result of region 2 from the valuation `V`. -/
def res2 (c : Dev nD) : Buf (Elt F) ((c : Thread nD τ).loc main_v14) := (best (V c main_v12_0) (V c main_v11) (V c main_v12_1) (V c main_v13) 49).2

/-- The valuation region 2 leaves. -/
def left2 (c : Dev nD) : (b : Ref sig .tc) → Buf (Elt F) ((c : Thread nD τ).loc b) := Function.update (V c) main_v14 (res2 V c)

theorem left2_self (c : Dev nD) : left2 V c main_v14 = res2 V c := Function.update_self _ _ _

theorem left2_ne (c : Dev nD) (b : Ref sig .tc) (h : b ≠ main_v14) : left2 V c b = V c b := Function.update_of_ne h _ _

/-- The result's array after the region: the one block written back, at the last point. -/
theorem final2 (c : Dev nD) : (dat2 V c).arrAt 4 cfg2.N = res2 V c := by
  refine (dat2 V c).arrAt_eq_of_after_last 4 ⟨48, by decide +kernel⟩ (by decide +kernel) _ fun j => ?_
  have e : ((cfg2.win 4).arr.view.emb j) = j := rfl
  rw [e]; rfl

theorem restIn2 (c : Dev nD) : (Pipeline.scopedRest (Ix := Unit) (Name := ℕ) (U := UU) (Lvl := ℕ) (Val := Elt F) spec2 c : sProp 𝕄) ⊢ Φ2 V c 0 := by
  rw [scopedRest2_eq]
  unfold Φ2 oth2
  iintro ⟨H0, H1, H2, H3, H4, H5, H6, H7, H8, H9, H10, H11, H12, H13, H14, H15⟩
  isplitl [H14]
  · icases H14 with ⟨%f, H⟩; iexists f; isplitr
    · ipureintro; exact fun h => absurd rfl h
    · rw [owns_whole_eq]; iexists f; isplitr; · ipureintro; rfl
      iexact H
  isplitl [H15]
  · icases H15 with ⟨%f, H⟩; iexists f; isplitr
    · ipureintro; exact fun h => absurd rfl h
    · rw [owns_whole_eq]; iexists f; isplitr; · ipureintro; rfl
      iexact H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem restOut2 (c : Dev nD) : Φ2 V c cfg2.N ⊢ (Pipeline.scopedRest (Ix := Unit) (Name := ℕ) (U := UU) (Lvl := ℕ) (Val := Elt F) spec2 c : sProp 𝕄) := by
  rw [scopedRest2_eq]
  unfold Φ2 oth2
  simp only [owns_whole_eq]
  iintro ⟨⟨%f', -, %f, -, H14⟩, ⟨%g', -, %g, -, H15⟩, ⟨H0, H1, H2, H3, H4, H5, H6, H7, H8, H9, H10, H11, H12, H13⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists f; iexact H14
  iexists g; iexact H15

set_option backward.isDefEq.respectTransparency.types false in
/-- Region 2 as a segment, entered at `V` and left at `left2 V`. -/
def seg2 : Pipeline.RegionSeg (pcfgs (F := F)) adm (pdats2 V) () defs₀ 𝒱₀ L lv 2 where
  win := launch2.win.to₀
  block_pos := launch2.block_pos
  stage_whole := launch2.stage_whole
  K := PEmpty
  osem k := k.elim
  ho := Pipeline.OwnSemFacts.none _
  hbody c := body2 V c
  hwaits := Pipeline.hwaits_of_owed_zero _ _ _ _ L lv 2 fun _ _ => rfl
  pre c := iprop(unscopedBufs c (V c) ∗ ∃ W, owes (c : Thread nD τ) (0 : CellTallies nD τ sig Unit) W)
  post c := iprop(unscopedBufs c (left2 V c) ∗ ∃ W, owes (c : Thread nD τ) (0 : CellTallies nD τ sig Unit) W)
  X _ := BI.emp
  Y _ := BI.emp
  Z c := Pipeline.unscopedRest (Ix := Unit) (Name := ℕ) (U := UU) (Lvl := ℕ) spec2 c (V c)
  hentry c := by
    rw [Pipeline.ownSems0_none]
    have hsplit := Pipeline.arrays_of_unscopedBufs (p := 2) (pcfgs (F := F)) adm (pdats2 V) launch2.win launch2.arr_whole c
      ((pdats2 V 2 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats2 V 2 c).Φ 0 = Φ2 V c 0 from rfl]
    have h := restIn2 V c
    iintro ⟨-, -, Hr⟩; iapply h; iexact Hr
  hout c := by
    rw [Pipeline.ownSems0_none, show (pdats2 V 2 c).Φ (Fin.last _) = Φ2 V c cfg2.N from rfl]
    have h := restOut2 V c
    iintro Hr
    isplitr; · iempintro
    isplitr; · iempintro
    iapply h; iexact Hr
  hexit c := by
    have hjoin := Pipeline.unscopedBufs_of_arrays (p := 2) (pcfgs (F := F)) adm (Ix := Unit) (Name := ℕ) (U := UU) (Lvl := ℕ) launch2.win launch2.arr_whole c
      (pdats2 V) ((pdats2 V 2 c).share_full fun _ => rfl) (V c) (left2 V c) ((pdats2 V 2 c).arrAt · cfg2.N)
      (fun w => by
        fin_cases w
        · exact ((pdats2 V 2 c).arrAt_in 0 rfl _).trans (left2_ne V c (Pipeline.arrRef spec2 0) (by decide)).symm
        · exact ((pdats2 V 2 c).arrAt_in 1 rfl _).trans (left2_ne V c (Pipeline.arrRef spec2 1) (by decide)).symm
        · exact ((pdats2 V 2 c).arrAt_in 2 rfl _).trans (left2_ne V c (Pipeline.arrRef spec2 2) (by decide)).symm
        · exact ((pdats2 V 2 c).arrAt_in 3 rfl _).trans (left2_ne V c (Pipeline.arrRef spec2 3) (by decide)).symm
        · exact (final2 V c).trans (left2_self V c).symm)
      (fun b hb => left2_ne V c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Run

end
-- ==== Proof.Ideal.Run.lean ====
module

public import proofs.«01_k».proof.Proof.Ideal.Record0
public import proofs.«01_k».proof.Proof.Ideal.Record1
public import proofs.«01_k».proof.Proof.Ideal.Record2
public import Idealize.ShloMosaic.Lib.Pipeline.RegionsForgetR
public import Idealize.ShloMosaic.Lib.Pipeline.RegionsForgetLinks
public import Idealize.ShloMosaic.Lib.HostLoop.Lifted

@[expose] public section

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

open Idealize.ShloMosaic.Pipeline (CSeg Ticket)

/-! ## The buffers' contents between the items -/

variable (m : (ℓ : Loc nD τ sig) → Buf (Elt F) ℓ)

/-- A valuation read at the TensorCore's references. -/
abbrev rd (W : Dev nD → Valuation τ sig (Elt F)) : (c : Dev nD) → (b : Ref sig .tc) → Buf (Elt F) ((c : Thread nD τ).loc b) := fun c b => W c b

/-- The logits and the row maxima: the two arrays whose contents the run decides. -/
abbrev OO : Type := (S64x100000.Idx → Elt F .f32) × (S64x128.Idx → Elt F .f32)

variable (o : OO (F := F))

/-- After region 0. -/
def W3 (c : Dev nD) : Valuation τ sig (Elt F) := Function.update (Function.update (V2 m c) main_v12_0 o.1) main_v12_1 o.2
/-- After region 1. -/
def W4 (c : Dev nD) : Valuation τ sig (Elt F) := Function.update (W3 m o c) main_v13 (res1 (rd (W3 m o)) c)
/-- After region 2. -/
def W5 (c : Dev nD) : Valuation τ sig (Elt F) := Function.update (W4 m o c) main_v14 (res2 (rd (W4 m o)) c)
/-- At the end. -/
def W6 (c : Dev nD) : Valuation τ sig (Elt F) := StableHlo.after hostOps3 (W5 m o c)

theorem rd_update (W : Valuation τ sig (Elt F)) (c : Dev nD) (r : Ref sig .tc) (x : Buf (Elt F) ((c : Thread nD τ).loc r)) :
    (fun b : Ref sig .tc => (Function.update W (Proc.devRef .tc r) x) (Proc.devRef .tc b) : (b : Ref sig .tc) → Buf (Elt F) ((c : Thread nD τ).loc b))
      = Function.update (fun b : Ref sig .tc => (W (Proc.devRef .tc b) : Buf (Elt F) ((c : Thread nD τ).loc b))) r x := by
  funext b
  by_cases h : b = r
  · subst h; exact (Function.update_self (Proc.devRef .tc b) x W).trans (Function.update_self b x (fun b : Ref sig .tc => (W (Proc.devRef .tc b) : Buf (Elt F) ((c : Thread nD τ).loc b)))).symm
  · rw [Function.update_of_ne h]; exact Function.update_of_ne (StableHlo.devRef_ne_of_ne h) _ _

theorem rd_W3 (c : Dev nD) : (fun b : Ref sig .tc => W3 m o c b) = left0 (rd (V2 m)) c o := by
  unfold W3 left0
  rw [rd_update _ c, rd_update _ c]
theorem rd_W4 (c : Dev nD) : (fun b : Ref sig .tc => W4 m o c b) = left1 (rd (W3 m o)) c := by
  unfold W4 left1
  rw [rd_update _ c]
theorem rd_W5 (c : Dev nD) : (fun b : Ref sig .tc => W5 m o c b) = left2 (rd (W4 m o)) c := by
  unfold W5 left2
  rw [rd_update _ c]

/-- No item writes an argument. -/
theorem W6_arg (c : Dev nD) (r : Ref sig .tc) (h6 : r ∉ hostOps3_W) (h5 : r ≠ main_v14) (h4 : r ≠ main_v13) (h3 : r ≠ main_v12_1) (h3' : r ≠ main_v12_0)
    (h2 : r ∉ hostOps0_1_W) (h1 : r ∉ hostOps0_W) : W6 m o c r = m ((c : Thread nD τ).loc r) :=
  (StableHlo.after_of_writes_sub hostOps3 _ hostOps3_writes h6).trans <| (congrFun (rd_W5 m o c) r).trans <| (left2_ne _ c r h5).trans <|
    (congrFun (rd_W4 m o c) r).trans <| (left1_ne _ c r h4).trans <| (congrFun (rd_W3 m o c) r).trans <| (left0_ne _ c o r h3' h3).trans <|
    (V2_of m c r h2).trans (V1_of m c r h1)

/-! ## The segments -/

/-- Each region's ticket: its pipeline and its copy of the library's algebra. -/
def tk (j : Fin 3) : Ticket (Ix := Unit) (Name := ℕ) (U := UU) (Lvl := ℕ) (nD := nD) (τ := τ) (pcfgs (F := F)) adm where
  p := j
  pdats _ c := junkDat c
  EP := embAt j

/-- What rides along: the core owes nothing. -/
abbrev E (c : Dev nD) : sProp 𝕄 := iprop(∃ W, owes (c : Thread nD τ) (0 : CellTallies nD τ sig Unit) W)

/-- The program has no host loop. -/
abbrev loops : Fin 0 → Prog (TpuEff nD τ sig (Elt F) (HostLoop.Sig (Pipeline.Sig Λ₀ (Fin 3) fun p => ((pcfgs (F := F)) p).Adm) 0) .tc) PUnit := fun l => l.elim0

/-- What the two arrays may be after region 0. -/
abbrev sel (o : OO (F := F)) (c : Dev nD) : Prop := Ends0 (rd (V2 m)) c o

abbrev CS : Type _ := CSeg (Ix := Unit) (Name := ℕ) (U := UU) (Lvl := ℕ) (pcfgs (F := F)) adm defs₀ 𝒱₀ L lv (loops (F := F)) tk

theorem sub_all {ops : List (HloOp τ sig (Elt F))} (h : ops.Forall fun op => op.bufs ⊆ StableHlo.tcRefs τ sig) : ∀ op ∈ ops, op.bufs ⊆ Pipeline.ucRefs τ sig :=
  fun op ho => Pipeline.sub_ucRefs op (List.forall_iff_forall_mem.mp h op ho)

theorem fresh_all {ops : List (HloOp τ sig (Elt F))} (h : ops.Forall fun op => op.fresh = ∅) : ∀ op ∈ ops, op.fresh = ∅ := List.forall_iff_forall_mem.mp h

def sA : CS (F := F) := CSeg.ofOps _ _ _ _ _ _ _ _ (Pipeline.ucRefs τ sig) hostOps0 (sub_all hostOps0_sub) (fresh_all hostOps0_fresh) (V0 m) E
def sB : CS (F := F) := CSeg.ofOps _ _ _ _ _ _ _ _ (Pipeline.ucRefs τ sig) hostOps0_1 (sub_all hostOps0_1_sub) (fresh_all hostOps0_1_fresh) (V1 m) E
def sC : CS (F := F) := CSeg.regionAtR _ _ () cellOf_inj _ _ _ _ _ _ (0 : Fin 3) (rdats0 (rd (V2 m))) (seg0 (rd (V2 m)))
def sD : CS (F := F) := CSeg.regionF _ _ () cellOf_inj _ _ _ _ _ _ (1 : Fin 3) (fun o => pdats1 (rd (W3 m o))) (fun o => seg1 (rd (W3 m o))) (sel m)
def sE : CS (F := F) := CSeg.regionF _ _ () cellOf_inj _ _ _ _ _ _ (2 : Fin 3) (fun o => pdats2 (rd (W4 m o))) (fun o => seg2 (rd (W4 m o))) (sel m)
def sF : CS (F := F) := CSeg.exSel (sel m) (fun o => CSeg.ofOps _ _ _ _ _ _ _ _ (Pipeline.ucRefs τ sig) hostOps3 (sub_all hostOps3_sub) (fresh_all hostOps3_fresh) (W5 m o) E)
  (StableHlo.seq hostOps3) (fun _ => rfl) 0 (fun _ => le_rfl) ∅ (fun _ => rfl)

/-- The run's segments. -/
def segs : List (CS (F := F)) := [sA m, sB m, sC m, sD m, sE m, sF m]

/-- The last thread state: every unscoped buffer at a valuation the run may end with. -/
def Tn (c : Dev nD) : sProp 𝕄 := iprop(∃ o, ⌜sel m o c⌝ ∗ StableHlo.held (c : Thread nD τ) (Pipeline.ucRefs τ sig) (W6 m o c))

/-! ## The links -/

theorem link0 (c : Dev nD) : (iprop(StableHlo.held (c : Thread nD τ) (Pipeline.ucRefs τ sig) (V2 m c) ∗ E c) : sProp 𝕄) ⊢ (seg0 (rd (V2 m))).pre c := by
  rw [← Pipeline.unscopedBufs_held (Ix := Unit) (Name := ℕ) (U := UU) (Lvl := ℕ) c (V2 m c)]
  exact .rfl

theorem link1 (c : Dev nD) : ((seg0 (rd (V2 m))).post c : sProp 𝕄) ⊢ (sD m).pre c := by
  show iprop((∃ x, ⌜Ends0 (rd (V2 m)) c x⌝ ∗ unscopedBufs c (left0 (rd (V2 m)) c x)) ∗ E c) ⊢ iprop(∃ o, ⌜sel m o c⌝ ∗ (unscopedBufs c (rd (W3 m o) c) ∗ E c))
  iintro ⟨⟨%x, %hx, Hu⟩, HE⟩
  iexists x
  isplitr; · ipureintro; exact hx
  rw [show rd (W3 m x) c = left0 (rd (V2 m)) c x from rd_W3 m x c]
  isplitl [Hu] <;> iassumption

theorem link2 (c : Dev nD) : ((sD m).post c : sProp 𝕄) ⊢ (sE m).pre c := by
  show iprop(∃ o, ⌜sel m o c⌝ ∗ (unscopedBufs c (left1 (rd (W3 m o)) c) ∗ E c)) ⊢ iprop(∃ o, ⌜sel m o c⌝ ∗ (unscopedBufs c (rd (W4 m o) c) ∗ E c))
  iintro ⟨%x, %hx, Hu⟩
  iexists x
  isplitr; · ipureintro; exact hx
  rw [show rd (W4 m x) c = left1 (rd (W3 m x)) c from rd_W4 m x c]
  iexact Hu

theorem link3 (c : Dev nD) : ((sE m).post c : sProp 𝕄) ⊢ (sF m).pre c := by
  show iprop(∃ o, ⌜sel m o c⌝ ∗ (unscopedBufs c (left2 (rd (W4 m o)) c) ∗ E c))
    ⊢ iprop(∃ o, ⌜sel m o c⌝ ∗ (StableHlo.held (c : Thread nD τ) (Pipeline.ucRefs τ sig) (W5 m o c) ∗ E c))
  iintro ⟨%x, %hx, Hu⟩
  iexists x
  isplitr; · ipureintro; exact hx
  rw [← Pipeline.unscopedBufs_held (Ix := Unit) (Name := ℕ) (U := UU) (Lvl := ℕ) c (W5 m x c), rd_W5]
  iexact Hu

theorem link4 (c : Dev nD) : ((sF m).post c : sProp 𝕄) ⊢ iprop(Tn m c ∗ E c) := by
  show iprop(∃ o, ⌜sel m o c⌝ ∗ (StableHlo.held (c : Thread nD τ) (Pipeline.ucRefs τ sig) (W6 m o c) ∗ E c)) ⊢ _
  unfold Tn
  iintro ⟨%x, %hx, Hu, HE⟩
  isplitl [Hu]
  · iexists x
    isplitr; · ipureintro; exact hx
    iexact Hu
  iexact HE

/-! ## The run -/

/-- What the run ends with on core `c`: the result as region 0's two arrays give it, the arguments unchanged. -/
def Ends (c : Dev nD) (s : MemSt nD τ sig (Elt F)) : Prop :=
  ∃ o : OO (F := F), sel m o c ∧ s.mem ((c : Thread nD τ).loc main_v16) = W6 m o c main_v16
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem main_chainL (c : Dev nD) : HostLoop.liftProg (L := 0) (main (F := F) c) = Pipeline.chain [
    StableHlo.seq hostOps0, StableHlo.seq hostOps0_1, Prog.lift (.customCall (HostLoop.inner (Pipeline.entry 0)) ()),
    Prog.lift (.customCall (HostLoop.inner (Pipeline.entry 1)) ()), Prog.lift (.customCall (HostLoop.inner (Pipeline.entry 2)) ()), StableHlo.seq hostOps3] := by
  rw [Gen.main_chain, HostLoop.liftProg_chain]
  simp only [List.map_cons, List.map_nil, HostLoop.liftProg_seq]
  rfl

theorem read_end (c : Dev nD) (s' : Phys nD τ sig (Elt F)) : iprop(Tn m c ∗ SI s') ⊢ (iprop(⌜Ends m c s'.mem⌝ ∗ SI s') : sProp 𝕄) := by
  unfold Tn StableHlo.held
  iintro ⟨⟨%x, %hx, Hh⟩, HSI⟩
  ihave Hr := (pointsTo_read_all (Pipeline.ucRefs τ sig) (fun b => ((c : Thread nD τ).1, b)) (W6 m x c) s') $$ [Hh HSI]
  · isplitl [Hh] <;> iassumption
  icases Hr with ⟨%h, HSI⟩
  isplitr
  · ipureintro
    have hr : ∀ r : Ref sig .tc, r.isScoped = false → s'.mem.mem ((c : Thread nD τ).loc r) = W6 m x c r := fun r hr =>
      h (Proc.devRef .tc r) (Finset.mem_filter.mpr ⟨StableHlo.devRef_mem_tcRefs r, by rw [Bool.not_eq_true]; exact hr⟩)
    exact ⟨x, hx, hr _ rfl, (hr _ rfl).trans (W6_arg m x c main_arg0 (by decide) (by decide) (by decide) (by decide) (by decide) (by decide) (by decide)),
      (hr _ rfl).trans (W6_arg m x c main_arg1 (by decide) (by decide) (by decide) (by decide) (by decide) (by decide) (by decide)),
      (hr _ rfl).trans (W6_arg m x c main_arg2 (by decide) (by decide) (by decide) (by decide) (by decide) (by decide) (by decide)),
      (hr _ rfl).trans (W6_arg m x c main_arg3 (by decide) (by decide) (by decide) (by decide) (by decide) (by decide) (by decide))⟩
  iexact HSI

/-- The launch element: each region's copy of the library's, and no counter. -/
def u₀ : UU := ((fun _ : Fin 3 => initOf (Pipeline.cells (Pipeline.pin (pcfgs (F := F)) adm) cellOf_inj) (Pipeline.launchToks (Pipeline.pin (pcfgs (F := F)) adm) cellOf_inj)), 1)

theorem deal : (ownU (u₀ (F := F)) : sProp 𝕄) ⊢ |={Set.univ}=> iprop((bigSep Finset.univ fun j : Fin 3 =>
      BI.own ((tk (F := F) j).EP (initOf (Pipeline.cells (Pipeline.pin (pcfgs (F := F)) adm) cellOf_inj) (Pipeline.launchToks (Pipeline.pin (pcfgs (F := F)) adm) cellOf_inj))))
    ∗ bigSep Finset.univ fun _ : Dev nD => (BI.emp : sProp 𝕄)) := by
  unfold u₀
  iintro Hu
  ihave H := (ownU_pair _ _) $$ Hu
  icases H with ⟨HP, -⟩
  imodintro
  isplitl [HP]
  · have h := own_iprod (nD := nD) (τ := τ) (sig := sig) (Ix := Unit) (Val := Elt F) (Name := ℕ) (Lvl := ℕ) (B := Counters)
      (fun _ : Fin 3 => initOf (Pipeline.cells (Pipeline.pin (pcfgs (F := F)) adm) cellOf_inj) (Pipeline.launchToks (Pipeline.pin (pcfgs (F := F)) adm) cellOf_inj))
    iapply h; iexact HP
  iapply (show (BI.emp : sProp 𝕄) ⊢ bigSep Finset.univ (fun _ : Dev nD => (BI.emp : sProp 𝕄)) from by rw [BI.bigSep_emp_const])
  iempintro

theorem start (c : Dev nD) (ρ : Dev nD → PrngReg) : (iprop(unscopedBufs c (fun b => m ((c.tc : Thread nD τ).loc b)) ∗ unscopedSems0 c
      ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
    ⊢ iprop(StableHlo.held (c : Thread nD τ) (Pipeline.ucRefs τ sig) (V0 m c) ∗ E c) := by
  rw [← Pipeline.unscopedBufs_held (Ix := Unit) (Name := ℕ) (U := UU) (Lvl := ℕ) c (V0 m c)]
  iintro ⟨Hu, -, HO, -⟩
  isplitl [Hu]; · iexact Hu
  iexists ∅; iexact HO

/-- EVERY RUN of the program ends as `Ends` says on every core, all its semaphores at zero. -/
theorem run (ρ : Dev nD → PrngReg) : θ_run defs (onTc (τ := τ) (main (F := F))) ⟨m, fun _ => 0, ρ⟩
    (fun r => (∀ c : Dev nD, Ends m c r.2) ∧ r.2.sem = fun _ => 0) := by
  refine HostLoop.θ_run_of_lift loops defs main _ _ ?_
  rw [show (fun d => HostLoop.liftProg (L := 0) (main (F := F) d)) = fun _ => CSeg.runL (segs m) from funext fun d => main_chainL d]
  refine Pipeline.θ_run_regions_loop_kit_dev_sems (pcfgs (F := F)) adm cellOf_inj defs₀ 𝒱₀ L lv loops tk m ρ _ (fun _ => segs m)
    (fun c Q => .rfl) (fun c => ?_) (O₀ := 0) (hL := fun _ _ => rfl) (G := fun _ => BI.emp) (u₀ := u₀) (hu₀ := deal)
    (T₀ := fun c => iprop(StableHlo.held (c : Thread nD τ) (Pipeline.ucRefs τ sig) (V0 m c) ∗ E c)) (Tₙ := Tn m)
    (hch := fun c => ⟨.rfl, .rfl, link0 m c, link1 m c, link2 m c, link3 m c, link4 m c⟩)
    (hinit := ?_) (QY := Ends m) (hfin := fun c s' => ?_) (hQ := fun _ h hz => ⟨h, funext fun g => hz g (.inr (regions_no_unscoped g.2))⟩)
  · have h : ((segs m).map CSeg.T).Pairwise Disjoint := by
      rw [show (segs m).map CSeg.T = [∅, ∅, {0}, {1}, {2}, ∅] from rfl]
      decide
    exact List.pairwise_map.mp h
  · have hsplit : (bigSep Finset.univ fun c : Dev nD => iprop(unscopedBufs c (fun b => m ((c.tc : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (bigSep Finset.univ fun c : Dev nD => iprop(StableHlo.held (c : Thread nD τ) (Pipeline.ucRefs τ sig) (V0 m c) ∗ E c) : sProp 𝕄) :=
      bigSep_mono fun c _ => start m c ρ
    iintro ⟨H, -⟩
    imodintro
    iapply hsplit; iexact H
  · have h := read_end m c s'
    iintro H
    imodintro
    iapply h; iexact H

end Cert.KernelIdeal.Run

end
-- ==== Proof.Ref.Ops.lean ====
module

public import proofs.«01_k».proof.Proof.Gen.ReferenceIdeal
public import Idealize.ShloMosaic.Lib.StableHlo.Run
public import Idealize.ShloMosaic.Lib.Quiescent
public import Idealize.ShloMosaic.Lib.Pipeline.Regions

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! # The reference's operations, in order

The reference launches no kernel: it is a straight line of array operations, listed here a stage at a time. -/

/-- The scaled logits: the product with the transposed table, divided by the temperatures, and their negation. -/
abbrev logitOps : List (HloOp τ sig (Elt F)) :=
  [ unary main_arg1 main_v0 ((transpose S768x100000 [1, 0] · transposes_S100000x768_S768x100000_1_0) : (⟨S100000x768, .f32⟩ : BufTy).Contents (Elt F) → (⟨S768x100000, .f32⟩ : BufTy).Contents (Elt F)),
    binary main_arg0 main_v0 main_v1 ((fun l r => Host.dotGeneral dot_S64x768_S768x100000_S64x100000_1_0_0_1_n_n none l r) : (⟨S64x768, .f32⟩ : BufTy).Contents (Elt F) → (⟨S768x100000, .f32⟩ : BufTy).Contents (Elt F) → (⟨S64x100000, .f32⟩ : BufTy).Contents (Elt F)),
    unary main_arg2 main_v2 (broadcastInDim S64x1 ![0] bcast_S64_S64x1_0 : (⟨S64, .f32⟩ : BufTy).Contents (Elt F) → (⟨S64x1, .f32⟩ : BufTy).Contents (Elt F)),
    unary main_v2 main_v3 (broadcastInDim S64x100000 ![0, 1] bcast_S64x1_S64x100000_0_1 : (⟨S64x1, .f32⟩ : BufTy).Contents (Elt F) → (⟨S64x100000, .f32⟩ : BufTy).Contents (Elt F)),
    binary main_v1 main_v3 main_v4 (Host.divf : (⟨S64x100000, .f32⟩ : BufTy).Contents (Elt F) → (⟨S64x100000, .f32⟩ : BufTy).Contents (Elt F) → (⟨S64x100000, .f32⟩ : BufTy).Contents (Elt F)),
    unary main_v4 main_v5 (Host.negf : (⟨S64x100000, .f32⟩ : BufTy).Contents (Elt F) → (⟨S64x100000, .f32⟩ : BufTy).Contents (Elt F)) ]

/-- What `logitOps` writes, in order. -/
abbrev logitOps_W : List (Ref sig .tc) := [main_v0, main_v1, main_v2, main_v3, main_v4, main_v5]
theorem logitOps_writes : (logitOps : List (HloOp τ sig (Elt F))).Forall fun op => op.writes ⊆ (logitOps_W.map (Proc.devRef (τ := τ) .tc)).toFinset :=
  forall_writes_sub_of_map rfl
theorem logitOps_fresh : (logitOps : List (HloOp τ sig (Elt F))).Forall fun op => op.fresh = ∅ := by
  simp only [List.Forall]; repeat' constructor
theorem logitOps_sub : (logitOps : List (HloOp τ sig (Elt F))).Forall fun op => op.bufs ⊆ tcRefs τ sig :=
  ⟨unary_bufs_sub .., binary_bufs_sub .., unary_bufs_sub .., unary_bufs_sub .., binary_bufs_sub .., unary_bufs_sub ..⟩

/-- The order: the stable sort of the negated logits beside the column numbers. -/
abbrev orderOps : List (HloOp τ sig (Elt F)) :=
  [ TRef.nullary (.of main_call0_v0 : TRef sig ⟨S64x100000, .i32⟩) (iotaInDim S64x100000 32 1),
    TRef.binary (.of main_v5 : TRef sig ⟨S64x100000, .f32⟩) (.of main_call0_v0 : TRef sig ⟨S64x100000, .i32⟩) (.of main_call0_v1_0 : TRef sig ⟨S64x100000, .f32⟩) (fun x y => (Host.sort2 S64x100000 1 comparator_f32_i32_d1 x y).1),
    TRef.binary (.of main_v5 : TRef sig ⟨S64x100000, .f32⟩) (.of main_call0_v0 : TRef sig ⟨S64x100000, .i32⟩) (.of main_v6 : TRef sig ⟨S64x100000, .i32⟩) (fun x y => (Host.sort2 S64x100000 1 comparator_f32_i32_d1 x y).2) ]

/-- What `orderOps` writes, in order. -/
abbrev orderOps_W : List (Ref sig .tc) := [main_call0_v0, main_call0_v1_0, main_v6]
theorem orderOps_writes : (orderOps : List (HloOp τ sig (Elt F))).Forall fun op => op.writes ⊆ (orderOps_W.map (Proc.devRef (τ := τ) .tc)).toFinset :=
  forall_writes_sub_of_map rfl
theorem orderOps_fresh : (orderOps : List (HloOp τ sig (Elt F))).Forall fun op => op.fresh = ∅ := by
  simp only [List.Forall]; repeat' constructor
theorem orderOps_sub : (orderOps : List (HloOp τ sig (Elt F))).Forall fun op => op.bufs ⊆ tcRefs τ sig :=
  ⟨nullary_bufs_sub .., binary_bufs_sub .., binary_bufs_sub ..⟩

/-- The order's column numbers, a negative one counted from the end. -/
abbrev wrapOps : List (HloOp τ sig (Elt F)) :=
  [ TRef.nullary (.of main_call1_c : TRef sig ⟨S_, .i32⟩) (constantI S_ 32 0#32),
    TRef.unary (.of main_call1_c : TRef sig ⟨S_, .i32⟩) (.of main_call1_v0 : TRef sig ⟨S64x100000, .i32⟩) (broadcastInDim S64x100000 ![] bcast_S_S64x100000),
    TRef.binary (.of main_v6 : TRef sig ⟨S64x100000, .i32⟩) (.of main_call1_v0 : TRef sig ⟨S64x100000, .i32⟩) (.of main_call1_v1 : TRef sig ⟨S64x100000, .i1⟩) (cmpi .slt),
    TRef.nullary (.of main_call1_c_0 : TRef sig ⟨S_, .i32⟩) (constantI S_ 32 100000#32),
    TRef.unary (.of main_call1_c_0 : TRef sig ⟨S_, .i32⟩) (.of main_call1_v2 : TRef sig ⟨S64x100000, .i32⟩) (broadcastInDim S64x100000 ![] bcast_S_S64x100000),
    TRef.binary (.of main_v6 : TRef sig ⟨S64x100000, .i32⟩) (.of main_call1_v2 : TRef sig ⟨S64x100000, .i32⟩) (.of main_call1_v3 : TRef sig ⟨S64x100000, .i32⟩) addi,
    TRef.ternary (.of main_call1_v1 : TRef sig ⟨S64x100000, .i1⟩) (.of main_call1_v3 : TRef sig ⟨S64x100000, .i32⟩) (.of main_v6 : TRef sig ⟨S64x100000, .i32⟩) (.of main_call1_v4 : TRef sig ⟨S64x100000, .i32⟩) select,
    TRef.reshape (.of main_call1_v4 : TRef sig ⟨S64x100000, .i32⟩) (.of main_call1_v5 : TRef sig ⟨S64x100000x1, .i32⟩) (rfl : (.i32 : EltTy) = .i32) shapeCasts_S64x100000_S64x100000x1 ]

/-- What `wrapOps` writes, in order. -/
abbrev wrapOps_W : List (Ref sig .tc) := [main_call1_c, main_call1_v0, main_call1_v1, main_call1_c_0, main_call1_v2, main_call1_v3, main_call1_v4, main_call1_v5]
theorem wrapOps_writes : (wrapOps : List (HloOp τ sig (Elt F))).Forall fun op => op.writes ⊆ (wrapOps_W.map (Proc.devRef (τ := τ) .tc)).toFinset :=
  forall_writes_sub_of_map rfl
theorem wrapOps_fresh : (wrapOps : List (HloOp τ sig (Elt F))).Forall fun op => op.fresh = ∅ := by
  simp only [List.Forall]; repeat' constructor
theorem wrapOps_sub : (wrapOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub ..⟩

/-- The logits taken along the order. -/
abbrev sortedOps : List (HloOp τ sig (Elt F)) :=
  [ TRef.nullary (.of main_call1_c_1 : TRef sig ⟨S1, .i32⟩) (constantI S1 32 99999#32),
    TRef.nullary (.of main_call1_c_2 : TRef sig ⟨S_, .i32⟩) (constantI S_ 32 0#32),
    TRef.unary (.of main_call1_c_2 : TRef sig ⟨S_, .i32⟩) (.of main_call1_v6 : TRef sig ⟨S64x100000x1, .i32⟩) (broadcastInDim S64x100000x1 ![] bcast_S_S64x100000x1),
    TRef.binary (.of main_call1_v5 : TRef sig ⟨S64x100000x1, .i32⟩) (.of main_call1_v6 : TRef sig ⟨S64x100000x1, .i32⟩) (.of main_call1_v7 : TRef sig ⟨S64x100000x1, .i1⟩) (cmpi .sge),
    TRef.unary (.of main_call1_c_1 : TRef sig ⟨S1, .i32⟩) (.of main_call1_v8 : TRef sig ⟨S1x1x1, .i32⟩) (broadcastInDim S1x1x1 ![2] bcast_S1_S1x1x1_2),
    TRef.unary (.of main_call1_v8 : TRef sig ⟨S1x1x1, .i32⟩) (.of main_call1_v9 : TRef sig ⟨S64x100000x1, .i32⟩) (broadcastInDim S64x100000x1 ![0, 1, 2] bcast_S1x1x1_S64x100000x1_0_1_2),
    TRef.binary (.of main_call1_v5 : TRef sig ⟨S64x100000x1, .i32⟩) (.of main_call1_v9 : TRef sig ⟨S64x100000x1, .i32⟩) (.of main_call1_v10 : TRef sig ⟨S64x100000x1, .i1⟩) (cmpi .sle),
    TRef.binary (.of main_call1_v7 : TRef sig ⟨S64x100000x1, .i1⟩) (.of main_call1_v10 : TRef sig ⟨S64x100000x1, .i1⟩) (.of main_call1_v11 : TRef sig ⟨S64x100000x1, .i1⟩) andi,
    TRef.nullary (.of main_call1_c_3 : TRef sig ⟨S_, .i1⟩) (constantI S_ 1 1#1),
    TRef.binary (.of main_call1_v11 : TRef sig ⟨S64x100000x1, .i1⟩) (.of main_call1_c_3 : TRef sig ⟨S_, .i1⟩) (.of main_call1_v12 : TRef sig ⟨S64x100000, .i1⟩) (fun x v => Host.reduce IntOp.andi x v reducesTo_S64x100000x1_S64x100000_d2 h_S_),
    TRef.binary (.of main_v4 : TRef sig ⟨S64x100000, .f32⟩) (.of main_call1_v5 : TRef sig ⟨S64x100000x1, .i32⟩) (.of main_call1_v13 : TRef sig ⟨S64x100000, .f32⟩) (fun x i => Host.gather gather_S64x100000_S64x100000x1_S64x100000_n_1_0_0_1_2_11 x i),
    TRef.nullary (.of main_call1_cst : TRef sig ⟨S_, .f32⟩) (constant S_ .f32 0x7FC00000#32),
    TRef.unary (.of main_call1_cst : TRef sig ⟨S_, .f32⟩) (.of main_call1_v14 : TRef sig ⟨S64x100000, .f32⟩) (broadcastInDim S64x100000 ![] bcast_S_S64x100000),
    TRef.ternary (.of main_call1_v12 : TRef sig ⟨S64x100000, .i1⟩) (.of main_call1_v13 : TRef sig ⟨S64x100000, .f32⟩) (.of main_call1_v14 : TRef sig ⟨S64x100000, .f32⟩) (.of main_v7 : TRef sig ⟨S64x100000, .f32⟩) select ]

/-- What `sortedOps` writes, in order. -/
abbrev sortedOps_W : List (Ref sig .tc) := [main_call1_c_1, main_call1_c_2, main_call1_v6, main_call1_v7, main_call1_v8, main_call1_v9, main_call1_v10, main_call1_v11, main_call1_c_3, main_call1_v12, main_call1_v13, main_call1_cst, main_call1_v14, main_v7]
theorem sortedOps_writes : (sortedOps : List (HloOp τ sig (Elt F))).Forall fun op => op.writes ⊆ (sortedOps_W.map (Proc.devRef (τ := τ) .tc)).toFinset :=
  forall_writes_sub_of_map rfl
theorem sortedOps_fresh : (sortedOps : List (HloOp τ sig (Elt F))).Forall fun op => op.fresh = ∅ := by
  simp only [List.Forall]; repeat' constructor
theorem sortedOps_sub : (sortedOps : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The softmax of the sorted logits and its running sum. -/
abbrev massOps : List (HloOp τ sig (Elt F)) :=
  [ nullary main_cst (constant S_ .f32 0xFF800000#32),
    binary main_v7 main_cst main_v8 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    nullary main_cst_0 (constant S_ .f32 0xFF800000#32),
    unary main_cst_0 main_v9 (broadcastInDim S64 ![] bcast_S_S64 : (⟨S_, .f32⟩ : BufTy).Contents (Elt F) → (⟨S64, .f32⟩ : BufTy).Contents (Elt F)),
    binary main_v9 main_v8 main_v10 (maximumf : (⟨S64, .f32⟩ : BufTy).Contents (Elt F) → (⟨S64, .f32⟩ : BufTy).Contents (Elt F) → (⟨S64, .f32⟩ : BufTy).Contents (Elt F)),
    unary main_v10 main_v11 (broadcastInDim S64x1 ![0] bcast_S64_S64x1_0 : (⟨S64, .f32⟩ : BufTy).Contents (Elt F) → (⟨S64x1, .f32⟩ : BufTy).Contents (Elt F)),
    unary main_v11 main_v12 (broadcastInDim S64x100000 ![0, 1] bcast_S64x1_S64x100000_0_1 : (⟨S64x1, .f32⟩ : BufTy).Contents (Elt F) → (⟨S64x100000, .f32⟩ : BufTy).Contents (Elt F)),
    binary main_v7 main_v12 main_v13 (subf : (⟨S64x100000, .f32⟩ : BufTy).Contents (Elt F) → (⟨S64x100000, .f32⟩ : BufTy).Contents (Elt F) → (⟨S64x100000, .f32⟩ : BufTy).Contents (Elt F)),
    unary main_v13 main_v14 (Host.exp : (⟨S64x100000, .f32⟩ : BufTy).Contents (Elt F) → (⟨S64x100000, .f32⟩ : BufTy).Contents (Elt F)),
    nullary main_cst_1 (constant S_ .f32 0x00000000#32),
    binary main_v14 main_cst_1 main_v15 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    unary main_v15 main_v16 (broadcastInDim S64x1 ![0] bcast_S64_S64x1_0 : (⟨S64, .f32⟩ : BufTy).Contents (Elt F) → (⟨S64x1, .f32⟩ : BufTy).Contents (Elt F)),
    unary main_v16 main_v17 (broadcastInDim S64x100000 ![0, 1] bcast_S64x1_S64x100000_0_1 : (⟨S64x1, .f32⟩ : BufTy).Contents (Elt F) → (⟨S64x100000, .f32⟩ : BufTy).Contents (Elt F)),
    binary main_v14 main_v17 main_v18 (Host.divf : (⟨S64x100000, .f32⟩ : BufTy).Contents (Elt F) → (⟨S64x100000, .f32⟩ : BufTy).Contents (Elt F) → (⟨S64x100000, .f32⟩ : BufTy).Contents (Elt F)),
    TRef.nullary (.of main_call2_call0_cst : TRef sig ⟨S_, .f32⟩) (constant S_ .f32 0x00000000#32),
    TRef.unary (.of main_call2_call0_cst : TRef sig ⟨S_, .f32⟩) (.of main_call2_call0_v0 : TRef sig ⟨S_, .f32⟩) (broadcastInDim S_ ![] bcast_S_S_),
    TRef.binary (.of main_v18 : TRef sig ⟨S64x100000, .f32⟩) (.of main_call2_call0_v0 : TRef sig ⟨S_, .f32⟩) (.of main_v19 : TRef sig ⟨S64x100000, .f32⟩) (fun x v => Host.reduceWindowAdd ![1, 100000] ![1, 1] ![0, 99999] ![0, 0] x v reduceWindows_S64x100000_S64x100000_w1s1p0_0_w100000s1p99999_0 h_S_) ]

/-- What `massOps` writes, in order. -/
abbrev massOps_W : List (Ref sig .tc) := [main_cst, main_v8, main_cst_0, main_v9, main_v10, main_v11, main_v12, main_v13, main_v14, main_cst_1, main_v15, main_v16, main_v17, main_v18, main_call2_call0_cst, main_call2_call0_v0, main_v19]
theorem massOps_writes : (massOps : List (HloOp τ sig (Elt F))).Forall fun op => op.writes ⊆ (massOps_W.map (Proc.devRef (τ := τ) .tc)).toFinset :=
  forall_writes_sub_of_map rfl
theorem massOps_fresh : (massOps : List (HloOp τ sig (Elt F))).Forall fun op => op.fresh = ∅ := by
  simp only [List.Forall]; repeat' constructor
theorem massOps_sub : (massOps : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub ..⟩

/-- The mass before each sorted position against the bound, and the logits past it masked out. -/
abbrev keepOps : List (HloOp τ sig (Elt F)) :=
  [ binary main_v19 main_v18 main_v20 (subf : (⟨S64x100000, .f32⟩ : BufTy).Contents (Elt F) → (⟨S64x100000, .f32⟩ : BufTy).Contents (Elt F) → (⟨S64x100000, .f32⟩ : BufTy).Contents (Elt F)),
    unary main_arg3 main_v21 (broadcastInDim S64x1 ![0] bcast_S64_S64x1_0 : (⟨S64, .f32⟩ : BufTy).Contents (Elt F) → (⟨S64x1, .f32⟩ : BufTy).Contents (Elt F)),
    unary main_v21 main_v22 (broadcastInDim S64x100000 ![0, 1] bcast_S64x1_S64x100000_0_1 : (⟨S64x1, .f32⟩ : BufTy).Contents (Elt F) → (⟨S64x100000, .f32⟩ : BufTy).Contents (Elt F)),
    binary main_v20 main_v22 main_v23 (cmpf .ogt : (⟨S64x100000, .f32⟩ : BufTy).Contents (Elt F) → (⟨S64x100000, .f32⟩ : BufTy).Contents (Elt F) → (⟨S64x100000, .i1⟩ : BufTy).Contents (Elt F)),
    nullary main_cst_2 (constant S_ .f32 0xFF800000#32),
    TRef.unary (.of main_cst_2 : TRef sig ⟨S_, .f32⟩) (.of main_call3_v0 : TRef sig ⟨S_, .f32⟩) id,
    TRef.unary (.of main_call3_v0 : TRef sig ⟨S_, .f32⟩) (.of main_call3_v1 : TRef sig ⟨S64x100000, .f32⟩) (broadcastInDim S64x100000 ![] bcast_S_S64x100000),
    TRef.ternary (.of main_v23 : TRef sig ⟨S64x100000, .i1⟩) (.of main_call3_v1 : TRef sig ⟨S64x100000, .f32⟩) (.of main_v7 : TRef sig ⟨S64x100000, .f32⟩) (.of main_v24 : TRef sig ⟨S64x100000, .f32⟩) select ]

/-- What `keepOps` writes, in order. -/
abbrev keepOps_W : List (Ref sig .tc) := [main_v20, main_v21, main_v22, main_v23, main_cst_2, main_call3_v0, main_call3_v1, main_v24]
theorem keepOps_writes : (keepOps : List (HloOp τ sig (Elt F))).Forall fun op => op.writes ⊆ (keepOps_W.map (Proc.devRef (τ := τ) .tc)).toFinset :=
  forall_writes_sub_of_map rfl
theorem keepOps_fresh : (keepOps : List (HloOp τ sig (Elt F))).Forall fun op => op.fresh = ∅ := by
  simp only [List.Forall]; repeat' constructor
theorem keepOps_sub : (keepOps : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub ..⟩

/-- The inverse order: the sort of the order beside the column numbers. -/
abbrev inverseOps : List (HloOp τ sig (Elt F)) :=
  [ TRef.nullary (.of main_call4_v0 : TRef sig ⟨S64x100000, .i32⟩) (iotaInDim S64x100000 32 1),
    TRef.binary (.of main_v6 : TRef sig ⟨S64x100000, .i32⟩) (.of main_call4_v0 : TRef sig ⟨S64x100000, .i32⟩) (.of main_call4_v1_0 : TRef sig ⟨S64x100000, .i32⟩) (fun x y => (Host.sort2 S64x100000 1 comparator_i32_i32_d1 x y).1),
    TRef.binary (.of main_v6 : TRef sig ⟨S64x100000, .i32⟩) (.of main_call4_v0 : TRef sig ⟨S64x100000, .i32⟩) (.of main_v25 : TRef sig ⟨S64x100000, .i32⟩) (fun x y => (Host.sort2 S64x100000 1 comparator_i32_i32_d1 x y).2) ]

/-- What `inverseOps` writes, in order. -/
abbrev inverseOps_W : List (Ref sig .tc) := [main_call4_v0, main_call4_v1_0, main_v25]
theorem inverseOps_writes : (inverseOps : List (HloOp τ sig (Elt F))).Forall fun op => op.writes ⊆ (inverseOps_W.map (Proc.devRef (τ := τ) .tc)).toFinset :=
  forall_writes_sub_of_map rfl
theorem inverseOps_fresh : (inverseOps : List (HloOp τ sig (Elt F))).Forall fun op => op.fresh = ∅ := by
  simp only [List.Forall]; repeat' constructor
theorem inverseOps_sub : (inverseOps : List (HloOp τ sig (Elt F))).Forall fun op => op.bufs ⊆ tcRefs τ sig :=
  ⟨nullary_bufs_sub .., binary_bufs_sub .., binary_bufs_sub ..⟩

/-- The inverse order's positions, a negative one counted from the end. -/
abbrev wrapBackOps : List (HloOp τ sig (Elt F)) :=
  [ TRef.nullary (.of main_call5_c : TRef sig ⟨S_, .i32⟩) (constantI S_ 32 0#32),
    TRef.unary (.of main_call5_c : TRef sig ⟨S_, .i32⟩) (.of main_call5_v0 : TRef sig ⟨S64x100000, .i32⟩) (broadcastInDim S64x100000 ![] bcast_S_S64x100000),
    TRef.binary (.of main_v25 : TRef sig ⟨S64x100000, .i32⟩) (.of main_call5_v0 : TRef sig ⟨S64x100000, .i32⟩) (.of main_call5_v1 : TRef sig ⟨S64x100000, .i1⟩) (cmpi .slt),
    TRef.nullary (.of main_call5_c_0 : TRef sig ⟨S_, .i32⟩) (constantI S_ 32 100000#32),
    TRef.unary (.of main_call5_c_0 : TRef sig ⟨S_, .i32⟩) (.of main_call5_v2 : TRef sig ⟨S64x100000, .i32⟩) (broadcastInDim S64x100000 ![] bcast_S_S64x100000),
    TRef.binary (.of main_v25 : TRef sig ⟨S64x100000, .i32⟩) (.of main_call5_v2 : TRef sig ⟨S64x100000, .i32⟩) (.of main_call5_v3 : TRef sig ⟨S64x100000, .i32⟩) addi,
    TRef.ternary (.of main_call5_v1 : TRef sig ⟨S64x100000, .i1⟩) (.of main_call5_v3 : TRef sig ⟨S64x100000, .i32⟩) (.of main_v25 : TRef sig ⟨S64x100000, .i32⟩) (.of main_call5_v4 : TRef sig ⟨S64x100000, .i32⟩) select,
    TRef.reshape (.of main_call5_v4 : TRef sig ⟨S64x100000, .i32⟩) (.of main_call5_v5 : TRef sig ⟨S64x100000x1, .i32⟩) (rfl : (.i32 : EltTy) = .i32) shapeCasts_S64x100000_S64x100000x1 ]

/-- What `wrapBackOps` writes, in order. -/
abbrev wrapBackOps_W : List (Ref sig .tc) := [main_call5_c, main_call5_v0, main_call5_v1, main_call5_c_0, main_call5_v2, main_call5_v3, main_call5_v4, main_call5_v5]
theorem wrapBackOps_writes : (wrapBackOps : List (HloOp τ sig (Elt F))).Forall fun op => op.writes ⊆ (wrapBackOps_W.map (Proc.devRef (τ := τ) .tc)).toFinset :=
  forall_writes_sub_of_map rfl
theorem wrapBackOps_fresh : (wrapBackOps : List (HloOp τ sig (Elt F))).Forall fun op => op.fresh = ∅ := by
  simp only [List.Forall]; repeat' constructor
theorem wrapBackOps_sub : (wrapBackOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub ..⟩

/-- The masked logits taken back to their columns. -/
abbrev backOps : List (HloOp τ sig (Elt F)) :=
  [ TRef.nullary (.of main_call5_c_1 : TRef sig ⟨S1, .i32⟩) (constantI S1 32 99999#32),
    TRef.nullary (.of main_call5_c_2 : TRef sig ⟨S_, .i32⟩) (constantI S_ 32 0#32),
    TRef.unary (.of main_call5_c_2 : TRef sig ⟨S_, .i32⟩) (.of main_call5_v6 : TRef sig ⟨S64x100000x1, .i32⟩) (broadcastInDim S64x100000x1 ![] bcast_S_S64x100000x1),
    TRef.binary (.of main_call5_v5 : TRef sig ⟨S64x100000x1, .i32⟩) (.of main_call5_v6 : TRef sig ⟨S64x100000x1, .i32⟩) (.of main_call5_v7 : TRef sig ⟨S64x100000x1, .i1⟩) (cmpi .sge),
    TRef.unary (.of main_call5_c_1 : TRef sig ⟨S1, .i32⟩) (.of main_call5_v8 : TRef sig ⟨S1x1x1, .i32⟩) (broadcastInDim S1x1x1 ![2] bcast_S1_S1x1x1_2),
    TRef.unary (.of main_call5_v8 : TRef sig ⟨S1x1x1, .i32⟩) (.of main_call5_v9 : TRef sig ⟨S64x100000x1, .i32⟩) (broadcastInDim S64x100000x1 ![0, 1, 2] bcast_S1x1x1_S64x100000x1_0_1_2),
    TRef.binary (.of main_call5_v5 : TRef sig ⟨S64x100000x1, .i32⟩) (.of main_call5_v9 : TRef sig ⟨S64x100000x1, .i32⟩) (.of main_call5_v10 : TRef sig ⟨S64x100000x1, .i1⟩) (cmpi .sle),
    TRef.binary (.of main_call5_v7 : TRef sig ⟨S64x100000x1, .i1⟩) (.of main_call5_v10 : TRef sig ⟨S64x100000x1, .i1⟩) (.of main_call5_v11 : TRef sig ⟨S64x100000x1, .i1⟩) andi,
    TRef.nullary (.of main_call5_c_3 : TRef sig ⟨S_, .i1⟩) (constantI S_ 1 1#1),
    TRef.binary (.of main_call5_v11 : TRef sig ⟨S64x100000x1, .i1⟩) (.of main_call5_c_3 : TRef sig ⟨S_, .i1⟩) (.of main_call5_v12 : TRef sig ⟨S64x100000, .i1⟩) (fun x v => Host.reduce IntOp.andi x v reducesTo_S64x100000x1_S64x100000_d2 h_S_),
    TRef.binary (.of main_v24 : TRef sig ⟨S64x100000, .f32⟩) (.of main_call5_v5 : TRef sig ⟨S64x100000x1, .i32⟩) (.of main_call5_v13 : TRef sig ⟨S64x100000, .f32⟩) (fun x i => Host.gather gather_S64x100000_S64x100000x1_S64x100000_n_1_0_0_1_2_11 x i),
    TRef.nullary (.of main_call5_cst : TRef sig ⟨S_, .f32⟩) (constant S_ .f32 0x7FC00000#32),
    TRef.unary (.of main_call5_cst : TRef sig ⟨S_, .f32⟩) (.of main_call5_v14 : TRef sig ⟨S64x100000, .f32⟩) (broadcastInDim S64x100000 ![] bcast_S_S64x100000),
    TRef.ternary (.of main_call5_v12 : TRef sig ⟨S64x100000, .i1⟩) (.of main_call5_v13 : TRef sig ⟨S64x100000, .f32⟩) (.of main_call5_v14 : TRef sig ⟨S64x100000, .f32⟩) (.of main_v26 : TRef sig ⟨S64x100000, .f32⟩) select ]

/-- What `backOps` writes, in order. -/
abbrev backOps_W : List (Ref sig .tc) := [main_call5_c_1, main_call5_c_2, main_call5_v6, main_call5_v7, main_call5_v8, main_call5_v9, main_call5_v10, main_call5_v11, main_call5_c_3, main_call5_v12, main_call5_v13, main_call5_cst, main_call5_v14, main_v26]
theorem backOps_writes : (backOps : List (HloOp τ sig (Elt F))).Forall fun op => op.writes ⊆ (backOps_W.map (Proc.devRef (τ := τ) .tc)).toFinset :=
  forall_writes_sub_of_map rfl
theorem backOps_fresh : (backOps : List (HloOp τ sig (Elt F))).Forall fun op => op.fresh = ∅ := by
  simp only [List.Forall]; repeat' constructor
theorem backOps_sub : (backOps : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The key of the noise. -/
abbrev keyOps : List (HloOp τ sig (Elt F)) :=
  [ nullary main_c (constantI S_ 32 42#32),
    nullary main_c_3 (constantI S_ 32 32#32),
    binary main_c main_c_3 main_v27 (Host.shrui : (⟨S_, .i32⟩ : BufTy).Contents (Elt F) → (⟨S_, .i32⟩ : BufTy).Contents (Elt F) → (⟨S_, .i32⟩ : BufTy).Contents (Elt F)),
    unary main_v27 main_v28 (id : (⟨S_, .i32⟩ : BufTy).Contents (Elt F) → (⟨S_, .i32⟩ : BufTy).Contents (Elt F)),
    unary main_v28 main_v29 (broadcastInDim S1 ![] bcast_S_S1 : (⟨S_, .i32⟩ : BufTy).Contents (Elt F) → (⟨S1, .i32⟩ : BufTy).Contents (Elt F)),
    nullary main_c_4 (constantI S_ 32 4294967295#32),
    binary main_c main_c_4 main_v30 (andi : (⟨S_, .i32⟩ : BufTy).Contents (Elt F) → (⟨S_, .i32⟩ : BufTy).Contents (Elt F) → (⟨S_, .i32⟩ : BufTy).Contents (Elt F)),
    unary main_v30 main_v31 (id : (⟨S_, .i32⟩ : BufTy).Contents (Elt F) → (⟨S_, .i32⟩ : BufTy).Contents (Elt F)),
    unary main_v31 main_v32 (broadcastInDim S1 ![] bcast_S_S1 : (⟨S_, .i32⟩ : BufTy).Contents (Elt F) → (⟨S1, .i32⟩ : BufTy).Contents (Elt F)),
    binary main_v29 main_v32 main_v33 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- What `keyOps` writes, in order. -/
abbrev keyOps_W : List (Ref sig .tc) := [main_c, main_c_3, main_v27, main_v28, main_v29, main_c_4, main_v30, main_v31, main_v32, main_v33]
theorem keyOps_writes : (keyOps : List (HloOp τ sig (Elt F))).Forall fun op => op.writes ⊆ (keyOps_W.map (Proc.devRef (τ := τ) .tc)).toFinset :=
  forall_writes_sub_of_map rfl
theorem keyOps_fresh : (keyOps : List (HloOp τ sig (Elt F))).Forall fun op => op.fresh = ∅ := by
  simp only [List.Forall]; repeat' constructor
theorem keyOps_sub : (keyOps : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub ..⟩

/-- The noise, stage 1 of 12. -/
abbrev noiseOps0 : List (HloOp τ sig (Elt F)) :=
  [ TRef.nullary (.of main_call6_cst : TRef sig ⟨S_, .f32⟩) (constant S_ .f32 0x3F800000#32),
    TRef.nullary (.of main_call6_cst_0 : TRef sig ⟨S_, .f32⟩) (constant S_ .f32 0x00800000#32),
    TRef.unary (.of main_call6_cst : TRef sig ⟨S_, .f32⟩) (.of main_call6_call0_v0 : TRef sig ⟨S_, .f32⟩) id,
    TRef.unary (.of main_call6_cst_0 : TRef sig ⟨S_, .f32⟩) (.of main_call6_call0_v1 : TRef sig ⟨S1x1, .f32⟩) (broadcastInDim S1x1 ![] bcast_S_S1x1),
    TRef.unary (.of main_call6_call0_v0 : TRef sig ⟨S_, .f32⟩) (.of main_call6_call0_v2 : TRef sig ⟨S1x1, .f32⟩) (broadcastInDim S1x1 ![] bcast_S_S1x1),
    TRef.unary (.of main_v33 : TRef sig ⟨S2, .i32⟩) (.of main_call6_call0_v3 : TRef sig ⟨S1, .i32⟩) (extractStridedSlice S1 ![0] · slices_S2_S1_0),
    TRef.reshape (.of main_call6_call0_v3 : TRef sig ⟨S1, .i32⟩) (.of main_call6_call0_v4 : TRef sig ⟨S_, .i32⟩) (rfl : (.i32 : EltTy) = .i32) shapeCasts_S1_S_,
    TRef.unary (.of main_v33 : TRef sig ⟨S2, .i32⟩) (.of main_call6_call0_v5 : TRef sig ⟨S1, .i32⟩) (extractStridedSlice S1 ![1] · slices_S2_S1_1),
    TRef.reshape (.of main_call6_call0_v5 : TRef sig ⟨S1, .i32⟩) (.of main_call6_call0_v6 : TRef sig ⟨S_, .i32⟩) (rfl : (.i32 : EltTy) = .i32) shapeCasts_S1_S_,
    TRef.nullary (.of main_call6_call0_v7 : TRef sig ⟨S64x100000, .i64⟩) (iotaInDim S64x100000 64 0),
    TRef.nullary (.of main_call6_call0_v8 : TRef sig ⟨S64x100000, .i64⟩) (iotaInDim S64x100000 64 1),
    TRef.nullary (.of main_call6_call0_c : TRef sig ⟨S_, .i64⟩) (constantI S_ 64 100000#64),
    TRef.unary (.of main_call6_call0_c : TRef sig ⟨S_, .i64⟩) (.of main_call6_call0_v9 : TRef sig ⟨S64x100000, .i64⟩) (broadcastInDim S64x100000 ![] bcast_S_S64x100000),
    TRef.binary (.of main_call6_call0_v9 : TRef sig ⟨S64x100000, .i64⟩) (.of main_call6_call0_v7 : TRef sig ⟨S64x100000, .i64⟩) (.of main_call6_call0_v10 : TRef sig ⟨S64x100000, .i64⟩) muli,
    TRef.nullary (.of main_call6_call0_c_0 : TRef sig ⟨S_, .i64⟩) (constantI S_ 64 1#64),
    TRef.unary (.of main_call6_call0_c_0 : TRef sig ⟨S_, .i64⟩) (.of main_call6_call0_v11 : TRef sig ⟨S64x100000, .i64⟩) (broadcastInDim S64x100000 ![] bcast_S_S64x100000),
    TRef.binary (.of main_call6_call0_v11 : TRef sig ⟨S64x100000, .i64⟩) (.of main_call6_call0_v8 : TRef sig ⟨S64x100000, .i64⟩) (.of main_call6_call0_v12 : TRef sig ⟨S64x100000, .i64⟩) muli,
    TRef.binary (.of main_call6_call0_v10 : TRef sig ⟨S64x100000, .i64⟩) (.of main_call6_call0_v12 : TRef sig ⟨S64x100000, .i64⟩) (.of main_call6_call0_v13 : TRef sig ⟨S64x100000, .i64⟩) addi,
    TRef.nullary (.of main_call6_call0_c_1 : TRef sig ⟨S_, .i64⟩) (constantI S_ 64 32#64),
    TRef.unary (.of main_call6_call0_c_1 : TRef sig ⟨S_, .i64⟩) (.of main_call6_call0_v14 : TRef sig ⟨S64x100000, .i64⟩) (broadcastInDim S64x100000 ![] bcast_S_S64x100000),
    TRef.binary (.of main_call6_call0_v13 : TRef sig ⟨S64x100000, .i64⟩) (.of main_call6_call0_v14 : TRef sig ⟨S64x100000, .i64⟩) (.of main_call6_call0_v15 : TRef sig ⟨S64x100000, .i64⟩) Host.shrui,
    TRef.unary (.of main_call6_call0_v13 : TRef sig ⟨S64x100000, .i64⟩) (.of main_call6_call0_v16 : TRef sig ⟨S64x100000, .i32⟩) (trunci 32 · natLt_32_64),
    TRef.unary (.of main_call6_call0_v15 : TRef sig ⟨S64x100000, .i64⟩) (.of main_call6_call0_v17 : TRef sig ⟨S64x100000, .i32⟩) (trunci 32 · natLt_32_64) ]

/-- What `noiseOps0` writes, in order. -/
abbrev noiseOps0_W : List (Ref sig .tc) := [main_call6_cst, main_call6_cst_0, main_call6_call0_v0, main_call6_call0_v1, main_call6_call0_v2, main_call6_call0_v3, main_call6_call0_v4, main_call6_call0_v5, main_call6_call0_v6, main_call6_call0_v7, main_call6_call0_v8, main_call6_call0_c, main_call6_call0_v9, main_call6_call0_v10, main_call6_call0_c_0, main_call6_call0_v11, main_call6_call0_v12, main_call6_call0_v13, main_call6_call0_c_1, main_call6_call0_v14, main_call6_call0_v15, main_call6_call0_v16, main_call6_call0_v17]
theorem noiseOps0_writes : (noiseOps0 : List (HloOp τ sig (Elt F))).Forall fun op => op.writes ⊆ (noiseOps0_W.map (Proc.devRef (τ := τ) .tc)).toFinset :=
  forall_writes_sub_of_map rfl
theorem noiseOps0_fresh : (noiseOps0 : List (HloOp τ sig (Elt F))).Forall fun op => op.fresh = ∅ := by
  simp only [List.Forall]; repeat' constructor
theorem noiseOps0_sub : (noiseOps0 : List (HloOp τ sig (Elt F))).Forall fun op => op.bufs ⊆ tcRefs τ sig :=
  ⟨nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub ..⟩

/-- The noise, stage 2 of 12. -/
abbrev noiseOps1 : List (HloOp τ sig (Elt F)) :=
  [ TRef.binary (.of main_call6_call0_v4 : TRef sig ⟨S_, .i32⟩) (.of main_call6_call0_v6 : TRef sig ⟨S_, .i32⟩) (.of main_call6_call0_call0_v0 : TRef sig ⟨S_, .i32⟩) xori,
    TRef.nullary (.of main_call6_call0_call0_c : TRef sig ⟨S_, .i32⟩) (constantI S_ 32 466688986#32),
    TRef.binary (.of main_call6_call0_call0_v0 : TRef sig ⟨S_, .i32⟩) (.of main_call6_call0_call0_c : TRef sig ⟨S_, .i32⟩) (.of main_call6_call0_call0_v1 : TRef sig ⟨S_, .i32⟩) xori,
    TRef.unary (.of main_call6_call0_v4 : TRef sig ⟨S_, .i32⟩) (.of main_call6_call0_call0_v2 : TRef sig ⟨S64x100000, .i32⟩) (broadcastInDim S64x100000 ![] bcast_S_S64x100000),
    TRef.binary (.of main_call6_call0_v17 : TRef sig ⟨S64x100000, .i32⟩) (.of main_call6_call0_call0_v2 : TRef sig ⟨S64x100000, .i32⟩) (.of main_call6_call0_call0_v3 : TRef sig ⟨S64x100000, .i32⟩) addi,
    TRef.unary (.of main_call6_call0_v6 : TRef sig ⟨S_, .i32⟩) (.of main_call6_call0_call0_v4 : TRef sig ⟨S64x100000, .i32⟩) (broadcastInDim S64x100000 ![] bcast_S_S64x100000),
    TRef.binary (.of main_call6_call0_v16 : TRef sig ⟨S64x100000, .i32⟩) (.of main_call6_call0_call0_v4 : TRef sig ⟨S64x100000, .i32⟩) (.of main_call6_call0_call0_v5 : TRef sig ⟨S64x100000, .i32⟩) addi,
    TRef.binary (.of main_call6_call0_call0_v3 : TRef sig ⟨S64x100000, .i32⟩) (.of main_call6_call0_call0_v5 : TRef sig ⟨S64x100000, .i32⟩) (.of main_call6_call0_call0_v6 : TRef sig ⟨S64x100000, .i32⟩) addi,
    TRef.nullary (.of main_call6_call0_call0_c_0 : TRef sig ⟨S_, .i32⟩) (constantI S_ 32 13#32),
    TRef.unary (.of main_call6_call0_call0_c_0 : TRef sig ⟨S_, .i32⟩) (.of main_call6_call0_call0_v7 : TRef sig ⟨S64x100000, .i32⟩) (broadcastInDim S64x100000 ![] bcast_S_S64x100000),
    TRef.binary (.of main_call6_call0_call0_v5 : TRef sig ⟨S64x100000, .i32⟩) (.of main_call6_call0_call0_v7 : TRef sig ⟨S64x100000, .i32⟩) (.of main_call6_call0_call0_v8 : TRef sig ⟨S64x100000, .i32⟩) Host.shli,
    TRef.nullary (.of main_call6_call0_call0_c_1 : TRef sig ⟨S_, .i32⟩) (constantI S_ 32 19#32),
    TRef.unary (.of main_call6_call0_call0_c_1 : TRef sig ⟨S_, .i32⟩) (.of main_call6_call0_call0_v9 : TRef sig ⟨S64x100000, .i32⟩) (broadcastInDim S64x100000 ![] bcast_S_S64x100000),
    TRef.binary (.of main_call6_call0_call0_v5 : TRef sig ⟨S64x100000, .i32⟩) (.of main_call6_call0_call0_v9 : TRef sig ⟨S64x100000, .i32⟩) (.of main_call6_call0_call0_v10 : TRef sig ⟨S64x100000, .i32⟩) Host.shrui,
    TRef.binary (.of main_call6_call0_call0_v8 : TRef sig ⟨S64x100000, .i32⟩) (.of main_call6_call0_call0_v10 : TRef sig ⟨S64x100000, .i32⟩) (.of main_call6_call0_call0_v11 : TRef sig ⟨S64x100000, .i32⟩) ori,
    TRef.binary (.of main_call6_call0_call0_v6 : TRef sig ⟨S64x100000, .i32⟩) (.of main_call6_call0_call0_v11 : TRef sig ⟨S64x100000, .i32⟩) (.of main_call6_call0_call0_v12 : TRef sig ⟨S64x100000, .i32⟩) xori,
    TRef.binary (.of main_call6_call0_call0_v6 : TRef sig ⟨S64x100000, .i32⟩) (.of main_call6_call0_call0_v12 : TRef sig ⟨S64x100000, .i32⟩) (.of main_call6_call0_call0_v13 : TRef sig ⟨S64x100000, .i32⟩) addi,
    TRef.nullary (.of main_call6_call0_call0_c_2 : TRef sig ⟨S_, .i32⟩) (constantI S_ 32 15#32),
    TRef.unary (.of main_call6_call0_call0_c_2 : TRef sig ⟨S_, .i32⟩) (.of main_call6_call0_call0_v14 : TRef sig ⟨S64x100000, .i32⟩) (broadcastInDim S64x100000 ![] bcast_S_S64x100000),
    TRef.binary (.of main_call6_call0_call0_v12 : TRef sig ⟨S64x100000, .i32⟩) (.of main_call6_call0_call0_v14 : TRef sig ⟨S64x100000, .i32⟩) (.of main_call6_call0_call0_v15 : TRef sig ⟨S64x100000, .i32⟩) Host.shli,
    TRef.nullary (.of main_call6_call0_call0_c_3 : TRef sig ⟨S_, .i32⟩) (constantI S_ 32 17#32),
    TRef.unary (.of main_call6_call0_call0_c_3 : TRef sig ⟨S_, .i32⟩) (.of main_call6_call0_call0_v16 : TRef sig ⟨S64x100000, .i32⟩) (broadcastInDim S64x100000 ![] bcast_S_S64x100000),
    TRef.binary (.of main_call6_call0_call0_v12 : TRef sig ⟨S64x100000, .i32⟩) (.of main_call6_call0_call0_v16 : TRef sig ⟨S64x100000, .i32⟩) (.of main_call6_call0_call0_v17 : TRef sig ⟨S64x100000, .i32⟩) Host.shrui,
    TRef.binary (.of main_call6_call0_call0_v15 : TRef sig ⟨S64x100000, .i32⟩) (.of main_call6_call0_call0_v17 : TRef sig ⟨S64x100000, .i32⟩) (.of main_call6_call0_call0_v18 : TRef sig ⟨S64x100000, .i32⟩) ori ]

/-- What `noiseOps1` writes, in order. -/
abbrev noiseOps1_W : List (Ref sig .tc) := [main_call6_call0_call0_v0, main_call6_call0_call0_c, main_call6_call0_call0_v1, main_call6_call0_call0_v2, main_call6_call0_call0_v3, main_call6_call0_call0_v4, main_call6_call0_call0_v5, main_call6_call0_call0_v6, main_call6_call0_call0_c_0, main_call6_call0_call0_v7, main_call6_call0_call0_v8, main_call6_call0_call0_c_1, main_call6_call0_call0_v9, main_call6_call0_call0_v10, main_call6_call0_call0_v11, main_call6_call0_call0_v12, main_call6_call0_call0_v13, main_call6_call0_call0_c_2, main_call6_call0_call0_v14, main_call6_call0_call0_v15, main_call6_call0_call0_c_3, main_call6_call0_call0_v16, main_call6_call0_call0_v17, main_call6_call0_call0_v18]
theorem noiseOps1_writes : (noiseOps1 : List (HloOp τ sig (Elt F))).Forall fun op => op.writes ⊆ (noiseOps1_W.map (Proc.devRef (τ := τ) .tc)).toFinset :=
  forall_writes_sub_of_map rfl
theorem noiseOps1_fresh : (noiseOps1 : List (HloOp τ sig (Elt F))).Forall fun op => op.fresh = ∅ := by
  simp only [List.Forall]; repeat' constructor
theorem noiseOps1_sub : (noiseOps1 : List (HloOp τ sig (Elt F))).Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩

/-- The noise, stage 3 of 12. -/
abbrev noiseOps2 : List (HloOp τ sig (Elt F)) :=
  [ TRef.binary (.of main_call6_call0_call0_v13 : TRef sig ⟨S64x100000, .i32⟩) (.of main_call6_call0_call0_v18 : TRef sig ⟨S64x100000, .i32⟩) (.of main_call6_call0_call0_v19 : TRef sig ⟨S64x100000, .i32⟩) xori,
    TRef.binary (.of main_call6_call0_call0_v13 : TRef sig ⟨S64x100000, .i32⟩) (.of main_call6_call0_call0_v19 : TRef sig ⟨S64x100000, .i32⟩) (.of main_call6_call0_call0_v20 : TRef sig ⟨S64x100000, .i32⟩) addi,
    TRef.nullary (.of main_call6_call0_call0_c_4 : TRef sig ⟨S_, .i32⟩) (constantI S_ 32 26#32),
    TRef.unary (.of main_call6_call0_call0_c_4 : TRef sig ⟨S_, .i32⟩) (.of main_call6_call0_call0_v21 : TRef sig ⟨S64x100000, .i32⟩) (broadcastInDim S64x100000 ![] bcast_S_S64x100000),
    TRef.binary (.of main_call6_call0_call0_v19 : TRef sig ⟨S64x100000, .i32⟩) (.of main_call6_call0_call0_v21 : TRef sig ⟨S64x100000, .i32⟩) (.of main_call6_call0_call0_v22 : TRef sig ⟨S64x100000, .i32⟩) Host.shli,
    TRef.nullary (.of main_call6_call0_call0_c_5 : TRef sig ⟨S_, .i32⟩) (constantI S_ 32 6#32),
    TRef.unary (.of main_call6_call0_call0_c_5 : TRef sig ⟨S_, .i32⟩) (.of main_call6_call0_call0_v23 : TRef sig ⟨S64x100000, .i32⟩) (broadcastInDim S64x100000 ![] bcast_S_S64x100000),
    TRef.binary (.of main_call6_call0_call0_v19 : TRef sig ⟨S64x100000, .i32⟩) (.of main_call6_call0_call0_v23 : TRef sig ⟨S64x100000, .i32⟩) (.of main_call6_call0_call0_v24 : TRef sig ⟨S64x100000, .i32⟩) Host.shrui,
    TRef.binary (.of main_call6_call0_call0_v22 : TRef sig ⟨S64x100000, .i32⟩) (.of main_call6_call0_call0_v24 : TRef sig ⟨S64x100000, .i32⟩) (.of main_call6_call0_call0_v25 : TRef sig ⟨S64x100000, .i32⟩) ori,
    TRef.binary (.of main_call6_call0_call0_v20 : TRef sig ⟨S64x100000, .i32⟩) (.of main_call6_call0_call0_v25 : TRef sig ⟨S64x100000, .i32⟩) (.of main_call6_call0_call0_v26 : TRef sig ⟨S64x100000, .i32⟩) xori,
    TRef.binary (.of main_call6_call0_call0_v20 : TRef sig ⟨S64x100000, .i32⟩) (.of main_call6_call0_call0_v26 : TRef sig ⟨S64x100000, .i32⟩) (.of main_call6_call0_call0_v27 : TRef sig ⟨S64x100000, .i32⟩) addi,
    TRef.nullary (.of main_call6_call0_call0_c_6 : TRef sig ⟨S_, .i32⟩) (constantI S_ 32 6#32),
    TRef.unary (.of main_call6_call0_call0_c_6 : TRef sig ⟨S_, .i32⟩) (.of main_call6_call0_call0_v28 : TRef sig ⟨S64x100000, .i32⟩) (broadcastInDim S64x100000 ![] bcast_S_S64x100000),
    TRef.binary (.of main_call6_call0_call0_v26 : TRef sig ⟨S64x100000, .i32⟩) (.of main_call6_call0_call0_v28 : TRef sig ⟨S64x100000, .i32⟩) (.of main_call6_call0_call0_v29 : TRef sig ⟨S64x100000, .i32⟩) Host.shli,
    TRef.nullary (.of main_call6_call0_call0_c_7 : TRef sig ⟨S_, .i32⟩) (constantI S_ 32 26#32),
    TRef.unary (.of main_call6_call0_call0_c_7 : TRef sig ⟨S_, .i32⟩) (.of main_call6_call0_call0_v30 : TRef sig ⟨S64x100000, .i32⟩) (broadcastInDim S64x100000 ![] bcast_S_S64x100000),
    TRef.binary (.of main_call6_call0_call0_v26 : TRef sig ⟨S64x100000, .i32⟩) (.of main_call6_call0_call0_v30 : TRef sig ⟨S64x100000, .i32⟩) (.of main_call6_call0_call0_v31 : TRef sig ⟨S64x100000, .i32⟩) Host.shrui,
    TRef.binary (.of main_call6_call0_call0_v29 : TRef sig ⟨S64x100000, .i32⟩) (.of main_call6_call0_call0_v31 : TRef sig ⟨S64x100000, .i32⟩) (.of main_call6_call0_call0_v32 : TRef sig ⟨S64x100000, .i32⟩) ori,
    TRef.binary (.of main_call6_call0_call0_v27 : TRef sig ⟨S64x100000, .i32⟩) (.of main_call6_call0_call0_v32 : TRef sig ⟨S64x100000, .i32⟩) (.of main_call6_call0_call0_v33 : TRef sig ⟨S64x100000, .i32⟩) xori,
    TRef.unary (.of main_call6_call0_v6 : TRef sig ⟨S_, .i32⟩) (.of main_call6_call0_call0_v34 : TRef sig ⟨S64x100000, .i32⟩) (broadcastInDim S64x100000 ![] bcast_S_S64x100000),
    TRef.binary (.of main_call6_call0_call0_v27 : TRef sig ⟨S64x100000, .i32⟩) (.of main_call6_call0_call0_v34 : TRef sig ⟨S64x100000, .i32⟩) (.of main_call6_call0_call0_v35 : TRef sig ⟨S64x100000, .i32⟩) addi,
    TRef.unary (.of main_call6_call0_call0_v1 : TRef sig ⟨S_, .i32⟩) (.of main_call6_call0_call0_v36 : TRef sig ⟨S64x100000, .i32⟩) (broadcastInDim S64x100000 ![] bcast_S_S64x100000),
    TRef.binary (.of main_call6_call0_call0_v33 : TRef sig ⟨S64x100000, .i32⟩) (.of main_call6_call0_call0_v36 : TRef sig ⟨S64x100000, .i32⟩) (.of main_call6_call0_call0_v37 : TRef sig ⟨S64x100000, .i32⟩) addi,
    TRef.nullary (.of main_call6_call0_call0_c_8 : TRef sig ⟨S_, .i32⟩) (constantI S_ 32 1#32) ]

/-- What `noiseOps2` writes, in order. -/
abbrev noiseOps2_W : List (Ref sig .tc) := [main_call6_call0_call0_v19, main_call6_call0_call0_v20, main_call6_call0_call0_c_4, main_call6_call0_call0_v21, main_call6_call0_call0_v22, main_call6_call0_call0_c_5, main_call6_call0_call0_v23, main_call6_call0_call0_v24, main_call6_call0_call0_v25, main_call6_call0_call0_v26, main_call6_call0_call0_v27, main_call6_call0_call0_c_6, main_call6_call0_call0_v28, main_call6_call0_call0_v29, main_call6_call0_call0_c_7, main_call6_call0_call0_v30, main_call6_call0_call0_v31, main_call6_call0_call0_v32, main_call6_call0_call0_v33, main_call6_call0_call0_v34, main_call6_call0_call0_v35, main_call6_call0_call0_v36, main_call6_call0_call0_v37, main_call6_call0_call0_c_8]
theorem noiseOps2_writes : (noiseOps2 : List (HloOp τ sig (Elt F))).Forall fun op => op.writes ⊆ (noiseOps2_W.map (Proc.devRef (τ := τ) .tc)).toFinset :=
  forall_writes_sub_of_map rfl
theorem noiseOps2_fresh : (noiseOps2 : List (HloOp τ sig (Elt F))).Forall fun op => op.fresh = ∅ := by
  simp only [List.Forall]; repeat' constructor
theorem noiseOps2_sub : (noiseOps2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩

/-- The noise, stage 4 of 12. -/
abbrev noiseOps3 : List (HloOp τ sig (Elt F)) :=
  [ TRef.unary (.of main_call6_call0_call0_c_8 : TRef sig ⟨S_, .i32⟩) (.of main_call6_call0_call0_v38 : TRef sig ⟨S64x100000, .i32⟩) (broadcastInDim S64x100000 ![] bcast_S_S64x100000),
    TRef.binary (.of main_call6_call0_call0_v37 : TRef sig ⟨S64x100000, .i32⟩) (.of main_call6_call0_call0_v38 : TRef sig ⟨S64x100000, .i32⟩) (.of main_call6_call0_call0_v39 : TRef sig ⟨S64x100000, .i32⟩) addi,
    TRef.binary (.of main_call6_call0_call0_v35 : TRef sig ⟨S64x100000, .i32⟩) (.of main_call6_call0_call0_v39 : TRef sig ⟨S64x100000, .i32⟩) (.of main_call6_call0_call0_v40 : TRef sig ⟨S64x100000, .i32⟩) addi,
    TRef.nullary (.of main_call6_call0_call0_c_9 : TRef sig ⟨S_, .i32⟩) (constantI S_ 32 17#32),
    TRef.unary (.of main_call6_call0_call0_c_9 : TRef sig ⟨S_, .i32⟩) (.of main_call6_call0_call0_v41 : TRef sig ⟨S64x100000, .i32⟩) (broadcastInDim S64x100000 ![] bcast_S_S64x100000),
    TRef.binary (.of main_call6_call0_call0_v39 : TRef sig ⟨S64x100000, .i32⟩) (.of main_call6_call0_call0_v41 : TRef sig ⟨S64x100000, .i32⟩) (.of main_call6_call0_call0_v42 : TRef sig ⟨S64x100000, .i32⟩) Host.shli,
    TRef.nullary (.of main_call6_call0_call0_c_10 : TRef sig ⟨S_, .i32⟩) (constantI S_ 32 15#32),
    TRef.unary (.of main_call6_call0_call0_c_10 : TRef sig ⟨S_, .i32⟩) (.of main_call6_call0_call0_v43 : TRef sig ⟨S64x100000, .i32⟩) (broadcastInDim S64x100000 ![] bcast_S_S64x100000),
    TRef.binary (.of main_call6_call0_call0_v39 : TRef sig ⟨S64x100000, .i32⟩) (.of main_call6_call0_call0_v43 : TRef sig ⟨S64x100000, .i32⟩) (.of main_call6_call0_call0_v44 : TRef sig ⟨S64x100000, .i32⟩) Host.shrui,
    TRef.binary (.of main_call6_call0_call0_v42 : TRef sig ⟨S64x100000, .i32⟩) (.of main_call6_call0_call0_v44 : TRef sig ⟨S64x100000, .i32⟩) (.of main_call6_call0_call0_v45 : TRef sig ⟨S64x100000, .i32⟩) ori,
    TRef.binary (.of main_call6_call0_call0_v40 : TRef sig ⟨S64x100000, .i32⟩) (.of main_call6_call0_call0_v45 : TRef sig ⟨S64x100000, .i32⟩) (.of main_call6_call0_call0_v46 : TRef sig ⟨S64x100000, .i32⟩) xori,
    TRef.binary (.of main_call6_call0_call0_v40 : TRef sig ⟨S64x100000, .i32⟩) (.of main_call6_call0_call0_v46 : TRef sig ⟨S64x100000, .i32⟩) (.of main_call6_call0_call0_v47 : TRef sig ⟨S64x100000, .i32⟩) addi,
    TRef.nullary (.of main_call6_call0_call0_c_11 : TRef sig ⟨S_, .i32⟩) (constantI S_ 32 29#32),
    TRef.unary (.of main_call6_call0_call0_c_11 : TRef sig ⟨S_, .i32⟩) (.of main_call6_call0_call0_v48 : TRef sig ⟨S64x100000, .i32⟩) (broadcastInDim S64x100000 ![] bcast_S_S64x100000),
    TRef.binary (.of main_call6_call0_call0_v46 : TRef sig ⟨S64x100000, .i32⟩) (.of main_call6_call0_call0_v48 : TRef sig ⟨S64x100000, .i32⟩) (.of main_call6_call0_call0_v49 : TRef sig ⟨S64x100000, .i32⟩) Host.shli,
    TRef.nullary (.of main_call6_call0_call0_c_12 : TRef sig ⟨S_, .i32⟩) (constantI S_ 32 3#32),
    TRef.unary (.of main_call6_call0_call0_c_12 : TRef sig ⟨S_, .i32⟩) (.of main_call6_call0_call0_v50 : TRef sig ⟨S64x100000, .i32⟩) (broadcastInDim S64x100000 ![] bcast_S_S64x100000),
    TRef.binary (.of main_call6_call0_call0_v46 : TRef sig ⟨S64x100000, .i32⟩) (.of main_call6_call0_call0_v50 : TRef sig ⟨S64x100000, .i32⟩) (.of main_call6_call0_call0_v51 : TRef sig ⟨S64x100000, .i32⟩) Host.shrui,
    TRef.binary (.of main_call6_call0_call0_v49 : TRef sig ⟨S64x100000, .i32⟩) (.of main_call6_call0_call0_v51 : TRef sig ⟨S64x100000, .i32⟩) (.of main_call6_call0_call0_v52 : TRef sig ⟨S64x100000, .i32⟩) ori,
    TRef.binary (.of main_call6_call0_call0_v47 : TRef sig ⟨S64x100000, .i32⟩) (.of main_call6_call0_call0_v52 : TRef sig ⟨S64x100000, .i32⟩) (.of main_call6_call0_call0_v53 : TRef sig ⟨S64x100000, .i32⟩) xori,
    TRef.binary (.of main_call6_call0_call0_v47 : TRef sig ⟨S64x100000, .i32⟩) (.of main_call6_call0_call0_v53 : TRef sig ⟨S64x100000, .i32⟩) (.of main_call6_call0_call0_v54 : TRef sig ⟨S64x100000, .i32⟩) addi,
    TRef.nullary (.of main_call6_call0_call0_c_13 : TRef sig ⟨S_, .i32⟩) (constantI S_ 32 16#32),
    TRef.unary (.of main_call6_call0_call0_c_13 : TRef sig ⟨S_, .i32⟩) (.of main_call6_call0_call0_v55 : TRef sig ⟨S64x100000, .i32⟩) (broadcastInDim S64x100000 ![] bcast_S_S64x100000),
    TRef.binary (.of main_call6_call0_call0_v53 : TRef sig ⟨S64x100000, .i32⟩) (.of main_call6_call0_call0_v55 : TRef sig ⟨S64x100000, .i32⟩) (.of main_call6_call0_call0_v56 : TRef sig ⟨S64x100000, .i32⟩) Host.shli ]

/-- What `noiseOps3` writes, in order. -/
abbrev noiseOps3_W : List (Ref sig .tc) := [main_call6_call0_call0_v38, main_call6_call0_call0_v39, main_call6_call0_call0_v40, main_call6_call0_call0_c_9, main_call6_call0_call0_v41, main_call6_call0_call0_v42, main_call6_call0_call0_c_10, main_call6_call0_call0_v43, main_call6_call0_call0_v44, main_call6_call0_call0_v45, main_call6_call0_call0_v46, main_call6_call0_call0_v47, main_call6_call0_call0_c_11, main_call6_call0_call0_v48, main_call6_call0_call0_v49, main_call6_call0_call0_c_12, main_call6_call0_call0_v50, main_call6_call0_call0_v51, main_call6_call0_call0_v52, main_call6_call0_call0_v53, main_call6_call0_call0_v54, main_call6_call0_call0_c_13, main_call6_call0_call0_v55, main_call6_call0_call0_v56]
theorem noiseOps3_writes : (noiseOps3 : List (HloOp τ sig (Elt F))).Forall fun op => op.writes ⊆ (noiseOps3_W.map (Proc.devRef (τ := τ) .tc)).toFinset :=
  forall_writes_sub_of_map rfl
theorem noiseOps3_fresh : (noiseOps3 : List (HloOp τ sig (Elt F))).Forall fun op => op.fresh = ∅ := by
  simp only [List.Forall]; repeat' constructor
theorem noiseOps3_sub : (noiseOps3 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩

/-- The noise, stage 5 of 12. -/
abbrev noiseOps4 : List (HloOp τ sig (Elt F)) :=
  [ TRef.nullary (.of main_call6_call0_call0_c_14 : TRef sig ⟨S_, .i32⟩) (constantI S_ 32 16#32),
    TRef.unary (.of main_call6_call0_call0_c_14 : TRef sig ⟨S_, .i32⟩) (.of main_call6_call0_call0_v57 : TRef sig ⟨S64x100000, .i32⟩) (broadcastInDim S64x100000 ![] bcast_S_S64x100000),
    TRef.binary (.of main_call6_call0_call0_v53 : TRef sig ⟨S64x100000, .i32⟩) (.of main_call6_call0_call0_v57 : TRef sig ⟨S64x100000, .i32⟩) (.of main_call6_call0_call0_v58 : TRef sig ⟨S64x100000, .i32⟩) Host.shrui,
    TRef.binary (.of main_call6_call0_call0_v56 : TRef sig ⟨S64x100000, .i32⟩) (.of main_call6_call0_call0_v58 : TRef sig ⟨S64x100000, .i32⟩) (.of main_call6_call0_call0_v59 : TRef sig ⟨S64x100000, .i32⟩) ori,
    TRef.binary (.of main_call6_call0_call0_v54 : TRef sig ⟨S64x100000, .i32⟩) (.of main_call6_call0_call0_v59 : TRef sig ⟨S64x100000, .i32⟩) (.of main_call6_call0_call0_v60 : TRef sig ⟨S64x100000, .i32⟩) xori,
    TRef.binary (.of main_call6_call0_call0_v54 : TRef sig ⟨S64x100000, .i32⟩) (.of main_call6_call0_call0_v60 : TRef sig ⟨S64x100000, .i32⟩) (.of main_call6_call0_call0_v61 : TRef sig ⟨S64x100000, .i32⟩) addi,
    TRef.nullary (.of main_call6_call0_call0_c_15 : TRef sig ⟨S_, .i32⟩) (constantI S_ 32 24#32),
    TRef.unary (.of main_call6_call0_call0_c_15 : TRef sig ⟨S_, .i32⟩) (.of main_call6_call0_call0_v62 : TRef sig ⟨S64x100000, .i32⟩) (broadcastInDim S64x100000 ![] bcast_S_S64x100000),
    TRef.binary (.of main_call6_call0_call0_v60 : TRef sig ⟨S64x100000, .i32⟩) (.of main_call6_call0_call0_v62 : TRef sig ⟨S64x100000, .i32⟩) (.of main_call6_call0_call0_v63 : TRef sig ⟨S64x100000, .i32⟩) Host.shli,
    TRef.nullary (.of main_call6_call0_call0_c_16 : TRef sig ⟨S_, .i32⟩) (constantI S_ 32 8#32),
    TRef.unary (.of main_call6_call0_call0_c_16 : TRef sig ⟨S_, .i32⟩) (.of main_call6_call0_call0_v64 : TRef sig ⟨S64x100000, .i32⟩) (broadcastInDim S64x100000 ![] bcast_S_S64x100000),
    TRef.binary (.of main_call6_call0_call0_v60 : TRef sig ⟨S64x100000, .i32⟩) (.of main_call6_call0_call0_v64 : TRef sig ⟨S64x100000, .i32⟩) (.of main_call6_call0_call0_v65 : TRef sig ⟨S64x100000, .i32⟩) Host.shrui,
    TRef.binary (.of main_call6_call0_call0_v63 : TRef sig ⟨S64x100000, .i32⟩) (.of main_call6_call0_call0_v65 : TRef sig ⟨S64x100000, .i32⟩) (.of main_call6_call0_call0_v66 : TRef sig ⟨S64x100000, .i32⟩) ori,
    TRef.binary (.of main_call6_call0_call0_v61 : TRef sig ⟨S64x100000, .i32⟩) (.of main_call6_call0_call0_v66 : TRef sig ⟨S64x100000, .i32⟩) (.of main_call6_call0_call0_v67 : TRef sig ⟨S64x100000, .i32⟩) xori,
    TRef.unary (.of main_call6_call0_call0_v1 : TRef sig ⟨S_, .i32⟩) (.of main_call6_call0_call0_v68 : TRef sig ⟨S64x100000, .i32⟩) (broadcastInDim S64x100000 ![] bcast_S_S64x100000),
    TRef.binary (.of main_call6_call0_call0_v61 : TRef sig ⟨S64x100000, .i32⟩) (.of main_call6_call0_call0_v68 : TRef sig ⟨S64x100000, .i32⟩) (.of main_call6_call0_call0_v69 : TRef sig ⟨S64x100000, .i32⟩) addi,
    TRef.unary (.of main_call6_call0_v4 : TRef sig ⟨S_, .i32⟩) (.of main_call6_call0_call0_v70 : TRef sig ⟨S64x100000, .i32⟩) (broadcastInDim S64x100000 ![] bcast_S_S64x100000),
    TRef.binary (.of main_call6_call0_call0_v67 : TRef sig ⟨S64x100000, .i32⟩) (.of main_call6_call0_call0_v70 : TRef sig ⟨S64x100000, .i32⟩) (.of main_call6_call0_call0_v71 : TRef sig ⟨S64x100000, .i32⟩) addi,
    TRef.nullary (.of main_call6_call0_call0_c_17 : TRef sig ⟨S_, .i32⟩) (constantI S_ 32 2#32),
    TRef.unary (.of main_call6_call0_call0_c_17 : TRef sig ⟨S_, .i32⟩) (.of main_call6_call0_call0_v72 : TRef sig ⟨S64x100000, .i32⟩) (broadcastInDim S64x100000 ![] bcast_S_S64x100000),
    TRef.binary (.of main_call6_call0_call0_v71 : TRef sig ⟨S64x100000, .i32⟩) (.of main_call6_call0_call0_v72 : TRef sig ⟨S64x100000, .i32⟩) (.of main_call6_call0_call0_v73 : TRef sig ⟨S64x100000, .i32⟩) addi,
    TRef.binary (.of main_call6_call0_call0_v69 : TRef sig ⟨S64x100000, .i32⟩) (.of main_call6_call0_call0_v73 : TRef sig ⟨S64x100000, .i32⟩) (.of main_call6_call0_call0_v74 : TRef sig ⟨S64x100000, .i32⟩) addi,
    TRef.nullary (.of main_call6_call0_call0_c_18 : TRef sig ⟨S_, .i32⟩) (constantI S_ 32 13#32),
    TRef.unary (.of main_call6_call0_call0_c_18 : TRef sig ⟨S_, .i32⟩) (.of main_call6_call0_call0_v75 : TRef sig ⟨S64x100000, .i32⟩) (broadcastInDim S64x100000 ![] bcast_S_S64x100000) ]

/-- What `noiseOps4` writes, in order. -/
abbrev noiseOps4_W : List (Ref sig .tc) := [main_call6_call0_call0_c_14, main_call6_call0_call0_v57, main_call6_call0_call0_v58, main_call6_call0_call0_v59, main_call6_call0_call0_v60, main_call6_call0_call0_v61, main_call6_call0_call0_c_15, main_call6_call0_call0_v62, main_call6_call0_call0_v63, main_call6_call0_call0_c_16, main_call6_call0_call0_v64, main_call6_call0_call0_v65, main_call6_call0_call0_v66, main_call6_call0_call0_v67, main_call6_call0_call0_v68, main_call6_call0_call0_v69, main_call6_call0_call0_v70, main_call6_call0_call0_v71, main_call6_call0_call0_c_17, main_call6_call0_call0_v72, main_call6_call0_call0_v73, main_call6_call0_call0_v74, main_call6_call0_call0_c_18, main_call6_call0_call0_v75]
theorem noiseOps4_writes : (noiseOps4 : List (HloOp τ sig (Elt F))).Forall fun op => op.writes ⊆ (noiseOps4_W.map (Proc.devRef (τ := τ) .tc)).toFinset :=
  forall_writes_sub_of_map rfl
theorem noiseOps4_fresh : (noiseOps4 : List (HloOp τ sig (Elt F))).Forall fun op => op.fresh = ∅ := by
  simp only [List.Forall]; repeat' constructor
theorem noiseOps4_sub : (noiseOps4 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub ..⟩

/-- The noise, stage 6 of 12. -/
abbrev noiseOps5 : List (HloOp τ sig (Elt F)) :=
  [ TRef.binary (.of main_call6_call0_call0_v73 : TRef sig ⟨S64x100000, .i32⟩) (.of main_call6_call0_call0_v75 : TRef sig ⟨S64x100000, .i32⟩) (.of main_call6_call0_call0_v76 : TRef sig ⟨S64x100000, .i32⟩) Host.shli,
    TRef.nullary (.of main_call6_call0_call0_c_19 : TRef sig ⟨S_, .i32⟩) (constantI S_ 32 19#32),
    TRef.unary (.of main_call6_call0_call0_c_19 : TRef sig ⟨S_, .i32⟩) (.of main_call6_call0_call0_v77 : TRef sig ⟨S64x100000, .i32⟩) (broadcastInDim S64x100000 ![] bcast_S_S64x100000),
    TRef.binary (.of main_call6_call0_call0_v73 : TRef sig ⟨S64x100000, .i32⟩) (.of main_call6_call0_call0_v77 : TRef sig ⟨S64x100000, .i32⟩) (.of main_call6_call0_call0_v78 : TRef sig ⟨S64x100000, .i32⟩) Host.shrui,
    TRef.binary (.of main_call6_call0_call0_v76 : TRef sig ⟨S64x100000, .i32⟩) (.of main_call6_call0_call0_v78 : TRef sig ⟨S64x100000, .i32⟩) (.of main_call6_call0_call0_v79 : TRef sig ⟨S64x100000, .i32⟩) ori,
    TRef.binary (.of main_call6_call0_call0_v74 : TRef sig ⟨S64x100000, .i32⟩) (.of main_call6_call0_call0_v79 : TRef sig ⟨S64x100000, .i32⟩) (.of main_call6_call0_call0_v80 : TRef sig ⟨S64x100000, .i32⟩) xori,
    TRef.binary (.of main_call6_call0_call0_v74 : TRef sig ⟨S64x100000, .i32⟩) (.of main_call6_call0_call0_v80 : TRef sig ⟨S64x100000, .i32⟩) (.of main_call6_call0_call0_v81 : TRef sig ⟨S64x100000, .i32⟩) addi,
    TRef.nullary (.of main_call6_call0_call0_c_20 : TRef sig ⟨S_, .i32⟩) (constantI S_ 32 15#32),
    TRef.unary (.of main_call6_call0_call0_c_20 : TRef sig ⟨S_, .i32⟩) (.of main_call6_call0_call0_v82 : TRef sig ⟨S64x100000, .i32⟩) (broadcastInDim S64x100000 ![] bcast_S_S64x100000),
    TRef.binary (.of main_call6_call0_call0_v80 : TRef sig ⟨S64x100000, .i32⟩) (.of main_call6_call0_call0_v82 : TRef sig ⟨S64x100000, .i32⟩) (.of main_call6_call0_call0_v83 : TRef sig ⟨S64x100000, .i32⟩) Host.shli,
    TRef.nullary (.of main_call6_call0_call0_c_21 : TRef sig ⟨S_, .i32⟩) (constantI S_ 32 17#32),
    TRef.unary (.of main_call6_call0_call0_c_21 : TRef sig ⟨S_, .i32⟩) (.of main_call6_call0_call0_v84 : TRef sig ⟨S64x100000, .i32⟩) (broadcastInDim S64x100000 ![] bcast_S_S64x100000),
    TRef.binary (.of main_call6_call0_call0_v80 : TRef sig ⟨S64x100000, .i32⟩) (.of main_call6_call0_call0_v84 : TRef sig ⟨S64x100000, .i32⟩) (.of main_call6_call0_call0_v85 : TRef sig ⟨S64x100000, .i32⟩) Host.shrui,
    TRef.binary (.of main_call6_call0_call0_v83 : TRef sig ⟨S64x100000, .i32⟩) (.of main_call6_call0_call0_v85 : TRef sig ⟨S64x100000, .i32⟩) (.of main_call6_call0_call0_v86 : TRef sig ⟨S64x100000, .i32⟩) ori,
    TRef.binary (.of main_call6_call0_call0_v81 : TRef sig ⟨S64x100000, .i32⟩) (.of main_call6_call0_call0_v86 : TRef sig ⟨S64x100000, .i32⟩) (.of main_call6_call0_call0_v87 : TRef sig ⟨S64x100000, .i32⟩) xori,
    TRef.binary (.of main_call6_call0_call0_v81 : TRef sig ⟨S64x100000, .i32⟩) (.of main_call6_call0_call0_v87 : TRef sig ⟨S64x100000, .i32⟩) (.of main_call6_call0_call0_v88 : TRef sig ⟨S64x100000, .i32⟩) addi,
    TRef.nullary (.of main_call6_call0_call0_c_22 : TRef sig ⟨S_, .i32⟩) (constantI S_ 32 26#32),
    TRef.unary (.of main_call6_call0_call0_c_22 : TRef sig ⟨S_, .i32⟩) (.of main_call6_call0_call0_v89 : TRef sig ⟨S64x100000, .i32⟩) (broadcastInDim S64x100000 ![] bcast_S_S64x100000),
    TRef.binary (.of main_call6_call0_call0_v87 : TRef sig ⟨S64x100000, .i32⟩) (.of main_call6_call0_call0_v89 : TRef sig ⟨S64x100000, .i32⟩) (.of main_call6_call0_call0_v90 : TRef sig ⟨S64x100000, .i32⟩) Host.shli,
    TRef.nullary (.of main_call6_call0_call0_c_23 : TRef sig ⟨S_, .i32⟩) (constantI S_ 32 6#32),
    TRef.unary (.of main_call6_call0_call0_c_23 : TRef sig ⟨S_, .i32⟩) (.of main_call6_call0_call0_v91 : TRef sig ⟨S64x100000, .i32⟩) (broadcastInDim S64x100000 ![] bcast_S_S64x100000),
    TRef.binary (.of main_call6_call0_call0_v87 : TRef sig ⟨S64x100000, .i32⟩) (.of main_call6_call0_call0_v91 : TRef sig ⟨S64x100000, .i32⟩) (.of main_call6_call0_call0_v92 : TRef sig ⟨S64x100000, .i32⟩) Host.shrui,
    TRef.binary (.of main_call6_call0_call0_v90 : TRef sig ⟨S64x100000, .i32⟩) (.of main_call6_call0_call0_v92 : TRef sig ⟨S64x100000, .i32⟩) (.of main_call6_call0_call0_v93 : TRef sig ⟨S64x100000, .i32⟩) ori,
    TRef.binary (.of main_call6_call0_call0_v88 : TRef sig ⟨S64x100000, .i32⟩) (.of main_call6_call0_call0_v93 : TRef sig ⟨S64x100000, .i32⟩) (.of main_call6_call0_call0_v94 : TRef sig ⟨S64x100000, .i32⟩) xori ]

/-- What `noiseOps5` writes, in order. -/
abbrev noiseOps5_W : List (Ref sig .tc) := [main_call6_call0_call0_v76, main_call6_call0_call0_c_19, main_call6_call0_call0_v77, main_call6_call0_call0_v78, main_call6_call0_call0_v79, main_call6_call0_call0_v80, main_call6_call0_call0_v81, main_call6_call0_call0_c_20, main_call6_call0_call0_v82, main_call6_call0_call0_v83, main_call6_call0_call0_c_21, main_call6_call0_call0_v84, main_call6_call0_call0_v85, main_call6_call0_call0_v86, main_call6_call0_call0_v87, main_call6_call0_call0_v88, main_call6_call0_call0_c_22, main_call6_call0_call0_v89, main_call6_call0_call0_v90, main_call6_call0_call0_c_23, main_call6_call0_call0_v91, main_call6_call0_call0_v92, main_call6_call0_call0_v93, main_call6_call0_call0_v94]
theorem noiseOps5_writes : (noiseOps5 : List (HloOp τ sig (Elt F))).Forall fun op => op.writes ⊆ (noiseOps5_W.map (Proc.devRef (τ := τ) .tc)).toFinset :=
  forall_writes_sub_of_map rfl
theorem noiseOps5_fresh : (noiseOps5 : List (HloOp τ sig (Elt F))).Forall fun op => op.fresh = ∅ := by
  simp only [List.Forall]; repeat' constructor
theorem noiseOps5_sub : (noiseOps5 : List (HloOp τ sig (Elt F))).Forall fun op => op.bufs ⊆ tcRefs τ sig :=
  ⟨binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

/-- The noise, stage 7 of 12. -/
abbrev noiseOps6 : List (HloOp τ sig (Elt F)) :=
  [ TRef.binary (.of main_call6_call0_call0_v88 : TRef sig ⟨S64x100000, .i32⟩) (.of main_call6_call0_call0_v94 : TRef sig ⟨S64x100000, .i32⟩) (.of main_call6_call0_call0_v95 : TRef sig ⟨S64x100000, .i32⟩) addi,
    TRef.nullary (.of main_call6_call0_call0_c_24 : TRef sig ⟨S_, .i32⟩) (constantI S_ 32 6#32),
    TRef.unary (.of main_call6_call0_call0_c_24 : TRef sig ⟨S_, .i32⟩) (.of main_call6_call0_call0_v96 : TRef sig ⟨S64x100000, .i32⟩) (broadcastInDim S64x100000 ![] bcast_S_S64x100000),
    TRef.binary (.of main_call6_call0_call0_v94 : TRef sig ⟨S64x100000, .i32⟩) (.of main_call6_call0_call0_v96 : TRef sig ⟨S64x100000, .i32⟩) (.of main_call6_call0_call0_v97 : TRef sig ⟨S64x100000, .i32⟩) Host.shli,
    TRef.nullary (.of main_call6_call0_call0_c_25 : TRef sig ⟨S_, .i32⟩) (constantI S_ 32 26#32),
    TRef.unary (.of main_call6_call0_call0_c_25 : TRef sig ⟨S_, .i32⟩) (.of main_call6_call0_call0_v98 : TRef sig ⟨S64x100000, .i32⟩) (broadcastInDim S64x100000 ![] bcast_S_S64x100000),
    TRef.binary (.of main_call6_call0_call0_v94 : TRef sig ⟨S64x100000, .i32⟩) (.of main_call6_call0_call0_v98 : TRef sig ⟨S64x100000, .i32⟩) (.of main_call6_call0_call0_v99 : TRef sig ⟨S64x100000, .i32⟩) Host.shrui,
    TRef.binary (.of main_call6_call0_call0_v97 : TRef sig ⟨S64x100000, .i32⟩) (.of main_call6_call0_call0_v99 : TRef sig ⟨S64x100000, .i32⟩) (.of main_call6_call0_call0_v100 : TRef sig ⟨S64x100000, .i32⟩) ori,
    TRef.binary (.of main_call6_call0_call0_v95 : TRef sig ⟨S64x100000, .i32⟩) (.of main_call6_call0_call0_v100 : TRef sig ⟨S64x100000, .i32⟩) (.of main_call6_call0_call0_v101 : TRef sig ⟨S64x100000, .i32⟩) xori,
    TRef.unary (.of main_call6_call0_v4 : TRef sig ⟨S_, .i32⟩) (.of main_call6_call0_call0_v102 : TRef sig ⟨S64x100000, .i32⟩) (broadcastInDim S64x100000 ![] bcast_S_S64x100000),
    TRef.binary (.of main_call6_call0_call0_v95 : TRef sig ⟨S64x100000, .i32⟩) (.of main_call6_call0_call0_v102 : TRef sig ⟨S64x100000, .i32⟩) (.of main_call6_call0_call0_v103 : TRef sig ⟨S64x100000, .i32⟩) addi,
    TRef.unary (.of main_call6_call0_v6 : TRef sig ⟨S_, .i32⟩) (.of main_call6_call0_call0_v104 : TRef sig ⟨S64x100000, .i32⟩) (broadcastInDim S64x100000 ![] bcast_S_S64x100000),
    TRef.binary (.of main_call6_call0_call0_v101 : TRef sig ⟨S64x100000, .i32⟩) (.of main_call6_call0_call0_v104 : TRef sig ⟨S64x100000, .i32⟩) (.of main_call6_call0_call0_v105 : TRef sig ⟨S64x100000, .i32⟩) addi,
    TRef.nullary (.of main_call6_call0_call0_c_26 : TRef sig ⟨S_, .i32⟩) (constantI S_ 32 3#32),
    TRef.unary (.of main_call6_call0_call0_c_26 : TRef sig ⟨S_, .i32⟩) (.of main_call6_call0_call0_v106 : TRef sig ⟨S64x100000, .i32⟩) (broadcastInDim S64x100000 ![] bcast_S_S64x100000),
    TRef.binary (.of main_call6_call0_call0_v105 : TRef sig ⟨S64x100000, .i32⟩) (.of main_call6_call0_call0_v106 : TRef sig ⟨S64x100000, .i32⟩) (.of main_call6_call0_call0_v107 : TRef sig ⟨S64x100000, .i32⟩) addi,
    TRef.binary (.of main_call6_call0_call0_v103 : TRef sig ⟨S64x100000, .i32⟩) (.of main_call6_call0_call0_v107 : TRef sig ⟨S64x100000, .i32⟩) (.of main_call6_call0_call0_v108 : TRef sig ⟨S64x100000, .i32⟩) addi,
    TRef.nullary (.of main_call6_call0_call0_c_27 : TRef sig ⟨S_, .i32⟩) (constantI S_ 32 17#32),
    TRef.unary (.of main_call6_call0_call0_c_27 : TRef sig ⟨S_, .i32⟩) (.of main_call6_call0_call0_v109 : TRef sig ⟨S64x100000, .i32⟩) (broadcastInDim S64x100000 ![] bcast_S_S64x100000),
    TRef.binary (.of main_call6_call0_call0_v107 : TRef sig ⟨S64x100000, .i32⟩) (.of main_call6_call0_call0_v109 : TRef sig ⟨S64x100000, .i32⟩) (.of main_call6_call0_call0_v110 : TRef sig ⟨S64x100000, .i32⟩) Host.shli,
    TRef.nullary (.of main_call6_call0_call0_c_28 : TRef sig ⟨S_, .i32⟩) (constantI S_ 32 15#32),
    TRef.unary (.of main_call6_call0_call0_c_28 : TRef sig ⟨S_, .i32⟩) (.of main_call6_call0_call0_v111 : TRef sig ⟨S64x100000, .i32⟩) (broadcastInDim S64x100000 ![] bcast_S_S64x100000),
    TRef.binary (.of main_call6_call0_call0_v107 : TRef sig ⟨S64x100000, .i32⟩) (.of main_call6_call0_call0_v111 : TRef sig ⟨S64x100000, .i32⟩) (.of main_call6_call0_call0_v112 : TRef sig ⟨S64x100000, .i32⟩) Host.shrui,
    TRef.binary (.of main_call6_call0_call0_v110 : TRef sig ⟨S64x100000, .i32⟩) (.of main_call6_call0_call0_v112 : TRef sig ⟨S64x100000, .i32⟩) (.of main_call6_call0_call0_v113 : TRef sig ⟨S64x100000, .i32⟩) ori ]

/-- What `noiseOps6` writes, in order. -/
abbrev noiseOps6_W : List (Ref sig .tc) := [main_call6_call0_call0_v95, main_call6_call0_call0_c_24, main_call6_call0_call0_v96, main_call6_call0_call0_v97, main_call6_call0_call0_c_25, main_call6_call0_call0_v98, main_call6_call0_call0_v99, main_call6_call0_call0_v100, main_call6_call0_call0_v101, main_call6_call0_call0_v102, main_call6_call0_call0_v103, main_call6_call0_call0_v104, main_call6_call0_call0_v105, main_call6_call0_call0_c_26, main_call6_call0_call0_v106, main_call6_call0_call0_v107, main_call6_call0_call0_v108, main_call6_call0_call0_c_27, main_call6_call0_call0_v109, main_call6_call0_call0_v110, main_call6_call0_call0_c_28, main_call6_call0_call0_v111, main_call6_call0_call0_v112, main_call6_call0_call0_v113]
theorem noiseOps6_writes : (noiseOps6 : List (HloOp τ sig (Elt F))).Forall fun op => op.writes ⊆ (noiseOps6_W.map (Proc.devRef (τ := τ) .tc)).toFinset :=
  forall_writes_sub_of_map rfl
theorem noiseOps6_fresh : (noiseOps6 : List (HloOp τ sig (Elt F))).Forall fun op => op.fresh = ∅ := by
  simp only [List.Forall]; repeat' constructor
theorem noiseOps6_sub : (noiseOps6 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

/-- The noise, stage 8 of 12. -/
abbrev noiseOps7 : List (HloOp τ sig (Elt F)) :=
  [ TRef.binary (.of main_call6_call0_call0_v108 : TRef sig ⟨S64x100000, .i32⟩) (.of main_call6_call0_call0_v113 : TRef sig ⟨S64x100000, .i32⟩) (.of main_call6_call0_call0_v114 : TRef sig ⟨S64x100000, .i32⟩) xori,
    TRef.binary (.of main_call6_call0_call0_v108 : TRef sig ⟨S64x100000, .i32⟩) (.of main_call6_call0_call0_v114 : TRef sig ⟨S64x100000, .i32⟩) (.of main_call6_call0_call0_v115 : TRef sig ⟨S64x100000, .i32⟩) addi,
    TRef.nullary (.of main_call6_call0_call0_c_29 : TRef sig ⟨S_, .i32⟩) (constantI S_ 32 29#32),
    TRef.unary (.of main_call6_call0_call0_c_29 : TRef sig ⟨S_, .i32⟩) (.of main_call6_call0_call0_v116 : TRef sig ⟨S64x100000, .i32⟩) (broadcastInDim S64x100000 ![] bcast_S_S64x100000),
    TRef.binary (.of main_call6_call0_call0_v114 : TRef sig ⟨S64x100000, .i32⟩) (.of main_call6_call0_call0_v116 : TRef sig ⟨S64x100000, .i32⟩) (.of main_call6_call0_call0_v117 : TRef sig ⟨S64x100000, .i32⟩) Host.shli,
    TRef.nullary (.of main_call6_call0_call0_c_30 : TRef sig ⟨S_, .i32⟩) (constantI S_ 32 3#32),
    TRef.unary (.of main_call6_call0_call0_c_30 : TRef sig ⟨S_, .i32⟩) (.of main_call6_call0_call0_v118 : TRef sig ⟨S64x100000, .i32⟩) (broadcastInDim S64x100000 ![] bcast_S_S64x100000),
    TRef.binary (.of main_call6_call0_call0_v114 : TRef sig ⟨S64x100000, .i32⟩) (.of main_call6_call0_call0_v118 : TRef sig ⟨S64x100000, .i32⟩) (.of main_call6_call0_call0_v119 : TRef sig ⟨S64x100000, .i32⟩) Host.shrui,
    TRef.binary (.of main_call6_call0_call0_v117 : TRef sig ⟨S64x100000, .i32⟩) (.of main_call6_call0_call0_v119 : TRef sig ⟨S64x100000, .i32⟩) (.of main_call6_call0_call0_v120 : TRef sig ⟨S64x100000, .i32⟩) ori,
    TRef.binary (.of main_call6_call0_call0_v115 : TRef sig ⟨S64x100000, .i32⟩) (.of main_call6_call0_call0_v120 : TRef sig ⟨S64x100000, .i32⟩) (.of main_call6_call0_call0_v121 : TRef sig ⟨S64x100000, .i32⟩) xori,
    TRef.binary (.of main_call6_call0_call0_v115 : TRef sig ⟨S64x100000, .i32⟩) (.of main_call6_call0_call0_v121 : TRef sig ⟨S64x100000, .i32⟩) (.of main_call6_call0_call0_v122 : TRef sig ⟨S64x100000, .i32⟩) addi,
    TRef.nullary (.of main_call6_call0_call0_c_31 : TRef sig ⟨S_, .i32⟩) (constantI S_ 32 16#32),
    TRef.unary (.of main_call6_call0_call0_c_31 : TRef sig ⟨S_, .i32⟩) (.of main_call6_call0_call0_v123 : TRef sig ⟨S64x100000, .i32⟩) (broadcastInDim S64x100000 ![] bcast_S_S64x100000),
    TRef.binary (.of main_call6_call0_call0_v121 : TRef sig ⟨S64x100000, .i32⟩) (.of main_call6_call0_call0_v123 : TRef sig ⟨S64x100000, .i32⟩) (.of main_call6_call0_call0_v124 : TRef sig ⟨S64x100000, .i32⟩) Host.shli,
    TRef.nullary (.of main_call6_call0_call0_c_32 : TRef sig ⟨S_, .i32⟩) (constantI S_ 32 16#32),
    TRef.unary (.of main_call6_call0_call0_c_32 : TRef sig ⟨S_, .i32⟩) (.of main_call6_call0_call0_v125 : TRef sig ⟨S64x100000, .i32⟩) (broadcastInDim S64x100000 ![] bcast_S_S64x100000),
    TRef.binary (.of main_call6_call0_call0_v121 : TRef sig ⟨S64x100000, .i32⟩) (.of main_call6_call0_call0_v125 : TRef sig ⟨S64x100000, .i32⟩) (.of main_call6_call0_call0_v126 : TRef sig ⟨S64x100000, .i32⟩) Host.shrui,
    TRef.binary (.of main_call6_call0_call0_v124 : TRef sig ⟨S64x100000, .i32⟩) (.of main_call6_call0_call0_v126 : TRef sig ⟨S64x100000, .i32⟩) (.of main_call6_call0_call0_v127 : TRef sig ⟨S64x100000, .i32⟩) ori,
    TRef.binary (.of main_call6_call0_call0_v122 : TRef sig ⟨S64x100000, .i32⟩) (.of main_call6_call0_call0_v127 : TRef sig ⟨S64x100000, .i32⟩) (.of main_call6_call0_call0_v128 : TRef sig ⟨S64x100000, .i32⟩) xori,
    TRef.binary (.of main_call6_call0_call0_v122 : TRef sig ⟨S64x100000, .i32⟩) (.of main_call6_call0_call0_v128 : TRef sig ⟨S64x100000, .i32⟩) (.of main_call6_call0_call0_v129 : TRef sig ⟨S64x100000, .i32⟩) addi,
    TRef.nullary (.of main_call6_call0_call0_c_33 : TRef sig ⟨S_, .i32⟩) (constantI S_ 32 24#32),
    TRef.unary (.of main_call6_call0_call0_c_33 : TRef sig ⟨S_, .i32⟩) (.of main_call6_call0_call0_v130 : TRef sig ⟨S64x100000, .i32⟩) (broadcastInDim S64x100000 ![] bcast_S_S64x100000),
    TRef.binary (.of main_call6_call0_call0_v128 : TRef sig ⟨S64x100000, .i32⟩) (.of main_call6_call0_call0_v130 : TRef sig ⟨S64x100000, .i32⟩) (.of main_call6_call0_call0_v131 : TRef sig ⟨S64x100000, .i32⟩) Host.shli,
    TRef.nullary (.of main_call6_call0_call0_c_34 : TRef sig ⟨S_, .i32⟩) (constantI S_ 32 8#32) ]

/-- What `noiseOps7` writes, in order. -/
abbrev noiseOps7_W : List (Ref sig .tc) := [main_call6_call0_call0_v114, main_call6_call0_call0_v115, main_call6_call0_call0_c_29, main_call6_call0_call0_v116, main_call6_call0_call0_v117, main_call6_call0_call0_c_30, main_call6_call0_call0_v118, main_call6_call0_call0_v119, main_call6_call0_call0_v120, main_call6_call0_call0_v121, main_call6_call0_call0_v122, main_call6_call0_call0_c_31, main_call6_call0_call0_v123, main_call6_call0_call0_v124, main_call6_call0_call0_c_32, main_call6_call0_call0_v125, main_call6_call0_call0_v126, main_call6_call0_call0_v127, main_call6_call0_call0_v128, main_call6_call0_call0_v129, main_call6_call0_call0_c_33, main_call6_call0_call0_v130, main_call6_call0_call0_v131, main_call6_call0_call0_c_34]
theorem noiseOps7_writes : (noiseOps7 : List (HloOp τ sig (Elt F))).Forall fun op => op.writes ⊆ (noiseOps7_W.map (Proc.devRef (τ := τ) .tc)).toFinset :=
  forall_writes_sub_of_map rfl
theorem noiseOps7_fresh : (noiseOps7 : List (HloOp τ sig (Elt F))).Forall fun op => op.fresh = ∅ := by
  simp only [List.Forall]; repeat' constructor
theorem noiseOps7_sub : (noiseOps7 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩

/-- The noise, stage 9 of 12. -/
abbrev noiseOps8 : List (HloOp τ sig (Elt F)) :=
  [ TRef.unary (.of main_call6_call0_call0_c_34 : TRef sig ⟨S_, .i32⟩) (.of main_call6_call0_call0_v132 : TRef sig ⟨S64x100000, .i32⟩) (broadcastInDim S64x100000 ![] bcast_S_S64x100000),
    TRef.binary (.of main_call6_call0_call0_v128 : TRef sig ⟨S64x100000, .i32⟩) (.of main_call6_call0_call0_v132 : TRef sig ⟨S64x100000, .i32⟩) (.of main_call6_call0_call0_v133 : TRef sig ⟨S64x100000, .i32⟩) Host.shrui,
    TRef.binary (.of main_call6_call0_call0_v131 : TRef sig ⟨S64x100000, .i32⟩) (.of main_call6_call0_call0_v133 : TRef sig ⟨S64x100000, .i32⟩) (.of main_call6_call0_call0_v134 : TRef sig ⟨S64x100000, .i32⟩) ori,
    TRef.binary (.of main_call6_call0_call0_v129 : TRef sig ⟨S64x100000, .i32⟩) (.of main_call6_call0_call0_v134 : TRef sig ⟨S64x100000, .i32⟩) (.of main_call6_call0_call0_v135 : TRef sig ⟨S64x100000, .i32⟩) xori,
    TRef.unary (.of main_call6_call0_v6 : TRef sig ⟨S_, .i32⟩) (.of main_call6_call0_call0_v136 : TRef sig ⟨S64x100000, .i32⟩) (broadcastInDim S64x100000 ![] bcast_S_S64x100000),
    TRef.binary (.of main_call6_call0_call0_v129 : TRef sig ⟨S64x100000, .i32⟩) (.of main_call6_call0_call0_v136 : TRef sig ⟨S64x100000, .i32⟩) (.of main_call6_call0_call0_v137 : TRef sig ⟨S64x100000, .i32⟩) addi,
    TRef.unary (.of main_call6_call0_call0_v1 : TRef sig ⟨S_, .i32⟩) (.of main_call6_call0_call0_v138 : TRef sig ⟨S64x100000, .i32⟩) (broadcastInDim S64x100000 ![] bcast_S_S64x100000),
    TRef.binary (.of main_call6_call0_call0_v135 : TRef sig ⟨S64x100000, .i32⟩) (.of main_call6_call0_call0_v138 : TRef sig ⟨S64x100000, .i32⟩) (.of main_call6_call0_call0_v139 : TRef sig ⟨S64x100000, .i32⟩) addi,
    TRef.nullary (.of main_call6_call0_call0_c_35 : TRef sig ⟨S_, .i32⟩) (constantI S_ 32 4#32),
    TRef.unary (.of main_call6_call0_call0_c_35 : TRef sig ⟨S_, .i32⟩) (.of main_call6_call0_call0_v140 : TRef sig ⟨S64x100000, .i32⟩) (broadcastInDim S64x100000 ![] bcast_S_S64x100000),
    TRef.binary (.of main_call6_call0_call0_v139 : TRef sig ⟨S64x100000, .i32⟩) (.of main_call6_call0_call0_v140 : TRef sig ⟨S64x100000, .i32⟩) (.of main_call6_call0_call0_v141 : TRef sig ⟨S64x100000, .i32⟩) addi,
    TRef.binary (.of main_call6_call0_call0_v137 : TRef sig ⟨S64x100000, .i32⟩) (.of main_call6_call0_call0_v141 : TRef sig ⟨S64x100000, .i32⟩) (.of main_call6_call0_call0_v142 : TRef sig ⟨S64x100000, .i32⟩) addi,
    TRef.nullary (.of main_call6_call0_call0_c_36 : TRef sig ⟨S_, .i32⟩) (constantI S_ 32 13#32),
    TRef.unary (.of main_call6_call0_call0_c_36 : TRef sig ⟨S_, .i32⟩) (.of main_call6_call0_call0_v143 : TRef sig ⟨S64x100000, .i32⟩) (broadcastInDim S64x100000 ![] bcast_S_S64x100000),
    TRef.binary (.of main_call6_call0_call0_v141 : TRef sig ⟨S64x100000, .i32⟩) (.of main_call6_call0_call0_v143 : TRef sig ⟨S64x100000, .i32⟩) (.of main_call6_call0_call0_v144 : TRef sig ⟨S64x100000, .i32⟩) Host.shli,
    TRef.nullary (.of main_call6_call0_call0_c_37 : TRef sig ⟨S_, .i32⟩) (constantI S_ 32 19#32),
    TRef.unary (.of main_call6_call0_call0_c_37 : TRef sig ⟨S_, .i32⟩) (.of main_call6_call0_call0_v145 : TRef sig ⟨S64x100000, .i32⟩) (broadcastInDim S64x100000 ![] bcast_S_S64x100000),
    TRef.binary (.of main_call6_call0_call0_v141 : TRef sig ⟨S64x100000, .i32⟩) (.of main_call6_call0_call0_v145 : TRef sig ⟨S64x100000, .i32⟩) (.of main_call6_call0_call0_v146 : TRef sig ⟨S64x100000, .i32⟩) Host.shrui,
    TRef.binary (.of main_call6_call0_call0_v144 : TRef sig ⟨S64x100000, .i32⟩) (.of main_call6_call0_call0_v146 : TRef sig ⟨S64x100000, .i32⟩) (.of main_call6_call0_call0_v147 : TRef sig ⟨S64x100000, .i32⟩) ori,
    TRef.binary (.of main_call6_call0_call0_v142 : TRef sig ⟨S64x100000, .i32⟩) (.of main_call6_call0_call0_v147 : TRef sig ⟨S64x100000, .i32⟩) (.of main_call6_call0_call0_v148 : TRef sig ⟨S64x100000, .i32⟩) xori,
    TRef.binary (.of main_call6_call0_call0_v142 : TRef sig ⟨S64x100000, .i32⟩) (.of main_call6_call0_call0_v148 : TRef sig ⟨S64x100000, .i32⟩) (.of main_call6_call0_call0_v149 : TRef sig ⟨S64x100000, .i32⟩) addi,
    TRef.nullary (.of main_call6_call0_call0_c_38 : TRef sig ⟨S_, .i32⟩) (constantI S_ 32 15#32),
    TRef.unary (.of main_call6_call0_call0_c_38 : TRef sig ⟨S_, .i32⟩) (.of main_call6_call0_call0_v150 : TRef sig ⟨S64x100000, .i32⟩) (broadcastInDim S64x100000 ![] bcast_S_S64x100000),
    TRef.binary (.of main_call6_call0_call0_v148 : TRef sig ⟨S64x100000, .i32⟩) (.of main_call6_call0_call0_v150 : TRef sig ⟨S64x100000, .i32⟩) (.of main_call6_call0_call0_v151 : TRef sig ⟨S64x100000, .i32⟩) Host.shli ]

/-- What `noiseOps8` writes, in order. -/
abbrev noiseOps8_W : List (Ref sig .tc) := [main_call6_call0_call0_v132, main_call6_call0_call0_v133, main_call6_call0_call0_v134, main_call6_call0_call0_v135, main_call6_call0_call0_v136, main_call6_call0_call0_v137, main_call6_call0_call0_v138, main_call6_call0_call0_v139, main_call6_call0_call0_c_35, main_call6_call0_call0_v140, main_call6_call0_call0_v141, main_call6_call0_call0_v142, main_call6_call0_call0_c_36, main_call6_call0_call0_v143, main_call6_call0_call0_v144, main_call6_call0_call0_c_37, main_call6_call0_call0_v145, main_call6_call0_call0_v146, main_call6_call0_call0_v147, main_call6_call0_call0_v148, main_call6_call0_call0_v149, main_call6_call0_call0_c_38, main_call6_call0_call0_v150, main_call6_call0_call0_v151]
theorem noiseOps8_writes : (noiseOps8 : List (HloOp τ sig (Elt F))).Forall fun op => op.writes ⊆ (noiseOps8_W.map (Proc.devRef (τ := τ) .tc)).toFinset :=
  forall_writes_sub_of_map rfl
theorem noiseOps8_fresh : (noiseOps8 : List (HloOp τ sig (Elt F))).Forall fun op => op.fresh = ∅ := by
  simp only [List.Forall]; repeat' constructor
theorem noiseOps8_sub : (noiseOps8 : List (HloOp τ sig (Elt F))).Forall fun op => op.bufs ⊆ tcRefs τ sig :=
  ⟨unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩

/-- The noise, stage 10 of 12. -/
abbrev noiseOps9 : List (HloOp τ sig (Elt F)) :=
  [ TRef.nullary (.of main_call6_call0_call0_c_39 : TRef sig ⟨S_, .i32⟩) (constantI S_ 32 17#32),
    TRef.unary (.of main_call6_call0_call0_c_39 : TRef sig ⟨S_, .i32⟩) (.of main_call6_call0_call0_v152 : TRef sig ⟨S64x100000, .i32⟩) (broadcastInDim S64x100000 ![] bcast_S_S64x100000),
    TRef.binary (.of main_call6_call0_call0_v148 : TRef sig ⟨S64x100000, .i32⟩) (.of main_call6_call0_call0_v152 : TRef sig ⟨S64x100000, .i32⟩) (.of main_call6_call0_call0_v153 : TRef sig ⟨S64x100000, .i32⟩) Host.shrui,
    TRef.binary (.of main_call6_call0_call0_v151 : TRef sig ⟨S64x100000, .i32⟩) (.of main_call6_call0_call0_v153 : TRef sig ⟨S64x100000, .i32⟩) (.of main_call6_call0_call0_v154 : TRef sig ⟨S64x100000, .i32⟩) ori,
    TRef.binary (.of main_call6_call0_call0_v149 : TRef sig ⟨S64x100000, .i32⟩) (.of main_call6_call0_call0_v154 : TRef sig ⟨S64x100000, .i32⟩) (.of main_call6_call0_call0_v155 : TRef sig ⟨S64x100000, .i32⟩) xori,
    TRef.binary (.of main_call6_call0_call0_v149 : TRef sig ⟨S64x100000, .i32⟩) (.of main_call6_call0_call0_v155 : TRef sig ⟨S64x100000, .i32⟩) (.of main_call6_call0_call0_v156 : TRef sig ⟨S64x100000, .i32⟩) addi,
    TRef.nullary (.of main_call6_call0_call0_c_40 : TRef sig ⟨S_, .i32⟩) (constantI S_ 32 26#32),
    TRef.unary (.of main_call6_call0_call0_c_40 : TRef sig ⟨S_, .i32⟩) (.of main_call6_call0_call0_v157 : TRef sig ⟨S64x100000, .i32⟩) (broadcastInDim S64x100000 ![] bcast_S_S64x100000),
    TRef.binary (.of main_call6_call0_call0_v155 : TRef sig ⟨S64x100000, .i32⟩) (.of main_call6_call0_call0_v157 : TRef sig ⟨S64x100000, .i32⟩) (.of main_call6_call0_call0_v158 : TRef sig ⟨S64x100000, .i32⟩) Host.shli,
    TRef.nullary (.of main_call6_call0_call0_c_41 : TRef sig ⟨S_, .i32⟩) (constantI S_ 32 6#32),
    TRef.unary (.of main_call6_call0_call0_c_41 : TRef sig ⟨S_, .i32⟩) (.of main_call6_call0_call0_v159 : TRef sig ⟨S64x100000, .i32⟩) (broadcastInDim S64x100000 ![] bcast_S_S64x100000),
    TRef.binary (.of main_call6_call0_call0_v155 : TRef sig ⟨S64x100000, .i32⟩) (.of main_call6_call0_call0_v159 : TRef sig ⟨S64x100000, .i32⟩) (.of main_call6_call0_call0_v160 : TRef sig ⟨S64x100000, .i32⟩) Host.shrui,
    TRef.binary (.of main_call6_call0_call0_v158 : TRef sig ⟨S64x100000, .i32⟩) (.of main_call6_call0_call0_v160 : TRef sig ⟨S64x100000, .i32⟩) (.of main_call6_call0_call0_v161 : TRef sig ⟨S64x100000, .i32⟩) ori,
    TRef.binary (.of main_call6_call0_call0_v156 : TRef sig ⟨S64x100000, .i32⟩) (.of main_call6_call0_call0_v161 : TRef sig ⟨S64x100000, .i32⟩) (.of main_call6_call0_call0_v162 : TRef sig ⟨S64x100000, .i32⟩) xori,
    TRef.binary (.of main_call6_call0_call0_v156 : TRef sig ⟨S64x100000, .i32⟩) (.of main_call6_call0_call0_v162 : TRef sig ⟨S64x100000, .i32⟩) (.of main_call6_call0_call0_v163 : TRef sig ⟨S64x100000, .i32⟩) addi,
    TRef.nullary (.of main_call6_call0_call0_c_42 : TRef sig ⟨S_, .i32⟩) (constantI S_ 32 6#32),
    TRef.unary (.of main_call6_call0_call0_c_42 : TRef sig ⟨S_, .i32⟩) (.of main_call6_call0_call0_v164 : TRef sig ⟨S64x100000, .i32⟩) (broadcastInDim S64x100000 ![] bcast_S_S64x100000),
    TRef.binary (.of main_call6_call0_call0_v162 : TRef sig ⟨S64x100000, .i32⟩) (.of main_call6_call0_call0_v164 : TRef sig ⟨S64x100000, .i32⟩) (.of main_call6_call0_call0_v165 : TRef sig ⟨S64x100000, .i32⟩) Host.shli,
    TRef.nullary (.of main_call6_call0_call0_c_43 : TRef sig ⟨S_, .i32⟩) (constantI S_ 32 26#32),
    TRef.unary (.of main_call6_call0_call0_c_43 : TRef sig ⟨S_, .i32⟩) (.of main_call6_call0_call0_v166 : TRef sig ⟨S64x100000, .i32⟩) (broadcastInDim S64x100000 ![] bcast_S_S64x100000),
    TRef.binary (.of main_call6_call0_call0_v162 : TRef sig ⟨S64x100000, .i32⟩) (.of main_call6_call0_call0_v166 : TRef sig ⟨S64x100000, .i32⟩) (.of main_call6_call0_call0_v167 : TRef sig ⟨S64x100000, .i32⟩) Host.shrui,
    TRef.binary (.of main_call6_call0_call0_v165 : TRef sig ⟨S64x100000, .i32⟩) (.of main_call6_call0_call0_v167 : TRef sig ⟨S64x100000, .i32⟩) (.of main_call6_call0_call0_v168 : TRef sig ⟨S64x100000, .i32⟩) ori,
    TRef.binary (.of main_call6_call0_call0_v163 : TRef sig ⟨S64x100000, .i32⟩) (.of main_call6_call0_call0_v168 : TRef sig ⟨S64x100000, .i32⟩) (.of main_call6_call0_call0_v169 : TRef sig ⟨S64x100000, .i32⟩) xori,
    TRef.unary (.of main_call6_call0_call0_v1 : TRef sig ⟨S_, .i32⟩) (.of main_call6_call0_call0_v170 : TRef sig ⟨S64x100000, .i32⟩) (broadcastInDim S64x100000 ![] bcast_S_S64x100000) ]

/-- What `noiseOps9` writes, in order. -/
abbrev noiseOps9_W : List (Ref sig .tc) := [main_call6_call0_call0_c_39, main_call6_call0_call0_v152, main_call6_call0_call0_v153, main_call6_call0_call0_v154, main_call6_call0_call0_v155, main_call6_call0_call0_v156, main_call6_call0_call0_c_40, main_call6_call0_call0_v157, main_call6_call0_call0_v158, main_call6_call0_call0_c_41, main_call6_call0_call0_v159, main_call6_call0_call0_v160, main_call6_call0_call0_v161, main_call6_call0_call0_v162, main_call6_call0_call0_v163, main_call6_call0_call0_c_42, main_call6_call0_call0_v164, main_call6_call0_call0_v165, main_call6_call0_call0_c_43, main_call6_call0_call0_v166, main_call6_call0_call0_v167, main_call6_call0_call0_v168, main_call6_call0_call0_v169, main_call6_call0_call0_v170]
theorem noiseOps9_writes : (noiseOps9 : List (HloOp τ sig (Elt F))).Forall fun op => op.writes ⊆ (noiseOps9_W.map (Proc.devRef (τ := τ) .tc)).toFinset :=
  forall_writes_sub_of_map rfl
theorem noiseOps9_fresh : (noiseOps9 : List (HloOp τ sig (Elt F))).Forall fun op => op.fresh = ∅ := by
  simp only [List.Forall]; repeat' constructor
theorem noiseOps9_sub : (noiseOps9 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub ..⟩

/-- The noise, stage 11 of 12. -/
abbrev noiseOps10 : List (HloOp τ sig (Elt F)) :=
  [ TRef.binary (.of main_call6_call0_call0_v163 : TRef sig ⟨S64x100000, .i32⟩) (.of main_call6_call0_call0_v170 : TRef sig ⟨S64x100000, .i32⟩) (.of main_call6_call0_v18_0 : TRef sig ⟨S64x100000, .i32⟩) addi,
    TRef.unary (.of main_call6_call0_v4 : TRef sig ⟨S_, .i32⟩) (.of main_call6_call0_call0_v172 : TRef sig ⟨S64x100000, .i32⟩) (broadcastInDim S64x100000 ![] bcast_S_S64x100000),
    TRef.binary (.of main_call6_call0_call0_v169 : TRef sig ⟨S64x100000, .i32⟩) (.of main_call6_call0_call0_v172 : TRef sig ⟨S64x100000, .i32⟩) (.of main_call6_call0_call0_v173 : TRef sig ⟨S64x100000, .i32⟩) addi,
    TRef.nullary (.of main_call6_call0_call0_c_44 : TRef sig ⟨S_, .i32⟩) (constantI S_ 32 5#32),
    TRef.unary (.of main_call6_call0_call0_c_44 : TRef sig ⟨S_, .i32⟩) (.of main_call6_call0_call0_v174 : TRef sig ⟨S64x100000, .i32⟩) (broadcastInDim S64x100000 ![] bcast_S_S64x100000),
    TRef.binary (.of main_call6_call0_call0_v173 : TRef sig ⟨S64x100000, .i32⟩) (.of main_call6_call0_call0_v174 : TRef sig ⟨S64x100000, .i32⟩) (.of main_call6_call0_v18_1 : TRef sig ⟨S64x100000, .i32⟩) addi,
    TRef.binary (.of main_call6_call0_v18_0 : TRef sig ⟨S64x100000, .i32⟩) (.of main_call6_call0_v18_1 : TRef sig ⟨S64x100000, .i32⟩) (.of main_call6_call0_v19 : TRef sig ⟨S64x100000, .i32⟩) xori ]

/-- What `noiseOps10` writes, in order. -/
abbrev noiseOps10_W : List (Ref sig .tc) := [main_call6_call0_v18_0, main_call6_call0_call0_v172, main_call6_call0_call0_v173, main_call6_call0_call0_c_44, main_call6_call0_call0_v174, main_call6_call0_v18_1, main_call6_call0_v19]
theorem noiseOps10_writes : (noiseOps10 : List (HloOp τ sig (Elt F))).Forall fun op => op.writes ⊆ (noiseOps10_W.map (Proc.devRef (τ := τ) .tc)).toFinset :=
  forall_writes_sub_of_map rfl
theorem noiseOps10_fresh : (noiseOps10 : List (HloOp τ sig (Elt F))).Forall fun op => op.fresh = ∅ := by
  simp only [List.Forall]; repeat' constructor
theorem noiseOps10_sub : (noiseOps10 : List (HloOp τ sig (Elt F))).Forall fun op => op.bufs ⊆ tcRefs τ sig :=
  ⟨binary_bufs_sub .., unary_bufs_sub .., binary_bufs_sub .., nullary_bufs_sub .., unary_bufs_sub .., binary_bufs_sub .., binary_bufs_sub ..⟩

/-- The noise, stage 12 of 12. -/
abbrev noiseOps11 : List (HloOp τ sig (Elt F)) :=
  [ TRef.nullary (.of main_call6_call0_c_2 : TRef sig ⟨S_, .i32⟩) (constantI S_ 32 9#32),
    TRef.unary (.of main_call6_call0_c_2 : TRef sig ⟨S_, .i32⟩) (.of main_call6_call0_v20 : TRef sig ⟨S64x100000, .i32⟩) (broadcastInDim S64x100000 ![] bcast_S_S64x100000),
    TRef.binary (.of main_call6_call0_v19 : TRef sig ⟨S64x100000, .i32⟩) (.of main_call6_call0_v20 : TRef sig ⟨S64x100000, .i32⟩) (.of main_call6_call0_v21 : TRef sig ⟨S64x100000, .i32⟩) Host.shrui,
    TRef.nullary (.of main_call6_call0_c_3 : TRef sig ⟨S_, .i32⟩) (constantI S_ 32 1065353216#32),
    TRef.unary (.of main_call6_call0_c_3 : TRef sig ⟨S_, .i32⟩) (.of main_call6_call0_v22 : TRef sig ⟨S64x100000, .i32⟩) (broadcastInDim S64x100000 ![] bcast_S_S64x100000),
    TRef.binary (.of main_call6_call0_v21 : TRef sig ⟨S64x100000, .i32⟩) (.of main_call6_call0_v22 : TRef sig ⟨S64x100000, .i32⟩) (.of main_call6_call0_v23 : TRef sig ⟨S64x100000, .i32⟩) ori,
    TRef.unary (.of main_call6_call0_v23 : TRef sig ⟨S64x100000, .i32⟩) (.of main_call6_call0_v24 : TRef sig ⟨S64x100000, .f32⟩) (bitcastToFloat .f32),
    TRef.nullary (.of main_call6_call0_cst : TRef sig ⟨S_, .f32⟩) (constant S_ .f32 0x3F800000#32),
    TRef.unary (.of main_call6_call0_cst : TRef sig ⟨S_, .f32⟩) (.of main_call6_call0_v25 : TRef sig ⟨S64x100000, .f32⟩) (broadcastInDim S64x100000 ![] bcast_S_S64x100000),
    TRef.binary (.of main_call6_call0_v24 : TRef sig ⟨S64x100000, .f32⟩) (.of main_call6_call0_v25 : TRef sig ⟨S64x100000, .f32⟩) (.of main_call6_call0_v26 : TRef sig ⟨S64x100000, .f32⟩) subf,
    TRef.binary (.of main_call6_call0_v2 : TRef sig ⟨S1x1, .f32⟩) (.of main_call6_call0_v1 : TRef sig ⟨S1x1, .f32⟩) (.of main_call6_call0_v27 : TRef sig ⟨S1x1, .f32⟩) subf,
    TRef.unary (.of main_call6_call0_v27 : TRef sig ⟨S1x1, .f32⟩) (.of main_call6_call0_v28 : TRef sig ⟨S64x100000, .f32⟩) (broadcastInDim S64x100000 ![0, 1] bcast_S1x1_S64x100000_0_1),
    TRef.binary (.of main_call6_call0_v26 : TRef sig ⟨S64x100000, .f32⟩) (.of main_call6_call0_v28 : TRef sig ⟨S64x100000, .f32⟩) (.of main_call6_call0_v29 : TRef sig ⟨S64x100000, .f32⟩) mulf,
    TRef.unary (.of main_call6_call0_v1 : TRef sig ⟨S1x1, .f32⟩) (.of main_call6_call0_v30 : TRef sig ⟨S64x100000, .f32⟩) (broadcastInDim S64x100000 ![0, 1] bcast_S1x1_S64x100000_0_1),
    TRef.binary (.of main_call6_call0_v29 : TRef sig ⟨S64x100000, .f32⟩) (.of main_call6_call0_v30 : TRef sig ⟨S64x100000, .f32⟩) (.of main_call6_call0_v31 : TRef sig ⟨S64x100000, .f32⟩) addf,
    TRef.unary (.of main_call6_call0_v1 : TRef sig ⟨S1x1, .f32⟩) (.of main_call6_call0_v32 : TRef sig ⟨S64x100000, .f32⟩) (broadcastInDim S64x100000 ![0, 1] bcast_S1x1_S64x100000_0_1),
    TRef.binary (.of main_call6_call0_v32 : TRef sig ⟨S64x100000, .f32⟩) (.of main_call6_call0_v31 : TRef sig ⟨S64x100000, .f32⟩) (.of main_call6_v0 : TRef sig ⟨S64x100000, .f32⟩) maximumf,
    TRef.unary (.of main_call6_v0 : TRef sig ⟨S64x100000, .f32⟩) (.of main_call6_v1 : TRef sig ⟨S64x100000, .f32⟩) Host.log,
    TRef.unary (.of main_call6_v1 : TRef sig ⟨S64x100000, .f32⟩) (.of main_call6_v2 : TRef sig ⟨S64x100000, .f32⟩) Host.negf,
    TRef.unary (.of main_call6_v2 : TRef sig ⟨S64x100000, .f32⟩) (.of main_call6_v3 : TRef sig ⟨S64x100000, .f32⟩) Host.log,
    TRef.unary (.of main_call6_v3 : TRef sig ⟨S64x100000, .f32⟩) (.of main_v34 : TRef sig ⟨S64x100000, .f32⟩) Host.negf ]

/-- What `noiseOps11` writes, in order. -/
abbrev noiseOps11_W : List (Ref sig .tc) := [main_call6_call0_c_2, main_call6_call0_v20, main_call6_call0_v21, main_call6_call0_c_3, main_call6_call0_v22, main_call6_call0_v23, main_call6_call0_v24, main_call6_call0_cst, main_call6_call0_v25, main_call6_call0_v26, main_call6_call0_v27, main_call6_call0_v28, main_call6_call0_v29, main_call6_call0_v30, main_call6_call0_v31, main_call6_call0_v32, main_call6_v0, main_call6_v1, main_call6_v2, main_call6_v3, main_v34]
theorem noiseOps11_writes : (noiseOps11 : List (HloOp τ sig (Elt F))).Forall fun op => op.writes ⊆ (noiseOps11_W.map (Proc.devRef (τ := τ) .tc)).toFinset :=
  forall_writes_sub_of_map rfl
theorem noiseOps11_fresh : (noiseOps11 : List (HloOp τ sig (Elt F))).Forall fun op => op.fresh = ∅ := by
  simp only [List.Forall]; repeat' constructor
theorem noiseOps11_sub : (noiseOps11 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩

/-- The noise added to the masked logits and the first index of the largest sum. -/
abbrev pickOps : List (HloOp τ sig (Elt F)) :=
  [ binary main_v34 main_v26 main_v35 (addf : (⟨S64x100000, .f32⟩ : BufTy).Contents (Elt F) → (⟨S64x100000, .f32⟩ : BufTy).Contents (Elt F) → (⟨S64x100000, .f32⟩ : BufTy).Contents (Elt F)),
    TRef.nullary (.of main_call7_v0 : TRef sig ⟨S64x100000, .i32⟩) (iotaInDim S64x100000 32 1),
    TRef.nullary (.of main_call7_cst : TRef sig ⟨S_, .f32⟩) (constant S_ .f32 0xFF800000#32),
    TRef.nullary (.of main_call7_c : TRef sig ⟨S_, .i32⟩) (constantI S_ 32 0#32),
    TRef.quaternary (.of main_v35 : TRef sig ⟨S64x100000, .f32⟩) (.of main_call7_v0 : TRef sig ⟨S64x100000, .i32⟩) (.of main_call7_cst : TRef sig ⟨S_, .f32⟩) (.of main_call7_c : TRef sig ⟨S_, .i32⟩) (.of main_call7_v1_0 : TRef sig ⟨S64, .f32⟩) (fun x y u v j => (Host.argReduce reducer_argmax_f32_i32 x y u v reducesTo_S64x100000_S64_d1 h_S_ j).1),
    TRef.quaternary (.of main_v35 : TRef sig ⟨S64x100000, .f32⟩) (.of main_call7_v0 : TRef sig ⟨S64x100000, .i32⟩) (.of main_call7_cst : TRef sig ⟨S_, .f32⟩) (.of main_call7_c : TRef sig ⟨S_, .i32⟩) (.of main_v36 : TRef sig ⟨S64, .i32⟩) (fun x y u v j => (Host.argReduce reducer_argmax_f32_i32 x y u v reducesTo_S64x100000_S64_d1 h_S_ j).2) ]

/-- What `pickOps` writes, in order. -/
abbrev pickOps_W : List (Ref sig .tc) := [main_v35, main_call7_v0, main_call7_cst, main_call7_c, main_call7_v1_0, main_v36]
theorem pickOps_writes : (pickOps : List (HloOp τ sig (Elt F))).Forall fun op => op.writes ⊆ (pickOps_W.map (Proc.devRef (τ := τ) .tc)).toFinset :=
  forall_writes_sub_of_map rfl
theorem pickOps_fresh : (pickOps : List (HloOp τ sig (Elt F))).Forall fun op => op.fresh = ∅ := by
  simp only [List.Forall]; repeat' constructor
theorem pickOps_sub : (pickOps : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩

end Cert.ReferenceIdeal.Run

end
-- ==== Proof.Ref.Run.lean ====
module

public import proofs.«01_k».proof.Proof.Ref.Ops

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! # The reference's run -/

/-- The noise's operations, all its stages. -/
abbrev noiseOps : List (HloOp τ sig (Elt F)) :=
  noiseOps0 ++ (noiseOps1 ++ (noiseOps2 ++ (noiseOps3 ++ (noiseOps4 ++ (noiseOps5 ++ (noiseOps6 ++ (noiseOps7 ++ (noiseOps8 ++ (noiseOps9 ++ (noiseOps10 ++ (noiseOps11)))))))))))

/-- The reference's operations, all its stages. -/
abbrev ops : List (HloOp τ sig (Elt F)) :=
  logitOps ++ (orderOps ++ (wrapOps ++ (sortedOps ++ (massOps ++ (keepOps ++ (inverseOps ++ (wrapBackOps ++ (backOps ++ (keyOps ++ (noiseOps ++ (pickOps)))))))))))

set_option maxRecDepth 4000 in
/-- The reference is that straight line. -/
theorem main_eq (c : Dev nD) : main (F := F) c = seq ops := by
  chain_rfl

theorem noise_all {p : HloOp τ sig (Elt F) → Prop} (h0 : noiseOps0.Forall p) (h1 : noiseOps1.Forall p) (h2 : noiseOps2.Forall p) (h3 : noiseOps3.Forall p) (h4 : noiseOps4.Forall p) (h5 : noiseOps5.Forall p) (h6 : noiseOps6.Forall p) (h7 : noiseOps7.Forall p) (h8 : noiseOps8.Forall p) (h9 : noiseOps9.Forall p) (h10 : noiseOps10.Forall p) (h11 : noiseOps11.Forall p) : noiseOps.Forall p := by
  simp only [List.forall_append]
  exact ⟨h0, h1, h2, h3, h4, h5, h6, h7, h8, h9, h10, h11⟩

theorem noise_sub : (noiseOps : List (HloOp τ sig (Elt F))).Forall fun op => op.bufs ⊆ tcRefs τ sig :=
  noise_all noiseOps0_sub noiseOps1_sub noiseOps2_sub noiseOps3_sub noiseOps4_sub noiseOps5_sub noiseOps6_sub noiseOps7_sub noiseOps8_sub noiseOps9_sub noiseOps10_sub noiseOps11_sub
theorem noise_fresh : (noiseOps : List (HloOp τ sig (Elt F))).Forall fun op => op.fresh = ∅ :=
  noise_all noiseOps0_fresh noiseOps1_fresh noiseOps2_fresh noiseOps3_fresh noiseOps4_fresh noiseOps5_fresh noiseOps6_fresh noiseOps7_fresh noiseOps8_fresh noiseOps9_fresh noiseOps10_fresh noiseOps11_fresh

theorem ops_sub : (ops : List (HloOp τ sig (Elt F))).Forall fun op => op.bufs ⊆ tcRefs τ sig := by
  simp only [ops, List.forall_append]
  exact ⟨logitOps_sub, orderOps_sub, wrapOps_sub, sortedOps_sub, massOps_sub, keepOps_sub, inverseOps_sub, wrapBackOps_sub, backOps_sub, keyOps_sub, (by simpa only [List.forall_append] using noise_sub), pickOps_sub⟩
theorem ops_fresh : (ops : List (HloOp τ sig (Elt F))).Forall fun op => op.fresh = ∅ := by
  simp only [ops, List.forall_append]
  exact ⟨logitOps_fresh, orderOps_fresh, wrapOps_fresh, sortedOps_fresh, massOps_fresh, keepOps_fresh, inverseOps_fresh, wrapBackOps_fresh, backOps_fresh, keyOps_fresh, (by simpa only [List.forall_append] using noise_fresh), pickOps_fresh⟩

theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- What the operations write. -/
abbrev ops_W : List (Ref sig .tc) := logitOps_W ++ (orderOps_W ++ (wrapOps_W ++ (sortedOps_W ++ (massOps_W ++ (keepOps_W ++ (inverseOps_W ++ (wrapBackOps_W ++ (backOps_W ++ (keyOps_W ++ (noiseOps0_W ++ (noiseOps1_W ++ (noiseOps2_W ++ (noiseOps3_W ++ (noiseOps4_W ++ (noiseOps5_W ++ (noiseOps6_W ++ (noiseOps7_W ++ (noiseOps8_W ++ (noiseOps9_W ++ (noiseOps10_W ++ (noiseOps11_W ++ (pickOps_W))))))))))))))))))))))
set_option maxRecDepth 4000 in
theorem ops_writes : (ops : List (HloOp τ sig (Elt F))).Forall fun op => op.writes ⊆ (ops_W.map (Proc.devRef (τ := τ) .tc)).toFinset :=
  forall_writes_sub_of_map rfl

set_option maxRecDepth 4000 in
/-- No operation writes an argument. -/
theorem ops_args (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig) :=
  ⟨after_of_writes_sub ops V ops_writes (by decide), after_of_writes_sub ops V ops_writes (by decide),
    after_of_writes_sub ops V ops_writes (by decide), after_of_writes_sub ops V ops_writes (by decide)⟩

theorem scopedRefs_eq : (Finset.univ.filter fun b : Ref sig .tc => b.isScoped) = ∅ := by decide
theorem scopedSems_eq : (Finset.univ.filter fun sm : SemLoc sig => sm.isScoped .tc) = ∅ := by decide

/-- From any memory with zero counters every execution of the reference ends with each buffer at the fold of its
    operations over the launch contents, and the counters at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (b : DevRef τ sig))
        ∧ r.2.sem = fun _ => 0 :=
  (θ_run defs _ _).mono (fun r h => ⟨h, sem_eq_zero_of_no_sems rfl r.2⟩)
    (run_seq scopedRefs_eq scopedSems_eq defs main (fun _ => ops) main_eq (fun _ => ops_sub) m ρ
      (fun _ => List.forall_iff_forall_mem.mp ops_fresh))

end Cert.ReferenceIdeal.Run

end
-- ==== Proof.Frames.lean ====
module

public import proofs.«01_k».proof.Defs
public import proofs.«01_k».proof.Proof.Ideal.Run
public import proofs.«01_k».proof.Proof.Exact.Run
public import proofs.«01_k».proof.Proof.Ref.Run

@[expose] public section

noncomputable section

namespace Cert.Proof

open Idealize.ShloMosaic Idealize.ShloMosaic.TcCoe Idealize.SL.Sem

/-! # The frames: every program terminates, leaves its arguments and ends quiescent -/

theorem frame_kernel : Cert.quiescent_Kernel := fun m g _ =>
  (θ_run _ _ _).mono (fun _ h => ⟨fun c => (h.1 c).elim fun _ e => e.2.2, h.2⟩) (Cert.Kernel.Run.run m g)

theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run _ _ _).mono (fun _ h => ⟨fun c => (h.1 c).elim fun _ e => e.2.2, h.2⟩) (Cert.KernelIdeal.Run.run m g)

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) := by
  refine (θ_run _ _ _).mono (fun r h => ⟨fun c => ?_, h.2⟩) (Cert.ReferenceIdeal.Run.run m g)
  obtain ⟨h0, h1, h2, h3⟩ := Cert.ReferenceIdeal.Run.ops_args (F := Ideal) (StableHlo.launchContents m c)
  exact ⟨(h.1 c _).trans h0, (h.1 c _).trans h1, (h.1 c _).trans h2, (h.1 c _).trans h3⟩

end Cert.Proof

end
-- ==== Proof.Ideal.Noise.lean ====
module

public import proofs.«01_k».proof.Proof.Gen.KernelIdeal.Regions
public import Idealize.ShloMosaic.Lib.StableHlo.Run
public import Idealize.ShloMosaic.Lib.Pipeline.Regions
public import proofs.«01_k».proof.Pre_resolved

@[expose] public section

noncomputable section

namespace Cert.KernelIdeal.Noise

open Cert.KernelIdeal Cert.KernelIdeal.Gen
open Idealize.ShloMosaic Idealize.ShloMosaic.TcCoe Idealize.ShloMosaic.StableHlo Idealize.SL.Sem

variable [Cert.Pre_resolved.Facts] {F : FTy → Type} [FloatOps F]

/-! # The noise, a stage at a time -/

/-- The noise, stage 1 of 12. -/
abbrev ops0 : List (HloOp τ sig (Elt F)) :=
  [ TRef.nullary (.of main_call0_cst : TRef sig ⟨S_, .f32⟩) (constant S_ .f32 0x3F800000#32),
    TRef.nullary (.of main_call0_cst_0 : TRef sig ⟨S_, .f32⟩) (constant S_ .f32 0x00800000#32),
    TRef.unary (.of main_call0_cst : TRef sig ⟨S_, .f32⟩) (.of main_call0_call0_v0 : TRef sig ⟨S_, .f32⟩) id,
    TRef.unary (.of main_call0_cst_0 : TRef sig ⟨S_, .f32⟩) (.of main_call0_call0_v1 : TRef sig ⟨S1x1, .f32⟩) (broadcastInDim S1x1 ![] bcast_S_S1x1),
    TRef.unary (.of main_call0_call0_v0 : TRef sig ⟨S_, .f32⟩) (.of main_call0_call0_v2 : TRef sig ⟨S1x1, .f32⟩) (broadcastInDim S1x1 ![] bcast_S_S1x1),
    TRef.unary (.of main_v10 : TRef sig ⟨S2, .i32⟩) (.of main_call0_call0_v3 : TRef sig ⟨S1, .i32⟩) (extractStridedSlice S1 ![0] · slices_S2_S1_0),
    TRef.reshape (.of main_call0_call0_v3 : TRef sig ⟨S1, .i32⟩) (.of main_call0_call0_v4 : TRef sig ⟨S_, .i32⟩) (rfl : (.i32 : EltTy) = .i32) shapeCasts_S1_S_,
    TRef.unary (.of main_v10 : TRef sig ⟨S2, .i32⟩) (.of main_call0_call0_v5 : TRef sig ⟨S1, .i32⟩) (extractStridedSlice S1 ![1] · slices_S2_S1_1),
    TRef.reshape (.of main_call0_call0_v5 : TRef sig ⟨S1, .i32⟩) (.of main_call0_call0_v6 : TRef sig ⟨S_, .i32⟩) (rfl : (.i32 : EltTy) = .i32) shapeCasts_S1_S_,
    TRef.nullary (.of main_call0_call0_v7 : TRef sig ⟨S64x100000, .i64⟩) (iotaInDim S64x100000 64 0),
    TRef.nullary (.of main_call0_call0_v8 : TRef sig ⟨S64x100000, .i64⟩) (iotaInDim S64x100000 64 1),
    TRef.nullary (.of main_call0_call0_c : TRef sig ⟨S_, .i64⟩) (constantI S_ 64 100000#64),
    TRef.unary (.of main_call0_call0_c : TRef sig ⟨S_, .i64⟩) (.of main_call0_call0_v9 : TRef sig ⟨S64x100000, .i64⟩) (broadcastInDim S64x100000 ![] bcast_S_S64x100000),
    TRef.binary (.of main_call0_call0_v9 : TRef sig ⟨S64x100000, .i64⟩) (.of main_call0_call0_v7 : TRef sig ⟨S64x100000, .i64⟩) (.of main_call0_call0_v10 : TRef sig ⟨S64x100000, .i64⟩) muli,
    TRef.nullary (.of main_call0_call0_c_0 : TRef sig ⟨S_, .i64⟩) (constantI S_ 64 1#64),
    TRef.unary (.of main_call0_call0_c_0 : TRef sig ⟨S_, .i64⟩) (.of main_call0_call0_v11 : TRef sig ⟨S64x100000, .i64⟩) (broadcastInDim S64x100000 ![] bcast_S_S64x100000),
    TRef.binary (.of main_call0_call0_v11 : TRef sig ⟨S64x100000, .i64⟩) (.of main_call0_call0_v8 : TRef sig ⟨S64x100000, .i64⟩) (.of main_call0_call0_v12 : TRef sig ⟨S64x100000, .i64⟩) muli,
    TRef.binary (.of main_call0_call0_v10 : TRef sig ⟨S64x100000, .i64⟩) (.of main_call0_call0_v12 : TRef sig ⟨S64x100000, .i64⟩) (.of main_call0_call0_v13 : TRef sig ⟨S64x100000, .i64⟩) addi,
    TRef.nullary (.of main_call0_call0_c_1 : TRef sig ⟨S_, .i64⟩) (constantI S_ 64 32#64),
    TRef.unary (.of main_call0_call0_c_1 : TRef sig ⟨S_, .i64⟩) (.of main_call0_call0_v14 : TRef sig ⟨S64x100000, .i64⟩) (broadcastInDim S64x100000 ![] bcast_S_S64x100000),
    TRef.binary (.of main_call0_call0_v13 : TRef sig ⟨S64x100000, .i64⟩) (.of main_call0_call0_v14 : TRef sig ⟨S64x100000, .i64⟩) (.of main_call0_call0_v15 : TRef sig ⟨S64x100000, .i64⟩) Host.shrui,
    TRef.unary (.of main_call0_call0_v13 : TRef sig ⟨S64x100000, .i64⟩) (.of main_call0_call0_v16 : TRef sig ⟨S64x100000, .i32⟩) (trunci 32 · natLt_32_64),
    TRef.unary (.of main_call0_call0_v15 : TRef sig ⟨S64x100000, .i64⟩) (.of main_call0_call0_v17 : TRef sig ⟨S64x100000, .i32⟩) (trunci 32 · natLt_32_64) ]

/-- What `ops0` writes, in order. -/
abbrev ops0_W : List (Ref sig .tc) := [main_call0_cst, main_call0_cst_0, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_c_0, main_call0_call0_v11, main_call0_call0_v12, main_call0_call0_v13, main_call0_call0_c_1, main_call0_call0_v14, main_call0_call0_v15, main_call0_call0_v16, main_call0_call0_v17]
theorem ops0_writes : (ops0 : List (HloOp τ sig (Elt F))).Forall fun op => op.writes ⊆ (ops0_W.map (Proc.devRef (τ := τ) .tc)).toFinset :=
  forall_writes_sub_of_map rfl

/-- The noise, stage 2 of 12. -/
abbrev ops1 : List (HloOp τ sig (Elt F)) :=
  [ TRef.binary (.of main_call0_call0_v4 : TRef sig ⟨S_, .i32⟩) (.of main_call0_call0_v6 : TRef sig ⟨S_, .i32⟩) (.of main_call0_call0_call0_v0 : TRef sig ⟨S_, .i32⟩) xori,
    TRef.nullary (.of main_call0_call0_call0_c : TRef sig ⟨S_, .i32⟩) (constantI S_ 32 466688986#32),
    TRef.binary (.of main_call0_call0_call0_v0 : TRef sig ⟨S_, .i32⟩) (.of main_call0_call0_call0_c : TRef sig ⟨S_, .i32⟩) (.of main_call0_call0_call0_v1 : TRef sig ⟨S_, .i32⟩) xori,
    TRef.unary (.of main_call0_call0_v4 : TRef sig ⟨S_, .i32⟩) (.of main_call0_call0_call0_v2 : TRef sig ⟨S64x100000, .i32⟩) (broadcastInDim S64x100000 ![] bcast_S_S64x100000),
    TRef.binary (.of main_call0_call0_v17 : TRef sig ⟨S64x100000, .i32⟩) (.of main_call0_call0_call0_v2 : TRef sig ⟨S64x100000, .i32⟩) (.of main_call0_call0_call0_v3 : TRef sig ⟨S64x100000, .i32⟩) addi,
    TRef.unary (.of main_call0_call0_v6 : TRef sig ⟨S_, .i32⟩) (.of main_call0_call0_call0_v4 : TRef sig ⟨S64x100000, .i32⟩) (broadcastInDim S64x100000 ![] bcast_S_S64x100000),
    TRef.binary (.of main_call0_call0_v16 : TRef sig ⟨S64x100000, .i32⟩) (.of main_call0_call0_call0_v4 : TRef sig ⟨S64x100000, .i32⟩) (.of main_call0_call0_call0_v5 : TRef sig ⟨S64x100000, .i32⟩) addi,
    TRef.binary (.of main_call0_call0_call0_v3 : TRef sig ⟨S64x100000, .i32⟩) (.of main_call0_call0_call0_v5 : TRef sig ⟨S64x100000, .i32⟩) (.of main_call0_call0_call0_v6 : TRef sig ⟨S64x100000, .i32⟩) addi,
    TRef.nullary (.of main_call0_call0_call0_c_0 : TRef sig ⟨S_, .i32⟩) (constantI S_ 32 13#32),
    TRef.unary (.of main_call0_call0_call0_c_0 : TRef sig ⟨S_, .i32⟩) (.of main_call0_call0_call0_v7 : TRef sig ⟨S64x100000, .i32⟩) (broadcastInDim S64x100000 ![] bcast_S_S64x100000),
    TRef.binary (.of main_call0_call0_call0_v5 : TRef sig ⟨S64x100000, .i32⟩) (.of main_call0_call0_call0_v7 : TRef sig ⟨S64x100000, .i32⟩) (.of main_call0_call0_call0_v8 : TRef sig ⟨S64x100000, .i32⟩) Host.shli,
    TRef.nullary (.of main_call0_call0_call0_c_1 : TRef sig ⟨S_, .i32⟩) (constantI S_ 32 19#32),
    TRef.unary (.of main_call0_call0_call0_c_1 : TRef sig ⟨S_, .i32⟩) (.of main_call0_call0_call0_v9 : TRef sig ⟨S64x100000, .i32⟩) (broadcastInDim S64x100000 ![] bcast_S_S64x100000),
    TRef.binary (.of main_call0_call0_call0_v5 : TRef sig ⟨S64x100000, .i32⟩) (.of main_call0_call0_call0_v9 : TRef sig ⟨S64x100000, .i32⟩) (.of main_call0_call0_call0_v10 : TRef sig ⟨S64x100000, .i32⟩) Host.shrui,
    TRef.binary (.of main_call0_call0_call0_v8 : TRef sig ⟨S64x100000, .i32⟩) (.of main_call0_call0_call0_v10 : TRef sig ⟨S64x100000, .i32⟩) (.of main_call0_call0_call0_v11 : TRef sig ⟨S64x100000, .i32⟩) ori,
    TRef.binary (.of main_call0_call0_call0_v6 : TRef sig ⟨S64x100000, .i32⟩) (.of main_call0_call0_call0_v11 : TRef sig ⟨S64x100000, .i32⟩) (.of main_call0_call0_call0_v12 : TRef sig ⟨S64x100000, .i32⟩) xori,
    TRef.binary (.of main_call0_call0_call0_v6 : TRef sig ⟨S64x100000, .i32⟩) (.of main_call0_call0_call0_v12 : TRef sig ⟨S64x100000, .i32⟩) (.of main_call0_call0_call0_v13 : TRef sig ⟨S64x100000, .i32⟩) addi,
    TRef.nullary (.of main_call0_call0_call0_c_2 : TRef sig ⟨S_, .i32⟩) (constantI S_ 32 15#32),
    TRef.unary (.of main_call0_call0_call0_c_2 : TRef sig ⟨S_, .i32⟩) (.of main_call0_call0_call0_v14 : TRef sig ⟨S64x100000, .i32⟩) (broadcastInDim S64x100000 ![] bcast_S_S64x100000),
    TRef.binary (.of main_call0_call0_call0_v12 : TRef sig ⟨S64x100000, .i32⟩) (.of main_call0_call0_call0_v14 : TRef sig ⟨S64x100000, .i32⟩) (.of main_call0_call0_call0_v15 : TRef sig ⟨S64x100000, .i32⟩) Host.shli,
    TRef.nullary (.of main_call0_call0_call0_c_3 : TRef sig ⟨S_, .i32⟩) (constantI S_ 32 17#32),
    TRef.unary (.of main_call0_call0_call0_c_3 : TRef sig ⟨S_, .i32⟩) (.of main_call0_call0_call0_v16 : TRef sig ⟨S64x100000, .i32⟩) (broadcastInDim S64x100000 ![] bcast_S_S64x100000),
    TRef.binary (.of main_call0_call0_call0_v12 : TRef sig ⟨S64x100000, .i32⟩) (.of main_call0_call0_call0_v16 : TRef sig ⟨S64x100000, .i32⟩) (.of main_call0_call0_call0_v17 : TRef sig ⟨S64x100000, .i32⟩) Host.shrui,
    TRef.binary (.of main_call0_call0_call0_v15 : TRef sig ⟨S64x100000, .i32⟩) (.of main_call0_call0_call0_v17 : TRef sig ⟨S64x100000, .i32⟩) (.of main_call0_call0_call0_v18 : TRef sig ⟨S64x100000, .i32⟩) ori ]

/-- What `ops1` writes, in order. -/
abbrev ops1_W : List (Ref sig .tc) := [main_call0_call0_call0_v0, main_call0_call0_call0_c, main_call0_call0_call0_v1, main_call0_call0_call0_v2, main_call0_call0_call0_v3, main_call0_call0_call0_v4, main_call0_call0_call0_v5, main_call0_call0_call0_v6, main_call0_call0_call0_c_0, main_call0_call0_call0_v7, main_call0_call0_call0_v8, main_call0_call0_call0_c_1, main_call0_call0_call0_v9, main_call0_call0_call0_v10, main_call0_call0_call0_v11, main_call0_call0_call0_v12, main_call0_call0_call0_v13, main_call0_call0_call0_c_2, main_call0_call0_call0_v14, main_call0_call0_call0_v15, main_call0_call0_call0_c_3, main_call0_call0_call0_v16, main_call0_call0_call0_v17, main_call0_call0_call0_v18]
theorem ops1_writes : (ops1 : List (HloOp τ sig (Elt F))).Forall fun op => op.writes ⊆ (ops1_W.map (Proc.devRef (τ := τ) .tc)).toFinset :=
  forall_writes_sub_of_map rfl

/-- The noise, stage 3 of 12. -/
abbrev ops2 : List (HloOp τ sig (Elt F)) :=
  [ TRef.binary (.of main_call0_call0_call0_v13 : TRef sig ⟨S64x100000, .i32⟩) (.of main_call0_call0_call0_v18 : TRef sig ⟨S64x100000, .i32⟩) (.of main_call0_call0_call0_v19 : TRef sig ⟨S64x100000, .i32⟩) xori,
    TRef.binary (.of main_call0_call0_call0_v13 : TRef sig ⟨S64x100000, .i32⟩) (.of main_call0_call0_call0_v19 : TRef sig ⟨S64x100000, .i32⟩) (.of main_call0_call0_call0_v20 : TRef sig ⟨S64x100000, .i32⟩) addi,
    TRef.nullary (.of main_call0_call0_call0_c_4 : TRef sig ⟨S_, .i32⟩) (constantI S_ 32 26#32),
    TRef.unary (.of main_call0_call0_call0_c_4 : TRef sig ⟨S_, .i32⟩) (.of main_call0_call0_call0_v21 : TRef sig ⟨S64x100000, .i32⟩) (broadcastInDim S64x100000 ![] bcast_S_S64x100000),
    TRef.binary (.of main_call0_call0_call0_v19 : TRef sig ⟨S64x100000, .i32⟩) (.of main_call0_call0_call0_v21 : TRef sig ⟨S64x100000, .i32⟩) (.of main_call0_call0_call0_v22 : TRef sig ⟨S64x100000, .i32⟩) Host.shli,
    TRef.nullary (.of main_call0_call0_call0_c_5 : TRef sig ⟨S_, .i32⟩) (constantI S_ 32 6#32),
    TRef.unary (.of main_call0_call0_call0_c_5 : TRef sig ⟨S_, .i32⟩) (.of main_call0_call0_call0_v23 : TRef sig ⟨S64x100000, .i32⟩) (broadcastInDim S64x100000 ![] bcast_S_S64x100000),
    TRef.binary (.of main_call0_call0_call0_v19 : TRef sig ⟨S64x100000, .i32⟩) (.of main_call0_call0_call0_v23 : TRef sig ⟨S64x100000, .i32⟩) (.of main_call0_call0_call0_v24 : TRef sig ⟨S64x100000, .i32⟩) Host.shrui,
    TRef.binary (.of main_call0_call0_call0_v22 : TRef sig ⟨S64x100000, .i32⟩) (.of main_call0_call0_call0_v24 : TRef sig ⟨S64x100000, .i32⟩) (.of main_call0_call0_call0_v25 : TRef sig ⟨S64x100000, .i32⟩) ori,
    TRef.binary (.of main_call0_call0_call0_v20 : TRef sig ⟨S64x100000, .i32⟩) (.of main_call0_call0_call0_v25 : TRef sig ⟨S64x100000, .i32⟩) (.of main_call0_call0_call0_v26 : TRef sig ⟨S64x100000, .i32⟩) xori,
    TRef.binary (.of main_call0_call0_call0_v20 : TRef sig ⟨S64x100000, .i32⟩) (.of main_call0_call0_call0_v26 : TRef sig ⟨S64x100000, .i32⟩) (.of main_call0_call0_call0_v27 : TRef sig ⟨S64x100000, .i32⟩) addi,
    TRef.nullary (.of main_call0_call0_call0_c_6 : TRef sig ⟨S_, .i32⟩) (constantI S_ 32 6#32),
    TRef.unary (.of main_call0_call0_call0_c_6 : TRef sig ⟨S_, .i32⟩) (.of main_call0_call0_call0_v28 : TRef sig ⟨S64x100000, .i32⟩) (broadcastInDim S64x100000 ![] bcast_S_S64x100000),
    TRef.binary (.of main_call0_call0_call0_v26 : TRef sig ⟨S64x100000, .i32⟩) (.of main_call0_call0_call0_v28 : TRef sig ⟨S64x100000, .i32⟩) (.of main_call0_call0_call0_v29 : TRef sig ⟨S64x100000, .i32⟩) Host.shli,
    TRef.nullary (.of main_call0_call0_call0_c_7 : TRef sig ⟨S_, .i32⟩) (constantI S_ 32 26#32),
    TRef.unary (.of main_call0_call0_call0_c_7 : TRef sig ⟨S_, .i32⟩) (.of main_call0_call0_call0_v30 : TRef sig ⟨S64x100000, .i32⟩) (broadcastInDim S64x100000 ![] bcast_S_S64x100000),
    TRef.binary (.of main_call0_call0_call0_v26 : TRef sig ⟨S64x100000, .i32⟩) (.of main_call0_call0_call0_v30 : TRef sig ⟨S64x100000, .i32⟩) (.of main_call0_call0_call0_v31 : TRef sig ⟨S64x100000, .i32⟩) Host.shrui,
    TRef.binary (.of main_call0_call0_call0_v29 : TRef sig ⟨S64x100000, .i32⟩) (.of main_call0_call0_call0_v31 : TRef sig ⟨S64x100000, .i32⟩) (.of main_call0_call0_call0_v32 : TRef sig ⟨S64x100000, .i32⟩) ori,
    TRef.binary (.of main_call0_call0_call0_v27 : TRef sig ⟨S64x100000, .i32⟩) (.of main_call0_call0_call0_v32 : TRef sig ⟨S64x100000, .i32⟩) (.of main_call0_call0_call0_v33 : TRef sig ⟨S64x100000, .i32⟩) xori,
    TRef.unary (.of main_call0_call0_v6 : TRef sig ⟨S_, .i32⟩) (.of main_call0_call0_call0_v34 : TRef sig ⟨S64x100000, .i32⟩) (broadcastInDim S64x100000 ![] bcast_S_S64x100000),
    TRef.binary (.of main_call0_call0_call0_v27 : TRef sig ⟨S64x100000, .i32⟩) (.of main_call0_call0_call0_v34 : TRef sig ⟨S64x100000, .i32⟩) (.of main_call0_call0_call0_v35 : TRef sig ⟨S64x100000, .i32⟩) addi,
    TRef.unary (.of main_call0_call0_call0_v1 : TRef sig ⟨S_, .i32⟩) (.of main_call0_call0_call0_v36 : TRef sig ⟨S64x100000, .i32⟩) (broadcastInDim S64x100000 ![] bcast_S_S64x100000),
    TRef.binary (.of main_call0_call0_call0_v33 : TRef sig ⟨S64x100000, .i32⟩) (.of main_call0_call0_call0_v36 : TRef sig ⟨S64x100000, .i32⟩) (.of main_call0_call0_call0_v37 : TRef sig ⟨S64x100000, .i32⟩) addi,
    TRef.nullary (.of main_call0_call0_call0_c_8 : TRef sig ⟨S_, .i32⟩) (constantI S_ 32 1#32) ]

/-- What `ops2` writes, in order. -/
abbrev ops2_W : List (Ref sig .tc) := [main_call0_call0_call0_v19, main_call0_call0_call0_v20, main_call0_call0_call0_c_4, main_call0_call0_call0_v21, main_call0_call0_call0_v22, main_call0_call0_call0_c_5, main_call0_call0_call0_v23, main_call0_call0_call0_v24, main_call0_call0_call0_v25, main_call0_call0_call0_v26, main_call0_call0_call0_v27, main_call0_call0_call0_c_6, main_call0_call0_call0_v28, main_call0_call0_call0_v29, main_call0_call0_call0_c_7, main_call0_call0_call0_v30, main_call0_call0_call0_v31, main_call0_call0_call0_v32, main_call0_call0_call0_v33, main_call0_call0_call0_v34, main_call0_call0_call0_v35, main_call0_call0_call0_v36, main_call0_call0_call0_v37, main_call0_call0_call0_c_8]
theorem ops2_writes : (ops2 : List (HloOp τ sig (Elt F))).Forall fun op => op.writes ⊆ (ops2_W.map (Proc.devRef (τ := τ) .tc)).toFinset :=
  forall_writes_sub_of_map rfl

/-- The noise, stage 4 of 12. -/
abbrev ops3 : List (HloOp τ sig (Elt F)) :=
  [ TRef.unary (.of main_call0_call0_call0_c_8 : TRef sig ⟨S_, .i32⟩) (.of main_call0_call0_call0_v38 : TRef sig ⟨S64x100000, .i32⟩) (broadcastInDim S64x100000 ![] bcast_S_S64x100000),
    TRef.binary (.of main_call0_call0_call0_v37 : TRef sig ⟨S64x100000, .i32⟩) (.of main_call0_call0_call0_v38 : TRef sig ⟨S64x100000, .i32⟩) (.of main_call0_call0_call0_v39 : TRef sig ⟨S64x100000, .i32⟩) addi,
    TRef.binary (.of main_call0_call0_call0_v35 : TRef sig ⟨S64x100000, .i32⟩) (.of main_call0_call0_call0_v39 : TRef sig ⟨S64x100000, .i32⟩) (.of main_call0_call0_call0_v40 : TRef sig ⟨S64x100000, .i32⟩) addi,
    TRef.nullary (.of main_call0_call0_call0_c_9 : TRef sig ⟨S_, .i32⟩) (constantI S_ 32 17#32),
    TRef.unary (.of main_call0_call0_call0_c_9 : TRef sig ⟨S_, .i32⟩) (.of main_call0_call0_call0_v41 : TRef sig ⟨S64x100000, .i32⟩) (broadcastInDim S64x100000 ![] bcast_S_S64x100000),
    TRef.binary (.of main_call0_call0_call0_v39 : TRef sig ⟨S64x100000, .i32⟩) (.of main_call0_call0_call0_v41 : TRef sig ⟨S64x100000, .i32⟩) (.of main_call0_call0_call0_v42 : TRef sig ⟨S64x100000, .i32⟩) Host.shli,
    TRef.nullary (.of main_call0_call0_call0_c_10 : TRef sig ⟨S_, .i32⟩) (constantI S_ 32 15#32),
    TRef.unary (.of main_call0_call0_call0_c_10 : TRef sig ⟨S_, .i32⟩) (.of main_call0_call0_call0_v43 : TRef sig ⟨S64x100000, .i32⟩) (broadcastInDim S64x100000 ![] bcast_S_S64x100000),
    TRef.binary (.of main_call0_call0_call0_v39 : TRef sig ⟨S64x100000, .i32⟩) (.of main_call0_call0_call0_v43 : TRef sig ⟨S64x100000, .i32⟩) (.of main_call0_call0_call0_v44 : TRef sig ⟨S64x100000, .i32⟩) Host.shrui,
    TRef.binary (.of main_call0_call0_call0_v42 : TRef sig ⟨S64x100000, .i32⟩) (.of main_call0_call0_call0_v44 : TRef sig ⟨S64x100000, .i32⟩) (.of main_call0_call0_call0_v45 : TRef sig ⟨S64x100000, .i32⟩) ori,
    TRef.binary (.of main_call0_call0_call0_v40 : TRef sig ⟨S64x100000, .i32⟩) (.of main_call0_call0_call0_v45 : TRef sig ⟨S64x100000, .i32⟩) (.of main_call0_call0_call0_v46 : TRef sig ⟨S64x100000, .i32⟩) xori,
    TRef.binary (.of main_call0_call0_call0_v40 : TRef sig ⟨S64x100000, .i32⟩) (.of main_call0_call0_call0_v46 : TRef sig ⟨S64x100000, .i32⟩) (.of main_call0_call0_call0_v47 : TRef sig ⟨S64x100000, .i32⟩) addi,
    TRef.nullary (.of main_call0_call0_call0_c_11 : TRef sig ⟨S_, .i32⟩) (constantI S_ 32 29#32),
    TRef.unary (.of main_call0_call0_call0_c_11 : TRef sig ⟨S_, .i32⟩) (.of main_call0_call0_call0_v48 : TRef sig ⟨S64x100000, .i32⟩) (broadcastInDim S64x100000 ![] bcast_S_S64x100000),
    TRef.binary (.of main_call0_call0_call0_v46 : TRef sig ⟨S64x100000, .i32⟩) (.of main_call0_call0_call0_v48 : TRef sig ⟨S64x100000, .i32⟩) (.of main_call0_call0_call0_v49 : TRef sig ⟨S64x100000, .i32⟩) Host.shli,
    TRef.nullary (.of main_call0_call0_call0_c_12 : TRef sig ⟨S_, .i32⟩) (constantI S_ 32 3#32),
    TRef.unary (.of main_call0_call0_call0_c_12 : TRef sig ⟨S_, .i32⟩) (.of main_call0_call0_call0_v50 : TRef sig ⟨S64x100000, .i32⟩) (broadcastInDim S64x100000 ![] bcast_S_S64x100000),
    TRef.binary (.of main_call0_call0_call0_v46 : TRef sig ⟨S64x100000, .i32⟩) (.of main_call0_call0_call0_v50 : TRef sig ⟨S64x100000, .i32⟩) (.of main_call0_call0_call0_v51 : TRef sig ⟨S64x100000, .i32⟩) Host.shrui,
    TRef.binary (.of main_call0_call0_call0_v49 : TRef sig ⟨S64x100000, .i32⟩) (.of main_call0_call0_call0_v51 : TRef sig ⟨S64x100000, .i32⟩) (.of main_call0_call0_call0_v52 : TRef sig ⟨S64x100000, .i32⟩) ori,
    TRef.binary (.of main_call0_call0_call0_v47 : TRef sig ⟨S64x100000, .i32⟩) (.of main_call0_call0_call0_v52 : TRef sig ⟨S64x100000, .i32⟩) (.of main_call0_call0_call0_v53 : TRef sig ⟨S64x100000, .i32⟩) xori,
    TRef.binary (.of main_call0_call0_call0_v47 : TRef sig ⟨S64x100000, .i32⟩) (.of main_call0_call0_call0_v53 : TRef sig ⟨S64x100000, .i32⟩) (.of main_call0_call0_call0_v54 : TRef sig ⟨S64x100000, .i32⟩) addi,
    TRef.nullary (.of main_call0_call0_call0_c_13 : TRef sig ⟨S_, .i32⟩) (constantI S_ 32 16#32),
    TRef.unary (.of main_call0_call0_call0_c_13 : TRef sig ⟨S_, .i32⟩) (.of main_call0_call0_call0_v55 : TRef sig ⟨S64x100000, .i32⟩) (broadcastInDim S64x100000 ![] bcast_S_S64x100000),
    TRef.binary (.of main_call0_call0_call0_v53 : TRef sig ⟨S64x100000, .i32⟩) (.of main_call0_call0_call0_v55 : TRef sig ⟨S64x100000, .i32⟩) (.of main_call0_call0_call0_v56 : TRef sig ⟨S64x100000, .i32⟩) Host.shli ]

/-- What `ops3` writes, in order. -/
abbrev ops3_W : List (Ref sig .tc) := [main_call0_call0_call0_v38, main_call0_call0_call0_v39, main_call0_call0_call0_v40, main_call0_call0_call0_c_9, main_call0_call0_call0_v41, main_call0_call0_call0_v42, main_call0_call0_call0_c_10, main_call0_call0_call0_v43, main_call0_call0_call0_v44, main_call0_call0_call0_v45, main_call0_call0_call0_v46, main_call0_call0_call0_v47, main_call0_call0_call0_c_11, main_call0_call0_call0_v48, main_call0_call0_call0_v49, main_call0_call0_call0_c_12, main_call0_call0_call0_v50, main_call0_call0_call0_v51, main_call0_call0_call0_v52, main_call0_call0_call0_v53, main_call0_call0_call0_v54, main_call0_call0_call0_c_13, main_call0_call0_call0_v55, main_call0_call0_call0_v56]
theorem ops3_writes : (ops3 : List (HloOp τ sig (Elt F))).Forall fun op => op.writes ⊆ (ops3_W.map (Proc.devRef (τ := τ) .tc)).toFinset :=
  forall_writes_sub_of_map rfl

/-- The noise, stage 5 of 12. -/
abbrev ops4 : List (HloOp τ sig (Elt F)) :=
  [ TRef.nullary (.of main_call0_call0_call0_c_14 : TRef sig ⟨S_, .i32⟩) (constantI S_ 32 16#32),
    TRef.unary (.of main_call0_call0_call0_c_14 : TRef sig ⟨S_, .i32⟩) (.of main_call0_call0_call0_v57 : TRef sig ⟨S64x100000, .i32⟩) (broadcastInDim S64x100000 ![] bcast_S_S64x100000),
    TRef.binary (.of main_call0_call0_call0_v53 : TRef sig ⟨S64x100000, .i32⟩) (.of main_call0_call0_call0_v57 : TRef sig ⟨S64x100000, .i32⟩) (.of main_call0_call0_call0_v58 : TRef sig ⟨S64x100000, .i32⟩) Host.shrui,
    TRef.binary (.of main_call0_call0_call0_v56 : TRef sig ⟨S64x100000, .i32⟩) (.of main_call0_call0_call0_v58 : TRef sig ⟨S64x100000, .i32⟩) (.of main_call0_call0_call0_v59 : TRef sig ⟨S64x100000, .i32⟩) ori,
    TRef.binary (.of main_call0_call0_call0_v54 : TRef sig ⟨S64x100000, .i32⟩) (.of main_call0_call0_call0_v59 : TRef sig ⟨S64x100000, .i32⟩) (.of main_call0_call0_call0_v60 : TRef sig ⟨S64x100000, .i32⟩) xori,
    TRef.binary (.of main_call0_call0_call0_v54 : TRef sig ⟨S64x100000, .i32⟩) (.of main_call0_call0_call0_v60 : TRef sig ⟨S64x100000, .i32⟩) (.of main_call0_call0_call0_v61 : TRef sig ⟨S64x100000, .i32⟩) addi,
    TRef.nullary (.of main_call0_call0_call0_c_15 : TRef sig ⟨S_, .i32⟩) (constantI S_ 32 24#32),
    TRef.unary (.of main_call0_call0_call0_c_15 : TRef sig ⟨S_, .i32⟩) (.of main_call0_call0_call0_v62 : TRef sig ⟨S64x100000, .i32⟩) (broadcastInDim S64x100000 ![] bcast_S_S64x100000),
    TRef.binary (.of main_call0_call0_call0_v60 : TRef sig ⟨S64x100000, .i32⟩) (.of main_call0_call0_call0_v62 : TRef sig ⟨S64x100000, .i32⟩) (.of main_call0_call0_call0_v63 : TRef sig ⟨S64x100000, .i32⟩) Host.shli,
    TRef.nullary (.of main_call0_call0_call0_c_16 : TRef sig ⟨S_, .i32⟩) (constantI S_ 32 8#32),
    TRef.unary (.of main_call0_call0_call0_c_16 : TRef sig ⟨S_, .i32⟩) (.of main_call0_call0_call0_v64 : TRef sig ⟨S64x100000, .i32⟩) (broadcastInDim S64x100000 ![] bcast_S_S64x100000),
    TRef.binary (.of main_call0_call0_call0_v60 : TRef sig ⟨S64x100000, .i32⟩) (.of main_call0_call0_call0_v64 : TRef sig ⟨S64x100000, .i32⟩) (.of main_call0_call0_call0_v65 : TRef sig ⟨S64x100000, .i32⟩) Host.shrui,
    TRef.binary (.of main_call0_call0_call0_v63 : TRef sig ⟨S64x100000, .i32⟩) (.of main_call0_call0_call0_v65 : TRef sig ⟨S64x100000, .i32⟩) (.of main_call0_call0_call0_v66 : TRef sig ⟨S64x100000, .i32⟩) ori,
    TRef.binary (.of main_call0_call0_call0_v61 : TRef sig ⟨S64x100000, .i32⟩) (.of main_call0_call0_call0_v66 : TRef sig ⟨S64x100000, .i32⟩) (.of main_call0_call0_call0_v67 : TRef sig ⟨S64x100000, .i32⟩) xori,
    TRef.unary (.of main_call0_call0_call0_v1 : TRef sig ⟨S_, .i32⟩) (.of main_call0_call0_call0_v68 : TRef sig ⟨S64x100000, .i32⟩) (broadcastInDim S64x100000 ![] bcast_S_S64x100000),
    TRef.binary (.of main_call0_call0_call0_v61 : TRef sig ⟨S64x100000, .i32⟩) (.of main_call0_call0_call0_v68 : TRef sig ⟨S64x100000, .i32⟩) (.of main_call0_call0_call0_v69 : TRef sig ⟨S64x100000, .i32⟩) addi,
    TRef.unary (.of main_call0_call0_v4 : TRef sig ⟨S_, .i32⟩) (.of main_call0_call0_call0_v70 : TRef sig ⟨S64x100000, .i32⟩) (broadcastInDim S64x100000 ![] bcast_S_S64x100000),
    TRef.binary (.of main_call0_call0_call0_v67 : TRef sig ⟨S64x100000, .i32⟩) (.of main_call0_call0_call0_v70 : TRef sig ⟨S64x100000, .i32⟩) (.of main_call0_call0_call0_v71 : TRef sig ⟨S64x100000, .i32⟩) addi,
    TRef.nullary (.of main_call0_call0_call0_c_17 : TRef sig ⟨S_, .i32⟩) (constantI S_ 32 2#32),
    TRef.unary (.of main_call0_call0_call0_c_17 : TRef sig ⟨S_, .i32⟩) (.of main_call0_call0_call0_v72 : TRef sig ⟨S64x100000, .i32⟩) (broadcastInDim S64x100000 ![] bcast_S_S64x100000),
    TRef.binary (.of main_call0_call0_call0_v71 : TRef sig ⟨S64x100000, .i32⟩) (.of main_call0_call0_call0_v72 : TRef sig ⟨S64x100000, .i32⟩) (.of main_call0_call0_call0_v73 : TRef sig ⟨S64x100000, .i32⟩) addi,
    TRef.binary (.of main_call0_call0_call0_v69 : TRef sig ⟨S64x100000, .i32⟩) (.of main_call0_call0_call0_v73 : TRef sig ⟨S64x100000, .i32⟩) (.of main_call0_call0_call0_v74 : TRef sig ⟨S64x100000, .i32⟩) addi,
    TRef.nullary (.of main_call0_call0_call0_c_18 : TRef sig ⟨S_, .i32⟩) (constantI S_ 32 13#32),
    TRef.unary (.of main_call0_call0_call0_c_18 : TRef sig ⟨S_, .i32⟩) (.of main_call0_call0_call0_v75 : TRef sig ⟨S64x100000, .i32⟩) (broadcastInDim S64x100000 ![] bcast_S_S64x100000) ]

/-- What `ops4` writes, in order. -/
abbrev ops4_W : List (Ref sig .tc) := [main_call0_call0_call0_c_14, main_call0_call0_call0_v57, main_call0_call0_call0_v58, main_call0_call0_call0_v59, main_call0_call0_call0_v60, main_call0_call0_call0_v61, main_call0_call0_call0_c_15, main_call0_call0_call0_v62, main_call0_call0_call0_v63, main_call0_call0_call0_c_16, main_call0_call0_call0_v64, main_call0_call0_call0_v65, main_call0_call0_call0_v66, main_call0_call0_call0_v67, main_call0_call0_call0_v68, main_call0_call0_call0_v69, main_call0_call0_call0_v70, main_call0_call0_call0_v71, main_call0_call0_call0_c_17, main_call0_call0_call0_v72, main_call0_call0_call0_v73, main_call0_call0_call0_v74, main_call0_call0_call0_c_18, main_call0_call0_call0_v75]
theorem ops4_writes : (ops4 : List (HloOp τ sig (Elt F))).Forall fun op => op.writes ⊆ (ops4_W.map (Proc.devRef (τ := τ) .tc)).toFinset :=
  forall_writes_sub_of_map rfl

/-- The noise, stage 6 of 12. -/
abbrev ops5 : List (HloOp τ sig (Elt F)) :=
  [ TRef.binary (.of main_call0_call0_call0_v73 : TRef sig ⟨S64x100000, .i32⟩) (.of main_call0_call0_call0_v75 : TRef sig ⟨S64x100000, .i32⟩) (.of main_call0_call0_call0_v76 : TRef sig ⟨S64x100000, .i32⟩) Host.shli,
    TRef.nullary (.of main_call0_call0_call0_c_19 : TRef sig ⟨S_, .i32⟩) (constantI S_ 32 19#32),
    TRef.unary (.of main_call0_call0_call0_c_19 : TRef sig ⟨S_, .i32⟩) (.of main_call0_call0_call0_v77 : TRef sig ⟨S64x100000, .i32⟩) (broadcastInDim S64x100000 ![] bcast_S_S64x100000),
    TRef.binary (.of main_call0_call0_call0_v73 : TRef sig ⟨S64x100000, .i32⟩) (.of main_call0_call0_call0_v77 : TRef sig ⟨S64x100000, .i32⟩) (.of main_call0_call0_call0_v78 : TRef sig ⟨S64x100000, .i32⟩) Host.shrui,
    TRef.binary (.of main_call0_call0_call0_v76 : TRef sig ⟨S64x100000, .i32⟩) (.of main_call0_call0_call0_v78 : TRef sig ⟨S64x100000, .i32⟩) (.of main_call0_call0_call0_v79 : TRef sig ⟨S64x100000, .i32⟩) ori,
    TRef.binary (.of main_call0_call0_call0_v74 : TRef sig ⟨S64x100000, .i32⟩) (.of main_call0_call0_call0_v79 : TRef sig ⟨S64x100000, .i32⟩) (.of main_call0_call0_call0_v80 : TRef sig ⟨S64x100000, .i32⟩) xori,
    TRef.binary (.of main_call0_call0_call0_v74 : TRef sig ⟨S64x100000, .i32⟩) (.of main_call0_call0_call0_v80 : TRef sig ⟨S64x100000, .i32⟩) (.of main_call0_call0_call0_v81 : TRef sig ⟨S64x100000, .i32⟩) addi,
    TRef.nullary (.of main_call0_call0_call0_c_20 : TRef sig ⟨S_, .i32⟩) (constantI S_ 32 15#32),
    TRef.unary (.of main_call0_call0_call0_c_20 : TRef sig ⟨S_, .i32⟩) (.of main_call0_call0_call0_v82 : TRef sig ⟨S64x100000, .i32⟩) (broadcastInDim S64x100000 ![] bcast_S_S64x100000),
    TRef.binary (.of main_call0_call0_call0_v80 : TRef sig ⟨S64x100000, .i32⟩) (.of main_call0_call0_call0_v82 : TRef sig ⟨S64x100000, .i32⟩) (.of main_call0_call0_call0_v83 : TRef sig ⟨S64x100000, .i32⟩) Host.shli,
    TRef.nullary (.of main_call0_call0_call0_c_21 : TRef sig ⟨S_, .i32⟩) (constantI S_ 32 17#32),
    TRef.unary (.of main_call0_call0_call0_c_21 : TRef sig ⟨S_, .i32⟩) (.of main_call0_call0_call0_v84 : TRef sig ⟨S64x100000, .i32⟩) (broadcastInDim S64x100000 ![] bcast_S_S64x100000),
    TRef.binary (.of main_call0_call0_call0_v80 : TRef sig ⟨S64x100000, .i32⟩) (.of main_call0_call0_call0_v84 : TRef sig ⟨S64x100000, .i32⟩) (.of main_call0_call0_call0_v85 : TRef sig ⟨S64x100000, .i32⟩) Host.shrui,
    TRef.binary (.of main_call0_call0_call0_v83 : TRef sig ⟨S64x100000, .i32⟩) (.of main_call0_call0_call0_v85 : TRef sig ⟨S64x100000, .i32⟩) (.of main_call0_call0_call0_v86 : TRef sig ⟨S64x100000, .i32⟩) ori,
    TRef.binary (.of main_call0_call0_call0_v81 : TRef sig ⟨S64x100000, .i32⟩) (.of main_call0_call0_call0_v86 : TRef sig ⟨S64x100000, .i32⟩) (.of main_call0_call0_call0_v87 : TRef sig ⟨S64x100000, .i32⟩) xori,
    TRef.binary (.of main_call0_call0_call0_v81 : TRef sig ⟨S64x100000, .i32⟩) (.of main_call0_call0_call0_v87 : TRef sig ⟨S64x100000, .i32⟩) (.of main_call0_call0_call0_v88 : TRef sig ⟨S64x100000, .i32⟩) addi,
    TRef.nullary (.of main_call0_call0_call0_c_22 : TRef sig ⟨S_, .i32⟩) (constantI S_ 32 26#32),
    TRef.unary (.of main_call0_call0_call0_c_22 : TRef sig ⟨S_, .i32⟩) (.of main_call0_call0_call0_v89 : TRef sig ⟨S64x100000, .i32⟩) (broadcastInDim S64x100000 ![] bcast_S_S64x100000),
    TRef.binary (.of main_call0_call0_call0_v87 : TRef sig ⟨S64x100000, .i32⟩) (.of main_call0_call0_call0_v89 : TRef sig ⟨S64x100000, .i32⟩) (.of main_call0_call0_call0_v90 : TRef sig ⟨S64x100000, .i32⟩) Host.shli,
    TRef.nullary (.of main_call0_call0_call0_c_23 : TRef sig ⟨S_, .i32⟩) (constantI S_ 32 6#32),
    TRef.unary (.of main_call0_call0_call0_c_23 : TRef sig ⟨S_, .i32⟩) (.of main_call0_call0_call0_v91 : TRef sig ⟨S64x100000, .i32⟩) (broadcastInDim S64x100000 ![] bcast_S_S64x100000),
    TRef.binary (.of main_call0_call0_call0_v87 : TRef sig ⟨S64x100000, .i32⟩) (.of main_call0_call0_call0_v91 : TRef sig ⟨S64x100000, .i32⟩) (.of main_call0_call0_call0_v92 : TRef sig ⟨S64x100000, .i32⟩) Host.shrui,
    TRef.binary (.of main_call0_call0_call0_v90 : TRef sig ⟨S64x100000, .i32⟩) (.of main_call0_call0_call0_v92 : TRef sig ⟨S64x100000, .i32⟩) (.of main_call0_call0_call0_v93 : TRef sig ⟨S64x100000, .i32⟩) ori,
    TRef.binary (.of main_call0_call0_call0_v88 : TRef sig ⟨S64x100000, .i32⟩) (.of main_call0_call0_call0_v93 : TRef sig ⟨S64x100000, .i32⟩) (.of main_call0_call0_call0_v94 : TRef sig ⟨S64x100000, .i32⟩) xori ]

/-- What `ops5` writes, in order. -/
abbrev ops5_W : List (Ref sig .tc) := [main_call0_call0_call0_v76, main_call0_call0_call0_c_19, main_call0_call0_call0_v77, main_call0_call0_call0_v78, main_call0_call0_call0_v79, main_call0_call0_call0_v80, main_call0_call0_call0_v81, main_call0_call0_call0_c_20, main_call0_call0_call0_v82, main_call0_call0_call0_v83, main_call0_call0_call0_c_21, main_call0_call0_call0_v84, main_call0_call0_call0_v85, main_call0_call0_call0_v86, main_call0_call0_call0_v87, main_call0_call0_call0_v88, main_call0_call0_call0_c_22, main_call0_call0_call0_v89, main_call0_call0_call0_v90, main_call0_call0_call0_c_23, main_call0_call0_call0_v91, main_call0_call0_call0_v92, main_call0_call0_call0_v93, main_call0_call0_call0_v94]
theorem ops5_writes : (ops5 : List (HloOp τ sig (Elt F))).Forall fun op => op.writes ⊆ (ops5_W.map (Proc.devRef (τ := τ) .tc)).toFinset :=
  forall_writes_sub_of_map rfl

/-- The noise, stage 7 of 12. -/
abbrev ops6 : List (HloOp τ sig (Elt F)) :=
  [ TRef.binary (.of main_call0_call0_call0_v88 : TRef sig ⟨S64x100000, .i32⟩) (.of main_call0_call0_call0_v94 : TRef sig ⟨S64x100000, .i32⟩) (.of main_call0_call0_call0_v95 : TRef sig ⟨S64x100000, .i32⟩) addi,
    TRef.nullary (.of main_call0_call0_call0_c_24 : TRef sig ⟨S_, .i32⟩) (constantI S_ 32 6#32),
    TRef.unary (.of main_call0_call0_call0_c_24 : TRef sig ⟨S_, .i32⟩) (.of main_call0_call0_call0_v96 : TRef sig ⟨S64x100000, .i32⟩) (broadcastInDim S64x100000 ![] bcast_S_S64x100000),
    TRef.binary (.of main_call0_call0_call0_v94 : TRef sig ⟨S64x100000, .i32⟩) (.of main_call0_call0_call0_v96 : TRef sig ⟨S64x100000, .i32⟩) (.of main_call0_call0_call0_v97 : TRef sig ⟨S64x100000, .i32⟩) Host.shli,
    TRef.nullary (.of main_call0_call0_call0_c_25 : TRef sig ⟨S_, .i32⟩) (constantI S_ 32 26#32),
    TRef.unary (.of main_call0_call0_call0_c_25 : TRef sig ⟨S_, .i32⟩) (.of main_call0_call0_call0_v98 : TRef sig ⟨S64x100000, .i32⟩) (broadcastInDim S64x100000 ![] bcast_S_S64x100000),
    TRef.binary (.of main_call0_call0_call0_v94 : TRef sig ⟨S64x100000, .i32⟩) (.of main_call0_call0_call0_v98 : TRef sig ⟨S64x100000, .i32⟩) (.of main_call0_call0_call0_v99 : TRef sig ⟨S64x100000, .i32⟩) Host.shrui,
    TRef.binary (.of main_call0_call0_call0_v97 : TRef sig ⟨S64x100000, .i32⟩) (.of main_call0_call0_call0_v99 : TRef sig ⟨S64x100000, .i32⟩) (.of main_call0_call0_call0_v100 : TRef sig ⟨S64x100000, .i32⟩) ori,
    TRef.binary (.of main_call0_call0_call0_v95 : TRef sig ⟨S64x100000, .i32⟩) (.of main_call0_call0_call0_v100 : TRef sig ⟨S64x100000, .i32⟩) (.of main_call0_call0_call0_v101 : TRef sig ⟨S64x100000, .i32⟩) xori,
    TRef.unary (.of main_call0_call0_v4 : TRef sig ⟨S_, .i32⟩) (.of main_call0_call0_call0_v102 : TRef sig ⟨S64x100000, .i32⟩) (broadcastInDim S64x100000 ![] bcast_S_S64x100000),
    TRef.binary (.of main_call0_call0_call0_v95 : TRef sig ⟨S64x100000, .i32⟩) (.of main_call0_call0_call0_v102 : TRef sig ⟨S64x100000, .i32⟩) (.of main_call0_call0_call0_v103 : TRef sig ⟨S64x100000, .i32⟩) addi,
    TRef.unary (.of main_call0_call0_v6 : TRef sig ⟨S_, .i32⟩) (.of main_call0_call0_call0_v104 : TRef sig ⟨S64x100000, .i32⟩) (broadcastInDim S64x100000 ![] bcast_S_S64x100000),
    TRef.binary (.of main_call0_call0_call0_v101 : TRef sig ⟨S64x100000, .i32⟩) (.of main_call0_call0_call0_v104 : TRef sig ⟨S64x100000, .i32⟩) (.of main_call0_call0_call0_v105 : TRef sig ⟨S64x100000, .i32⟩) addi,
    TRef.nullary (.of main_call0_call0_call0_c_26 : TRef sig ⟨S_, .i32⟩) (constantI S_ 32 3#32),
    TRef.unary (.of main_call0_call0_call0_c_26 : TRef sig ⟨S_, .i32⟩) (.of main_call0_call0_call0_v106 : TRef sig ⟨S64x100000, .i32⟩) (broadcastInDim S64x100000 ![] bcast_S_S64x100000),
    TRef.binary (.of main_call0_call0_call0_v105 : TRef sig ⟨S64x100000, .i32⟩) (.of main_call0_call0_call0_v106 : TRef sig ⟨S64x100000, .i32⟩) (.of main_call0_call0_call0_v107 : TRef sig ⟨S64x100000, .i32⟩) addi,
    TRef.binary (.of main_call0_call0_call0_v103 : TRef sig ⟨S64x100000, .i32⟩) (.of main_call0_call0_call0_v107 : TRef sig ⟨S64x100000, .i32⟩) (.of main_call0_call0_call0_v108 : TRef sig ⟨S64x100000, .i32⟩) addi,
    TRef.nullary (.of main_call0_call0_call0_c_27 : TRef sig ⟨S_, .i32⟩) (constantI S_ 32 17#32),
    TRef.unary (.of main_call0_call0_call0_c_27 : TRef sig ⟨S_, .i32⟩) (.of main_call0_call0_call0_v109 : TRef sig ⟨S64x100000, .i32⟩) (broadcastInDim S64x100000 ![] bcast_S_S64x100000),
    TRef.binary (.of main_call0_call0_call0_v107 : TRef sig ⟨S64x100000, .i32⟩) (.of main_call0_call0_call0_v109 : TRef sig ⟨S64x100000, .i32⟩) (.of main_call0_call0_call0_v110 : TRef sig ⟨S64x100000, .i32⟩) Host.shli,
    TRef.nullary (.of main_call0_call0_call0_c_28 : TRef sig ⟨S_, .i32⟩) (constantI S_ 32 15#32),
    TRef.unary (.of main_call0_call0_call0_c_28 : TRef sig ⟨S_, .i32⟩) (.of main_call0_call0_call0_v111 : TRef sig ⟨S64x100000, .i32⟩) (broadcastInDim S64x100000 ![] bcast_S_S64x100000),
    TRef.binary (.of main_call0_call0_call0_v107 : TRef sig ⟨S64x100000, .i32⟩) (.of main_call0_call0_call0_v111 : TRef sig ⟨S64x100000, .i32⟩) (.of main_call0_call0_call0_v112 : TRef sig ⟨S64x100000, .i32⟩) Host.shrui,
    TRef.binary (.of main_call0_call0_call0_v110 : TRef sig ⟨S64x100000, .i32⟩) (.of main_call0_call0_call0_v112 : TRef sig ⟨S64x100000, .i32⟩) (.of main_call0_call0_call0_v113 : TRef sig ⟨S64x100000, .i32⟩) ori ]

/-- What `ops6` writes, in order. -/
abbrev ops6_W : List (Ref sig .tc) := [main_call0_call0_call0_v95, main_call0_call0_call0_c_24, main_call0_call0_call0_v96, main_call0_call0_call0_v97, main_call0_call0_call0_c_25, main_call0_call0_call0_v98, main_call0_call0_call0_v99, main_call0_call0_call0_v100, main_call0_call0_call0_v101, main_call0_call0_call0_v102, main_call0_call0_call0_v103, main_call0_call0_call0_v104, main_call0_call0_call0_v105, main_call0_call0_call0_c_26, main_call0_call0_call0_v106, main_call0_call0_call0_v107, main_call0_call0_call0_v108, main_call0_call0_call0_c_27, main_call0_call0_call0_v109, main_call0_call0_call0_v110, main_call0_call0_call0_c_28, main_call0_call0_call0_v111, main_call0_call0_call0_v112, main_call0_call0_call0_v113]
theorem ops6_writes : (ops6 : List (HloOp τ sig (Elt F))).Forall fun op => op.writes ⊆ (ops6_W.map (Proc.devRef (τ := τ) .tc)).toFinset :=
  forall_writes_sub_of_map rfl

/-- The noise, stage 8 of 12. -/
abbrev ops7 : List (HloOp τ sig (Elt F)) :=
  [ TRef.binary (.of main_call0_call0_call0_v108 : TRef sig ⟨S64x100000, .i32⟩) (.of main_call0_call0_call0_v113 : TRef sig ⟨S64x100000, .i32⟩) (.of main_call0_call0_call0_v114 : TRef sig ⟨S64x100000, .i32⟩) xori,
    TRef.binary (.of main_call0_call0_call0_v108 : TRef sig ⟨S64x100000, .i32⟩) (.of main_call0_call0_call0_v114 : TRef sig ⟨S64x100000, .i32⟩) (.of main_call0_call0_call0_v115 : TRef sig ⟨S64x100000, .i32⟩) addi,
    TRef.nullary (.of main_call0_call0_call0_c_29 : TRef sig ⟨S_, .i32⟩) (constantI S_ 32 29#32),
    TRef.unary (.of main_call0_call0_call0_c_29 : TRef sig ⟨S_, .i32⟩) (.of main_call0_call0_call0_v116 : TRef sig ⟨S64x100000, .i32⟩) (broadcastInDim S64x100000 ![] bcast_S_S64x100000),
    TRef.binary (.of main_call0_call0_call0_v114 : TRef sig ⟨S64x100000, .i32⟩) (.of main_call0_call0_call0_v116 : TRef sig ⟨S64x100000, .i32⟩) (.of main_call0_call0_call0_v117 : TRef sig ⟨S64x100000, .i32⟩) Host.shli,
    TRef.nullary (.of main_call0_call0_call0_c_30 : TRef sig ⟨S_, .i32⟩) (constantI S_ 32 3#32),
    TRef.unary (.of main_call0_call0_call0_c_30 : TRef sig ⟨S_, .i32⟩) (.of main_call0_call0_call0_v118 : TRef sig ⟨S64x100000, .i32⟩) (broadcastInDim S64x100000 ![] bcast_S_S64x100000),
    TRef.binary (.of main_call0_call0_call0_v114 : TRef sig ⟨S64x100000, .i32⟩) (.of main_call0_call0_call0_v118 : TRef sig ⟨S64x100000, .i32⟩) (.of main_call0_call0_call0_v119 : TRef sig ⟨S64x100000, .i32⟩) Host.shrui,
    TRef.binary (.of main_call0_call0_call0_v117 : TRef sig ⟨S64x100000, .i32⟩) (.of main_call0_call0_call0_v119 : TRef sig ⟨S64x100000, .i32⟩) (.of main_call0_call0_call0_v120 : TRef sig ⟨S64x100000, .i32⟩) ori,
    TRef.binary (.of main_call0_call0_call0_v115 : TRef sig ⟨S64x100000, .i32⟩) (.of main_call0_call0_call0_v120 : TRef sig ⟨S64x100000, .i32⟩) (.of main_call0_call0_call0_v121 : TRef sig ⟨S64x100000, .i32⟩) xori,
    TRef.binary (.of main_call0_call0_call0_v115 : TRef sig ⟨S64x100000, .i32⟩) (.of main_call0_call0_call0_v121 : TRef sig ⟨S64x100000, .i32⟩) (.of main_call0_call0_call0_v122 : TRef sig ⟨S64x100000, .i32⟩) addi,
    TRef.nullary (.of main_call0_call0_call0_c_31 : TRef sig ⟨S_, .i32⟩) (constantI S_ 32 16#32),
    TRef.unary (.of main_call0_call0_call0_c_31 : TRef sig ⟨S_, .i32⟩) (.of main_call0_call0_call0_v123 : TRef sig ⟨S64x100000, .i32⟩) (broadcastInDim S64x100000 ![] bcast_S_S64x100000),
    TRef.binary (.of main_call0_call0_call0_v121 : TRef sig ⟨S64x100000, .i32⟩) (.of main_call0_call0_call0_v123 : TRef sig ⟨S64x100000, .i32⟩) (.of main_call0_call0_call0_v124 : TRef sig ⟨S64x100000, .i32⟩) Host.shli,
    TRef.nullary (.of main_call0_call0_call0_c_32 : TRef sig ⟨S_, .i32⟩) (constantI S_ 32 16#32),
    TRef.unary (.of main_call0_call0_call0_c_32 : TRef sig ⟨S_, .i32⟩) (.of main_call0_call0_call0_v125 : TRef sig ⟨S64x100000, .i32⟩) (broadcastInDim S64x100000 ![] bcast_S_S64x100000),
    TRef.binary (.of main_call0_call0_call0_v121 : TRef sig ⟨S64x100000, .i32⟩) (.of main_call0_call0_call0_v125 : TRef sig ⟨S64x100000, .i32⟩) (.of main_call0_call0_call0_v126 : TRef sig ⟨S64x100000, .i32⟩) Host.shrui,
    TRef.binary (.of main_call0_call0_call0_v124 : TRef sig ⟨S64x100000, .i32⟩) (.of main_call0_call0_call0_v126 : TRef sig ⟨S64x100000, .i32⟩) (.of main_call0_call0_call0_v127 : TRef sig ⟨S64x100000, .i32⟩) ori,
    TRef.binary (.of main_call0_call0_call0_v122 : TRef sig ⟨S64x100000, .i32⟩) (.of main_call0_call0_call0_v127 : TRef sig ⟨S64x100000, .i32⟩) (.of main_call0_call0_call0_v128 : TRef sig ⟨S64x100000, .i32⟩) xori,
    TRef.binary (.of main_call0_call0_call0_v122 : TRef sig ⟨S64x100000, .i32⟩) (.of main_call0_call0_call0_v128 : TRef sig ⟨S64x100000, .i32⟩) (.of main_call0_call0_call0_v129 : TRef sig ⟨S64x100000, .i32⟩) addi,
    TRef.nullary (.of main_call0_call0_call0_c_33 : TRef sig ⟨S_, .i32⟩) (constantI S_ 32 24#32),
    TRef.unary (.of main_call0_call0_call0_c_33 : TRef sig ⟨S_, .i32⟩) (.of main_call0_call0_call0_v130 : TRef sig ⟨S64x100000, .i32⟩) (broadcastInDim S64x100000 ![] bcast_S_S64x100000),
    TRef.binary (.of main_call0_call0_call0_v128 : TRef sig ⟨S64x100000, .i32⟩) (.of main_call0_call0_call0_v130 : TRef sig ⟨S64x100000, .i32⟩) (.of main_call0_call0_call0_v131 : TRef sig ⟨S64x100000, .i32⟩) Host.shli,
    TRef.nullary (.of main_call0_call0_call0_c_34 : TRef sig ⟨S_, .i32⟩) (constantI S_ 32 8#32) ]

/-- What `ops7` writes, in order. -/
abbrev ops7_W : List (Ref sig .tc) := [main_call0_call0_call0_v114, main_call0_call0_call0_v115, main_call0_call0_call0_c_29, main_call0_call0_call0_v116, main_call0_call0_call0_v117, main_call0_call0_call0_c_30, main_call0_call0_call0_v118, main_call0_call0_call0_v119, main_call0_call0_call0_v120, main_call0_call0_call0_v121, main_call0_call0_call0_v122, main_call0_call0_call0_c_31, main_call0_call0_call0_v123, main_call0_call0_call0_v124, main_call0_call0_call0_c_32, main_call0_call0_call0_v125, main_call0_call0_call0_v126, main_call0_call0_call0_v127, main_call0_call0_call0_v128, main_call0_call0_call0_v129, main_call0_call0_call0_c_33, main_call0_call0_call0_v130, main_call0_call0_call0_v131, main_call0_call0_call0_c_34]
theorem ops7_writes : (ops7 : List (HloOp τ sig (Elt F))).Forall fun op => op.writes ⊆ (ops7_W.map (Proc.devRef (τ := τ) .tc)).toFinset :=
  forall_writes_sub_of_map rfl

/-- The noise, stage 9 of 12. -/
abbrev ops8 : List (HloOp τ sig (Elt F)) :=
  [ TRef.unary (.of main_call0_call0_call0_c_34 : TRef sig ⟨S_, .i32⟩) (.of main_call0_call0_call0_v132 : TRef sig ⟨S64x100000, .i32⟩) (broadcastInDim S64x100000 ![] bcast_S_S64x100000),
    TRef.binary (.of main_call0_call0_call0_v128 : TRef sig ⟨S64x100000, .i32⟩) (.of main_call0_call0_call0_v132 : TRef sig ⟨S64x100000, .i32⟩) (.of main_call0_call0_call0_v133 : TRef sig ⟨S64x100000, .i32⟩) Host.shrui,
    TRef.binary (.of main_call0_call0_call0_v131 : TRef sig ⟨S64x100000, .i32⟩) (.of main_call0_call0_call0_v133 : TRef sig ⟨S64x100000, .i32⟩) (.of main_call0_call0_call0_v134 : TRef sig ⟨S64x100000, .i32⟩) ori,
    TRef.binary (.of main_call0_call0_call0_v129 : TRef sig ⟨S64x100000, .i32⟩) (.of main_call0_call0_call0_v134 : TRef sig ⟨S64x100000, .i32⟩) (.of main_call0_call0_call0_v135 : TRef sig ⟨S64x100000, .i32⟩) xori,
    TRef.unary (.of main_call0_call0_v6 : TRef sig ⟨S_, .i32⟩) (.of main_call0_call0_call0_v136 : TRef sig ⟨S64x100000, .i32⟩) (broadcastInDim S64x100000 ![] bcast_S_S64x100000),
    TRef.binary (.of main_call0_call0_call0_v129 : TRef sig ⟨S64x100000, .i32⟩) (.of main_call0_call0_call0_v136 : TRef sig ⟨S64x100000, .i32⟩) (.of main_call0_call0_call0_v137 : TRef sig ⟨S64x100000, .i32⟩) addi,
    TRef.unary (.of main_call0_call0_call0_v1 : TRef sig ⟨S_, .i32⟩) (.of main_call0_call0_call0_v138 : TRef sig ⟨S64x100000, .i32⟩) (broadcastInDim S64x100000 ![] bcast_S_S64x100000),
    TRef.binary (.of main_call0_call0_call0_v135 : TRef sig ⟨S64x100000, .i32⟩) (.of main_call0_call0_call0_v138 : TRef sig ⟨S64x100000, .i32⟩) (.of main_call0_call0_call0_v139 : TRef sig ⟨S64x100000, .i32⟩) addi,
    TRef.nullary (.of main_call0_call0_call0_c_35 : TRef sig ⟨S_, .i32⟩) (constantI S_ 32 4#32),
    TRef.unary (.of main_call0_call0_call0_c_35 : TRef sig ⟨S_, .i32⟩) (.of main_call0_call0_call0_v140 : TRef sig ⟨S64x100000, .i32⟩) (broadcastInDim S64x100000 ![] bcast_S_S64x100000),
    TRef.binary (.of main_call0_call0_call0_v139 : TRef sig ⟨S64x100000, .i32⟩) (.of main_call0_call0_call0_v140 : TRef sig ⟨S64x100000, .i32⟩) (.of main_call0_call0_call0_v141 : TRef sig ⟨S64x100000, .i32⟩) addi,
    TRef.binary (.of main_call0_call0_call0_v137 : TRef sig ⟨S64x100000, .i32⟩) (.of main_call0_call0_call0_v141 : TRef sig ⟨S64x100000, .i32⟩) (.of main_call0_call0_call0_v142 : TRef sig ⟨S64x100000, .i32⟩) addi,
    TRef.nullary (.of main_call0_call0_call0_c_36 : TRef sig ⟨S_, .i32⟩) (constantI S_ 32 13#32),
    TRef.unary (.of main_call0_call0_call0_c_36 : TRef sig ⟨S_, .i32⟩) (.of main_call0_call0_call0_v143 : TRef sig ⟨S64x100000, .i32⟩) (broadcastInDim S64x100000 ![] bcast_S_S64x100000),
    TRef.binary (.of main_call0_call0_call0_v141 : TRef sig ⟨S64x100000, .i32⟩) (.of main_call0_call0_call0_v143 : TRef sig ⟨S64x100000, .i32⟩) (.of main_call0_call0_call0_v144 : TRef sig ⟨S64x100000, .i32⟩) Host.shli,
    TRef.nullary (.of main_call0_call0_call0_c_37 : TRef sig ⟨S_, .i32⟩) (constantI S_ 32 19#32),
    TRef.unary (.of main_call0_call0_call0_c_37 : TRef sig ⟨S_, .i32⟩) (.of main_call0_call0_call0_v145 : TRef sig ⟨S64x100000, .i32⟩) (broadcastInDim S64x100000 ![] bcast_S_S64x100000),
    TRef.binary (.of main_call0_call0_call0_v141 : TRef sig ⟨S64x100000, .i32⟩) (.of main_call0_call0_call0_v145 : TRef sig ⟨S64x100000, .i32⟩) (.of main_call0_call0_call0_v146 : TRef sig ⟨S64x100000, .i32⟩) Host.shrui,
    TRef.binary (.of main_call0_call0_call0_v144 : TRef sig ⟨S64x100000, .i32⟩) (.of main_call0_call0_call0_v146 : TRef sig ⟨S64x100000, .i32⟩) (.of main_call0_call0_call0_v147 : TRef sig ⟨S64x100000, .i32⟩) ori,
    TRef.binary (.of main_call0_call0_call0_v142 : TRef sig ⟨S64x100000, .i32⟩) (.of main_call0_call0_call0_v147 : TRef sig ⟨S64x100000, .i32⟩) (.of main_call0_call0_call0_v148 : TRef sig ⟨S64x100000, .i32⟩) xori,
    TRef.binary (.of main_call0_call0_call0_v142 : TRef sig ⟨S64x100000, .i32⟩) (.of main_call0_call0_call0_v148 : TRef sig ⟨S64x100000, .i32⟩) (.of main_call0_call0_call0_v149 : TRef sig ⟨S64x100000, .i32⟩) addi,
    TRef.nullary (.of main_call0_call0_call0_c_38 : TRef sig ⟨S_, .i32⟩) (constantI S_ 32 15#32),
    TRef.unary (.of main_call0_call0_call0_c_38 : TRef sig ⟨S_, .i32⟩) (.of main_call0_call0_call0_v150 : TRef sig ⟨S64x100000, .i32⟩) (broadcastInDim S64x100000 ![] bcast_S_S64x100000),
    TRef.binary (.of main_call0_call0_call0_v148 : TRef sig ⟨S64x100000, .i32⟩) (.of main_call0_call0_call0_v150 : TRef sig ⟨S64x100000, .i32⟩) (.of main_call0_call0_call0_v151 : TRef sig ⟨S64x100000, .i32⟩) Host.shli ]

/-- What `ops8` writes, in order. -/
abbrev ops8_W : List (Ref sig .tc) := [main_call0_call0_call0_v132, main_call0_call0_call0_v133, main_call0_call0_call0_v134, main_call0_call0_call0_v135, main_call0_call0_call0_v136, main_call0_call0_call0_v137, main_call0_call0_call0_v138, main_call0_call0_call0_v139, main_call0_call0_call0_c_35, main_call0_call0_call0_v140, main_call0_call0_call0_v141, main_call0_call0_call0_v142, main_call0_call0_call0_c_36, main_call0_call0_call0_v143, main_call0_call0_call0_v144, main_call0_call0_call0_c_37, main_call0_call0_call0_v145, main_call0_call0_call0_v146, main_call0_call0_call0_v147, main_call0_call0_call0_v148, main_call0_call0_call0_v149, main_call0_call0_call0_c_38, main_call0_call0_call0_v150, main_call0_call0_call0_v151]
theorem ops8_writes : (ops8 : List (HloOp τ sig (Elt F))).Forall fun op => op.writes ⊆ (ops8_W.map (Proc.devRef (τ := τ) .tc)).toFinset :=
  forall_writes_sub_of_map rfl

/-- The noise, stage 10 of 12. -/
abbrev ops9 : List (HloOp τ sig (Elt F)) :=
  [ TRef.nullary (.of main_call0_call0_call0_c_39 : TRef sig ⟨S_, .i32⟩) (constantI S_ 32 17#32),
    TRef.unary (.of main_call0_call0_call0_c_39 : TRef sig ⟨S_, .i32⟩) (.of main_call0_call0_call0_v152 : TRef sig ⟨S64x100000, .i32⟩) (broadcastInDim S64x100000 ![] bcast_S_S64x100000),
    TRef.binary (.of main_call0_call0_call0_v148 : TRef sig ⟨S64x100000, .i32⟩) (.of main_call0_call0_call0_v152 : TRef sig ⟨S64x100000, .i32⟩) (.of main_call0_call0_call0_v153 : TRef sig ⟨S64x100000, .i32⟩) Host.shrui,
    TRef.binary (.of main_call0_call0_call0_v151 : TRef sig ⟨S64x100000, .i32⟩) (.of main_call0_call0_call0_v153 : TRef sig ⟨S64x100000, .i32⟩) (.of main_call0_call0_call0_v154 : TRef sig ⟨S64x100000, .i32⟩) ori,
    TRef.binary (.of main_call0_call0_call0_v149 : TRef sig ⟨S64x100000, .i32⟩) (.of main_call0_call0_call0_v154 : TRef sig ⟨S64x100000, .i32⟩) (.of main_call0_call0_call0_v155 : TRef sig ⟨S64x100000, .i32⟩) xori,
    TRef.binary (.of main_call0_call0_call0_v149 : TRef sig ⟨S64x100000, .i32⟩) (.of main_call0_call0_call0_v155 : TRef sig ⟨S64x100000, .i32⟩) (.of main_call0_call0_call0_v156 : TRef sig ⟨S64x100000, .i32⟩) addi,
    TRef.nullary (.of main_call0_call0_call0_c_40 : TRef sig ⟨S_, .i32⟩) (constantI S_ 32 26#32),
    TRef.unary (.of main_call0_call0_call0_c_40 : TRef sig ⟨S_, .i32⟩) (.of main_call0_call0_call0_v157 : TRef sig ⟨S64x100000, .i32⟩) (broadcastInDim S64x100000 ![] bcast_S_S64x100000),
    TRef.binary (.of main_call0_call0_call0_v155 : TRef sig ⟨S64x100000, .i32⟩) (.of main_call0_call0_call0_v157 : TRef sig ⟨S64x100000, .i32⟩) (.of main_call0_call0_call0_v158 : TRef sig ⟨S64x100000, .i32⟩) Host.shli,
    TRef.nullary (.of main_call0_call0_call0_c_41 : TRef sig ⟨S_, .i32⟩) (constantI S_ 32 6#32),
    TRef.unary (.of main_call0_call0_call0_c_41 : TRef sig ⟨S_, .i32⟩) (.of main_call0_call0_call0_v159 : TRef sig ⟨S64x100000, .i32⟩) (broadcastInDim S64x100000 ![] bcast_S_S64x100000),
    TRef.binary (.of main_call0_call0_call0_v155 : TRef sig ⟨S64x100000, .i32⟩) (.of main_call0_call0_call0_v159 : TRef sig ⟨S64x100000, .i32⟩) (.of main_call0_call0_call0_v160 : TRef sig ⟨S64x100000, .i32⟩) Host.shrui,
    TRef.binary (.of main_call0_call0_call0_v158 : TRef sig ⟨S64x100000, .i32⟩) (.of main_call0_call0_call0_v160 : TRef sig ⟨S64x100000, .i32⟩) (.of main_call0_call0_call0_v161 : TRef sig ⟨S64x100000, .i32⟩) ori,
    TRef.binary (.of main_call0_call0_call0_v156 : TRef sig ⟨S64x100000, .i32⟩) (.of main_call0_call0_call0_v161 : TRef sig ⟨S64x100000, .i32⟩) (.of main_call0_call0_call0_v162 : TRef sig ⟨S64x100000, .i32⟩) xori,
    TRef.binary (.of main_call0_call0_call0_v156 : TRef sig ⟨S64x100000, .i32⟩) (.of main_call0_call0_call0_v162 : TRef sig ⟨S64x100000, .i32⟩) (.of main_call0_call0_call0_v163 : TRef sig ⟨S64x100000, .i32⟩) addi,
    TRef.nullary (.of main_call0_call0_call0_c_42 : TRef sig ⟨S_, .i32⟩) (constantI S_ 32 6#32),
    TRef.unary (.of main_call0_call0_call0_c_42 : TRef sig ⟨S_, .i32⟩) (.of main_call0_call0_call0_v164 : TRef sig ⟨S64x100000, .i32⟩) (broadcastInDim S64x100000 ![] bcast_S_S64x100000),
    TRef.binary (.of main_call0_call0_call0_v162 : TRef sig ⟨S64x100000, .i32⟩) (.of main_call0_call0_call0_v164 : TRef sig ⟨S64x100000, .i32⟩) (.of main_call0_call0_call0_v165 : TRef sig ⟨S64x100000, .i32⟩) Host.shli,
    TRef.nullary (.of main_call0_call0_call0_c_43 : TRef sig ⟨S_, .i32⟩) (constantI S_ 32 26#32),
    TRef.unary (.of main_call0_call0_call0_c_43 : TRef sig ⟨S_, .i32⟩) (.of main_call0_call0_call0_v166 : TRef sig ⟨S64x100000, .i32⟩) (broadcastInDim S64x100000 ![] bcast_S_S64x100000),
    TRef.binary (.of main_call0_call0_call0_v162 : TRef sig ⟨S64x100000, .i32⟩) (.of main_call0_call0_call0_v166 : TRef sig ⟨S64x100000, .i32⟩) (.of main_call0_call0_call0_v167 : TRef sig ⟨S64x100000, .i32⟩) Host.shrui,
    TRef.binary (.of main_call0_call0_call0_v165 : TRef sig ⟨S64x100000, .i32⟩) (.of main_call0_call0_call0_v167 : TRef sig ⟨S64x100000, .i32⟩) (.of main_call0_call0_call0_v168 : TRef sig ⟨S64x100000, .i32⟩) ori,
    TRef.binary (.of main_call0_call0_call0_v163 : TRef sig ⟨S64x100000, .i32⟩) (.of main_call0_call0_call0_v168 : TRef sig ⟨S64x100000, .i32⟩) (.of main_call0_call0_call0_v169 : TRef sig ⟨S64x100000, .i32⟩) xori,
    TRef.unary (.of main_call0_call0_call0_v1 : TRef sig ⟨S_, .i32⟩) (.of main_call0_call0_call0_v170 : TRef sig ⟨S64x100000, .i32⟩) (broadcastInDim S64x100000 ![] bcast_S_S64x100000) ]

/-- What `ops9` writes, in order. -/
abbrev ops9_W : List (Ref sig .tc) := [main_call0_call0_call0_c_39, main_call0_call0_call0_v152, main_call0_call0_call0_v153, main_call0_call0_call0_v154, main_call0_call0_call0_v155, main_call0_call0_call0_v156, main_call0_call0_call0_c_40, main_call0_call0_call0_v157, main_call0_call0_call0_v158, main_call0_call0_call0_c_41, main_call0_call0_call0_v159, main_call0_call0_call0_v160, main_call0_call0_call0_v161, main_call0_call0_call0_v162, main_call0_call0_call0_v163, main_call0_call0_call0_c_42, main_call0_call0_call0_v164, main_call0_call0_call0_v165, main_call0_call0_call0_c_43, main_call0_call0_call0_v166, main_call0_call0_call0_v167, main_call0_call0_call0_v168, main_call0_call0_call0_v169, main_call0_call0_call0_v170]
theorem ops9_writes : (ops9 : List (HloOp τ sig (Elt F))).Forall fun op => op.writes ⊆ (ops9_W.map (Proc.devRef (τ := τ) .tc)).toFinset :=
  forall_writes_sub_of_map rfl

/-- The noise, stage 11 of 12. -/
abbrev ops10 : List (HloOp τ sig (Elt F)) :=
  [ TRef.binary (.of main_call0_call0_call0_v163 : TRef sig ⟨S64x100000, .i32⟩) (.of main_call0_call0_call0_v170 : TRef sig ⟨S64x100000, .i32⟩) (.of main_call0_call0_v18_0 : TRef sig ⟨S64x100000, .i32⟩) addi,
    TRef.unary (.of main_call0_call0_v4 : TRef sig ⟨S_, .i32⟩) (.of main_call0_call0_call0_v172 : TRef sig ⟨S64x100000, .i32⟩) (broadcastInDim S64x100000 ![] bcast_S_S64x100000),
    TRef.binary (.of main_call0_call0_call0_v169 : TRef sig ⟨S64x100000, .i32⟩) (.of main_call0_call0_call0_v172 : TRef sig ⟨S64x100000, .i32⟩) (.of main_call0_call0_call0_v173 : TRef sig ⟨S64x100000, .i32⟩) addi,
    TRef.nullary (.of main_call0_call0_call0_c_44 : TRef sig ⟨S_, .i32⟩) (constantI S_ 32 5#32),
    TRef.unary (.of main_call0_call0_call0_c_44 : TRef sig ⟨S_, .i32⟩) (.of main_call0_call0_call0_v174 : TRef sig ⟨S64x100000, .i32⟩) (broadcastInDim S64x100000 ![] bcast_S_S64x100000),
    TRef.binary (.of main_call0_call0_call0_v173 : TRef sig ⟨S64x100000, .i32⟩) (.of main_call0_call0_call0_v174 : TRef sig ⟨S64x100000, .i32⟩) (.of main_call0_call0_v18_1 : TRef sig ⟨S64x100000, .i32⟩) addi,
    TRef.binary (.of main_call0_call0_v18_0 : TRef sig ⟨S64x100000, .i32⟩) (.of main_call0_call0_v18_1 : TRef sig ⟨S64x100000, .i32⟩) (.of main_call0_call0_v19 : TRef sig ⟨S64x100000, .i32⟩) xori ]

/-- What `ops10` writes, in order. -/
abbrev ops10_W : List (Ref sig .tc) := [main_call0_call0_v18_0, main_call0_call0_call0_v172, main_call0_call0_call0_v173, main_call0_call0_call0_c_44, main_call0_call0_call0_v174, main_call0_call0_v18_1, main_call0_call0_v19]
theorem ops10_writes : (ops10 : List (HloOp τ sig (Elt F))).Forall fun op => op.writes ⊆ (ops10_W.map (Proc.devRef (τ := τ) .tc)).toFinset :=
  forall_writes_sub_of_map rfl

/-- The noise, stage 12 of 12. -/
abbrev ops11 : List (HloOp τ sig (Elt F)) :=
  [ TRef.nullary (.of main_call0_call0_c_2 : TRef sig ⟨S_, .i32⟩) (constantI S_ 32 9#32),
    TRef.unary (.of main_call0_call0_c_2 : TRef sig ⟨S_, .i32⟩) (.of main_call0_call0_v20 : TRef sig ⟨S64x100000, .i32⟩) (broadcastInDim S64x100000 ![] bcast_S_S64x100000),
    TRef.binary (.of main_call0_call0_v19 : TRef sig ⟨S64x100000, .i32⟩) (.of main_call0_call0_v20 : TRef sig ⟨S64x100000, .i32⟩) (.of main_call0_call0_v21 : TRef sig ⟨S64x100000, .i32⟩) Host.shrui,
    TRef.nullary (.of main_call0_call0_c_3 : TRef sig ⟨S_, .i32⟩) (constantI S_ 32 1065353216#32),
    TRef.unary (.of main_call0_call0_c_3 : TRef sig ⟨S_, .i32⟩) (.of main_call0_call0_v22 : TRef sig ⟨S64x100000, .i32⟩) (broadcastInDim S64x100000 ![] bcast_S_S64x100000),
    TRef.binary (.of main_call0_call0_v21 : TRef sig ⟨S64x100000, .i32⟩) (.of main_call0_call0_v22 : TRef sig ⟨S64x100000, .i32⟩) (.of main_call0_call0_v23 : TRef sig ⟨S64x100000, .i32⟩) ori,
    TRef.unary (.of main_call0_call0_v23 : TRef sig ⟨S64x100000, .i32⟩) (.of main_call0_call0_v24 : TRef sig ⟨S64x100000, .f32⟩) (bitcastToFloat .f32),
    TRef.nullary (.of main_call0_call0_cst : TRef sig ⟨S_, .f32⟩) (constant S_ .f32 0x3F800000#32),
    TRef.unary (.of main_call0_call0_cst : TRef sig ⟨S_, .f32⟩) (.of main_call0_call0_v25 : TRef sig ⟨S64x100000, .f32⟩) (broadcastInDim S64x100000 ![] bcast_S_S64x100000),
    TRef.binary (.of main_call0_call0_v24 : TRef sig ⟨S64x100000, .f32⟩) (.of main_call0_call0_v25 : TRef sig ⟨S64x100000, .f32⟩) (.of main_call0_call0_v26 : TRef sig ⟨S64x100000, .f32⟩) subf,
    TRef.binary (.of main_call0_call0_v2 : TRef sig ⟨S1x1, .f32⟩) (.of main_call0_call0_v1 : TRef sig ⟨S1x1, .f32⟩) (.of main_call0_call0_v27 : TRef sig ⟨S1x1, .f32⟩) subf,
    TRef.unary (.of main_call0_call0_v27 : TRef sig ⟨S1x1, .f32⟩) (.of main_call0_call0_v28 : TRef sig ⟨S64x100000, .f32⟩) (broadcastInDim S64x100000 ![0, 1] bcast_S1x1_S64x100000_0_1),
    TRef.binary (.of main_call0_call0_v26 : TRef sig ⟨S64x100000, .f32⟩) (.of main_call0_call0_v28 : TRef sig ⟨S64x100000, .f32⟩) (.of main_call0_call0_v29 : TRef sig ⟨S64x100000, .f32⟩) mulf,
    TRef.unary (.of main_call0_call0_v1 : TRef sig ⟨S1x1, .f32⟩) (.of main_call0_call0_v30 : TRef sig ⟨S64x100000, .f32⟩) (broadcastInDim S64x100000 ![0, 1] bcast_S1x1_S64x100000_0_1),
    TRef.binary (.of main_call0_call0_v29 : TRef sig ⟨S64x100000, .f32⟩) (.of main_call0_call0_v30 : TRef sig ⟨S64x100000, .f32⟩) (.of main_call0_call0_v31 : TRef sig ⟨S64x100000, .f32⟩) addf,
    TRef.unary (.of main_call0_call0_v1 : TRef sig ⟨S1x1, .f32⟩) (.of main_call0_call0_v32 : TRef sig ⟨S64x100000, .f32⟩) (broadcastInDim S64x100000 ![0, 1] bcast_S1x1_S64x100000_0_1),
    TRef.binary (.of main_call0_call0_v32 : TRef sig ⟨S64x100000, .f32⟩) (.of main_call0_call0_v31 : TRef sig ⟨S64x100000, .f32⟩) (.of main_call0_v0 : TRef sig ⟨S64x100000, .f32⟩) maximumf,
    TRef.unary (.of main_call0_v0 : TRef sig ⟨S64x100000, .f32⟩) (.of main_call0_v1 : TRef sig ⟨S64x100000, .f32⟩) Host.log,
    TRef.unary (.of main_call0_v1 : TRef sig ⟨S64x100000, .f32⟩) (.of main_call0_v2 : TRef sig ⟨S64x100000, .f32⟩) Host.negf,
    TRef.unary (.of main_call0_v2 : TRef sig ⟨S64x100000, .f32⟩) (.of main_call0_v3 : TRef sig ⟨S64x100000, .f32⟩) Host.log,
    TRef.unary (.of main_call0_v3 : TRef sig ⟨S64x100000, .f32⟩) (.of main_v11 : TRef sig ⟨S64x100000, .f32⟩) Host.negf ]

/-- What `ops11` writes, in order. -/
abbrev ops11_W : List (Ref sig .tc) := [main_call0_call0_c_2, main_call0_call0_v20, main_call0_call0_v21, main_call0_call0_c_3, main_call0_call0_v22, main_call0_call0_v23, main_call0_call0_v24, main_call0_call0_cst, main_call0_call0_v25, main_call0_call0_v26, main_call0_call0_v27, main_call0_call0_v28, main_call0_call0_v29, main_call0_call0_v30, main_call0_call0_v31, main_call0_call0_v32, main_call0_v0, main_call0_v1, main_call0_v2, main_call0_v3, main_v11]
theorem ops11_writes : (ops11 : List (HloOp τ sig (Elt F))).Forall fun op => op.writes ⊆ (ops11_W.map (Proc.devRef (τ := τ) .tc)).toFinset :=
  forall_writes_sub_of_map rfl

set_option maxRecDepth 4000 in
/-- The noise's operations, all its stages. -/
theorem ops_eq : (hostOps0_1 : List (HloOp τ sig (Elt F))) = ops0 ++ (ops1 ++ (ops2 ++ (ops3 ++ (ops4 ++ (ops5 ++ (ops6 ++ (ops7 ++ (ops8 ++ (ops9 ++ (ops10 ++ (ops11))))))))))) := by
  chain_rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih _

variable (V : Valuation τ sig (Elt F))

/-- The last stage: the words made uniform, and the negated logarithm taken twice. -/
abbrev spread (x y : S1x1.Idx → Elt F .f32) (w : S64x100000.Idx → Elt F .i32) : S64x100000.Idx → Elt F .f32 :=
  Host.negf (Host.log (Host.negf (Host.log (Cert.Pre_resolved.fn_uniform_part1 (F := F) x y w))))

theorem noise_0 : Cert.Pre_resolved.fn_gumbel (F := F) (V (main_v10 : DevRef τ sig))
    = spread (after ops0 V (main_call0_call0_v1 : DevRef τ sig)) (after ops0 V (main_call0_call0_v2 : DevRef τ sig)) (xori (Cert.Pre_resolved.fn_threefry2x32 (F := F) (after ops0 V (main_call0_call0_v4 : DevRef τ sig)) (after ops0 V (main_call0_call0_v6 : DevRef τ sig)) (after ops0 V (main_call0_call0_v17 : DevRef τ sig)) (after ops0 V (main_call0_call0_v16 : DevRef τ sig))).1 (Cert.Pre_resolved.fn_threefry2x32 (F := F) (after ops0 V (main_call0_call0_v4 : DevRef τ sig)) (after ops0 V (main_call0_call0_v6 : DevRef τ sig)) (after ops0 V (main_call0_call0_v17 : DevRef τ sig)) (after ops0 V (main_call0_call0_v16 : DevRef τ sig))).2) := by
  after_results
  simp only [TRef.ofBuf_toBuf]
  rfl
theorem noise_1 : Cert.Pre_resolved.fn_threefry2x32 (F := F) (V (main_call0_call0_v4 : DevRef τ sig)) (V (main_call0_call0_v6 : DevRef τ sig)) (V (main_call0_call0_v17 : DevRef τ sig)) (V (main_call0_call0_v16 : DevRef τ sig))
    = Cert.Pre_resolved.fn_threefry2x32_part1 (F := F) (after ops1 V (main_call0_call0_v4 : DevRef τ sig)) (after ops1 V (main_call0_call0_v6 : DevRef τ sig)) (after ops1 V (main_call0_call0_call0_v1 : DevRef τ sig)) (after ops1 V (main_call0_call0_call0_v13 : DevRef τ sig)) (after ops1 V (main_call0_call0_call0_v18 : DevRef τ sig)) := by
  after_results
  simp only [TRef.ofBuf_toBuf]
  rfl
theorem noise_2 : Cert.Pre_resolved.fn_threefry2x32_part1 (F := F) (V (main_call0_call0_v4 : DevRef τ sig)) (V (main_call0_call0_v6 : DevRef τ sig)) (V (main_call0_call0_call0_v1 : DevRef τ sig)) (V (main_call0_call0_call0_v13 : DevRef τ sig)) (V (main_call0_call0_call0_v18 : DevRef τ sig))
    = Cert.Pre_resolved.fn_threefry2x32_part2 (F := F) (after ops2 V (main_call0_call0_v4 : DevRef τ sig)) (after ops2 V (main_call0_call0_v6 : DevRef τ sig)) (after ops2 V (main_call0_call0_call0_v1 : DevRef τ sig)) (after ops2 V (main_call0_call0_call0_v35 : DevRef τ sig)) (after ops2 V (main_call0_call0_call0_v37 : DevRef τ sig)) (after ops2 V (main_call0_call0_call0_c_8 : DevRef τ sig)) := by
  after_results
  simp only [TRef.ofBuf_toBuf]
  rfl
theorem noise_3 : Cert.Pre_resolved.fn_threefry2x32_part2 (F := F) (V (main_call0_call0_v4 : DevRef τ sig)) (V (main_call0_call0_v6 : DevRef τ sig)) (V (main_call0_call0_call0_v1 : DevRef τ sig)) (V (main_call0_call0_call0_v35 : DevRef τ sig)) (V (main_call0_call0_call0_v37 : DevRef τ sig)) (V (main_call0_call0_call0_c_8 : DevRef τ sig))
    = Cert.Pre_resolved.fn_threefry2x32_part3 (F := F) (after ops3 V (main_call0_call0_v4 : DevRef τ sig)) (after ops3 V (main_call0_call0_v6 : DevRef τ sig)) (after ops3 V (main_call0_call0_call0_v1 : DevRef τ sig)) (after ops3 V (main_call0_call0_call0_v53 : DevRef τ sig)) (after ops3 V (main_call0_call0_call0_v54 : DevRef τ sig)) (after ops3 V (main_call0_call0_call0_v56 : DevRef τ sig)) := by
  after_results
  simp only [TRef.ofBuf_toBuf]
  rfl
theorem noise_4 : Cert.Pre_resolved.fn_threefry2x32_part3 (F := F) (V (main_call0_call0_v4 : DevRef τ sig)) (V (main_call0_call0_v6 : DevRef τ sig)) (V (main_call0_call0_call0_v1 : DevRef τ sig)) (V (main_call0_call0_call0_v53 : DevRef τ sig)) (V (main_call0_call0_call0_v54 : DevRef τ sig)) (V (main_call0_call0_call0_v56 : DevRef τ sig))
    = Cert.Pre_resolved.fn_threefry2x32_part4 (F := F) (after ops4 V (main_call0_call0_v4 : DevRef τ sig)) (after ops4 V (main_call0_call0_v6 : DevRef τ sig)) (after ops4 V (main_call0_call0_call0_v1 : DevRef τ sig)) (after ops4 V (main_call0_call0_call0_v73 : DevRef τ sig)) (after ops4 V (main_call0_call0_call0_v74 : DevRef τ sig)) (after ops4 V (main_call0_call0_call0_v75 : DevRef τ sig)) := by
  after_results
  simp only [TRef.ofBuf_toBuf]
  rfl
theorem noise_5 : Cert.Pre_resolved.fn_threefry2x32_part4 (F := F) (V (main_call0_call0_v4 : DevRef τ sig)) (V (main_call0_call0_v6 : DevRef τ sig)) (V (main_call0_call0_call0_v1 : DevRef τ sig)) (V (main_call0_call0_call0_v73 : DevRef τ sig)) (V (main_call0_call0_call0_v74 : DevRef τ sig)) (V (main_call0_call0_call0_v75 : DevRef τ sig))
    = Cert.Pre_resolved.fn_threefry2x32_part5 (F := F) (after ops5 V (main_call0_call0_v4 : DevRef τ sig)) (after ops5 V (main_call0_call0_v6 : DevRef τ sig)) (after ops5 V (main_call0_call0_call0_v1 : DevRef τ sig)) (after ops5 V (main_call0_call0_call0_v88 : DevRef τ sig)) (after ops5 V (main_call0_call0_call0_v94 : DevRef τ sig)) := by
  after_results
  simp only [TRef.ofBuf_toBuf]
  rfl
theorem noise_6 : Cert.Pre_resolved.fn_threefry2x32_part5 (F := F) (V (main_call0_call0_v4 : DevRef τ sig)) (V (main_call0_call0_v6 : DevRef τ sig)) (V (main_call0_call0_call0_v1 : DevRef τ sig)) (V (main_call0_call0_call0_v88 : DevRef τ sig)) (V (main_call0_call0_call0_v94 : DevRef τ sig))
    = Cert.Pre_resolved.fn_threefry2x32_part6 (F := F) (after ops6 V (main_call0_call0_v4 : DevRef τ sig)) (after ops6 V (main_call0_call0_v6 : DevRef τ sig)) (after ops6 V (main_call0_call0_call0_v1 : DevRef τ sig)) (after ops6 V (main_call0_call0_call0_v108 : DevRef τ sig)) (after ops6 V (main_call0_call0_call0_v113 : DevRef τ sig)) := by
  after_results
  simp only [TRef.ofBuf_toBuf]
  rfl
theorem noise_7 : Cert.Pre_resolved.fn_threefry2x32_part6 (F := F) (V (main_call0_call0_v4 : DevRef τ sig)) (V (main_call0_call0_v6 : DevRef τ sig)) (V (main_call0_call0_call0_v1 : DevRef τ sig)) (V (main_call0_call0_call0_v108 : DevRef τ sig)) (V (main_call0_call0_call0_v113 : DevRef τ sig))
    = Cert.Pre_resolved.fn_threefry2x32_part7 (F := F) (after ops7 V (main_call0_call0_v4 : DevRef τ sig)) (after ops7 V (main_call0_call0_v6 : DevRef τ sig)) (after ops7 V (main_call0_call0_call0_v1 : DevRef τ sig)) (after ops7 V (main_call0_call0_call0_v128 : DevRef τ sig)) (after ops7 V (main_call0_call0_call0_v129 : DevRef τ sig)) (after ops7 V (main_call0_call0_call0_v131 : DevRef τ sig)) (after ops7 V (main_call0_call0_call0_c_34 : DevRef τ sig)) := by
  after_results
  simp only [TRef.ofBuf_toBuf]
  rfl
theorem noise_8 : Cert.Pre_resolved.fn_threefry2x32_part7 (F := F) (V (main_call0_call0_v4 : DevRef τ sig)) (V (main_call0_call0_v6 : DevRef τ sig)) (V (main_call0_call0_call0_v1 : DevRef τ sig)) (V (main_call0_call0_call0_v128 : DevRef τ sig)) (V (main_call0_call0_call0_v129 : DevRef τ sig)) (V (main_call0_call0_call0_v131 : DevRef τ sig)) (V (main_call0_call0_call0_c_34 : DevRef τ sig))
    = Cert.Pre_resolved.fn_threefry2x32_part8 (F := F) (after ops8 V (main_call0_call0_v4 : DevRef τ sig)) (after ops8 V (main_call0_call0_call0_v1 : DevRef τ sig)) (after ops8 V (main_call0_call0_call0_v148 : DevRef τ sig)) (after ops8 V (main_call0_call0_call0_v149 : DevRef τ sig)) (after ops8 V (main_call0_call0_call0_v151 : DevRef τ sig)) := by
  after_results
  simp only [TRef.ofBuf_toBuf]
  rfl
theorem noise_9 : Cert.Pre_resolved.fn_threefry2x32_part8 (F := F) (V (main_call0_call0_v4 : DevRef τ sig)) (V (main_call0_call0_call0_v1 : DevRef τ sig)) (V (main_call0_call0_call0_v148 : DevRef τ sig)) (V (main_call0_call0_call0_v149 : DevRef τ sig)) (V (main_call0_call0_call0_v151 : DevRef τ sig))
    = Cert.Pre_resolved.fn_threefry2x32_part9 (F := F) (after ops9 V (main_call0_call0_v4 : DevRef τ sig)) (after ops9 V (main_call0_call0_call0_v163 : DevRef τ sig)) (after ops9 V (main_call0_call0_call0_v169 : DevRef τ sig)) (after ops9 V (main_call0_call0_call0_v170 : DevRef τ sig)) := by
  after_results
  simp only [TRef.ofBuf_toBuf]
  rfl
theorem noise_10 : xori (Cert.Pre_resolved.fn_threefry2x32_part9 (F := F) (V (main_call0_call0_v4 : DevRef τ sig)) (V (main_call0_call0_call0_v163 : DevRef τ sig)) (V (main_call0_call0_call0_v169 : DevRef τ sig)) (V (main_call0_call0_call0_v170 : DevRef τ sig))).1 (Cert.Pre_resolved.fn_threefry2x32_part9 (F := F) (V (main_call0_call0_v4 : DevRef τ sig)) (V (main_call0_call0_call0_v163 : DevRef τ sig)) (V (main_call0_call0_call0_v169 : DevRef τ sig)) (V (main_call0_call0_call0_v170 : DevRef τ sig))).2
    = (after ops10 V (main_call0_call0_v19 : DevRef τ sig)) := by
  after_results
  simp only [TRef.ofBuf_toBuf]
  rfl
theorem noise_11 : spread (V (main_call0_call0_v1 : DevRef τ sig)) (V (main_call0_call0_v2 : DevRef τ sig)) (V (main_call0_call0_v19 : DevRef τ sig))
    = (after ops11 V (main_v11 : DevRef τ sig)) := by
  after_results
  simp only [TRef.ofBuf_toBuf]
  rfl
theorem noise_1_v1 : after ops1 V (main_call0_call0_v1 : DevRef τ sig) = V (main_call0_call0_v1 : DevRef τ sig) := after_of_writes_sub _ V ops1_writes (by decide)
theorem noise_1_v2 : after ops1 V (main_call0_call0_v2 : DevRef τ sig) = V (main_call0_call0_v2 : DevRef τ sig) := after_of_writes_sub _ V ops1_writes (by decide)
theorem noise_2_v1 : after ops2 V (main_call0_call0_v1 : DevRef τ sig) = V (main_call0_call0_v1 : DevRef τ sig) := after_of_writes_sub _ V ops2_writes (by decide)
theorem noise_2_v2 : after ops2 V (main_call0_call0_v2 : DevRef τ sig) = V (main_call0_call0_v2 : DevRef τ sig) := after_of_writes_sub _ V ops2_writes (by decide)
theorem noise_3_v1 : after ops3 V (main_call0_call0_v1 : DevRef τ sig) = V (main_call0_call0_v1 : DevRef τ sig) := after_of_writes_sub _ V ops3_writes (by decide)
theorem noise_3_v2 : after ops3 V (main_call0_call0_v2 : DevRef τ sig) = V (main_call0_call0_v2 : DevRef τ sig) := after_of_writes_sub _ V ops3_writes (by decide)
theorem noise_4_v1 : after ops4 V (main_call0_call0_v1 : DevRef τ sig) = V (main_call0_call0_v1 : DevRef τ sig) := after_of_writes_sub _ V ops4_writes (by decide)
theorem noise_4_v2 : after ops4 V (main_call0_call0_v2 : DevRef τ sig) = V (main_call0_call0_v2 : DevRef τ sig) := after_of_writes_sub _ V ops4_writes (by decide)
theorem noise_5_v1 : after ops5 V (main_call0_call0_v1 : DevRef τ sig) = V (main_call0_call0_v1 : DevRef τ sig) := after_of_writes_sub _ V ops5_writes (by decide)
theorem noise_5_v2 : after ops5 V (main_call0_call0_v2 : DevRef τ sig) = V (main_call0_call0_v2 : DevRef τ sig) := after_of_writes_sub _ V ops5_writes (by decide)
theorem noise_6_v1 : after ops6 V (main_call0_call0_v1 : DevRef τ sig) = V (main_call0_call0_v1 : DevRef τ sig) := after_of_writes_sub _ V ops6_writes (by decide)
theorem noise_6_v2 : after ops6 V (main_call0_call0_v2 : DevRef τ sig) = V (main_call0_call0_v2 : DevRef τ sig) := after_of_writes_sub _ V ops6_writes (by decide)
theorem noise_7_v1 : after ops7 V (main_call0_call0_v1 : DevRef τ sig) = V (main_call0_call0_v1 : DevRef τ sig) := after_of_writes_sub _ V ops7_writes (by decide)
theorem noise_7_v2 : after ops7 V (main_call0_call0_v2 : DevRef τ sig) = V (main_call0_call0_v2 : DevRef τ sig) := after_of_writes_sub _ V ops7_writes (by decide)
theorem noise_8_v1 : after ops8 V (main_call0_call0_v1 : DevRef τ sig) = V (main_call0_call0_v1 : DevRef τ sig) := after_of_writes_sub _ V ops8_writes (by decide)
theorem noise_8_v2 : after ops8 V (main_call0_call0_v2 : DevRef τ sig) = V (main_call0_call0_v2 : DevRef τ sig) := after_of_writes_sub _ V ops8_writes (by decide)
theorem noise_9_v1 : after ops9 V (main_call0_call0_v1 : DevRef τ sig) = V (main_call0_call0_v1 : DevRef τ sig) := after_of_writes_sub _ V ops9_writes (by decide)
theorem noise_9_v2 : after ops9 V (main_call0_call0_v2 : DevRef τ sig) = V (main_call0_call0_v2 : DevRef τ sig) := after_of_writes_sub _ V ops9_writes (by decide)
theorem noise_10_v1 : after ops10 V (main_call0_call0_v1 : DevRef τ sig) = V (main_call0_call0_v1 : DevRef τ sig) := after_of_writes_sub _ V ops10_writes (by decide)
theorem noise_10_v2 : after ops10 V (main_call0_call0_v2 : DevRef τ sig) = V (main_call0_call0_v2 : DevRef τ sig) := after_of_writes_sub _ V ops10_writes (by decide)

/-- The noise is the Gumbel noise of the key. -/
theorem noise : after hostOps0_1 V (main_v11 : DevRef τ sig) = Cert.Pre_resolved.fn_gumbel (F := F) (V (main_v10 : DevRef τ sig)) := by
  have e := noise_11 (after ops10 (after ops9 (after ops8 (after ops7 (after ops6 (after ops5 (after ops4 (after ops3 (after ops2 (after ops1 (after ops0 V)))))))))))
  rw [noise_10_v1, noise_9_v1, noise_8_v1, noise_7_v1, noise_6_v1, noise_5_v1, noise_4_v1, noise_3_v1, noise_2_v1, noise_1_v1, noise_10_v2, noise_9_v2, noise_8_v2, noise_7_v2, noise_6_v2, noise_5_v2, noise_4_v2, noise_3_v2, noise_2_v2, noise_1_v2] at e
  rw [noise_0, noise_1, noise_2, noise_3, noise_4, noise_5, noise_6, noise_7, noise_8, noise_9, noise_10, e]
  rw [ops_eq]
  simp only [after_append]

end Cert.KernelIdeal.Noise

end
-- ==== Proof.Value.Rows.lean ====
module

public import Idealize.ShloMosaic.Lib.IdealHost
public import Idealize.ShloMosaic.Lib.ReduceAll
public import Idealize.ShloMosaic.Lib.SortFacts
public import Idealize.ShloMosaic.Lib.ValueIdx
public import Idealize.ShloMosaic.PureOps.Ideal.Laws
public import Mathlib.Order.Fin.Basic

@[expose] public section

noncomputable section

namespace Cert.Value

open Idealize.ShloMosaic Idealize.ShloMosaic.ValueIdx

/-! # Operations along the rows of a matrix, read at an entry -/

variable {R C : ℕ}

abbrev Mat (R C : ℕ) : Shape := ⟨2, ![R, C]⟩
abbrev Col (R : ℕ) : Shape := ⟨1, ![R]⟩

theorem reduces_row (hR : 0 < 1) : (Mat R C).Reduces [1] (Col R) :=
  ⟨rfl, hR, fun b => match b with | ⟨0, _⟩ => rfl⟩

theorem lift_row (h : (Mat R C).Reduces [1] (Col R)) (j : (Col R).Idx) (k : Fin C) : h.lift j k = ix2 (j 0) k := by
  funext a
  match a with
  | ⟨0, _⟩ => rfl
  | ⟨1, _⟩ => rfl

/-- A row's sum. -/
theorem hostSum_row {u : Shape} (x : FVec Ideal (Mat R C) .f32) (init : u.Idx → Ideal .f32) (h : (Mat R C).ReducesTo [1] (Col R))
    (hu : 0 < u.numel) (j : (Col R).Idx) :
    Host.reduceAdd x init h hu j = init (Shape.Idx.first hu) + ∑ k : Fin C, x (ix2 (j 0) k) := by
  rw [hostReduceAdd_apply, Ideal.hostReduceAdd_single h (reduces_row Nat.one_pos)]
  exact congrArg _ (Finset.sum_congr rfl fun k _ => congrArg x (lift_row _ j k))

/-- A fold over a row by a body in which order does not matter. -/
theorem hostFold_row {α : Type} {u : Shape} (f : α → α → α) [Std.Commutative f] [Std.Associative f] (x : (Mat R C).Idx → α)
    (init : u.Idx → α) (h : (Mat R C).ReducesTo [1] (Col R)) (hu : 0 < u.numel) (j : (Col R).Idx) :
    Host.reduce f x init h hu j
      = (Finset.univ : Finset (Fin C)).fold f (init (Shape.Idx.first hu)) fun k => x (ix2 (j 0) k) := by
  rw [Host.reduce_eq_fold_single f x init h (reduces_row Nat.one_pos) hu j]
  exact Finset.fold_congr fun k _ => congrArg x (lift_row _ j k)

/-- The pairs a row's argument search goes through. -/
theorem mem_fiber_row {α β : Type} (x : (Mat R C).Idx → α) (y : (Mat R C).Idx → β) (h : (Mat R C).ReducesTo [1] (Col R))
    (j : (Col R).Idx) (p : α × β) :
    p ∈ Host.argReduceFiber x y h j ↔ ∃ k : Fin C, p = (x (ix2 (j 0) k), y (ix2 (j 0) k)) := by
  have hd : ∀ i : (Mat R C).Idx, h.drop i = j ↔ i = ix2 (j 0) (i 1) := by
    intro i
    rw [Shape.ReducesTo.drop_eq_drop h (reduces_row Nat.one_pos)]
    constructor
    · rintro rfl
      exact eq_ix2 i
    · intro e
      rw [e, ← lift_row (reduces_row Nat.one_pos) j (i 1)]
      exact Shape.Reduces.drop_lift _ j _
  unfold Host.argReduceFiber
  simp only [List.mem_map, List.mem_filter, List.mem_finRange, true_and, decide_eq_true_eq]
  constructor
  · rintro ⟨n, hn, rfl⟩
    exact ⟨(Mat R C).rowMajor.symm n 1, congrArg (fun i => (x i, y i)) ((hd _).mp hn)⟩
  · rintro ⟨k, rfl⟩
    refine ⟨(Mat R C).rowMajor (ix2 (j 0) k), ?_, ?_⟩
    · rw [Equiv.symm_apply_apply, hd]
      rfl
    · rw [Equiv.symm_apply_apply]

/-- A sort along the rows carries each row's companion entries by the row's own sorting order. -/
theorem sort2_snd {α β : Type} (cmp : α × β → α × β → BitVec 1) (x : (Mat R C).Idx → α) (y : (Mat R C).Idx → β)
    (i : Fin R) (q : Fin C) :
    (Host.sort2 (Mat R C) 1 cmp x y).2 (ix2 i q)
      = y (ix2 i (sortedFrom (fun k k' => cmp (x (ix2 i k), y (ix2 i k)) (x (ix2 i k'), y (ix2 i k')) == 1#1) q)) := by
  have e : ∀ k : Fin C, Shape.Idx.along (s := Mat R C) (ix2 i q) 1 k = ix2 i k := by
    intro k
    funext a
    match a with
    | ⟨0, _⟩ => rfl
    | ⟨1, _⟩ => rfl
  unfold Host.sort2
  rw [dif_pos (show 1 < (Mat R C).rank from Nat.one_lt_two)]
  have key : ∀ f : Fin C → (Mat R C).Idx, f = ix2 i →
      y (f (sortedFrom (fun k k' => cmp (x (f k), y (f k)) (x (f k'), y (f k')) == 1#1) q))
        = y (ix2 i (sortedFrom (fun k k' => cmp (x (ix2 i k), y (ix2 i k)) (x (ix2 i k'), y (ix2 i k')) == 1#1) q)) := by
    rintro _ rfl
    rfl
  exact key _ (funext e)

/-- A sorting order, as a permutation of the positions. -/
def perm {n : ℕ} (before : Fin n → Fin n → Bool) : Equiv.Perm (Fin n) :=
  Equiv.ofBijective (sortedFrom before) ⟨sortedFrom_injective before, sortedFrom_surjective before⟩

/-- Sorting the negations puts the values in falling order. -/
theorem perm_antitone {n : ℕ} (L : Fin n → ℝ) : Antitone fun q => L (perm (fun k k' => decide (-L k < -L k')) q) := by
  intro q q' hq
  rcases hq.eq_or_lt with rfl | h
  · exact le_rfl
  · have := sortedFrom_noInversion (fun k k' => decide (-L k < -L k')) (fun k k' => decide (-L k < -L k'))
      (fun a b hab => by simp only [decide_eq_true_eq, decide_eq_false_iff_not] at hab ⊢; linarith) (fun _ _ h => h)
      (fun a b c hab hbc => by simp only [decide_eq_false_iff_not, not_lt] at hab hbc ⊢; linarith) q q' h
    simp only [decide_eq_false_iff_not, not_lt] at this
    show L (sortedFrom _ q') ≤ L (sortedFrom _ q)
    linarith

/-- Sorting the values of a permutation gives its inverse. -/
theorem perm_inverse {n : ℕ} (σ : Equiv.Perm (Fin n)) : perm (fun k k' => decide (σ k < σ k')) = σ.symm := by
  have hm : StrictMono fun q => σ (perm (fun k k' => decide (σ k < σ k')) q) := by
    intro q q' h
    have := sortedFrom_noInversion (fun k k' => decide (σ k < σ k')) (fun k k' => decide (σ k < σ k'))
      (fun a b hab => by simp only [decide_eq_true_eq, decide_eq_false_iff_not] at hab ⊢; exact not_lt_of_gt hab) (fun _ _ h => h)
      (fun a b c hab hbc => by simp only [decide_eq_false_iff_not, not_lt] at hab hbc ⊢; exact hbc.trans hab) q q' h
    simp only [decide_eq_false_iff_not, not_lt] at this
    refine lt_of_le_of_ne this fun e => h.ne ?_
    exact (perm _).injective (σ.injective e)
  have hs : Function.Surjective fun q => σ (perm (fun k k' => decide (σ k < σ k')) q) :=
    σ.surjective.comp (perm _).surjective
  have e : StrictMono.orderIsoOfSurjective _ hm hs = OrderIso.refl (Fin n) := Subsingleton.elim _ _
  ext q : 1
  rw [Equiv.eq_symm_apply]
  exact congrArg (fun f : Fin n ≃o Fin n => f q) e

/-! ## The gather of a row's entries at a row of column numbers -/

section Along

/-- Its dimension numbers. -/
abbrev alongDims (R C : ℕ) (wf : GatherDims.WF (Mat R C) ⟨3, ![R, C, 1]⟩ (Mat R C) [] [1] [0] [1] [0] 2 ![1, 1]) :
    GatherDims (Mat R C) ⟨3, ![R, C, 1]⟩ (Mat R C) where
  offsetDims := []
  collapsedSliceDims := [1]
  operandBatchingDims := [0]
  startIndicesBatchingDims := [0]
  startIndexMap := [1]
  indexVectorDim := 2
  sliceSizes := ![1, 1]
  wf := wf

theorem gather_along {α : Type} {w : ℕ} (hC : 0 < C)
    (wf : GatherDims.WF (Mat R C) ⟨3, ![R, C, 1]⟩ (Mat R C) [] [1] [0] [1] [0] 2 ![1, 1]) (x : (Mat R C).Idx → α)
    (idx : IVec ⟨3, ![R, C, 1]⟩ w) (i : Fin R) (q : Fin C) :
    Host.gather (alongDims R C wf) x idx (ix2 i q)
      = x (ix2 i ⟨min (idx (takeIdx (ix2 i q))).toInt.toNat (C - 1), by omega⟩) := by
  unfold Host.gather
  refine congrArg x (funext fun a => Fin.ext ?_)
  show (alongDims R C wf).start (ix2 i q) idx a + (alongDims R C wf).batchCoord (ix2 i q) a
    + (alongDims R C wf).offCoord (ix2 i q) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R C wf).operandBatchingDims from List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 i q) ⟨List.idxOf (1 : Fin 2) (alongDims R C wf).startIndexMap,
        List.idxOf_lt_length_iff.2 (List.mem_singleton.mpr rfl)⟩ = takeIdx (ix2 i q) := by
      funext b
      match b with
      | ⟨0, _⟩ => rfl
      | ⟨1, _⟩ => rfl
      | ⟨2, _⟩ => rfl
    rw [hsi]
    rfl

end Along

/-- A running sum along a row: the window of the whole width, padded low. -/
theorem hostRunning_row {u : Shape} {Cm1 : ℕ} (hC : Cm1 + 1 = C) (x : FVec Ideal (Mat R C) .f32) (init : u.Idx → Ideal .f32)
    (h : (Mat R C).ReduceWindows (![1, C] : Fin 2 → ℕ) ![1, 1] ![0, Cm1] ![0, 0] (Mat R C)) (hu : 0 < u.numel)
    (hi : init (Shape.Idx.first hu) = 0) (i : Fin R) (r : Fin C) :
    Host.reduceWindowAdd ![1, C] ![1, 1] ![0, Cm1] ![0, 0] x init h hu (ix2 i r)
      = ∑ q : Fin C, if q ≤ r then x (ix2 i q) else 0 := by
  have fold : ∀ {n : ℕ} (g : Fin n → EReal), (List.finRange n).foldl (fun a k => a + g k) 0 = ∑ k, g k := by
    intro n g
    rw [Fin.sum_univ_def]
    have : ∀ (l : List (Fin n)) (v : EReal), l.foldl (fun a k => a + g k) v = v + (l.map g).sum := by
      intro l
      induction l with
      | nil => intro v; simp
      | cons a l ih => intro v; rw [List.foldl_cons, ih, List.map_cons, List.sum_cons, add_assoc]
    rw [this, zero_add]
  have hr := r.isLt
  show Host.reduceWindow (· + ·) (![1, C] : Fin 2 → ℕ) ![1, 1] ![0, Cm1] ![0, 0] x
    (fun _ : (⟨0, ![]⟩ : Shape).Idx => init (Shape.Idx.first hu)) h (by decide) (ix2 i r) = _
  unfold Host.reduceWindow
  rw [hi]
  let G : (Mat 1 C).Idx → EReal := fun w =>
    if hin : Cm1 ≤ r.val + (w 1).val ∧ r.val + (w 1).val - Cm1 < C then x (ix2 i ⟨r.val + (w 1).val - Cm1, hin.2⟩) else 0
  have hG : ∀ n : Fin (Mat 1 C).numel, (if hin : ∀ a : Fin 2, (![0, Cm1] : Fin 2 → ℕ) a
        ≤ ((ix2 i r : (Mat R C).Idx) a).val * (![1, 1] : Fin 2 → ℕ) a + ((Mat 1 C).rowMajor.symm n a).val
          ∧ ((ix2 i r : (Mat R C).Idx) a).val * (![1, 1] : Fin 2 → ℕ) a + ((Mat 1 C).rowMajor.symm n a).val - (![0, Cm1] : Fin 2 → ℕ) a < (Mat R C).size a
        then x (fun a => ⟨((ix2 i r : (Mat R C).Idx) a).val * (![1, 1] : Fin 2 → ℕ) a + ((Mat 1 C).rowMajor.symm n a).val - (![0, Cm1] : Fin 2 → ℕ) a, (hin a).2⟩) else (0 : EReal))
      = G ((Mat 1 C).rowMajor.symm n) := by
    intro n
    generalize (Mat 1 C).rowMajor.symm n = w
    have hw0 : (w 0).val = 0 := by have := idx2_lt0 w; omega
    by_cases hc : Cm1 ≤ r.val + (w 1).val ∧ r.val + (w 1).val - Cm1 < C
    · have hin : ∀ a : Fin 2, (![0, Cm1] : Fin 2 → ℕ) a ≤ ((ix2 i r : (Mat R C).Idx) a).val * (![1, 1] : Fin 2 → ℕ) a + (w a).val
          ∧ ((ix2 i r : (Mat R C).Idx) a).val * (![1, 1] : Fin 2 → ℕ) a + (w a).val - (![0, Cm1] : Fin 2 → ℕ) a < (Mat R C).size a := by
        intro a
        match a with
        | ⟨0, _⟩ =>
          refine ⟨Nat.zero_le _, ?_⟩
          show i.val * 1 + (w 0).val - 0 < R
          have := i.isLt; omega
        | ⟨1, _⟩ =>
          show Cm1 ≤ r.val * 1 + (w 1).val ∧ r.val * 1 + (w 1).val - Cm1 < C
          rw [Nat.mul_one]; exact hc
      rw [dif_pos hin]
      show _ = dite _ _ _
      rw [dif_pos hc]
      refine congrArg x (funext fun a => Fin.ext ?_)
      match a with
      | ⟨0, _⟩ =>
        show i.val * 1 + (w 0).val - 0 = i.val
        omega
      | ⟨1, _⟩ =>
        show r.val * 1 + (w 1).val - Cm1 = r.val + (w 1).val - Cm1
        rw [Nat.mul_one]
    · rw [dif_neg fun hin => hc (by
        have := hin 1
        change Cm1 ≤ r.val * 1 + (w 1).val ∧ r.val * 1 + (w 1).val - Cm1 < C at this
        rwa [Nat.mul_one] at this)]
      show _ = dite _ _ _
      rw [dif_neg hc]
  refine (fold (fun n : Fin (Mat 1 C).numel => _)).trans ?_
  refine (Finset.sum_congr rfl fun n _ => hG n).trans ?_
  rw [Equiv.sum_comp (Mat 1 C).rowMajor.symm G, sum_idx2, Fin.sum_univ_one]
  have e1 : ∀ b : Fin C, G (ix2 0 b) = if Cm1 ≤ r.val + b.val then x (ix2 i ⟨(r.val + b.val - Cm1) % C, Nat.mod_lt _ (by omega)⟩) else 0 := by
    intro b
    have hb := b.isLt
    show (if hin : Cm1 ≤ r.val + b.val ∧ r.val + b.val - Cm1 < C then x (ix2 i ⟨r.val + b.val - Cm1, hin.2⟩) else 0) = _
    by_cases hc : Cm1 ≤ r.val + b.val
    · rw [dif_pos ⟨hc, by omega⟩, if_pos hc]
      exact congrArg x (congrArg (ix2 i) (Fin.ext (Nat.mod_eq_of_lt (by omega)).symm))
    · rw [dif_neg fun h => hc h.1, if_neg hc]
  rw [Finset.sum_congr rfl fun b _ => e1 b, ← Finset.sum_filter, ← Finset.sum_filter]
  refine Finset.sum_bij' (fun b _ => ⟨(r.val + b.val - Cm1) % C, Nat.mod_lt _ (by omega)⟩)
    (fun q _ => ⟨(q.val + Cm1 - r.val) % C, Nat.mod_lt _ (by omega)⟩) ?_ ?_ ?_ ?_ ?_
  · intro b hb
    have hb' := b.isLt
    rw [Finset.mem_filter] at hb ⊢
    refine ⟨Finset.mem_univ _, ?_⟩
    show (r.val + b.val - Cm1) % C ≤ r.val
    rw [Nat.mod_eq_of_lt (by omega)]; omega
  · intro q hq
    rw [Finset.mem_filter] at hq ⊢
    have hq' : q.val ≤ r.val := hq.2
    refine ⟨Finset.mem_univ _, ?_⟩
    show Cm1 ≤ r.val + (q.val + Cm1 - r.val) % C
    rw [Nat.mod_eq_of_lt (by omega)]; omega
  · intro b hb
    have hb' := b.isLt
    have hc := (Finset.mem_filter.mp hb).2
    refine Fin.ext ?_
    show ((r.val + b.val - Cm1) % C + Cm1 - r.val) % C = b.val
    rw [Nat.mod_eq_of_lt (show r.val + b.val - Cm1 < C by omega), Nat.mod_eq_of_lt (by omega)]; omega
  · intro q hq
    have hq' : q.val ≤ r.val := (Finset.mem_filter.mp hq).2
    refine Fin.ext ?_
    show (r.val + (q.val + Cm1 - r.val) % C - Cm1) % C = q.val
    rw [Nat.mod_eq_of_lt (show q.val + Cm1 - r.val < C by omega), Nat.mod_eq_of_lt (by omega)]; omega
  · intro b _
    rfl

end Cert.Value

end
-- ==== Proof.Value.Nucleus.lean ====
module

public import Mathlib.Data.EReal.Operations
public import Mathlib.Analysis.SpecialFunctions.Exp
public import Mathlib.Analysis.SpecialFunctions.Log.Basic
public import Mathlib.Tactic.Linarith
public import Mathlib.Tactic.FieldSimp
public import Mathlib.Tactic.Ring

@[expose] public section

noncomputable section

namespace Cert.Value

open Finset

/-! # One row: the nucleus, the bisection and the first largest entry -/

variable {n : ℕ}

/-- `s` is the first position of the largest value of `f`. -/
def FirstMax (f : Fin n → EReal) (s : Fin n) : Prop := (∀ i, f i ≤ f s) ∧ ∀ i, i < s → f i < f s

theorem FirstMax.unique {f : Fin n → EReal} {s t : Fin n} (hs : FirstMax f s) (ht : FirstMax f t) : s = t := by
  rcases lt_trichotomy s t with h | h | h
  · exact absurd (ht.2 s h) (not_lt.mpr (hs.1 t))
  · exact h
  · exact absurd (hs.2 t h) (not_lt.mpr (ht.1 s))

/-- The value a kept token competes with, the dropped ones at `⊥`. -/
def score (K : Fin n → Prop) [DecidablePred K] (L : Fin n → ℝ) (g : Fin n → EReal) (i : Fin n) : EReal :=
  if K i then (L i : EReal) + g i else ⊥

/-- Fewer kept tokens, the winner still among them: the winner stays. -/
theorem FirstMax.mono {K K' : Fin n → Prop} [DecidablePred K] [DecidablePred K'] {L : Fin n → ℝ} {g : Fin n → EReal}
    {s : Fin n} (hs : FirstMax (score K L g) s) (hsub : ∀ i, K' i → K i) (hK : K s → K' s) :
    FirstMax (score K' L g) s := by
  have hle : ∀ i, score K' L g i ≤ score K L g i := by
    intro i
    unfold score
    by_cases h : K' i
    · rw [if_pos h, if_pos (hsub i h)]
    · rw [if_neg h]; exact bot_le
  by_cases h : K s
  · have he : score K' L g s = score K L g s := by
      unfold score; rw [if_pos h, if_pos (hK h)]
    exact ⟨fun i => (hle i).trans ((hs.1 i).trans he.ge), fun i hi => (hle i).trans_lt ((hs.2 i hi).trans_le he.ge)⟩
  · have hb : score K L g s = ⊥ := if_neg h
    exact ⟨fun i => ((hle i).trans ((hs.1 i).trans hb.le)).trans bot_le,
      fun i hi => absurd (hs.2 i hi) (by rw [hb]; exact not_lt_bot)⟩

/-- The mass above the distance `d` below the maximum. -/
def above (L : Fin n → ℝ) (m d : ℝ) : ℝ := ∑ k, if Real.exp d < Real.exp (L k - m) then Real.exp (L k - m) else 0

/-- One step of the bisection. -/
def halve (L : Fin n → ℝ) (m : ℝ) (tau : EReal) (q : ℝ × ℝ) : ℝ × ℝ :=
  if (above L m ((q.1 + q.2) / 2) : EReal) ≤ tau then (q.1, (q.1 + q.2) / 2) else ((q.1 + q.2) / 2, q.2)

/-- What the bisection keeps true after `k` steps. -/
structure Bracket (L : Fin n → ℝ) (m : ℝ) (tau : EReal) (k : ℕ) (q : ℝ × ℝ) : Prop where
  gap : q.2 - q.1 = 30 / 2 ^ k
  neg : q.2 ≤ 0
  low : q.1 = -30 ∨ tau < (above L m q.1 : EReal)
  high : (above L m q.2 : EReal) ≤ tau

theorem above_zero {L : Fin n → ℝ} {m : ℝ} (hm : ∀ i, L i ≤ m) : above L m 0 = 0 := by
  unfold above
  refine Finset.sum_eq_zero fun k _ => if_neg (not_lt.mpr (Real.exp_le_exp.mpr ?_))
  have := hm k; linarith

theorem bracket_zero {L : Fin n → ℝ} {m : ℝ} {tau : EReal} (hm : ∀ i, L i ≤ m) (ht : 0 ≤ tau) :
    Bracket L m tau 0 (-30, 0) :=
  ⟨by norm_num, le_rfl, .inl rfl, by rw [above_zero hm]; exact_mod_cast ht⟩

theorem bracket_halve {L : Fin n → ℝ} {m : ℝ} {tau : EReal} {k : ℕ} {q : ℝ × ℝ} (h : Bracket L m tau k q) :
    Bracket L m tau (k + 1) (halve L m tau q) := by
  have hg := h.gap
  have hp : (0 : ℝ) < 30 / 2 ^ k := by positivity
  have he : (30 : ℝ) / 2 ^ (k + 1) = 30 / 2 ^ k / 2 := by rw [pow_succ]; field_simp
  unfold halve
  split
  · rename_i ht
    exact ⟨by rw [he]; simp only; linarith, by have := h.neg; simp only; linarith, h.low, ht⟩
  · rename_i ht
    exact ⟨by rw [he]; simp only; linarith, h.neg, .inr (not_le.mp ht), h.high⟩

theorem bracket_iter {L : Fin n → ℝ} {m : ℝ} {tau : EReal} (hm : ∀ i, L i ≤ m) (ht : 0 ≤ tau) (k : ℕ) :
    Bracket L m tau k ((halve L m tau)^[k] (-30, 0)) := by
  induction k with
  | zero => exact bracket_zero hm ht
  | succ k ih => rw [Function.iterate_succ_apply']; exact bracket_halve ih

/-- A set of tokens all more than `d` below the maximum carries no more than the mass above `d`. -/
theorem sum_le_above {L : Fin n → ℝ} {m d : ℝ} (K : Fin n → Prop) [DecidablePred K] (h : ∀ k, K k → d < L k - m) :
    (∑ k, if K k then Real.exp (L k - m) else 0) ≤ above L m d := by
  refine Finset.sum_le_sum fun k _ => ?_
  by_cases hk : K k
  · rw [if_pos hk, if_pos (Real.exp_lt_exp.mpr (h k hk))]
  · rw [if_neg hk]; split
    · exact (Real.exp_pos _).le
    · exact le_rfl

theorem above_le_sum {L : Fin n → ℝ} {m d : ℝ} (K : Fin n → Prop) [DecidablePred K] (h : ∀ k, d < L k - m → K k) :
    above L m d ≤ ∑ k, if K k then Real.exp (L k - m) else 0 := by
  refine Finset.sum_le_sum fun k _ => ?_
  by_cases hk : d < L k - m
  · rw [if_pos (Real.exp_lt_exp.mpr hk), if_pos (h k hk)]
  · rw [if_neg (fun h' => hk (Real.exp_lt_exp.mp h'))]; split
    · exact (Real.exp_pos _).le
    · exact le_rfl

/-- The nucleus in terms of masses: a kept token has at most the bound above it, and if a token is dropped the kept
    ones together exceed the bound. -/
structure IsNucleus (L : Fin n → ℝ) (m : ℝ) (tau : EReal) (K : Fin n → Prop) [DecidablePred K] : Prop where
  kept : ∀ i, K i → ((∑ k, if L i < L k then Real.exp (L k - m) else 0 : ℝ) : EReal) ≤ tau
  dropped : ∀ i, ¬ K i → tau < ((∑ k, if K k then Real.exp (L k - m) else 0 : ℝ) : EReal)

/-- The token drawn from the nucleus is the token drawn from what the bisection keeps, where no tie straddles the
    cutoff and the token drawn clears it by the bisection's last interval. -/
theorem drawn_eq {L : Fin n → ℝ} {m : ℝ} {tau : EReal} {K : Fin n → Prop} [DecidablePred K] {g : Fin n → EReal}
    {s : Fin n} {q : ℝ × ℝ} (hN : IsNucleus L m tau K) (hq : Bracket L m tau 26 q)
    (hstr : ∀ i k, ¬ K i → K k → L i < L k)
    (hs : FirstMax (score K L g) s)
    (hclear : K s → L s = m ∨ ((∃ k, K k ∧ L k + 30 / 2 ^ 26 ≤ L s) ∧ m - 30 + 30 / 2 ^ 26 ≤ L s)) :
    FirstMax (score (fun i => q.2 ≤ L i - m) L g) s := by
  have hgap := hq.gap
  refine hs.mono ?_ ?_
  · intro i hi
    by_contra hd
    have h1 := hN.dropped i hd
    have h2 : ((∑ k, if K k then Real.exp (L k - m) else 0 : ℝ) : EReal) ≤ (above L m q.2 : EReal) :=
      EReal.coe_le_coe_iff.mpr (sum_le_above K fun k hk => by have := hstr i k hd hk; linarith)
    exact absurd (h1.trans_le (h2.trans hq.high)) (lt_irrefl _)
  · intro hK
    rcases hclear hK with h | ⟨⟨k, hk, hkl⟩, hfl⟩
    · have := hq.neg; linarith
    · rcases hq.low with ha | ha
      · linarith
      · have hlt : q.1 < L k - m := by
          by_contra hc
          have h1 := hN.kept k hk
          have h2 : (above L m q.1 : EReal) ≤ ((∑ j, if L k < L j then Real.exp (L j - m) else 0 : ℝ) : EReal) :=
            EReal.coe_le_coe_iff.mpr (above_le_sum (fun j => L k < L j) fun j hj => by linarith)
          exact absurd (ha.trans_le (h2.trans h1)) (lt_irrefl _)
        linarith

end Cert.Value

end
-- ==== Proof.Value.Order.lean ====
module

public import proofs.«01_k».proof.Proof.Value.Nucleus
public import Mathlib.Algebra.Order.BigOperators.Group.Finset
public import Mathlib.Order.Fin.Basic
public import Mathlib.Algebra.BigOperators.Field

@[expose] public section

noncomputable section

namespace Cert.Value

open Finset

/-! # The nucleus of a sorted row -/

variable {n : ℕ}

theorem coe_div_le_iff {x Z : ℝ} (hZ : 0 < Z) (t : EReal) : ((x / Z : ℝ) : EReal) ≤ t ↔ (x : EReal) ≤ t * (Z : EReal) := by
  induction t using EReal.rec with
  | bot => rw [EReal.bot_mul_coe_of_pos hZ]; simp only [le_bot_iff, EReal.coe_ne_bot]
  | coe t => rw [← EReal.coe_mul, EReal.coe_le_coe_iff, EReal.coe_le_coe_iff, div_le_iff₀ hZ]
  | top => rw [EReal.top_mul_coe_of_pos hZ]; simp only [le_top]

/-- The share of the token at sorted position `q`. -/
def share (L : Fin n → ℝ) (m Z : ℝ) (σ : Equiv.Perm (Fin n)) (q : Fin n) : ℝ := Real.exp (L (σ q) - m) / Z

/-- The shares before sorted position `r`: the running sum less the position's own. -/
def before (L : Fin n → ℝ) (m Z : ℝ) (σ : Equiv.Perm (Fin n)) (r : Fin n) : ℝ :=
  (∑ q, if q ≤ r then share L m Z σ q else 0) - share L m Z σ r

theorem before_eq (L : Fin n → ℝ) (m Z : ℝ) (σ : Equiv.Perm (Fin n)) (r : Fin n) :
    before L m Z σ r = (∑ q, if q < r then Real.exp (L (σ q) - m) else 0) / Z := by
  have h : ∀ q, (if q ≤ r then share L m Z σ q else 0)
      = (if q < r then share L m Z σ q else 0) + if q = r then share L m Z σ q else 0 := by
    intro q
    rcases lt_trichotomy q r with h | h | h
    · simp only [h.le, h, h.ne, if_true, if_false, add_zero]
    · subst h; simp only [le_refl, lt_irrefl, if_true, if_false, zero_add]
    · simp only [h.not_ge, h.ne', h.not_gt, if_false, add_zero]
  unfold before
  rw [Finset.sum_congr rfl fun q _ => h q, Finset.sum_add_distrib, Finset.sum_ite_eq' univ r,
    if_pos (mem_univ _), add_sub_cancel_right, Finset.sum_div]
  refine Finset.sum_congr rfl fun q _ => ?_
  split
  · rfl
  · rw [zero_div]

/-- What the sorted row keeps: the shares before the token's position do not exceed the bound. -/
def Kept (L : Fin n → ℝ) (m Z : ℝ) (σ : Equiv.Perm (Fin n)) (tp : EReal) (i : Fin n) : Prop :=
  (before L m Z σ (σ.symm i) : EReal) ≤ tp

instance (L : Fin n → ℝ) (m Z : ℝ) (σ : Equiv.Perm (Fin n)) (tp : EReal) : DecidablePred (Kept L m Z σ tp) :=
  Classical.decPred _

theorem kept_iff {L : Fin n → ℝ} {m Z : ℝ} (hZ : 0 < Z) (σ : Equiv.Perm (Fin n)) (tp : EReal) (i : Fin n) :
    Kept L m Z σ tp i
      ↔ ((∑ q, if q < σ.symm i then Real.exp (L (σ q) - m) else 0 : ℝ) : EReal) ≤ tp * (Z : EReal) := by
  rw [Kept, before_eq, coe_div_le_iff hZ]

theorem isNucleus {L : Fin n → ℝ} {m Z : ℝ} (hZ : 0 < Z) {σ : Equiv.Perm (Fin n)} (hσ : Antitone fun q => L (σ q))
    (tp : EReal) : IsNucleus L m (tp * (Z : EReal)) (Kept L m Z σ tp) where
  kept i hi := by
    rw [kept_iff hZ] at hi
    refine le_trans (EReal.coe_le_coe_iff.mpr ?_) hi
    rw [← Equiv.sum_comp σ]
    refine Finset.sum_le_sum fun q _ => ?_
    by_cases h : L i < L (σ q)
    · have hq : q < σ.symm i := by
        by_contra hc
        have := hσ (not_lt.mp hc)
        simp only [Equiv.apply_symm_apply] at this
        exact absurd h (not_lt.mpr this)
      rw [if_pos h, if_pos hq]
    · rw [if_neg h]; split
      · exact (Real.exp_pos _).le
      · exact le_rfl
  dropped i hi := by
    classical
    have hne : (univ.filter fun r => ¬ Kept L m Z σ tp (σ r)).Nonempty :=
      ⟨σ.symm i, by rw [mem_filter, Equiv.apply_symm_apply]; exact ⟨mem_univ _, hi⟩⟩
    obtain ⟨R, hR, hmin⟩ := Finset.exists_min_image _ id hne
    have hRd : ¬ Kept L m Z σ tp (σ R) := (mem_filter.mp hR).2
    have hlt : ∀ q, q < R → Kept L m Z σ tp (σ q) := by
      intro q hq
      by_contra hc
      exact absurd (hmin q (mem_filter.mpr ⟨mem_univ _, hc⟩)) (not_le.mpr hq)
    rw [kept_iff hZ, not_le, Equiv.symm_apply_apply] at hRd
    refine hRd.trans_le (EReal.coe_le_coe_iff.mpr ?_)
    rw [← Equiv.sum_comp σ fun k => if Kept L m Z σ tp k then Real.exp (L k - m) else 0]
    refine Finset.sum_le_sum fun q _ => ?_
    by_cases h : q < R
    · rw [if_pos h, if_pos (hlt q h)]
    · rw [if_neg h]; split
      · exact (Real.exp_pos _).le
      · exact le_rfl

end Cert.Value

end
-- ==== Proof.Value.Pick.lean ====
module

public import proofs.«01_k».proof.Proof.Value.Rows
public import proofs.«01_k».proof.Proof.Value.Order
public import Idealize.ShloMosaic.Lib.WordCmp

@[expose] public section

noncomputable section

namespace Cert.Value

open Idealize.ShloMosaic Idealize.ShloMosaic.ValueIdx

/-! # A row's top, its mass, and the fold that picks the first largest entry -/

variable {n : ℕ}

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The row's largest entry. -/
def top [NeZero n] (L : Fin n → ℝ) : ℝ := Finset.univ.sup' ⟨0, Finset.mem_univ _⟩ L

/-- The sum of the exponentials below the row's largest entry. -/
def mass [NeZero n] (L : Fin n → ℝ) : ℝ := ∑ k, Real.exp (L k - top L)

theorem le_top [NeZero n] (L : Fin n → ℝ) (k : Fin n) : L k ≤ top L := Finset.le_sup' L (Finset.mem_univ k)

theorem exists_top [NeZero n] (L : Fin n → ℝ) : ∃ k, L k = top L := by
  obtain ⟨k, -, hk⟩ := Finset.exists_mem_eq_sup' (⟨0, Finset.mem_univ _⟩ : (Finset.univ : Finset (Fin n)).Nonempty) L
  exact ⟨k, hk.symm⟩

theorem mass_pos [NeZero n] (L : Fin n → ℝ) : 0 < mass L :=
  Finset.sum_pos (fun _ _ => Real.exp_pos _) ⟨0, Finset.mem_univ _⟩

theorem top_perm [NeZero n] (L : Fin n → ℝ) (σ : Equiv.Perm (Fin n)) : top (fun q => L (σ q)) = top L := by
  apply le_antisymm
  · exact Finset.sup'_le _ _ fun q _ => le_top L (σ q)
  · refine Finset.sup'_le _ _ fun k _ => ?_
    have := le_top (fun q => L (σ q)) (σ.symm k)
    simpa using this

theorem mass_perm [NeZero n] (L : Fin n → ℝ) (σ : Equiv.Perm (Fin n)) : mass (fun q => L (σ q)) = mass L := by
  unfold mass
  rw [top_perm]
  exact Equiv.sum_comp σ fun k => Real.exp (L k - top L)

/-- A fold of maxima from minus infinity is the row's largest entry. -/
theorem fold_max [NeZero n] (L : Fin n → ℝ) :
    (Finset.univ : Finset (Fin n)).fold max (⊥ : EReal) (fun k => (L k : EReal)) = (top L : EReal) := by
  apply le_antisymm
  · exact Finset.fold_max_le _ |>.mpr ⟨bot_le, fun k _ => EReal.coe_le_coe_iff.mpr (le_top L k)⟩
  · obtain ⟨k, hk⟩ := exists_top L
    exact Finset.le_fold_max _ |>.mpr (Or.inr ⟨k, Finset.mem_univ _, le_of_eq (by rw [hk])⟩)

/-- A body that keeps the larger value, at equal values the smaller column. -/
def Picks (red : EReal × BitVec 32 → EReal × BitVec 32 → EReal × BitVec 32) : Prop :=
  ∀ (a b : EReal) (s k : ℕ), s < 2 ^ 31 → k < 2 ^ 31 →
    red (a, BitVec.ofNat 32 s) (b, BitVec.ofNat 32 k)
      = (max a b, BitVec.ofNat 32 (if b < a ∨ (a = b ∧ s < k) then s else k))

theorem foldl_picks {red : EReal × BitVec 32 → EReal × BitVec 32 → EReal × BitVec 32} (hred : Picks red) (hn : n ≤ 2 ^ 31)
    (f : Fin n → EReal) (l : List (EReal × BitVec 32)) (hl : ∀ p ∈ l, ∃ k : Fin n, p = (f k, BitVec.ofNat 32 k.val))
    (a : EReal) (s : Fin n) :
    ∃ (a' : EReal) (s' : Fin n), l.foldl red (a, BitVec.ofNat 32 s.val) = (a', BitVec.ofNat 32 s'.val)
      ∧ ((a' = a ∧ s' = s) ∨ a' = f s') ∧ a ≤ a' ∧ (a = a' → s' ≤ s)
      ∧ ∀ k : Fin n, (f k, BitVec.ofNat 32 k.val) ∈ l → f k ≤ a' ∧ (f k = a' → s' ≤ k) := by
  induction l generalizing a s with
  | nil => exact ⟨a, s, rfl, Or.inl ⟨rfl, rfl⟩, le_rfl, fun _ => le_rfl, fun k hk => absurd hk (by simp)⟩
  | cons p l ih =>
    obtain ⟨k, rfl⟩ := hl p (by simp)
    rw [List.foldl_cons, hred _ _ _ _ (lt_of_lt_of_le s.isLt hn) (lt_of_lt_of_le k.isLt hn)]
    obtain ⟨t, ht⟩ : ∃ t : Fin n, (if f k < a ∨ (a = f k ∧ s.val < k.val) then s.val else k.val) = t.val
        ∧ ((f k < a ∨ (a = f k ∧ s < k)) ∧ t = s ∨ (¬ (f k < a ∨ (a = f k ∧ s < k))) ∧ t = k) := by
      by_cases h : f k < a ∨ (a = f k ∧ s.val < k.val)
      · exact ⟨s, if_pos h, Or.inl ⟨h, rfl⟩⟩
      · exact ⟨k, if_neg h, Or.inr ⟨h, rfl⟩⟩
    rw [ht.1]
    obtain ⟨a', s', h1, h2, h3, h4, h5⟩ := ih (fun p hp => hl p (by simp [hp])) (max a (f k)) t
    refine ⟨a', s', h1, ?_, le_trans (le_max_left _ _) h3, ?_, ?_⟩
    · rcases h2 with ⟨h2, rfl⟩ | h2
      · rcases ht.2 with ⟨h, rfl⟩ | ⟨h, rfl⟩
        · left
          refine ⟨h2.trans (max_eq_left ?_), rfl⟩
          rcases h with h | h
          · exact h.le
          · exact h.1.ge
        · right
          refine h2.trans (max_eq_right ?_)
          exact not_lt.mp fun hc => h (Or.inl hc)
      · exact Or.inr h2
    · intro ha
      have hm : max a (f k) = a' := le_antisymm h3 (ha ▸ le_max_left _ _)
      refine (h4 hm).trans ?_
      have hfk : f k ≤ a := ha ▸ hm ▸ le_max_right _ _
      rcases ht.2 with ⟨h, rfl⟩ | ⟨h, rfl⟩
      · exact le_rfl
      · have he : a = f t := le_antisymm (not_lt.mp fun hc => h (Or.inl hc)) hfk
        exact not_lt.mp fun hc => h (Or.inr ⟨he, hc⟩)
    · intro k' hk'
      rcases List.mem_cons.mp hk' with he | hm
      · have hkk : k' = k := by
          have := congrArg (fun p => p.2.toNat) he
          have h1 := k.isLt
          have h2 := k'.isLt
          simp only [BitVec.toNat_ofNat] at this
          apply Fin.ext
          omega
        subst hkk
        refine ⟨le_trans (le_max_right _ _) h3, fun ha => ?_⟩
        have hm : max a (f k') = a' := le_antisymm h3 (ha ▸ le_max_right _ _)
        refine (h4 hm).trans ?_
        rcases ht.2 with ⟨h, rfl⟩ | ⟨h, rfl⟩
        · rcases h with h | h
          · exact absurd (hm ▸ le_max_left a (f k')) (not_le.mpr (ha ▸ h))
          · exact h.2.le
        · exact le_rfl
      · exact h5 k' hm

/-- Over a whole row the fold finds the first largest entry. -/
theorem foldl_firstMax [NeZero n] {red : EReal × BitVec 32 → EReal × BitVec 32 → EReal × BitVec 32} (hred : Picks red)
    (hn : n ≤ 2 ^ 31) (f : Fin n → EReal) (l : List (EReal × BitVec 32))
    (hl : ∀ p, p ∈ l ↔ ∃ k : Fin n, p = (f k, BitVec.ofNat 32 k.val)) :
    ∃ s : Fin n, (l.foldl red (⊥, 0#32)).2 = BitVec.ofNat 32 s.val ∧ FirstMax f s := by
  obtain ⟨a', s', h1, h2, -, -, h5⟩ := foldl_picks hred hn f l (fun p hp => (hl p).mp hp) ⊥ 0
  have h0 : (BitVec.ofNat 32 (0 : Fin n).val) = 0#32 := by simp
  rw [h0] at h1
  have hall := fun k => h5 k ((hl _).mpr ⟨k, rfl⟩)
  have he : a' = f s' := by
    rcases h2 with ⟨rfl, rfl⟩ | h
    · exact (le_antisymm (hall 0).1 bot_le).symm
    · exact h
  refine ⟨s', by rw [h1], fun i => he ▸ (hall i).1, fun i hi => lt_of_le_of_ne (he ▸ (hall i).1) fun hc => ?_⟩
  exact absurd ((hall i).2 (hc.trans he.symm)) (not_le.mpr hi)

end Cert.Value

end
-- ==== Proof.Value.At.lean ====
module

public import proofs.«01_k».proof.Proof.Value.Pick
public import Idealize.ShloMosaic.Lib.ReduceAll

@[expose] public section

noncomputable section

namespace Cert.Value

open Idealize.ShloMosaic Idealize.ShloMosaic.ValueIdx

/-! # Entries of the elementwise operations and of the row reductions -/

section
variable {s : Shape} (x y : FVec Ideal s .f32) (i : s.Idx)

theorem addf_at : addf x y i = (x i + y i : EReal) := rfl
theorem subf_at : subf x y i = (x i - y i : EReal) := rfl
theorem mulf_at : mulf x y i = (x i * y i : EReal) := rfl
theorem divf_at : Host.divf x y i = Ideal.div (x i) (y i) := rfl
theorem exp_at : Host.exp x i = Ideal.exp (x i) := rfl
theorem maximumf_at : maximumf x y i = (max (x i) (y i) : EReal) := rfl
theorem absf_at : Host.absf x i = (max (x i) (-(x i)) : EReal) := rfl
theorem cmpf_at (p : CmpFPredicate) : cmpf p x y i = Ideal.cmp p (x i) (y i) := rfl
theorem constant_at (b : BitVec 32) : (constant s .f32 b : FVec Ideal s .f32) i = FloatOps.ofBits (F := Ideal) .f32 b := rfl
end

section
variable {s : Shape} {w : ℕ} (x y : IVec s w) (i : s.Idx)
theorem andi_at : andi x y i = IntOp.andi (x i) (y i) := rfl
theorem ori_at : ori x y i = IntOp.ori (x i) (y i) := rfl
theorem cmpi_at (p : CmpIPredicate) : cmpi p x y i = IntOp.cmpi p (x i) (y i) := rfl
end

theorem cmp_ogt (a b : EReal) : Ideal.cmp .ogt a b = BitVec.ofBool (decide (b < a)) := rfl
theorem cmp_oge (a b : EReal) : Ideal.cmp .oge a b = BitVec.ofBool (decide (b ≤ a)) := rfl
theorem cmp_olt (a b : EReal) : Ideal.cmp .olt a b = BitVec.ofBool (decide (a < b)) := rfl
theorem cmp_oeq (a b : EReal) : Ideal.cmp .oeq a b = BitVec.ofBool (decide (a = b)) := rfl

theorem bcast_at {s t : Shape} {α : Type} (d : Fin s.rank → Fin t.rank) (h : s.BroadcastsInDim t d) (x : s.Idx → α) (v : α)
    (hx : ∀ k, x k = v) (i : t.Idx) : broadcastInDim t d h x i = v := hx _

variable {R C : ℕ} {u : Shape}

/-- A row's fold of maxima. -/
theorem hostMax_row [NeZero C] (L : Fin C → ℝ) (x : FVec Ideal (Mat R C) .f32) (init : u.Idx → Ideal .f32)
    (h : (Mat R C).ReducesTo [1] (Col R)) (hu : 0 < u.numel) (i : Fin R) (hx : ∀ k, x (ix2 i k) = (L k : EReal))
    (hi : init (Shape.Idx.first hu) = (⊥ : EReal)) :
    Host.reduce FloatOps.maximumf x init h hu (ix1 i) = (top L : EReal) := by
  refine (hostFold_row (FloatOps.maximumf (F := Ideal) (φ := .f32)) x init h hu (ix1 i)).trans ?_
  rw [hi]
  exact (Finset.fold_congr fun k _ => hx k).trans (fold_max L)

/-- A row's fold of minima from plus infinity: below every entry, and one of them unless plus infinity. -/
theorem hostMin_row (x : FVec Ideal (Mat R C) .f32) (init : u.Idx → Ideal .f32)
    (h : (Mat R C).ReducesTo [1] (Col R)) (hu : 0 < u.numel) (i : Fin R) (hi : init (Shape.Idx.first hu) = (⊤ : EReal))
    (l : EReal) (hl : Host.reduce (FloatOps.minimumf (F := Ideal) (φ := .f32)) x init h hu (ix1 i) = l) :
    (∀ k, l ≤ x (ix2 i k)) ∧ (l = ⊤ ∨ ∃ k, l = x (ix2 i k)) := by
  have e : l = (Finset.univ : Finset (Fin C)).fold min (⊤ : EReal) fun k => (x (ix2 i k) : EReal) := by
    refine hl.symm.trans ((hostFold_row (FloatOps.minimumf (F := Ideal) (φ := .f32)) x init h hu (ix1 i)).trans ?_)
    rw [hi]
    rfl
  rw [e]
  have key : ∀ s : Finset (Fin C), (∀ k ∈ s, s.fold min (⊤ : EReal) (fun k => (x (ix2 i k) : EReal)) ≤ x (ix2 i k))
      ∧ (s.fold min (⊤ : EReal) (fun k => (x (ix2 i k) : EReal)) = ⊤ ∨ ∃ k, s.fold min (⊤ : EReal) (fun k => (x (ix2 i k) : EReal)) = x (ix2 i k)) := by
    intro s
    induction s using Finset.induction_on with
    | empty => exact ⟨fun k hk => absurd hk (by simp), Or.inl rfl⟩
    | insert a s ha ih =>
      rw [Finset.fold_insert ha]
      refine ⟨fun k hk => ?_, ?_⟩
      · rcases Finset.mem_insert.mp hk with rfl | hk
        · exact min_le_left _ _
        · exact (min_le_right _ _).trans (ih.1 k hk)
      · rcases min_choice (x (ix2 i a) : EReal) (s.fold min (⊤ : EReal) fun k => (x (ix2 i k) : EReal)) with h | h
        · exact Or.inr ⟨a, h⟩
        · rw [h]; exact ih.2
  exact ⟨fun k => (key _).1 k (Finset.mem_univ k), (key _).2⟩

/-- A row with some entry set has one. -/
theorem hostAny_row (x : IVec (Mat R C) 1) (init : u.Idx → BitVec 1)
    (h : (Mat R C).ReducesTo [1] (Col R)) (hu : 0 < u.numel) (i : Fin R) (hi : init (Shape.Idx.first hu) = 0#1)
    (hr : Host.reduce IntOp.ori x init h hu (ix1 i) = 1#1) : ∃ k, x (ix2 i k) = 1#1 := by
  have e := (hostFold_row (IntOp.ori (w := 1)) x init h hu (ix1 i)).symm.trans hr
  rw [hi] at e
  by_contra hc
  have h0 : ∀ k, x (ix2 i k) = 0#1 := fun k => by
    rcases BitVec.eq_zero_or_eq_one (x (ix2 i k)) with h | h
    · exact h
    · exact absurd ⟨k, h⟩ hc
  have key : ∀ s : Finset (Fin C), s.fold IntOp.ori 0#1 (fun k => x (ix2 i k)) = 0#1 := by
    intro s
    induction s using Finset.induction_on with
    | empty => rfl
    | insert a s ha ih => rw [Finset.fold_insert ha, ih, h0]; rfl
  exact absurd ((key _).symm.trans e) (by decide)

/-- A row's sum. -/
theorem hostSum_row' (L : Fin C → ℝ) (x : FVec Ideal (Mat R C) .f32) (init : u.Idx → Ideal .f32)
    (h : (Mat R C).ReducesTo [1] (Col R)) (hu : 0 < u.numel) (i : Fin R) (hx : ∀ k, x (ix2 i k) = (L k : EReal))
    (hi : init (Shape.Idx.first hu) = (0 : EReal)) :
    Host.reduceAdd x init h hu (ix1 i) = ((∑ k, L k : ℝ) : EReal) := by
  refine (hostSum_row x init h hu (ix1 i)).trans ?_
  rw [hi, zero_add, coe_sum]
  exact Finset.sum_congr rfl fun k _ => hx k

/-- A row's running sum. -/
theorem hostRunning_row' {Cm1 : ℕ} (hC : Cm1 + 1 = C) (L : Fin C → ℝ) (x : FVec Ideal (Mat R C) .f32) (init : u.Idx → Ideal .f32)
    (h : (Mat R C).ReduceWindows (![1, C] : Fin 2 → ℕ) ![1, 1] ![0, Cm1] ![0, 0] (Mat R C)) (hu : 0 < u.numel)
    (hi : init (Shape.Idx.first hu) = (0 : EReal)) (i : Fin R) (hx : ∀ k, x (ix2 i k) = (L k : EReal)) (r : Fin C) :
    Host.reduceWindowAdd ![1, C] ![1, 1] ![0, Cm1] ![0, 0] x init h hu (ix2 i r)
      = ((∑ q, if q ≤ r then L q else 0 : ℝ) : EReal) := by
  refine (hostRunning_row hC x init h hu hi i r).trans ?_
  rw [coe_sum]
  refine Finset.sum_congr rfl fun q _ => ?_
  rw [hx]
  split_ifs
  · rfl
  · rfl

/-- A row's first largest entry. -/
theorem argFirst_row [NeZero C] (hC : C ≤ 2147483648) {red : EReal × BitVec 32 → EReal × BitVec 32 → EReal × BitVec 32} (hred : Picks red)
    (x : FVec Ideal (Mat R C) .f32) (y : (Mat R C).Idx → BitVec 32) (hy : ∀ i k, y (ix2 i k) = BitVec.ofNat 32 k.val)
    (ix : u.Idx → Ideal .f32) (iy : u.Idx → BitVec 32) (h : (Mat R C).ReducesTo [1] (Col R)) (hu : 0 < u.numel)
    (hix : ix (Shape.Idx.first hu) = (⊥ : EReal)) (hiy : iy (Shape.Idx.first hu) = 0#32) (i : Fin R) :
    ∃ s : Fin C, (Host.argReduce (F := Ideal) (φ := .f32) red x y ix iy h hu (ix1 i)).2 = BitVec.ofNat 32 s.val
      ∧ FirstMax (fun k => (x (ix2 i k) : EReal)) s := by
  obtain ⟨s, h1, h2⟩ := foldl_firstMax hred (hC.trans (by norm_num)) (fun k : Fin C => (x (ix2 i k) : EReal)) (Host.argReduceFiber x y h (ix1 i))
    (fun p => by
      refine (mem_fiber_row x y h (ix1 i) p).trans (exists_congr fun k => ?_)
      show p = (x (ix2 i k), y (ix2 i k)) ↔ _
      rw [hy])
  refine ⟨s, ?_, h2⟩
  rw [Ideal.argReduce_eq_reduce2, Host.reduce2_eq_foldl_fiber, hix, hiy]
  exact h1

end Cert.Value

end
-- ==== Proof.Value.Prefix.lean ====
module

public import proofs.«01_k».proof.Proof.Value.At
public import Idealize.ShloMosaic.Lib.MatmulPlain
public import Idealize.ShloMosaic.Lib.Pipeline.ValueKit

@[expose] public section

noncomputable section

namespace Cert.Value

open Idealize.ShloMosaic hiding ix1 ix2
open Idealize.ShloMosaic.ValueIdx

/-! # A row read a tile at a time

A tile is `b` consecutive columns; past the row's end it holds a filler that changes nothing: zero under a sum, `⊥` under a
maximum. -/

variable {n : ℕ}

/-- The entry of a tile that starts at column `a`. -/
def entry {α : Type} (f : Fin n → α) (z : α) (a y : ℕ) : α := if h : a + y < n then f ⟨a + y, h⟩ else z

theorem entry_pos {α : Type} {f : Fin n → α} {z : α} {a y : ℕ} (h : a + y < n) : entry f z a y = f ⟨a + y, h⟩ := dif_pos h

theorem entry_neg {α : Type} {f : Fin n → α} {z : α} {a y : ℕ} (h : ¬ a + y < n) : entry f z a y = z := dif_neg h

/-- The sum of the entries before column `a`. -/
def upto (f : Fin n → ℝ) (a : ℕ) : ℝ := ∑ j : Fin n, if j.val < a then f j else 0

theorem upto_zero (f : Fin n → ℝ) : upto f 0 = 0 := Finset.sum_eq_zero fun j _ => if_neg (Nat.not_lt_zero _)

theorem upto_all (f : Fin n → ℝ) {a : ℕ} (h : n ≤ a) : upto f a = ∑ j, f j :=
  Finset.sum_congr rfl fun j _ => if_pos (lt_of_lt_of_le j.isLt h)

theorem upto_succ (f : Fin n → ℝ) (a : ℕ) : upto f (a + 1) = upto f a + entry f 0 a 0 := by
  have e : ∀ j : Fin n, (if j.val < a + 1 then f j else 0) = (if j.val < a then f j else 0) + (if j.val = a then f j else 0) := fun j => by
    rcases lt_trichotomy j.val a with h | h | h
    · rw [if_pos (by omega), if_pos h, if_neg (by omega), add_zero]
    · rw [if_pos (by omega), if_neg (by omega), if_pos h, zero_add]
    · rw [if_neg (by omega), if_neg (by omega), if_neg (by omega), add_zero]
  unfold upto
  rw [Finset.sum_congr rfl fun j _ => e j, Finset.sum_add_distrib]
  congr 1
  by_cases h : a < n
  · rw [entry_pos (show a + 0 < n from h), Finset.sum_eq_single (⟨a, h⟩ : Fin n) (fun j _ hj => if_neg fun e => hj (Fin.ext e))
      (fun hj => absurd (Finset.mem_univ _) hj)]
    exact if_pos rfl
  · rw [entry_neg (show ¬ a + 0 < n from h)]
    exact Finset.sum_eq_zero fun j _ => if_neg (by have := j.isLt; omega)

/-- A tile more. -/
theorem upto_add (f : Fin n → ℝ) (a b : ℕ) : upto f (a + b) = upto f a + ∑ y : Fin b, entry f 0 a y.val := by
  induction b with
  | zero => simp
  | succ b ih =>
    rw [← Nat.add_assoc, upto_succ, ih, Fin.sum_univ_castSucc, add_assoc]
    rfl

/-! ## Maxima -/

/-- `v` is the least bound of the entries before column `a`. -/
def Bounds (f : Fin n → EReal) (a : ℕ) (v : EReal) : Prop := ∀ z, v ≤ z ↔ ∀ j : Fin n, j.val < a → f j ≤ z

theorem bounds_zero (f : Fin n → EReal) : Bounds f 0 ⊥ := fun _ => ⟨fun _ _ h => absurd h (Nat.not_lt_zero _), fun _ => bot_le⟩

theorem bounds_add {f : Fin n → EReal} {a b : ℕ} {v : EReal} (h : Bounds f a v) :
    Bounds f (a + b) (max v ((Finset.univ : Finset (Fin b)).fold max ⊥ fun y => entry f ⊥ a y.val)) := by
  intro z
  rw [max_le_iff, h z, Finset.fold_max_le]
  constructor
  · rintro ⟨h1, -, h2⟩ j hj
    by_cases hja : j.val < a
    · exact h1 j hja
    · have := h2 ⟨j.val - a, by omega⟩ (Finset.mem_univ _)
      have e : a + (j.val - a) = j.val := by omega
      simp only at this
      rw [entry_pos (by rw [e]; exact j.isLt)] at this
      simpa only [e] using this
  · refine fun h' => ⟨fun j hj => h' j (by omega), bot_le, fun y _ => ?_⟩
    by_cases hy : a + y.val < n
    · rw [entry_pos hy]; exact h' _ (by have := y.isLt; show a + y.val < a + b; omega)
    · rw [entry_neg hy]; exact bot_le

theorem bounds_all [NeZero n] {L : Fin n → ℝ} {a : ℕ} {v : EReal} (ha : n ≤ a) (h : Bounds (fun j => (L j : EReal)) a v) : v = (top L : EReal) := by
  refine eq_of_forall_ge_iff fun z => (h z).trans ⟨fun h' => ?_, fun h' j _ => le_trans (EReal.coe_le_coe_iff.mpr (le_top L j)) h'⟩
  obtain ⟨s, hs⟩ := exists_top L
  rw [← hs]
  exact h' s (lt_of_lt_of_le s.isLt ha)

/-! ## The first largest entry -/

/-- `v` is the largest of the entries before column `a` and `s` its first column; nothing but `⊥` seen leaves column 0. -/
def Leads (f : Fin n → EReal) (a : ℕ) (v : EReal) (s : ℕ) : Prop :=
  (∀ j : Fin n, j.val < a → f j ≤ v) ∧ ((v = ⊥ ∧ s = 0) ∨ ∃ h : s < n, s < a ∧ f ⟨s, h⟩ = v ∧ ∀ j : Fin n, j.val < s → f j < v)

theorem leads_zero (f : Fin n → EReal) : Leads f 0 ⊥ 0 := ⟨fun _ h => absurd h (Nat.not_lt_zero _), .inl ⟨rfl, rfl⟩⟩

/-- A tile whose largest entry is no larger than what was seen changes nothing. -/
theorem leads_stay {f : Fin n → EReal} {a b : ℕ} {v : EReal} {s : ℕ} (h : Leads f a v s)
    (ht : ∀ y : Fin b, entry f ⊥ a y.val ≤ v) : Leads f (a + b) v s := by
  refine ⟨fun j hj => ?_, h.2.imp_right fun ⟨hs, h1, h2⟩ => ⟨hs, by omega, h2⟩⟩
  by_cases hja : j.val < a
  · exact h.1 j hja
  · have := ht ⟨j.val - a, by omega⟩
    have e : a + (j.val - a) = j.val := by omega
    simp only at this
    rw [entry_pos (by rw [e]; exact j.isLt)] at this
    simpa only [e] using this

/-- A tile with a larger entry takes the lead with its first largest entry. -/
theorem leads_take {f : Fin n → EReal} {a b : ℕ} {v : EReal} {s : ℕ} (h : Leads f a v s) {y : Fin b}
    (hv : v < entry f ⊥ a y.val) (hy : ∀ y' : Fin b, entry f ⊥ a y'.val ≤ entry f ⊥ a y.val)
    (hf : ∀ y' : Fin b, y' < y → entry f ⊥ a y'.val < entry f ⊥ a y.val) : Leads f (a + b) (entry f ⊥ a y.val) (a + y.val) := by
  have hin : a + y.val < n := by
    by_contra hc
    rw [entry_neg hc] at hv
    exact not_lt_bot hv
  have at_ : ∀ j : Fin n, a ≤ j.val → f j = entry f ⊥ a (j.val - a) := fun j hj => by
    have e : a + (j.val - a) = j.val := by omega
    rw [entry_pos (by rw [e]; exact j.isLt)]
    exact congrArg f (Fin.ext e.symm)
  refine ⟨fun j hj => ?_, .inr ⟨hin, by have := y.isLt; omega, (entry_pos hin).symm, fun j hj => ?_⟩⟩
  · by_cases hja : j.val < a
    · exact (h.1 j hja).trans hv.le
    · rw [at_ j (by omega)]
      exact hy ⟨j.val - a, by omega⟩
  · by_cases hja : j.val < a
    · exact (h.1 j hja).trans_lt hv
    · rw [at_ j (by omega)]
      exact hf ⟨j.val - a, by have := y.isLt; omega⟩ (by show j.val - a < y.val; omega)

theorem leads_all [NeZero n] {f : Fin n → EReal} {a : ℕ} {v : EReal} {s : ℕ} (ha : n ≤ a) (h : Leads f a v s) :
    ∃ t : Fin n, t.val = s ∧ FirstMax f t := by
  rcases h with ⟨h1, ⟨rfl, rfl⟩ | ⟨hs, -, rfl, h2⟩⟩
  · refine ⟨0, rfl, fun i => (h1 i (lt_of_lt_of_le i.isLt ha)).trans bot_le, fun i hi => absurd hi (Fin.not_lt_zero i)⟩
  · exact ⟨⟨s, hs⟩, rfl, fun i => h1 i (lt_of_lt_of_le i.isLt ha), fun i hi => h2 i hi⟩

/-- Among finitely many entries there is a first largest one, and it is the fold of the maximum. -/
theorem exists_first {b : ℕ} [NeZero b] (g : Fin b → EReal) :
    ∃ y, (∀ y', g y' ≤ g y) ∧ (∀ y', y' < y → g y' < g y) ∧ (Finset.univ : Finset (Fin b)).fold max ⊥ g = g y := by
  obtain ⟨y1, h1⟩ := Finite.exists_max g
  have hne : (Finset.univ.filter fun y => g y = g y1).Nonempty := ⟨y1, by simp⟩
  obtain ⟨y, hy, hmin⟩ := Finset.exists_min_image _ id hne
  have e : g y = g y1 := (Finset.mem_filter.mp hy).2
  refine ⟨y, fun y' => e ▸ h1 y', fun y' hlt => lt_of_le_of_ne (e ▸ h1 y') fun e' => ?_, ?_⟩
  · exact absurd hlt (not_lt.mpr (hmin y' (Finset.mem_filter.mpr ⟨Finset.mem_univ _, e'.trans e⟩)))
  · refine le_antisymm ((Finset.fold_max_le _).mpr ⟨bot_le, fun y' _ => e ▸ h1 y'⟩) ((Finset.le_fold_max _).mpr (.inr ⟨y, Finset.mem_univ _, le_rfl⟩))

/-! ## The reductions along rows -/

variable {R C : ℕ}

theorem rowSum (x : FVec Ideal (Mat R C) .f32) (acc : BitVec 32) (h : (Mat R C).Reduces [1] (Col R)) (hφ : FKind.Formats .f32)
    (hacc : acc = FKind.add.neutral .f32 hφ) (i : Fin R) :
    multiReduction .add [1] (Col R) x acc h hφ hacc (ix1 i) = (∑ k : Fin C, x (ix2 i k) : EReal) := by
  refine (Ideal.multiReduction_add_single x acc h hφ hacc (ix1 i)).trans (Finset.sum_congr rfl fun k _ => ?_)
  exact congrArg x (lift_row h (ix1 i) k)

theorem rowMax (x : FVec Ideal (Mat R C) .f32) (acc : BitVec 32) (h : (Mat R C).Reduces [1] (Col R)) (hφ : FKind.Formats .f32)
    (hacc : acc = FKind.maximumf.neutral .f32 hφ) (hb : FloatOps.ofBits (F := Ideal) .f32 acc = (⊥ : EReal)) (i : Fin R) :
    multiReduction .maximumf [1] (Col R) x acc h hφ hacc (ix1 i) = ((Finset.univ : Finset (Fin C)).fold max ⊥ fun k => x (ix2 i k) : EReal) := by
  refine (Ideal.multiReduction_maximumf_single x acc h hφ hacc (ix1 i)).trans ?_
  rw [hb]
  refine Finset.fold_congr fun k _ => ?_
  exact congrArg x (lift_row h (ix1 i) k)

theorem rowMin (x : IVec (Mat R C) 32) (acc : BitVec 32) (h : (Mat R C).Reduces [1] (Col R)) (hacc : acc = IKind.minsi.neutral) (i : Fin R) :
    multiReductionI .minsi [1] (Col R) x acc h hacc (ix1 i) = (Finset.univ : Finset (Fin C)).fold IntOp.minsi acc fun k => x (ix2 i k) := by
  refine (multiReductionI_eq_fold .minsi x acc h hacc (ix1 i)).trans ((h.fold_filter_drop_single _ _ x (ix1 i)).trans ?_)
  refine Finset.fold_congr fun k _ => ?_
  exact congrArg x (lift_row h (ix1 i) k)

theorem fold_minsi {b : ℕ} (w : Fin b → BitVec 32) (acc : BitVec 32) (y : Fin b) (hy : ∀ y', (w y).toInt ≤ (w y').toInt) (ha : (w y).toInt ≤ acc.toInt) :
    (Finset.univ : Finset (Fin b)).fold IntOp.minsi acc w = w y := by
  have hm : ∀ p q : BitVec 32, (IntOp.minsi p q).toInt = min p.toInt q.toInt := fun p q => by
    unfold IntOp.minsi
    by_cases h : p.toInt < q.toInt
    · rw [min_eq_left h.le]; simp [BitVec.slt, h]
    · rw [min_eq_right (not_lt.mp h)]
      by_cases h' : p.toInt = q.toInt
      · simp [BitVec.slt, h, h']
      · simp [BitVec.slt, h]
  have e : ∀ S : Finset (Fin b), (S.fold IntOp.minsi acc w).toInt = S.fold min acc.toInt fun k => (w k).toInt := fun S => by
    induction S using Finset.induction_on with
    | empty => rfl
    | insert k S hk ih => rw [Finset.fold_insert hk, Finset.fold_insert hk, hm, ih]
  refine BitVec.eq_of_toInt_eq ((e _).trans (le_antisymm ?_ ?_))
  · exact (Finset.fold_min_le _).mpr (.inr ⟨y, Finset.mem_univ _, le_rfl⟩)
  · exact (Finset.le_fold_min _).mpr ⟨ha, fun y' _ => hy y'⟩

/-- The column numbers of a tile where a condition holds, the rest at the largest word: the least is the first such column. -/
theorem fold_first {b a : ℕ} (hb : a + b ≤ 2147483647) (w : Fin b → BitVec 32) (P : Fin b → Prop) [DecidablePred P]
    (hw : ∀ y, w y = if P y then BitVec.ofNat 32 (a + y.val) else 2147483647#32) (y : Fin b) (hy : P y) (hf : ∀ y', y' < y → ¬ P y') :
    (Finset.univ : Finset (Fin b)).fold IntOp.minsi 2147483647#32 w = BitVec.ofNat 32 (a + y.val) := by
  have hi : ∀ y : Fin b, (BitVec.ofNat 32 (a + y.val)).toInt = ((a + y.val : ℕ) : Int) := fun y => by
    have := y.isLt
    rw [BitVec.toInt_eq_toNat_of_lt (by rw [BitVec.toNat_ofNat]; omega), BitVec.toNat_ofNat, Nat.mod_eq_of_lt (by omega)]
  have hM : (2147483647#32 : BitVec 32).toInt = 2147483647 := by decide
  have hyl := y.isLt
  have h1 : ∀ y', (w y).toInt ≤ (w y').toInt := fun y' => by
    rw [hw, hw, if_pos hy, hi]
    split
    · next h' =>
      rw [hi]
      have : y.val ≤ y'.val := not_lt.mp fun hc => hf y' hc h'
      omega
    · rw [hM]; omega
  have h2 : (w y).toInt ≤ (2147483647#32 : BitVec 32).toInt := by rw [hw, if_pos hy, hi, hM]; omega
  rw [fold_minsi w _ y h1 h2, hw, if_pos hy]

/-! ## Columns beside matrices -/

theorem toCol {α : Type} (x : (Col R).Idx → α) (h : (Col R).ShapeCasts (Mat R 1)) (i : Fin R) (z : Fin 1) :
    shapeCast (Mat R 1) x h (ix2 i z) = x (ix1 i) := by
  refine shapeCast_apply x h _ _ ?_
  rw [Shape.rowMajor_val_two, Subsingleton.elim z 0]
  simp [Shape.rowMajor_val_one]
  rfl

theorem spreadCol {α : Type} (hR : R ≠ 1) (x : (Mat R 1).Idx → α) (h : (Mat R 1).Broadcasts (Mat R C)) (i : Fin R) (j : Fin C) :
    broadcastTo (Mat R C) x h (ix2 i j) = x (ix2 i 0) := by
  refine broadcastTo_apply x h _ _ fun a => ?_
  match a with
  | ⟨0, _⟩ => exact (if_neg hR).symm
  | ⟨1, _⟩ => exact (if_pos rfl).symm

end Cert.Value

end
-- ==== Proof.Ref.Pure.lean ====
module

public import proofs.«01_k».proof.Proof.Ref.Run

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! # What each stage of the reference computes -/

/-- A floating array over the rows and the vocabulary. -/
abbrev FArr (F : FTy → Type) [FloatOps F] := S64x100000.Idx → Elt F .f32
/-- An array of column numbers. -/
abbrev IArr (F : FTy → Type) [FloatOps F] := S64x100000.Idx → Elt F .i32

/-- A value a row, over the row's columns. -/
def rows (x : S64.Idx → Elt F .f32) : FArr F :=
  broadcastInDim S64x100000 ![0, 1] bcast_S64x1_S64x100000_0_1 (broadcastInDim S64x1 ![0] bcast_S64_S64x1_0 x)

/-- The scaled logits. -/
def logits (A0 : S64x768.Idx → Elt F .f32) (A1 : S100000x768.Idx → Elt F .f32) (A2 : S64.Idx → Elt F .f32) : FArr F :=
  Host.divf (Host.dotGeneral dot_S64x768_S768x100000_S64x100000_1_0_0_1_n_n none A0
    (transpose S768x100000 [1, 0] A1 transposes_S100000x768_S768x100000_1_0)) (rows A2)

/-- The column numbers in decreasing order of the logits. -/
def order (X : FArr F) : IArr F :=
  (Host.sort2 S64x100000 1 comparator_f32_i32_d1 X (iotaInDim S64x100000 32 1)).2

/-- The positions in the order of the column numbers. -/
def inverse (I : IArr F) : IArr F :=
  (Host.sort2 S64x100000 1 comparator_i32_i32_d1 I (iotaInDim S64x100000 32 1)).2

/-- The column numbers read from the front, a negative one from the end. -/
def wrapped (I : IArr F) : S64x100000x1.Idx → Elt F .i32 :=
  shapeCast S64x100000x1 (select (cmpi .slt I (broadcastInDim S64x100000 ![] bcast_S_S64x100000 (constantI S_ 32 0#32)))
    (addi I (broadcastInDim S64x100000 ![] bcast_S_S64x100000 (constantI S_ 32 100000#32))) I) shapeCasts_S64x100000_S64x100000x1

/-- Which of them name a column. -/
def inside (W : S64x100000x1.Idx → Elt F .i32) : S64x100000.Idx → Elt F .i1 :=
  Host.reduce IntOp.andi (andi
    (cmpi .sge W (broadcastInDim S64x100000x1 ![] bcast_S_S64x100000x1 (constantI S_ 32 0#32)))
    (cmpi .sle W (broadcastInDim S64x100000x1 ![0, 1, 2] bcast_S1x1x1_S64x100000x1_0_1_2
      (broadcastInDim S1x1x1 ![2] bcast_S1_S1x1x1_2 (constantI S1 32 99999#32)))))
    (constantI S_ 1 1#1) reducesTo_S64x100000x1_S64x100000_d2 h_S_

/-- The entries at those columns. -/
def taken (X : FArr F) (I : IArr F) : FArr F :=
  select (inside (F := F) (wrapped (F := F) I))
    (Host.gather gather_S64x100000_S64x100000x1_S64x100000_n_1_0_0_1_2_11 X (wrapped (F := F) I))
    (broadcastInDim S64x100000 ![] bcast_S_S64x100000 (constant S_ .f32 0x7FC00000#32))

/-- The exponentials below the row's maximum. -/
def expo (X : FArr F) : FArr F :=
  Host.exp (subf X (rows (maximumf (broadcastInDim S64 ![] bcast_S_S64 (constant S_ .f32 0xFF800000#32))
    (Host.reduce FloatOps.maximumf X (constant S_ .f32 0xFF800000#32) reducesTo_S64x100000_S64_d1 h_S_))))

/-- The shares. -/
def shares (X : FArr F) : FArr F :=
  Host.divf (expo X) (rows (Host.reduceAdd (expo X) (constant S_ .f32 0x00000000#32) reducesTo_S64x100000_S64_d1 h_S_))

/-- The running sum along a row. -/
def running (X : FArr F) : FArr F :=
  Host.reduceWindowAdd ![1, 100000] ![1, 1] ![0, 99999] ![0, 0] X
    (broadcastInDim S_ ![] bcast_S_S_ (constant S_ .f32 0x00000000#32))
    reduceWindows_S64x100000_S64x100000_w1s1p0_0_w100000s1p99999_0 h_S_

/-- The sorted logits, those past the bound at minus infinity. -/
def masked (X : FArr F) (A3 : S64.Idx → Elt F .f32) : FArr F :=
  select (cmpf .ogt (subf (running (shares X)) (shares X)) (rows A3))
    (broadcastInDim S64x100000 ![] bcast_S_S64x100000 (constant S_ .f32 0xFF800000#32)) X

/-- The nucleus: the logits kept, the others at minus infinity. -/
def nucleus (X : FArr F) (A3 : S64.Idx → Elt F .f32) : FArr F :=
  taken (masked (taken X (order (Host.negf X))) A3) (inverse (order (Host.negf X)))

/-- The first index of each row's largest entry. -/
def firstMax (X : FArr F) : S64.Idx → Elt F .i32 := fun j =>
  (Host.argReduce reducer_argmax_f32_i32 X (iotaInDim S64x100000 32 1) (constant S_ .f32 0xFF800000#32) (constantI S_ 32 0#32)
    reducesTo_S64x100000_S64_d1 h_S_ j).2

variable (V : Valuation τ sig (Elt F))

theorem logitOps_v4 : after logitOps V (main_v4 : DevRef τ sig)
    = logits (V (main_arg0 : DevRef τ sig)) (V (main_arg1 : DevRef τ sig)) (V (main_arg2 : DevRef τ sig)) := by
  after_results
  rfl
theorem logitOps_v5 : after logitOps V (main_v5 : DevRef τ sig)
    = Host.negf (logits (V (main_arg0 : DevRef τ sig)) (V (main_arg1 : DevRef τ sig)) (V (main_arg2 : DevRef τ sig))) := by
  after_results
  rfl
theorem orderOps_v6 : after orderOps V (main_v6 : DevRef τ sig) = order (F := F) (V (main_v5 : DevRef τ sig)) := by
  after_results
  rfl
theorem wrapOps_v5 : after wrapOps V (main_call1_v5 : DevRef τ sig) = wrapped (F := F) (V (main_v6 : DevRef τ sig)) := by
  after_results
  rfl
theorem sortedOps_v7 : after sortedOps V (main_v7 : DevRef τ sig)
    = select (inside (F := F) (V (main_call1_v5 : DevRef τ sig)))
        (Host.gather gather_S64x100000_S64x100000x1_S64x100000_n_1_0_0_1_2_11 (V (main_v4 : DevRef τ sig)) (V (main_call1_v5 : DevRef τ sig)))
        (broadcastInDim S64x100000 ![] bcast_S_S64x100000 (constant S_ .f32 0x7FC00000#32)) := by
  after_results
  simp only [TRef.ofBuf_toBuf]
  unfold inside
  congr 1
theorem massOps_v18 : after massOps V (main_v18 : DevRef τ sig) = shares (F := F) (V (main_v7 : DevRef τ sig)) := by
  after_results
  rfl
theorem massOps_v19 : after massOps V (main_v19 : DevRef τ sig) = running (shares (F := F) (V (main_v7 : DevRef τ sig))) := by
  after_results
  rfl
theorem keepOps_v24 : after keepOps V (main_v24 : DevRef τ sig)
    = select (cmpf .ogt (subf (V (main_v19 : DevRef τ sig)) (V (main_v18 : DevRef τ sig))) (rows (F := F) (V (main_arg3 : DevRef τ sig))))
        (broadcastInDim S64x100000 ![] bcast_S_S64x100000 (constant S_ .f32 0xFF800000#32)) (V (main_v7 : DevRef τ sig)) := by
  after_results
  rfl
theorem inverseOps_v25 : after inverseOps V (main_v25 : DevRef τ sig) = inverse (F := F) (V (main_v6 : DevRef τ sig)) := by
  after_results
  rfl
theorem wrapBackOps_v5 : after wrapBackOps V (main_call5_v5 : DevRef τ sig) = wrapped (F := F) (V (main_v25 : DevRef τ sig)) := by
  after_results
  rfl
theorem backOps_v26 : after backOps V (main_v26 : DevRef τ sig)
    = select (inside (F := F) (V (main_call5_v5 : DevRef τ sig)))
        (Host.gather gather_S64x100000_S64x100000x1_S64x100000_n_1_0_0_1_2_11 (V (main_v24 : DevRef τ sig)) (V (main_call5_v5 : DevRef τ sig)))
        (broadcastInDim S64x100000 ![] bcast_S_S64x100000 (constant S_ .f32 0x7FC00000#32)) := by
  after_results
  simp only [TRef.ofBuf_toBuf]
  unfold inside
  congr 1
theorem pickOps_v36 : after pickOps V (main_v36 : DevRef τ sig)
    = firstMax (F := F) (addf (V (main_v34 : DevRef τ sig)) (V (main_v26 : DevRef τ sig))) := by
  after_results
  rfl

end Cert.ReferenceIdeal.Run

end
-- ==== Proof.Ref.Decode.lean ====
module

public import proofs.«01_k».proof.Proof.Ref.Pure
public import proofs.«01_k».proof.Proof.Value.Rows
public import proofs.«01_k».proof.Proof.Value.Order
public import Idealize.ShloMosaic.Lib.WordCmp
public import Idealize.ShloMosaic.Lib.Pipeline.Value
public import Idealize.ShloMosaic.Lib.ReduceAll

@[expose] public section

noncomputable section

namespace Cert.ReferenceIdeal.Run

open Cert.ReferenceIdeal Cert.ReferenceIdeal.Gen Cert.Value
open Idealize.ShloMosaic Idealize.ShloMosaic.ValueIdx

/-! # The reference's stages over the extended reals, read at an entry -/

theorem bits_bot : (FloatOps.ofBits (F := Ideal) .f32 0xFF800000#32) = (⊥ : EReal) := by
  show Ideal.ofBits .f32 0xFF800000#32 = _
  simp [Ideal.ofBits, Ideal.ieee]
theorem bits_top : (FloatOps.ofBits (F := Ideal) .f32 0x7F800000#32) = (⊤ : EReal) := by
  show Ideal.ofBits .f32 0x7F800000#32 = _
  simp [Ideal.ofBits, Ideal.ieee]
theorem bits_zero : (FloatOps.ofBits (F := Ideal) .f32 0x00000000#32) = (0 : EReal) := by
  show Ideal.ofBits .f32 0x00000000#32 = _
  simp [Ideal.ofBits, Ideal.ieee]
theorem bits_thirty : (FloatOps.ofBits (F := Ideal) .f32 0x41F00000#32) = ((30 : ℝ) : EReal) := by
  show Ideal.ofBits .f32 0x41F00000#32 = _
  simp [Ideal.ofBits, Ideal.ieee, -EReal.coe_mul]; norm_num
theorem bits_gap : (FloatOps.ofBits (F := Ideal) .f32 0x34F00000#32) = ((30 / 2 ^ 26 : ℝ) : EReal) := by
  show Ideal.ofBits .f32 0x34F00000#32 = _
  simp [Ideal.ofBits, Ideal.ieee, -EReal.coe_mul]; norm_num

theorem rows_apply (x : S64.Idx → Elt Ideal .f32) (i : Fin 64) (k : Fin 100000) : rows x (ix2 i k) = x (ix1 i) := by
  unfold rows broadcastInDim
  refine congrArg x (funext fun a => Fin.ext ?_)
  match a with
  | ⟨0, _⟩ => rfl

/-- A sort along the rows carries the second array by the sorting permutation. -/
theorem sort2_perm {R C : ℕ} {α β : Type} (cmp : α × β → α × β → BitVec 1) (x : (Mat R C).Idx → α) (y : (Mat R C).Idx → β)
    (i : Fin R) (before : Fin C → Fin C → Bool)
    (hb : ∀ k k', (cmp (x (ix2 i k), y (ix2 i k)) (x (ix2 i k'), y (ix2 i k')) == 1#1) = before k k') (q : Fin C) :
    (Host.sort2 (Mat R C) 1 cmp x y).2 (ix2 i q) = y (ix2 i (perm before q)) := by
  obtain rfl : (fun k k' => cmp (x (ix2 i k), y (ix2 i k)) (x (ix2 i k'), y (ix2 i k')) == 1#1) = before :=
    funext fun k => funext fun k' => hb k k'
  exact sort2_snd cmp x y i q

/-- The sort's comparison is the order of the values. -/
theorem comparator_eq (l r : Ideal .f32 × BitVec 32) :
    comparator_f32_i32_d1 l r = BitVec.ofBool (decide ((l.1 : EReal) < r.1)) := by
  have z : ∀ a : EReal, Scalar.select (Ideal.cmp .une a a) (FloatOps.ofBits (F := Ideal) .f32 0x7FC00000#32)
      (Scalar.select (Ideal.cmp .oeq a (FloatOps.ofBits (F := Ideal) .f32 0x00000000#32))
        (FloatOps.ofBits (F := Ideal) .f32 0x00000000#32) a) = a := by
    intro a
    have h1 : Ideal.cmp .une a a = 0#1 := by simp [Ideal.cmp]
    rw [h1]
    refine (select_zero _ _).trans ?_
    rw [bits_zero]
    by_cases h : a = 0
    · subst h; exact ite_self _
    · exact if_neg (by simp [Ideal.cmp, h])
  have e : comparator_f32_i32_d1 l r = Ideal.cmp (CmpDirection.lt).ordered
      (Scalar.select (Ideal.cmp .une l.1 l.1) (FloatOps.ofBits (F := Ideal) .f32 0x7FC00000#32)
        (Scalar.select (Ideal.cmp .oeq l.1 (FloatOps.ofBits (F := Ideal) .f32 0x00000000#32))
          (FloatOps.ofBits (F := Ideal) .f32 0x00000000#32) l.1))
      (Scalar.select (Ideal.cmp .une r.1 r.1) (FloatOps.ofBits (F := Ideal) .f32 0x7FC00000#32)
        (Scalar.select (Ideal.cmp .oeq r.1 (FloatOps.ofBits (F := Ideal) .f32 0x00000000#32))
          (FloatOps.ofBits (F := Ideal) .f32 0x00000000#32) r.1)) := rfl
  rw [e, z, z]
  rfl

theorem order_apply (X : FArr Ideal) (L : Fin 64 → Fin 100000 → ℝ) (hX : ∀ i k, X (ix2 i k) = (L i k : EReal))
    (i : Fin 64) (q : Fin 100000) :
    order (F := Ideal) (Host.negf (F := Ideal) (s := S64x100000) (φ := .f32) X) (ix2 i q)
      = BitVec.ofNat 32 (perm (fun k k' => decide (-L i k < -L i k')) q).val := by
  refine sort2_perm _ _ _ i _ (fun k k' => ?_) q
  rw [comparator_eq]
  show (BitVec.ofBool (decide (-(X (ix2 i k)) < -(X (ix2 i k')))) == 1#1) = _
  rw [hX, hX, ← EReal.coe_neg, ← EReal.coe_neg]
  simp only [EReal.coe_lt_coe_iff]
  by_cases h : -L i k < -L i k'
  · rw [decide_eq_true h]; rfl
  · rw [decide_eq_false h]; rfl

theorem inverse_apply (I : IArr Ideal) (i : Fin 64) (σ : Equiv.Perm (Fin 100000))
    (hI : ∀ q, I (ix2 i q) = BitVec.ofNat 32 (σ q).val) (k : Fin 100000) :
    inverse (F := Ideal) I (ix2 i k) = BitVec.ofNat 32 (σ.symm k).val := by
  rw [← perm_inverse]
  refine sort2_perm _ _ _ i _ (fun q q' => ?_) k
  have e : ∀ a b : BitVec 32 × BitVec 32, comparator_i32_i32_d1 a b = IntOp.cmpi .slt a.1 b.1 := fun _ _ => rfl
  have h1 := (σ q).isLt
  have h2 := (σ q').isLt
  rw [e]
  dsimp only
  rw [hI, hI, WordCmp.cmpi_slt_ofNat (by omega) (by omega)]
  by_cases h : σ q < σ q'
  · rw [decide_eq_true h, decide_eq_true (show (σ q).val < (σ q').val from h)]; rfl
  · rw [decide_eq_false h, decide_eq_false (show ¬ (σ q).val < (σ q').val from h)]; rfl

theorem wrapped_apply (I : IArr Ideal) (i : Fin 64) (q k : Fin 100000) (hI : I (ix2 i q) = BitVec.ofNat 32 k.val) :
    wrapped (F := Ideal) I (takeIdx (ix2 i q)) = BitVec.ofNat 32 k.val := by
  unfold wrapped
  refine (shapeCast_apply _ _ _ (ix2 i q) ?_).trans ?_
  · rw [Shape.rowMajor_val_two, Shape.rowMajor_val_three]
    show i.val * 100000 + q.val = (i.val * 100000 + q.val) * 1 + 0
    omega
  · rw [select_apply]
    have hk := k.isLt
    have hc : (cmpi .slt I (broadcastInDim S64x100000 ![] bcast_S_S64x100000 (constantI S_ 32 0#32)) : IVec S64x100000 1) (ix2 i q) = 0#1 := by
      show IntOp.cmpi .slt (I (ix2 i q)) (BitVec.ofNat 32 0) = 0#1
      rw [hI, WordCmp.cmpi_slt_ofNat (by omega) (by omega), decide_eq_false (Nat.not_lt_zero _)]; rfl
    rw [hc]
    exact (select_zero _ _).trans hI

/-- The entries taken at column numbers. -/
theorem taken_apply (Y : FArr Ideal) (I : IArr Ideal) (hI : ∀ i q, ∃ k : Fin 100000, I (ix2 i q) = BitVec.ofNat 32 k.val)
    (i : Fin 64) (q k : Fin 100000) (hk : I (ix2 i q) = BitVec.ofNat 32 k.val) :
    taken Y I (ix2 i q) = Y (ix2 i k) := by
  have hin : inside (F := Ideal) (wrapped (F := Ideal) I) (ix2 i q) = 1#1 := by
    unfold inside
    refine Host.reduce_andi_one _ _ _ _ _ rfl fun y => ?_
    obtain ⟨k', hk'⟩ := hI (y 0) (y 1)
    have hy : y = takeIdx (ix2 (y 0) (y 1)) := by
      funext a
      match a with
      | ⟨0, _⟩ => rfl
      | ⟨1, _⟩ => rfl
      | ⟨2, _⟩ => exact Subsingleton.elim (α := Fin 1) _ _
    have hl := k'.isLt
    have hw : wrapped (F := Ideal) I y = BitVec.ofNat 32 k'.val := by
      rw [hy]; exact wrapped_apply I _ _ k' hk'
    refine IntOp.andi_eq_one.mpr ⟨?_, ?_⟩
    · show IntOp.cmpi .sge (wrapped (F := Ideal) I y) (BitVec.ofNat 32 0) = 1#1
      rw [hw, WordCmp.cmpi_sge_ofNat (by omega) (by omega), decide_eq_true (Nat.zero_le _)]; rfl
    · show IntOp.cmpi .sle (wrapped (F := Ideal) I y) (BitVec.ofNat 32 99999) = 1#1
      rw [hw, WordCmp.cmpi_sle_ofNat (by omega) (by omega), decide_eq_true (show k'.val ≤ 99999 by omega)]; rfl
  unfold taken
  rw [select_apply, hin]
  refine (select_one _ _).trans ?_
  refine (gather_along (by omega) _ Y _ i q).trans (congrArg Y (congrArg (ix2 i) (Fin.ext ?_)))
  have hl := k.isLt
  have hl' : k.val < 100000 := k.isLt
  show min (wrapped (F := Ideal) I (takeIdx (ix2 i q))).toInt.toNat (100000 - 1) = k.val
  rw [wrapped_apply I i q k hk, WordCmp.toInt_ofNat_of_lt (by omega)]
  omega

end Cert.ReferenceIdeal.Run

end
-- ==== Proof.Ideal.Logits.lean ====
module

public import proofs.«01_k».proof.Proof.Ideal.Region0
public import proofs.«01_k».proof.Proof.Value.Prefix
public import proofs.«01_k».proof.Proof.Ref.Decode
public import Idealize.ShloMosaic.Lib.Pipeline.ArrRel

@[expose] public section

noncomputable section

namespace Cert.KernelIdeal.Run

open Cert.KernelIdeal Cert.KernelIdeal.Gen Cert.Value
open Idealize.ShloMosaic hiding ix1 ix2
open Idealize.ShloMosaic.ValueIdx Idealize.ShloMosaic.TcCoe
open Cert.ReferenceIdeal.Run (bits_bot bits_zero)
open Idealize.ShloMosaic.Pipeline (Dat RDat)

/-! # The logits and their row maxima, entry by entry -/

/-- A logit: the product of a hidden state with a row of the table, over the temperature. -/
def logit (H : S64x768.Idx → EReal) (E : S100000x768.Idx → EReal) (t : Fin 64 → EReal) (i : Fin 64) (j : Fin 100000) : EReal :=
  Ideal.div (∑ l : Fin 768, H (ix2 i l) * E (ix2 j l)) (t i)

theorem coord0_val {k : ℕ} (hk : k < 49) : (coord0 k 0).val = k := Nat.mod_eq_of_lt hk

theorem col_at {e : EltTy} (X : S64x128.Idx → Elt Ideal e) (i : Fin 64) (z : Fin 1) : col X (ix2 i z) = X (ix2 i (0 : Fin 128)) := by
  refine congrArg X (funext fun a => Fin.ext ?_)
  match a with
  | ⟨0, _⟩ => show 0 + 1 * i.val = i.val; omega
  | ⟨1, _⟩ => show 0 + 1 * z.val = 0; omega

theorem k0_pay1_at {k : ℕ} (hk : k < 49) (H : S64x768.Idx → Elt Ideal .f32) (W : S2048x768.Idx → Elt Ideal .f32) (T : S64x1.Idx → Elt Ideal .f32)
    (i : Fin 64) (y : Fin 2048) :
    k0_pay1 (F := Ideal) (coord0 k) H W T (ix2 i y)
      = if 2048 * k + y.val < 100000 then Ideal.div (∑ l : Fin 768, H (ix2 i l) * W (ix2 y l) : EReal) (T (ix2 i 0)) else (⊥ : EReal) := by
  have hd : (matmul (φ₁ := .f32) (φ₂ := .f32) dot_S64x768_S2048x768_S64x2048_1_1_0_0_n_n none H W (constant S64x2048 .f32 0x00000000#32) : FVec Ideal S64x2048 .f32) (ix2 i y)
      = (∑ l : Fin 768, H (ix2 i l) * W (ix2 y l) : EReal) := by
    refine (Ideal.matmul_transposedRhs_apply (M := 64) (K := 768) (N := 2048) none H W _ i y).trans ?_
    rw [constant_at, bits_zero, zero_add]
  have hb : (broadcastTo S64x2048 T broadcasts_S64x1_S64x2048) (ix2 i y) = T (ix2 i 0) := spreadCol (by decide) T _ i y
  have hc := colMask hk y.isLt
  rw [← colWord] at hc
  have e : k0_pay1 (F := Ideal) (coord0 k) H W T (ix2 i y) = Scalar.select (IntOp.cmpi .slt (IntOp.addi (Scalar.muli (BitVec.ofNat 32 (coord0 k 0).val) 2048#32) (BitVec.ofNat 32 (0 * 2048 + y.val))) 100000#32)
      (Ideal.div ((matmul (φ₁ := .f32) (φ₂ := .f32) dot_S64x768_S2048x768_S64x2048_1_1_0_0_n_n none H W (constant S64x2048 .f32 0x00000000#32) : FVec Ideal S64x2048 .f32) (ix2 i y)) ((broadcastTo S64x2048 T broadcasts_S64x1_S64x2048) (ix2 i y)))
      (FloatOps.ofBits (F := Ideal) .f32 0xFF800000#32) := by
    simp only [k0_pay1, shapeCast_self]
    rfl
  rw [e, hd, hb, coord0_val hk, Nat.zero_mul, Nat.zero_add, bits_bot]
  by_cases h : 2048 * k + y.val < 100000
  · rw [if_pos h]; exact sel_pos (hc.mpr h)
  · rw [if_neg h]; exact sel_neg (mt hc.mp h)

/-- A tile of logits, for any block that agrees with the table inside it. -/
theorem logitTile_at {k : ℕ} (hk : k < 49) {H : S64x768.Idx → Elt Ideal .f32} {E : S100000x768.Idx → Elt Ideal .f32} {T : S64x128.Idx → Elt Ideal .f32}
    {W : S2048x768.Idx → Elt Ideal .f32} (hW : EAgree k W (etile E k)) (i : Fin 64) (y : Fin 2048) :
    k0_pay1 (F := Ideal) (coord0 k) H W (col T) (ix2 i y) = entry (logit H E (fun i => T (ix2 i (0 : Fin 128))) i) ⊥ (2048 * k) y.val := by
  rw [k0_pay1_at hk, col_at]
  by_cases h : 2048 * k + y.val < 100000
  · rw [if_pos h, entry_pos h]
    unfold logit
    congr 1
    refine Finset.sum_congr rfl fun l _ => ?_
    rw [hW (ix2 y l) h]
    unfold etile
    rw [dif_pos (show 2048 * k + (ix2 y l 0).val < 100000 from h)]
  · rw [if_neg h, entry_neg h]

theorem k0_pay3_at (c : grid0.Coords) (H : S64x768.Idx → Elt Ideal .f32) (W : S2048x768.Idx → Elt Ideal .f32) (T : S64x1.Idx → Elt Ideal .f32)
    (Y : S64x128.Idx → Elt Ideal .f32) (i : Fin 64) (z : Fin 128) :
    k0_pay3 (F := Ideal) c H W T Y (ix2 i z)
      = (max (Y (ix2 i z)) ((Finset.univ : Finset (Fin 2048)).fold max ⊥ fun y => k0_pay1 (F := Ideal) c H W T (ix2 i y)) : EReal) := by
  unfold k0_pay3
  simp only [shapeCast_self]
  refine (maximumf_at _ _ _).trans (congrArg (max (Y (ix2 i z) : EReal)) ?_)
  refine (spreadCol (by decide) _ _ i z).trans ((toCol _ _ i 0).trans ?_)
  exact rowMax _ _ _ _ _ bits_bot i

/-- The running row maxima bound the logits seen, and no less does. -/
theorem rowMax_bounds {H : S64x768.Idx → Elt Ideal .f32} {E : S100000x768.Idx → Elt Ideal .f32} {T : S64x128.Idx → Elt Ideal .f32} {k : ℕ}
    {Y : S64x128.Idx → Elt Ideal .f32} (h : RowMax H E T k Y) (hk : k ≤ 49) (i : Fin 64) (z : Fin 128) :
    Bounds (logit H E (fun i => T (ix2 i (0 : Fin 128))) i) (2048 * k) (Y (ix2 i z)) := by
  induction h with
  | zero =>
    have e : (k0_pay2 (F := Ideal)) (ix2 i z) = (⊥ : EReal) := bits_bot
    rw [e]; exact bounds_zero _
  | succ k W Y hY hW ih =>
    rw [k0_pay3_at, Nat.mul_succ]
    have e : (fun y : Fin 2048 => (k0_pay1 (F := Ideal) (coord0 k) H W (col T) (ix2 i y) : EReal))
        = fun y => entry (logit H E (fun i => T (ix2 i (0 : Fin 128))) i) ⊥ (2048 * k) y.val := funext fun y => logitTile_at (by omega) hW i y
    have h' := bounds_add (b := 2048) (ih (by omega))
    rw [← e] at h'
    exact h'

/-! ## The arrays after the region -/

variable (V : (c : Dev nD) → (b : Ref sig .tc) → Buf (Elt Ideal) ((c : Thread nD τ).loc b)) (c : Dev nD)

theorem logits_after (X : Buf (Elt Ideal) ((c : Thread nD τ).loc main_v12_0)) (h : (rdat0 (F := Ideal) V c).ArrAt 3 cfg0.N X) (i : Fin 64) (j : Fin 100000) :
    X (ix2 i j) = logit (V c main_arg0) (V c main_arg1) (fun i => V c main_v1 (ix2 i (0 : Fin 128))) i j := by
  obtain ⟨A, hA, hX⟩ := Pipeline.RDat.ArrAt.exists_exact h
  have e := hX (Function.update (fun _ _ _ => Classical.arbitrary _) 3 A) fun u _ _ => by rw [Function.update_self]
  rw [e]
  refine Dat.arrAt_forall_of_covers (cfg := cfg0) ((rdat0 V c).withAfter (Function.update (fun _ _ _ => Classical.arbitrary _) 3 A)) 3 (fun q v => v = logit (V c main_arg0) (V c main_arg1) (fun i => V c main_v1 (ix2 i (0 : Fin 128))) (q 0) (q 1))
    (by decide +kernel) (fun t hf y => ?_) (ix2 i j)
  obtain ⟨Y, -, hY⟩ := hA t t.isLt hf
  have hY' : LogitTile (V c main_arg0) (V c main_arg1) (V c main_v1) t.val (A t) := hY
  obtain ⟨W, hW, hAt⟩ := hY'
  rw [RDat.withAfter_after, Function.update_self, hAt]
  obtain ⟨h0, h1, h2, h3⟩ := geo0_3 t
  have ht : t.val < 49 := lt_of_lt_of_eq t.isLt N_0
  have y0 : (y 0).val < 64 := lt_of_lt_of_eq (y 0).isLt h0
  have y1 : (y 1).val < min 2048 (100000 - 2048 * t.val) := lt_of_lt_of_eq (y 1).isLt h1
  have e0 : (((cfg0.win 3).blk t).view.emb y 0).val = (y 0).val := by
    refine (win0_3.rect_emb_val t y 0).trans ?_
    rw [h2]; simp
  have e1 : (((cfg0.win 3).blk t).view.emb y 1).val = 2048 * t.val + (y 1).val := by
    refine (win0_3.rect_emb_val t y 1).trans ?_
    rw [h3]; show t.val * 2048 + (y 1).val = 2048 * t.val + (y 1).val; omega
  have ex : (cfg0.win 3).xinj (cfg0.grid.coords t) y = ix2 (⟨(y 0).val, y0⟩ : Fin 64) (⟨(y 1).val, by omega⟩ : Fin 2048) := by
    funext a
    match a with
    | ⟨0, _⟩ => rfl
    | ⟨1, _⟩ => rfl
  rw [ex]
  refine (cast_eq _ _).trans ((logitTile_at ht hW _ _).trans ((entry_pos (show 2048 * t.val + (y 1).val < 100000 by omega)).trans ?_))
  congr 1
  · exact Fin.ext e0.symm
  · exact Fin.ext e1.symm

theorem max_after (L : Fin 64 → Fin 100000 → ℝ) (X : Buf (Elt Ideal) ((c : Thread nD τ).loc main_v12_1)) (h : (rdat0 (F := Ideal) V c).ArrAt 4 cfg0.N X)
    (hL : ∀ i j, logit (V c main_arg0) (V c main_arg1) (fun i => V c main_v1 (ix2 i (0 : Fin 128))) i j = (L i j : EReal)) (i : Fin 64) (z : Fin 128) :
    X (ix2 i z) = (top (L i) : EReal) := by
  obtain ⟨Y, ⟨Y', -, hY⟩, hX⟩ := Pipeline.RDat.ArrAt.emb_eq_of_wholeAt h (t₀ := ⟨48, by decide +kernel⟩) (by decide +kernel)
  have hY' : RowMax (V c main_arg0) (V c main_arg1) (V c main_v1) (48 + 1) Y := hY
  have hb := rowMax_bounds hY' (le_refl 49) i z
  rw [funext fun j => hL i j] at hb
  have e : X (ix2 i z) = Y (ix2 i z) := hX (ix2 i z)
  rw [e]
  exact bounds_all (by decide) hb

end Cert.KernelIdeal.Run

end
-- ==== Proof.Ref.Noise.lean ====
module

public import proofs.«01_k».proof.Proof.Ref.Run
public import proofs.«01_k».proof.Pre_resolved

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable [Cert.Pre_resolved.Facts] {F : FTy → Type} [FloatOps F]

/-! # The noise, a stage at a time -/

variable (V : Valuation τ sig (Elt F))

/-- The last stage: the words made uniform, and the negated logarithm taken twice. -/
abbrev spread (x y : S1x1.Idx → Elt F .f32) (w : S64x100000.Idx → Elt F .i32) : S64x100000.Idx → Elt F .f32 :=
  Host.negf (Host.log (Host.negf (Host.log (Cert.Pre_resolved.fn_uniform_part1 (F := F) x y w))))

theorem noise_0 : Cert.Pre_resolved.fn_gumbel (F := F) (V (main_v33 : DevRef τ sig))
    = spread (after noiseOps0 V (main_call6_call0_v1 : DevRef τ sig)) (after noiseOps0 V (main_call6_call0_v2 : DevRef τ sig)) (xori (Cert.Pre_resolved.fn_threefry2x32 (F := F) (after noiseOps0 V (main_call6_call0_v4 : DevRef τ sig)) (after noiseOps0 V (main_call6_call0_v6 : DevRef τ sig)) (after noiseOps0 V (main_call6_call0_v17 : DevRef τ sig)) (after noiseOps0 V (main_call6_call0_v16 : DevRef τ sig))).1 (Cert.Pre_resolved.fn_threefry2x32 (F := F) (after noiseOps0 V (main_call6_call0_v4 : DevRef τ sig)) (after noiseOps0 V (main_call6_call0_v6 : DevRef τ sig)) (after noiseOps0 V (main_call6_call0_v17 : DevRef τ sig)) (after noiseOps0 V (main_call6_call0_v16 : DevRef τ sig))).2) := by
  after_results
  simp only [TRef.ofBuf_toBuf]
  rfl
theorem noise_1 : Cert.Pre_resolved.fn_threefry2x32 (F := F) (V (main_call6_call0_v4 : DevRef τ sig)) (V (main_call6_call0_v6 : DevRef τ sig)) (V (main_call6_call0_v17 : DevRef τ sig)) (V (main_call6_call0_v16 : DevRef τ sig))
    = Cert.Pre_resolved.fn_threefry2x32_part1 (F := F) (after noiseOps1 V (main_call6_call0_v4 : DevRef τ sig)) (after noiseOps1 V (main_call6_call0_v6 : DevRef τ sig)) (after noiseOps1 V (main_call6_call0_call0_v1 : DevRef τ sig)) (after noiseOps1 V (main_call6_call0_call0_v13 : DevRef τ sig)) (after noiseOps1 V (main_call6_call0_call0_v18 : DevRef τ sig)) := by
  after_results
  simp only [TRef.ofBuf_toBuf]
  rfl
theorem noise_2 : Cert.Pre_resolved.fn_threefry2x32_part1 (F := F) (V (main_call6_call0_v4 : DevRef τ sig)) (V (main_call6_call0_v6 : DevRef τ sig)) (V (main_call6_call0_call0_v1 : DevRef τ sig)) (V (main_call6_call0_call0_v13 : DevRef τ sig)) (V (main_call6_call0_call0_v18 : DevRef τ sig))
    = Cert.Pre_resolved.fn_threefry2x32_part2 (F := F) (after noiseOps2 V (main_call6_call0_v4 : DevRef τ sig)) (after noiseOps2 V (main_call6_call0_v6 : DevRef τ sig)) (after noiseOps2 V (main_call6_call0_call0_v1 : DevRef τ sig)) (after noiseOps2 V (main_call6_call0_call0_v35 : DevRef τ sig)) (after noiseOps2 V (main_call6_call0_call0_v37 : DevRef τ sig)) (after noiseOps2 V (main_call6_call0_call0_c_8 : DevRef τ sig)) := by
  after_results
  simp only [TRef.ofBuf_toBuf]
  rfl
theorem noise_3 : Cert.Pre_resolved.fn_threefry2x32_part2 (F := F) (V (main_call6_call0_v4 : DevRef τ sig)) (V (main_call6_call0_v6 : DevRef τ sig)) (V (main_call6_call0_call0_v1 : DevRef τ sig)) (V (main_call6_call0_call0_v35 : DevRef τ sig)) (V (main_call6_call0_call0_v37 : DevRef τ sig)) (V (main_call6_call0_call0_c_8 : DevRef τ sig))
    = Cert.Pre_resolved.fn_threefry2x32_part3 (F := F) (after noiseOps3 V (main_call6_call0_v4 : DevRef τ sig)) (after noiseOps3 V (main_call6_call0_v6 : DevRef τ sig)) (after noiseOps3 V (main_call6_call0_call0_v1 : DevRef τ sig)) (after noiseOps3 V (main_call6_call0_call0_v53 : DevRef τ sig)) (after noiseOps3 V (main_call6_call0_call0_v54 : DevRef τ sig)) (after noiseOps3 V (main_call6_call0_call0_v56 : DevRef τ sig)) := by
  after_results
  simp only [TRef.ofBuf_toBuf]
  rfl
theorem noise_4 : Cert.Pre_resolved.fn_threefry2x32_part3 (F := F) (V (main_call6_call0_v4 : DevRef τ sig)) (V (main_call6_call0_v6 : DevRef τ sig)) (V (main_call6_call0_call0_v1 : DevRef τ sig)) (V (main_call6_call0_call0_v53 : DevRef τ sig)) (V (main_call6_call0_call0_v54 : DevRef τ sig)) (V (main_call6_call0_call0_v56 : DevRef τ sig))
    = Cert.Pre_resolved.fn_threefry2x32_part4 (F := F) (after noiseOps4 V (main_call6_call0_v4 : DevRef τ sig)) (after noiseOps4 V (main_call6_call0_v6 : DevRef τ sig)) (after noiseOps4 V (main_call6_call0_call0_v1 : DevRef τ sig)) (after noiseOps4 V (main_call6_call0_call0_v73 : DevRef τ sig)) (after noiseOps4 V (main_call6_call0_call0_v74 : DevRef τ sig)) (after noiseOps4 V (main_call6_call0_call0_v75 : DevRef τ sig)) := by
  after_results
  simp only [TRef.ofBuf_toBuf]
  rfl
theorem noise_5 : Cert.Pre_resolved.fn_threefry2x32_part4 (F := F) (V (main_call6_call0_v4 : DevRef τ sig)) (V (main_call6_call0_v6 : DevRef τ sig)) (V (main_call6_call0_call0_v1 : DevRef τ sig)) (V (main_call6_call0_call0_v73 : DevRef τ sig)) (V (main_call6_call0_call0_v74 : DevRef τ sig)) (V (main_call6_call0_call0_v75 : DevRef τ sig))
    = Cert.Pre_resolved.fn_threefry2x32_part5 (F := F) (after noiseOps5 V (main_call6_call0_v4 : DevRef τ sig)) (after noiseOps5 V (main_call6_call0_v6 : DevRef τ sig)) (after noiseOps5 V (main_call6_call0_call0_v1 : DevRef τ sig)) (after noiseOps5 V (main_call6_call0_call0_v88 : DevRef τ sig)) (after noiseOps5 V (main_call6_call0_call0_v94 : DevRef τ sig)) := by
  after_results
  simp only [TRef.ofBuf_toBuf]
  rfl
theorem noise_6 : Cert.Pre_resolved.fn_threefry2x32_part5 (F := F) (V (main_call6_call0_v4 : DevRef τ sig)) (V (main_call6_call0_v6 : DevRef τ sig)) (V (main_call6_call0_call0_v1 : DevRef τ sig)) (V (main_call6_call0_call0_v88 : DevRef τ sig)) (V (main_call6_call0_call0_v94 : DevRef τ sig))
    = Cert.Pre_resolved.fn_threefry2x32_part6 (F := F) (after noiseOps6 V (main_call6_call0_v4 : DevRef τ sig)) (after noiseOps6 V (main_call6_call0_v6 : DevRef τ sig)) (after noiseOps6 V (main_call6_call0_call0_v1 : DevRef τ sig)) (after noiseOps6 V (main_call6_call0_call0_v108 : DevRef τ sig)) (after noiseOps6 V (main_call6_call0_call0_v113 : DevRef τ sig)) := by
  after_results
  simp only [TRef.ofBuf_toBuf]
  rfl
theorem noise_7 : Cert.Pre_resolved.fn_threefry2x32_part6 (F := F) (V (main_call6_call0_v4 : DevRef τ sig)) (V (main_call6_call0_v6 : DevRef τ sig)) (V (main_call6_call0_call0_v1 : DevRef τ sig)) (V (main_call6_call0_call0_v108 : DevRef τ sig)) (V (main_call6_call0_call0_v113 : DevRef τ sig))
    = Cert.Pre_resolved.fn_threefry2x32_part7 (F := F) (after noiseOps7 V (main_call6_call0_v4 : DevRef τ sig)) (after noiseOps7 V (main_call6_call0_v6 : DevRef τ sig)) (after noiseOps7 V (main_call6_call0_call0_v1 : DevRef τ sig)) (after noiseOps7 V (main_call6_call0_call0_v128 : DevRef τ sig)) (after noiseOps7 V (main_call6_call0_call0_v129 : DevRef τ sig)) (after noiseOps7 V (main_call6_call0_call0_v131 : DevRef τ sig)) (after noiseOps7 V (main_call6_call0_call0_c_34 : DevRef τ sig)) := by
  after_results
  simp only [TRef.ofBuf_toBuf]
  rfl
theorem noise_8 : Cert.Pre_resolved.fn_threefry2x32_part7 (F := F) (V (main_call6_call0_v4 : DevRef τ sig)) (V (main_call6_call0_v6 : DevRef τ sig)) (V (main_call6_call0_call0_v1 : DevRef τ sig)) (V (main_call6_call0_call0_v128 : DevRef τ sig)) (V (main_call6_call0_call0_v129 : DevRef τ sig)) (V (main_call6_call0_call0_v131 : DevRef τ sig)) (V (main_call6_call0_call0_c_34 : DevRef τ sig))
    = Cert.Pre_resolved.fn_threefry2x32_part8 (F := F) (after noiseOps8 V (main_call6_call0_v4 : DevRef τ sig)) (after noiseOps8 V (main_call6_call0_call0_v1 : DevRef τ sig)) (after noiseOps8 V (main_call6_call0_call0_v148 : DevRef τ sig)) (after noiseOps8 V (main_call6_call0_call0_v149 : DevRef τ sig)) (after noiseOps8 V (main_call6_call0_call0_v151 : DevRef τ sig)) := by
  after_results
  simp only [TRef.ofBuf_toBuf]
  rfl
theorem noise_9 : Cert.Pre_resolved.fn_threefry2x32_part8 (F := F) (V (main_call6_call0_v4 : DevRef τ sig)) (V (main_call6_call0_call0_v1 : DevRef τ sig)) (V (main_call6_call0_call0_v148 : DevRef τ sig)) (V (main_call6_call0_call0_v149 : DevRef τ sig)) (V (main_call6_call0_call0_v151 : DevRef τ sig))
    = Cert.Pre_resolved.fn_threefry2x32_part9 (F := F) (after noiseOps9 V (main_call6_call0_v4 : DevRef τ sig)) (after noiseOps9 V (main_call6_call0_call0_v163 : DevRef τ sig)) (after noiseOps9 V (main_call6_call0_call0_v169 : DevRef τ sig)) (after noiseOps9 V (main_call6_call0_call0_v170 : DevRef τ sig)) := by
  after_results
  simp only [TRef.ofBuf_toBuf]
  rfl
theorem noise_10 : xori (Cert.Pre_resolved.fn_threefry2x32_part9 (F := F) (V (main_call6_call0_v4 : DevRef τ sig)) (V (main_call6_call0_call0_v163 : DevRef τ sig)) (V (main_call6_call0_call0_v169 : DevRef τ sig)) (V (main_call6_call0_call0_v170 : DevRef τ sig))).1 (Cert.Pre_resolved.fn_threefry2x32_part9 (F := F) (V (main_call6_call0_v4 : DevRef τ sig)) (V (main_call6_call0_call0_v163 : DevRef τ sig)) (V (main_call6_call0_call0_v169 : DevRef τ sig)) (V (main_call6_call0_call0_v170 : DevRef τ sig))).2
    = (after noiseOps10 V (main_call6_call0_v19 : DevRef τ sig)) := by
  after_results
  simp only [TRef.ofBuf_toBuf]
  rfl
theorem noise_11 : spread (V (main_call6_call0_v1 : DevRef τ sig)) (V (main_call6_call0_v2 : DevRef τ sig)) (V (main_call6_call0_v19 : DevRef τ sig))
    = (after noiseOps11 V (main_v34 : DevRef τ sig)) := by
  after_results
  simp only [TRef.ofBuf_toBuf]
  rfl
theorem noise_1_v1 : after noiseOps1 V (main_call6_call0_v1 : DevRef τ sig) = V (main_call6_call0_v1 : DevRef τ sig) := after_of_writes_sub _ V noiseOps1_writes (by decide)
theorem noise_1_v2 : after noiseOps1 V (main_call6_call0_v2 : DevRef τ sig) = V (main_call6_call0_v2 : DevRef τ sig) := after_of_writes_sub _ V noiseOps1_writes (by decide)
theorem noise_2_v1 : after noiseOps2 V (main_call6_call0_v1 : DevRef τ sig) = V (main_call6_call0_v1 : DevRef τ sig) := after_of_writes_sub _ V noiseOps2_writes (by decide)
theorem noise_2_v2 : after noiseOps2 V (main_call6_call0_v2 : DevRef τ sig) = V (main_call6_call0_v2 : DevRef τ sig) := after_of_writes_sub _ V noiseOps2_writes (by decide)
theorem noise_3_v1 : after noiseOps3 V (main_call6_call0_v1 : DevRef τ sig) = V (main_call6_call0_v1 : DevRef τ sig) := after_of_writes_sub _ V noiseOps3_writes (by decide)
theorem noise_3_v2 : after noiseOps3 V (main_call6_call0_v2 : DevRef τ sig) = V (main_call6_call0_v2 : DevRef τ sig) := after_of_writes_sub _ V noiseOps3_writes (by decide)
theorem noise_4_v1 : after noiseOps4 V (main_call6_call0_v1 : DevRef τ sig) = V (main_call6_call0_v1 : DevRef τ sig) := after_of_writes_sub _ V noiseOps4_writes (by decide)
theorem noise_4_v2 : after noiseOps4 V (main_call6_call0_v2 : DevRef τ sig) = V (main_call6_call0_v2 : DevRef τ sig) := after_of_writes_sub _ V noiseOps4_writes (by decide)
theorem noise_5_v1 : after noiseOps5 V (main_call6_call0_v1 : DevRef τ sig) = V (main_call6_call0_v1 : DevRef τ sig) := after_of_writes_sub _ V noiseOps5_writes (by decide)
theorem noise_5_v2 : after noiseOps5 V (main_call6_call0_v2 : DevRef τ sig) = V (main_call6_call0_v2 : DevRef τ sig) := after_of_writes_sub _ V noiseOps5_writes (by decide)
theorem noise_6_v1 : after noiseOps6 V (main_call6_call0_v1 : DevRef τ sig) = V (main_call6_call0_v1 : DevRef τ sig) := after_of_writes_sub _ V noiseOps6_writes (by decide)
theorem noise_6_v2 : after noiseOps6 V (main_call6_call0_v2 : DevRef τ sig) = V (main_call6_call0_v2 : DevRef τ sig) := after_of_writes_sub _ V noiseOps6_writes (by decide)
theorem noise_7_v1 : after noiseOps7 V (main_call6_call0_v1 : DevRef τ sig) = V (main_call6_call0_v1 : DevRef τ sig) := after_of_writes_sub _ V noiseOps7_writes (by decide)
theorem noise_7_v2 : after noiseOps7 V (main_call6_call0_v2 : DevRef τ sig) = V (main_call6_call0_v2 : DevRef τ sig) := after_of_writes_sub _ V noiseOps7_writes (by decide)
theorem noise_8_v1 : after noiseOps8 V (main_call6_call0_v1 : DevRef τ sig) = V (main_call6_call0_v1 : DevRef τ sig) := after_of_writes_sub _ V noiseOps8_writes (by decide)
theorem noise_8_v2 : after noiseOps8 V (main_call6_call0_v2 : DevRef τ sig) = V (main_call6_call0_v2 : DevRef τ sig) := after_of_writes_sub _ V noiseOps8_writes (by decide)
theorem noise_9_v1 : after noiseOps9 V (main_call6_call0_v1 : DevRef τ sig) = V (main_call6_call0_v1 : DevRef τ sig) := after_of_writes_sub _ V noiseOps9_writes (by decide)
theorem noise_9_v2 : after noiseOps9 V (main_call6_call0_v2 : DevRef τ sig) = V (main_call6_call0_v2 : DevRef τ sig) := after_of_writes_sub _ V noiseOps9_writes (by decide)
theorem noise_10_v1 : after noiseOps10 V (main_call6_call0_v1 : DevRef τ sig) = V (main_call6_call0_v1 : DevRef τ sig) := after_of_writes_sub _ V noiseOps10_writes (by decide)
theorem noise_10_v2 : after noiseOps10 V (main_call6_call0_v2 : DevRef τ sig) = V (main_call6_call0_v2 : DevRef τ sig) := after_of_writes_sub _ V noiseOps10_writes (by decide)

/-- The noise is the Gumbel noise of the key. -/
theorem noise : after noiseOps V (main_v34 : DevRef τ sig) = Cert.Pre_resolved.fn_gumbel (F := F) (V (main_v33 : DevRef τ sig)) := by
  have e := noise_11 (after noiseOps10 (after noiseOps9 (after noiseOps8 (after noiseOps7 (after noiseOps6 (after noiseOps5 (after noiseOps4 (after noiseOps3 (after noiseOps2 (after noiseOps1 (after noiseOps0 V)))))))))))
  rw [noise_10_v1, noise_9_v1, noise_8_v1, noise_7_v1, noise_6_v1, noise_5_v1, noise_4_v1, noise_3_v1, noise_2_v1, noise_1_v1, noise_10_v2, noise_9_v2, noise_8_v2, noise_7_v2, noise_6_v2, noise_5_v2, noise_4_v2, noise_3_v2, noise_2_v2, noise_1_v2] at e
  rw [noise_0, noise_1, noise_2, noise_3, noise_4, noise_5, noise_6, noise_7, noise_8, noise_9, noise_10, e]
  simp only [noiseOps, after_append]

end Cert.ReferenceIdeal.Run

end
-- ==== Proof.Ref.Out.lean ====
module

public import proofs.«01_k».proof.Proof.Ref.Pure
public import proofs.«01_k».proof.Proof.Ref.Noise

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable [Cert.Pre_resolved.Facts] {F : FTy → Type} [FloatOps F]

/-! # What the reference computes -/

/-- The key of the noise. -/
def key : S2.Idx → Elt F .i32 :=
  concatenate S2 0
    [⟨S1, broadcastInDim S1 ![] bcast_S_S1 (id (Host.shrui (constantI S_ 32 42#32) (constantI S_ 32 32#32)))⟩,
      ⟨S1, broadcastInDim S1 ![] bcast_S_S1 (id (andi (constantI S_ 32 42#32) (constantI S_ 32 4294967295#32)))⟩]
    concatenates_S1_S1_S2_d0

/-- The sampled columns: the first largest of the noise plus the nucleus. -/
def sampled (X : FArr F) (A3 : S64.Idx → Elt F .f32) : S64.Idx → Elt F .i32 :=
  firstMax (addf (Cert.Pre_resolved.fn_gumbel (F := F) (key (F := F))) (nucleus X A3))

variable (V : Valuation τ sig (Elt F))

theorem keyOps_v33 : after keyOps V (main_v33 : DevRef τ sig) = key (F := F) := by
  after_results
  rfl

theorem pass_logitOps_arg3 : after logitOps V (main_arg3 : DevRef τ sig) = V (main_arg3 : DevRef τ sig) :=
  after_of_writes_sub _ V logitOps_writes (by decide)
theorem pass_orderOps_v4 : after orderOps V (main_v4 : DevRef τ sig) = V (main_v4 : DevRef τ sig) :=
  after_of_writes_sub _ V orderOps_writes (by decide)
theorem pass_orderOps_arg3 : after orderOps V (main_arg3 : DevRef τ sig) = V (main_arg3 : DevRef τ sig) :=
  after_of_writes_sub _ V orderOps_writes (by decide)
theorem pass_wrapOps_v4 : after wrapOps V (main_v4 : DevRef τ sig) = V (main_v4 : DevRef τ sig) :=
  after_of_writes_sub _ V wrapOps_writes (by decide)
theorem pass_wrapOps_v6 : after wrapOps V (main_v6 : DevRef τ sig) = V (main_v6 : DevRef τ sig) :=
  after_of_writes_sub _ V wrapOps_writes (by decide)
theorem pass_wrapOps_arg3 : after wrapOps V (main_arg3 : DevRef τ sig) = V (main_arg3 : DevRef τ sig) :=
  after_of_writes_sub _ V wrapOps_writes (by decide)
theorem pass_sortedOps_v6 : after sortedOps V (main_v6 : DevRef τ sig) = V (main_v6 : DevRef τ sig) :=
  after_of_writes_sub _ V sortedOps_writes (by decide)
theorem pass_sortedOps_arg3 : after sortedOps V (main_arg3 : DevRef τ sig) = V (main_arg3 : DevRef τ sig) :=
  after_of_writes_sub _ V sortedOps_writes (by decide)
theorem pass_massOps_v7 : after massOps V (main_v7 : DevRef τ sig) = V (main_v7 : DevRef τ sig) :=
  after_of_writes_sub _ V massOps_writes (by decide)
theorem pass_massOps_v6 : after massOps V (main_v6 : DevRef τ sig) = V (main_v6 : DevRef τ sig) :=
  after_of_writes_sub _ V massOps_writes (by decide)
theorem pass_massOps_arg3 : after massOps V (main_arg3 : DevRef τ sig) = V (main_arg3 : DevRef τ sig) :=
  after_of_writes_sub _ V massOps_writes (by decide)
theorem pass_keepOps_v6 : after keepOps V (main_v6 : DevRef τ sig) = V (main_v6 : DevRef τ sig) :=
  after_of_writes_sub _ V keepOps_writes (by decide)
theorem pass_inverseOps_v24 : after inverseOps V (main_v24 : DevRef τ sig) = V (main_v24 : DevRef τ sig) :=
  after_of_writes_sub _ V inverseOps_writes (by decide)
theorem pass_wrapBackOps_v24 : after wrapBackOps V (main_v24 : DevRef τ sig) = V (main_v24 : DevRef τ sig) :=
  after_of_writes_sub _ V wrapBackOps_writes (by decide)
theorem pass_keyOps_v26 : after keyOps V (main_v26 : DevRef τ sig) = V (main_v26 : DevRef τ sig) :=
  after_of_writes_sub _ V keyOps_writes (by decide)
theorem pass_noiseOps0_v26 : after noiseOps0 V (main_v26 : DevRef τ sig) = V (main_v26 : DevRef τ sig) :=
  after_of_writes_sub _ V noiseOps0_writes (by decide)
theorem pass_noiseOps1_v26 : after noiseOps1 V (main_v26 : DevRef τ sig) = V (main_v26 : DevRef τ sig) :=
  after_of_writes_sub _ V noiseOps1_writes (by decide)
theorem pass_noiseOps2_v26 : after noiseOps2 V (main_v26 : DevRef τ sig) = V (main_v26 : DevRef τ sig) :=
  after_of_writes_sub _ V noiseOps2_writes (by decide)
theorem pass_noiseOps3_v26 : after noiseOps3 V (main_v26 : DevRef τ sig) = V (main_v26 : DevRef τ sig) :=
  after_of_writes_sub _ V noiseOps3_writes (by decide)
theorem pass_noiseOps4_v26 : after noiseOps4 V (main_v26 : DevRef τ sig) = V (main_v26 : DevRef τ sig) :=
  after_of_writes_sub _ V noiseOps4_writes (by decide)
theorem pass_noiseOps5_v26 : after noiseOps5 V (main_v26 : DevRef τ sig) = V (main_v26 : DevRef τ sig) :=
  after_of_writes_sub _ V noiseOps5_writes (by decide)
theorem pass_noiseOps6_v26 : after noiseOps6 V (main_v26 : DevRef τ sig) = V (main_v26 : DevRef τ sig) :=
  after_of_writes_sub _ V noiseOps6_writes (by decide)
theorem pass_noiseOps7_v26 : after noiseOps7 V (main_v26 : DevRef τ sig) = V (main_v26 : DevRef τ sig) :=
  after_of_writes_sub _ V noiseOps7_writes (by decide)
theorem pass_noiseOps8_v26 : after noiseOps8 V (main_v26 : DevRef τ sig) = V (main_v26 : DevRef τ sig) :=
  after_of_writes_sub _ V noiseOps8_writes (by decide)
theorem pass_noiseOps9_v26 : after noiseOps9 V (main_v26 : DevRef τ sig) = V (main_v26 : DevRef τ sig) :=
  after_of_writes_sub _ V noiseOps9_writes (by decide)
theorem pass_noiseOps10_v26 : after noiseOps10 V (main_v26 : DevRef τ sig) = V (main_v26 : DevRef τ sig) :=
  after_of_writes_sub _ V noiseOps10_writes (by decide)
theorem pass_noiseOps11_v26 : after noiseOps11 V (main_v26 : DevRef τ sig) = V (main_v26 : DevRef τ sig) :=
  after_of_writes_sub _ V noiseOps11_writes (by decide)

theorem pass_noise : after noiseOps V (main_v26 : DevRef τ sig) = V (main_v26 : DevRef τ sig) := by
  simp only [noiseOps, after_append]
  rw [pass_noiseOps11_v26, pass_noiseOps10_v26, pass_noiseOps9_v26, pass_noiseOps8_v26, pass_noiseOps7_v26, pass_noiseOps6_v26, pass_noiseOps5_v26, pass_noiseOps4_v26, pass_noiseOps3_v26, pass_noiseOps2_v26, pass_noiseOps1_v26, pass_noiseOps0_v26]

/-- The reference's result. -/
theorem result : after ops V (main_v36 : DevRef τ sig)
    = sampled (logits (F := F) (V (main_arg0 : DevRef τ sig)) (V (main_arg1 : DevRef τ sig)) (V (main_arg2 : DevRef τ sig)))
        (V (main_arg3 : DevRef τ sig)) := by
  have e : (ops : List (HloOp τ sig (Elt F))) = logitOps ++ (orderOps ++ (wrapOps ++ (sortedOps ++ (massOps ++ (keepOps ++ (inverseOps
      ++ (wrapBackOps ++ (backOps ++ (keyOps ++ (noiseOps ++ pickOps)))))))))) := rfl
  rw [e, after_append, after_append, after_append, after_append, after_append, after_append, after_append, after_append,
    after_append, after_append, after_append, pickOps_v36, pass_noise, noise, keyOps_v33, pass_keyOps_v26, backOps_v26,
    wrapBackOps_v5, pass_wrapBackOps_v24, inverseOps_v25, pass_inverseOps_v24, keepOps_v24, pass_keepOps_v6, massOps_v18,
    massOps_v19, pass_massOps_v7, pass_massOps_v6, pass_massOps_arg3, pass_sortedOps_arg3, pass_sortedOps_v6, sortedOps_v7,
    wrapOps_v5, pass_wrapOps_v4, pass_wrapOps_v6, pass_wrapOps_arg3, orderOps_v6, pass_orderOps_v4, pass_orderOps_arg3,
    logitOps_v4, logitOps_v5, pass_logitOps_arg3]
  unfold sampled nucleus masked taken
  with_reducible rfl

end Cert.ReferenceIdeal.Run

end
-- ==== Proof.Ideal.Host.lean ====
module

public import proofs.«01_k».proof.Proof.Ideal.Run
public import proofs.«01_k».proof.Proof.Ideal.Noise
public import proofs.«01_k».proof.Proof.Ideal.Logits
public import proofs.«01_k».proof.Proof.Ref.Out
public import Idealize.ShloMosaic.Lib.StackMember
public import Idealize.ShloMosaic.Lib.Pipeline.Value

@[expose] public section

noncomputable section

namespace Cert.KernelIdeal.Run

open Cert.KernelIdeal Cert.KernelIdeal.Gen Cert.Value
open Idealize.ShloMosaic hiding ix1 ix2
open Idealize.ShloMosaic.ValueIdx Idealize.ShloMosaic.TcCoe Idealize.ShloMosaic.StableHlo

/-! # The host's operations around the three regions -/

section Ops
variable {F : FTy → Type} [FloatOps F] (V : Valuation τ sig (Elt F))

/-- One value a row, over the lanes. -/
def lanes (x : S64.Idx → Elt F .f32) : S64x128.Idx → Elt F .f32 :=
  broadcastInDim S64x128 ![0, 1] bcast_S64x1_S64x128_0_1 (broadcastInDim S64x1 ![0] bcast_S64_S64x1_0 x)

theorem lanes_apply (x : S64.Idx → Elt F .f32) (i : Fin 64) (z : Fin 128) : lanes x (ix2 i z) = x (ix1 i) := by
  unfold lanes broadcastInDim
  refine congrArg x (funext fun a => Fin.ext ?_)
  match a with
  | ⟨0, _⟩ => rfl

theorem hostOps0_v1 : after hostOps0 V (main_v1 : DevRef τ sig) = lanes (F := F) (V (main_arg2 : DevRef τ sig)) := by
  after_results
  rfl
theorem hostOps0_v3 : after hostOps0 V (main_v3 : DevRef τ sig) = lanes (F := F) (V (main_arg3 : DevRef τ sig)) := by
  after_results
  rfl
theorem hostOps0_v10 : after hostOps0 V (main_v10 : DevRef τ sig) = Cert.ReferenceIdeal.Run.key (F := F) := by
  after_results
  rfl

/-- The first lane of each row. -/
def firstLane (x : S64x128.Idx → Elt F .i32) : S64.Idx → Elt F .i32 :=
  shapeCast S64 (extractStridedSlice S64x1 ![0, 0] x slices_S64x128_S64x1_0_0) shapeCasts_S64x1_S64

theorem firstLane_apply (x : S64x128.Idx → Elt F .i32) (i : Fin 64) : firstLane x (ix1 i) = x (ix2 i (0 : Fin 128)) := by
  unfold firstLane
  refine (shapeCast_apply _ shapeCasts_S64x1_S64 (ix1 i) (ix2 i (0 : Fin 1)) ?_).trans ?_
  · rw [Shape.rowMajor_val_two]
    simp [Shape.rowMajor_val_one]
  · refine extractStridedSlice_apply _ _ _ _ (ix2 i (0 : Fin 128)) fun a => ?_
    match a with
    | ⟨0, _⟩ => exact (Nat.zero_add _).symm
    | ⟨1, _⟩ => rfl

theorem hostOps3_v16 : after hostOps3 V (main_v16 : DevRef τ sig) = firstLane (F := F) (V (main_v14 : DevRef τ sig)) := by
  after_results
  rfl

end Ops

/-! ## The reference's logits -/

theorem plain_entry {k n : ℕ} (A : (Mat 64 k).Idx → EReal) (B : (Mat n k).Idx → EReal) (D : DotDims (Mat 64 k) (Mat k n) (Mat 64 n))
    (hD : D = DotDims.plain 64 k n) (h : (Mat n k).Transposes [1, 0] (Mat k n)) (i : Fin 64) (j : Fin n) :
    Host.dotGeneral (F := Ideal) (φ₁ := .f32) (φ₂ := .f32) D none A (transpose (Mat k n) [1, 0] B h) (ix2 i j)
      = ∑ l : Fin k, A (ix2 i l) * B (ix2 j l) := by
  subst hD
  refine (StackMember.dotGeneral_plain_apply none A _ i j).trans ?_
  refine Finset.sum_congr rfl fun l _ => congrArg _ ?_
  refine transpose_apply _ B h _ _ fun b => ?_
  match b with
  | ⟨0, _⟩ => rfl
  | ⟨1, _⟩ => rfl

theorem reference_logits (A0 : S64x768.Idx → EReal) (A1 : S100000x768.Idx → EReal) (A2 : S64.Idx → EReal) (i : Fin 64) (k : Fin 100000) :
    Cert.ReferenceIdeal.Run.logits (F := Ideal) A0 A1 A2 (ix2 i k) = logit A0 A1 (fun i => A2 (ix1 i)) i k := by
  unfold Cert.ReferenceIdeal.Run.logits logit
  rw [divf_at, Cert.ReferenceIdeal.Run.rows_apply]
  exact congrArg (fun x => Ideal.div x _) (plain_entry A0 A1 _ rfl _ i k)

end Cert.KernelIdeal.Run

end
-- ==== Proof.Ideal.Threshold.lean ====
module

public import proofs.«01_k».proof.Proof.Ideal.Logits
public import proofs.«01_k».proof.Proof.Ideal.Region1

@[expose] public section

noncomputable section

namespace Cert.KernelIdeal.Run

open Cert.KernelIdeal Cert.KernelIdeal.Gen Cert.Value
open Idealize.ShloMosaic hiding ix1 ix2
open Idealize.ShloMosaic.ValueIdx Idealize.ShloMosaic.TcCoe
open Cert.ReferenceIdeal.Run (bits_bot bits_zero)

/-! # The thresholds, row by row

In a row with real logits the body's bisection is `halve`, run 26 times on the bracket from -30 to 0. -/

theorem bits_low : (FloatOps.ofBits (F := Ideal) .f32 0xC1F00000#32) = ((-30 : ℝ) : EReal) := by
  show Ideal.ofBits .f32 0xC1F00000#32 = _
  simp [Ideal.ofBits, Ideal.ieee, -EReal.coe_mul]; norm_num

theorem bits_half : (FloatOps.ofBits (F := Ideal) .f32 0x3F000000#32) = ((1 / 2 : ℝ) : EReal) := by
  show Ideal.ofBits .f32 0x3F000000#32 = _
  simp [Ideal.ofBits, Ideal.ieee, -EReal.coe_mul]; norm_num

theorem coord1_val {k : ℕ} (hk : k < 49) : (coord1 k 0).val = k := Nat.mod_eq_of_lt hk

theorem tile_at {A : S64x100000.Idx → Elt Ideal .f32} {k : ℕ} {i : Fin 64} {y : Fin 2048} (h : 2048 * k + y.val < 100000) :
    tile A k (ix2 i y) = A (ix2 i ⟨2048 * k + y.val, h⟩) := dif_pos h

variable (A : S64x100000.Idx → Elt Ideal .f32) (R P : S64x128.Idx → Elt Ideal .f32) (i : Fin 64) (L : Fin 100000 → ℝ) (m : ℝ)

theorem ew_at (hA : ∀ j, A (ix2 i j) = (L j : EReal)) (hR : R (ix2 i (0 : Fin 128)) = (m : EReal)) {k : ℕ} (hk : k < 49) (y : Fin 2048) :
    k1_pay1 (F := Ideal) (coord1 k) (col R) (tile A k) (ix2 i y) = ((entry (fun j => Real.exp (L j - m)) 0 (2048 * k) y.val : ℝ) : EReal) := by
  rw [k1_pay1_apply, coord1_val hk]
  have hc := colMask hk y.isLt
  by_cases h : 2048 * k + y.val < 100000
  · refine (sel_pos (hc.mpr h)).trans ?_
    rw [tile_at h, hA, entry_pos h]
    show Ideal.exp ((L _ : EReal) - col R (ix2 i 0)) = _
    rw [col_at, hR, ← EReal.coe_sub]
    rfl
  · refine (sel_neg (mt hc.mp h)).trans ?_
    rw [entry_neg h]
    exact bits_zero

theorem zs_at (hA : ∀ j, A (ix2 i j) = (L j : EReal)) (hR : R (ix2 i (0 : Fin 128)) = (m : EReal)) {k : ℕ} (hk : k ≤ 49) (z : Fin 128) :
    zs (F := Ideal) A R k (ix2 i z) = ((upto (fun j => Real.exp (L j - m)) (2048 * k) : ℝ) : EReal) := by
  induction k with
  | zero =>
    rw [Nat.mul_zero, upto_zero]
    show k1_pay3 (F := Ideal) (ix2 i z) = _
    unfold k1_pay3
    simp only [shapeCast_self]
    exact bits_zero
  | succ k ih =>
    rw [Nat.mul_succ, upto_add, EReal.coe_add, ← ih (by omega), coe_sum]
    show k1_pay4 (F := Ideal) (coord1 k) (col R) (tile A k) (zs A R k) (ix2 i z) = _
    unfold k1_pay4
    simp only [shapeCast_self]
    refine (addf_at _ _ _).trans (congrArg (fun v : EReal => (zs (F := Ideal) A R k (ix2 i z) : EReal) + v) ?_)
    refine (spreadCol (by decide) _ _ i z).trans ((toCol _ _ i 0).trans ((rowSum _ _ _ _ _ i).trans ?_))
    exact Finset.sum_congr rfl fun y _ => ew_at A R i L m hA hR (by omega) y

theorem mid_at (lo hi : S64x1.Idx → Elt Ideal .f32) (a b : ℝ) (hlo : lo (ix2 i 0) = (a : EReal)) (hhi : hi (ix2 i 0) = (b : EReal)) :
    k1_pay7 (F := Ideal) lo hi (ix2 i 0) = (((a + b) / 2 : ℝ) : EReal) := by
  show (FloatOps.ofBits (F := Ideal) .f32 0x3F000000#32 : EReal) * (lo (ix2 i 0) + hi (ix2 i 0) : EReal) = _
  rw [hlo, hhi, bits_half, ← EReal.coe_add, ← EReal.coe_mul]
  congr 1; ring

theorem massSt_at (hA : ∀ j, A (ix2 i j) = (L j : EReal)) (hR : R (ix2 i (0 : Fin 128)) = (m : EReal))
    (lo hi : S64x1.Idx → Elt Ideal .f32) (a b : ℝ) (hlo : lo (ix2 i 0) = (a : EReal)) (hhi : hi (ix2 i 0) = (b : EReal)) {k : ℕ} (hk : k ≤ 49) :
    massSt (F := Ideal) (ew A R) lo hi k (ix2 i 0)
      = ((upto (fun j => if Real.exp ((a + b) / 2) < Real.exp (L j - m) then Real.exp (L j - m) else 0) (2048 * k) : ℝ) : EReal) := by
  induction k with
  | zero =>
    rw [Nat.mul_zero, upto_zero]
    exact bits_zero
  | succ k ih =>
    rw [Nat.mul_succ, upto_add, EReal.coe_add, ← ih (by omega), coe_sum]
    show k1_pay9 (F := Ideal) lo hi (massSt (ew A R) lo hi k) (ew A R k) (ix2 i 0) = _
    unfold k1_pay9
    refine (addf_at _ _ _).trans (congrArg (fun v : EReal => (massSt (F := Ideal) (ew A R) lo hi k (ix2 i 0) : EReal) + v) ?_)
    refine (toCol _ _ i 0).trans ((rowSum _ _ _ _ _ i).trans (Finset.sum_congr rfl fun y _ => ?_))
    have ew' : ew (F := Ideal) A R k (ix2 i y) = ((entry (fun j => Real.exp (L j - m)) 0 (2048 * k) y.val : ℝ) : EReal) := by
      show k1_pay2 (F := Ideal) (coord1 k) (col R) (tile A k) (ix2 i y) = _
      unfold k1_pay2
      simp only [shapeCast_self]
      exact ew_at A R i L m hA hR (by omega) y
    have em : (broadcastTo S64x2048 (exp (k1_pay7 (F := Ideal) lo hi)) broadcasts_S64x1_S64x2048) (ix2 i y) = ((Real.exp ((a + b) / 2) : ℝ) : EReal) := by
      refine (spreadCol (by decide) _ _ i y).trans ?_
      show Ideal.exp (k1_pay7 (F := Ideal) lo hi (ix2 i 0)) = _
      rw [mid_at i lo hi a b hlo hhi]
      rfl
    refine (ValueIdx.select_apply _ _ _ _).trans ?_
    rw [cmpf_at, em, ew', cmp_ogt]
    show Scalar.select _ _ (FloatOps.ofBits (F := Ideal) .f32 0x00000000#32) = _
    rw [bits_zero, WordCmp.select_ofBool]
    simp only [decide_eq_true_eq]
    by_cases h : 2048 * k + y.val < 100000
    · rw [entry_pos h, entry_pos h]
      by_cases h' : Real.exp ((a + b) / 2) < Real.exp (L ⟨2048 * k + y.val, h⟩ - m)
      · rw [if_pos h', if_pos (EReal.coe_lt_coe_iff.mpr h')]
      · rw [if_neg h', if_neg (fun e => h' (EReal.coe_lt_coe_iff.mp e))]; rfl
    · rw [entry_neg h, entry_neg h]
      exact ite_self _

theorem bisSt_at (hA : ∀ j, A (ix2 i j) = (L j : EReal)) (hR : R (ix2 i (0 : Fin 128)) = (m : EReal))
    (z p : S64x1.Idx → Elt Ideal .f32) (tau : EReal) (ht : (p (ix2 i 0) * z (ix2 i 0) : EReal) = tau) (n : ℕ) :
    (bisSt (F := Ideal) (ew A R) z p n).1 (ix2 i 0) = ((((halve L m tau)^[n] (-30, 0)).1 : ℝ) : EReal)
      ∧ (bisSt (F := Ideal) (ew A R) z p n).2 (ix2 i 0) = ((((halve L m tau)^[n] (-30, 0)).2 : ℝ) : EReal) := by
  induction n with
  | zero => exact ⟨bits_low, bits_zero⟩
  | succ n ih =>
    obtain ⟨h1, h2⟩ := ih
    rw [Function.iterate_succ_apply']
    generalize (halve L m tau)^[n] (-30, 0) = q at h1 h2 ⊢
    have hm := mid_at i _ _ q.1 q.2 h1 h2
    have hmass := massSt_at A R i L m hA hR _ _ q.1 q.2 h1 h2 (le_refl 49)
    rw [upto_all _ (by decide)] at hmass
    have hc : k1_pay10 (F := Ideal) z p (massSt (ew A R) (bisSt (ew A R) z p n).1 (bisSt (ew A R) z p n).2 49) (ix2 i 0)
        = BitVec.ofBool (decide ((above L m ((q.1 + q.2) / 2) : EReal) ≤ tau)) := by
      unfold k1_pay10
      simp only [shapeCast_self]
      rw [cmpf_at, hmass, mulf_at, ht]
      rfl
    constructor
    · refine (ValueIdx.select_apply _ _ _ _).trans ?_
      rw [hc, WordCmp.select_ofBool, hm, h1]
      simp only [decide_eq_true_eq]
      unfold halve
      by_cases h : (above L m ((q.1 + q.2) / 2) : EReal) ≤ tau
      · rw [if_pos h, if_pos h]
      · rw [if_neg h, if_neg h]
    · refine (ValueIdx.select_apply _ _ _ _).trans ?_
      rw [hc, WordCmp.select_ofBool, hm, h2]
      simp only [decide_eq_true_eq]
      unfold halve
      by_cases h : (above L m ((q.1 + q.2) / 2) : EReal) ≤ tau
      · rw [if_pos h, if_pos h]
      · rw [if_neg h, if_neg h]

/-- The threshold of a row. -/
theorem chi_at (hA : ∀ j, A (ix2 i j) = (L j : EReal)) (hR : R (ix2 i (0 : Fin 128)) = (m : EReal)) (tau : EReal)
    (ht : (P (ix2 i (0 : Fin 128)) : EReal) * ((∑ j, Real.exp (L j - m) : ℝ) : EReal) = tau) (y : Fin 128) :
    chi (F := Ideal) A R P (ix2 i y) = ((Real.exp ((halve L m tau)^[26] (-30, 0)).2 : ℝ) : EReal) := by
  unfold chi k1_pay13
  simp only [shapeCast_self]
  refine (spreadCol (by decide) _ _ i y).trans ?_
  have hz : (col P (ix2 i 0) * col (zs (F := Ideal) A R 49) (ix2 i 0) : EReal) = tau := by
    rw [col_at, col_at, zs_at A R i L m hA hR (le_refl 49), upto_all _ (by decide)]
    exact ht
  show Ideal.exp ((bisSt (F := Ideal) (ew A R) (col (zs A R 49)) (col P) 26).2 (ix2 i 0)) = _
  rw [(bisSt_at A R i L m hA hR _ _ tau hz 26).2]
  rfl

end Cert.KernelIdeal.Run

end
-- ==== Proof.Ideal.Sample.lean ====
module

public import proofs.«01_k».proof.Proof.Ideal.Threshold
public import proofs.«01_k».proof.Proof.Ideal.Region2

@[expose] public section

noncomputable section

namespace Cert.KernelIdeal.Run

open Cert.KernelIdeal Cert.KernelIdeal.Gen Cert.Value
open Idealize.ShloMosaic hiding ix1 ix2
open Idealize.ShloMosaic.ValueIdx Idealize.ShloMosaic.TcCoe
open Cert.ReferenceIdeal.Run (bits_bot bits_zero)

/-! # The tokens, row by row

In a row with real logits the body's running comparison finds the first column with the largest noisy logit among those the
threshold keeps. -/

theorem coord2_val {k : ℕ} (hk : k < 49) : (coord2 k 0).val = k := Nat.mod_eq_of_lt hk

variable (A G : S64x100000.Idx → Elt Ideal .f32) (R X : S64x128.Idx → Elt Ideal .f32) (i : Fin 64) (L : Fin 100000 → ℝ) (g : Fin 100000 → EReal) (m d : ℝ)

/-- The masked noisy logits of tile `k`. -/
abbrev noisy (k : ℕ) : S64x2048.Idx → Elt Ideal .f32 := k2_pay4 (F := Ideal) (coord2 k) (tile A k) (col R) (col X) (tile G k)

/-- Their row maxima. -/
abbrev peak (k : ℕ) : S64x1.Idx → Elt Ideal .f32 := k2_pay7 (F := Ideal) (coord2 k) (tile A k) (col R) (col X) (tile G k)

theorem noisy_at (hA : ∀ j, A (ix2 i j) = (L j : EReal)) (hG : ∀ j, G (ix2 i j) = g j) (hR : R (ix2 i (0 : Fin 128)) = (m : EReal))
    (hX : X (ix2 i (0 : Fin 128)) = ((Real.exp d : ℝ) : EReal)) {k : ℕ} (hk : k < 49) (y : Fin 2048) :
    noisy A G R X k (ix2 i y) = entry (score (fun j => d ≤ L j - m) L g) ⊥ (2048 * k) y.val := by
  unfold noisy
  rw [k2_pay4_apply, coord2_val hk]
  have hc := colMask hk y.isLt
  by_cases h : 2048 * k + y.val < 100000
  · rw [tile_at h, tile_at h, hA, hG, entry_pos h]
    unfold score
    have e : FloatOps.cmpf (F := Ideal) (φ := .f32) .oge (FloatOps.exp (FloatOps.subf (L ⟨2048 * k + y.val, h⟩ : EReal) (col R (ix2 i (0 : Fin 1))))) (col X (ix2 i (0 : Fin 1)))
        = BitVec.ofBool (decide (d ≤ L ⟨2048 * k + y.val, h⟩ - m)) := by
      show Ideal.cmp .oge (Ideal.exp ((L ⟨2048 * k + y.val, h⟩ : EReal) - col R (ix2 i (0 : Fin 1)))) (col X (ix2 i (0 : Fin 1))) = _
      rw [col_at, col_at, hR, hX, ← EReal.coe_sub, cmp_oge]
      congr 1
      refine decide_eq_decide.mpr ?_
      show ((Real.exp d : ℝ) : EReal) ≤ ((Real.exp _ : ℝ) : EReal) ↔ _
      rw [EReal.coe_le_coe_iff, Real.exp_le_exp]
    by_cases hd : d ≤ L ⟨2048 * k + y.val, h⟩ - m
    · rw [if_pos hd]
      refine sel_pos (IntOp.andi_eq_one.mpr ⟨e.trans ?_, hc.mpr h⟩)
      rw [decide_eq_true hd]; rfl
    · rw [if_neg hd]
      refine (sel_neg fun h' => hd ?_).trans bits_bot
      have h'' := e.symm.trans (IntOp.andi_eq_one.mp h').1
      by_contra hn
      rw [decide_eq_false hn] at h''
      exact absurd h'' (by decide)
  · rw [entry_neg h]
    exact (sel_neg fun h' => mt hc.mp h (IntOp.andi_eq_one.mp h').2).trans bits_bot

theorem peak_at {k : ℕ} (i : Fin 64) :
    peak A G R X k (ix2 i 0) = ((Finset.univ : Finset (Fin 2048)).fold max ⊥ fun y => noisy A G R X k (ix2 i y) : EReal) := by
  unfold peak k2_pay7
  exact (toCol _ _ i 0).trans (rowMax _ _ _ _ _ bits_bot i)

/-- The column a tile offers is the first of its largest entries. -/
theorem offered_at {k : ℕ} (hk : k < 49) (y : Fin 2048) (hy : peak A G R X k (ix2 i 0) = noisy A G R X k (ix2 i y))
    (hf : ∀ y', y' < y → (noisy A G R X k (ix2 i y') : EReal) < noisy A G R X k (ix2 i y)) :
    k2_pay8 (F := Ideal) (coord2 k) (tile A k) (col R) (col X) (tile G k) (ix2 i 0) = BitVec.ofNat 32 (2048 * k + y.val) := by
  unfold k2_pay8
  refine (toCol _ _ i 0).trans ((rowMin _ _ _ _ i).trans ?_)
  refine fold_first (by omega) _ (fun y' => (noisy A G R X k (ix2 i y') : EReal) = peak A G R X k (ix2 i 0)) (fun y' => ?_) y hy.symm fun y' hlt e => ?_
  · refine (ValueIdx.select_apply _ _ _ _).trans ?_
    rw [cmpf_at, k2_pay3_apply, coord2_val hk, cmp_oeq]
    have e : (broadcastTo S64x2048 (peak A G R X k) broadcasts_S64x1_S64x2048) (ix2 i y') = peak A G R X k (ix2 i 0) := spreadCol (by decide) _ _ i y'
    rw [e, WordCmp.select_ofBool]
    simp only [decide_eq_true_eq]
    rfl
  · exact absurd (e.trans hy) (hf y' hlt).ne

theorem k2_pay1_at (c : IVec S64x1 1) (a b : S64x128.Idx → Elt Ideal .f32) (i : Fin 64) (z : Fin 128) :
    k2_pay1 (F := Ideal) c a b (ix2 i z) = Scalar.select (c (ix2 i 0)) (a (ix2 i z)) (b (ix2 i z)) := by
  unfold k2_pay1
  simp only [shapeCast_self]
  refine (ValueIdx.select_apply _ _ _ _).trans ?_
  rw [spreadCol (R := 64) (C := 128) (by decide) c]

theorem k2_pay2_at (w : IVec S64x1 32) (c : IVec S64x1 1) (b : S64x128.Idx → Elt Ideal .i32) (i : Fin 64) (z : Fin 128) :
    k2_pay2 (F := Ideal) w c b (ix2 i z) = Scalar.select (c (ix2 i 0)) (w (ix2 i 0)) (b (ix2 i z)) := by
  unfold k2_pay2
  simp only [shapeCast_self]
  refine (ValueIdx.select_apply _ _ _ _).trans ?_
  rw [spreadCol (R := 64) (C := 128) (by decide) c, spreadCol (R := 64) (C := 128) (by decide) w]

theorem best_one (k : ℕ) : (best (F := Ideal) A G R X (k + 1)).1
    = k2_pay1 (F := Ideal) (k2_pay9 (coord2 k) (tile A k) (col R) (col X) (tile G k) (col (best A G R X k).1)) (k2_pay10 (coord2 k) (tile A k) (col R) (col X) (tile G k)) (best A G R X k).1 := by
  rw [best]

theorem best_two (k : ℕ) : (best (F := Ideal) A G R X (k + 1)).2
    = k2_pay2 (F := Ideal) (k2_pay8 (coord2 k) (tile A k) (col R) (col X) (tile G k)) (k2_pay9 (coord2 k) (tile A k) (col R) (col X) (tile G k) (col (best A G R X k).1)) (best A G R X k).2 := by
  rw [best]

theorem k2_pay10_at (k : ℕ) (z : Fin 128) : k2_pay10 (F := Ideal) (coord2 k) (tile A k) (col R) (col X) (tile G k) (ix2 i z) = peak A G R X k (ix2 i 0) := by
  unfold k2_pay10
  simp only [shapeCast_self]
  exact spreadCol (R := 64) (C := 128) (by decide) _ _ i z

theorem best_succ (k : ℕ) :
    (best (F := Ideal) A G R X (k + 1)).1 (ix2 i (0 : Fin 128))
        = (if (best (F := Ideal) A G R X k).1 (ix2 i (0 : Fin 128)) < (peak A G R X k (ix2 i 0) : EReal) then peak A G R X k (ix2 i 0)
            else (best (F := Ideal) A G R X k).1 (ix2 i (0 : Fin 128)))
      ∧ (best (F := Ideal) A G R X (k + 1)).2 (ix2 i (0 : Fin 128))
        = (if (best (F := Ideal) A G R X k).1 (ix2 i (0 : Fin 128)) < (peak A G R X k (ix2 i 0) : EReal)
            then k2_pay8 (F := Ideal) (coord2 k) (tile A k) (col R) (col X) (tile G k) (ix2 i 0) else (best (F := Ideal) A G R X k).2 (ix2 i (0 : Fin 128))) := by
  have hc : k2_pay9 (F := Ideal) (coord2 k) (tile A k) (col R) (col X) (tile G k) (col (best (F := Ideal) A G R X k).1) (ix2 i 0)
      = BitVec.ofBool (decide ((best (F := Ideal) A G R X k).1 (ix2 i (0 : Fin 128)) < (peak A G R X k (ix2 i 0) : EReal))) := by
    unfold k2_pay9
    rw [cmpf_at, cmp_ogt, col_at]
  constructor
  · rw [best_one, k2_pay1_at, hc, WordCmp.select_ofBool, k2_pay10_at]
    simp only [decide_eq_true_eq]
  · rw [best_two, k2_pay2_at, hc, WordCmp.select_ofBool]
    simp only [decide_eq_true_eq]

theorem best_at (hA : ∀ j, A (ix2 i j) = (L j : EReal)) (hG : ∀ j, G (ix2 i j) = g j) (hR : R (ix2 i (0 : Fin 128)) = (m : EReal))
    (hX : X (ix2 i (0 : Fin 128)) = ((Real.exp d : ℝ) : EReal)) {k : ℕ} (hk : k ≤ 49) :
    ∃ s : ℕ, (best (F := Ideal) A G R X k).2 (ix2 i (0 : Fin 128)) = BitVec.ofNat 32 s
      ∧ Leads (score (fun j => d ≤ L j - m) L g) (2048 * k) ((best (F := Ideal) A G R X k).1 (ix2 i (0 : Fin 128))) s := by
  induction k with
  | zero =>
    have h1 : (best (F := Ideal) A G R X 0).1 (ix2 i (0 : Fin 128)) = (⊥ : EReal) := by
      show k2_pay5 (F := Ideal) (ix2 i (0 : Fin 128)) = _
      unfold k2_pay5
      simp only [shapeCast_self]
      exact bits_bot
    have h2 : (best (F := Ideal) A G R X 0).2 (ix2 i (0 : Fin 128)) = BitVec.ofNat 32 0 := by
      show k2_pay6 (ix2 i (0 : Fin 128)) = _
      unfold k2_pay6
      simp only [shapeCast_self]
      rfl
    refine ⟨0, h2, ?_⟩
    rw [h1]; exact leads_zero _
  | succ k ih =>
    obtain ⟨s, hs, hl⟩ := ih (by omega)
    obtain ⟨e1, e2⟩ := best_succ A G R X i k
    have hn := noisy_at A G R X i L g m d hA hG hR hX (show k < 49 by omega)
    obtain ⟨y, hy, hf, hp⟩ := exists_first fun y : Fin 2048 => (noisy A G R X k (ix2 i y) : EReal)
    have hpk := (peak_at A G R X (k := k) i).trans hp
    rw [e1, e2, Nat.mul_succ]
    by_cases h : (best (F := Ideal) A G R X k).1 (ix2 i (0 : Fin 128)) < (peak A G R X k (ix2 i 0) : EReal)
    · rw [if_pos h, if_pos h, offered_at A G R X i (by omega) y hpk hf]
      refine ⟨_, rfl, ?_⟩
      rw [hpk] at h ⊢
      simp only [hn] at h hy hf ⊢
      exact leads_take hl h hy hf
    · rw [if_neg h, if_neg h]
      refine ⟨s, hs, leads_stay (b := 2048) hl fun y' => ?_⟩
      rw [← hn y']
      exact ((hy y').trans hpk.ge).trans (not_lt.mp h)

/-- The token of a row. -/
theorem drawn_at (hA : ∀ j, A (ix2 i j) = (L j : EReal)) (hG : ∀ j, G (ix2 i j) = g j) (hR : R (ix2 i (0 : Fin 128)) = (m : EReal))
    (hX : X (ix2 i (0 : Fin 128)) = ((Real.exp d : ℝ) : EReal)) :
    ∃ s : Fin 100000, (best (F := Ideal) A G R X 49).2 (ix2 i (0 : Fin 128)) = BitVec.ofNat 32 s.val
      ∧ FirstMax (score (fun j => d ≤ L j - m) L g) s := by
  obtain ⟨s, hs, hl⟩ := best_at A G R X i L g m d hA hG hR hX (le_refl 49)
  obtain ⟨t, rfl, ht⟩ := leads_all (by decide) hl
  exact ⟨t, hs, ht⟩

end Cert.KernelIdeal.Run

end
-- ==== Proof.Ref.Nucleus.lean ====
module

public import proofs.«01_k».proof.Proof.Ref.Decode
public import proofs.«01_k».proof.Proof.Value.At

@[expose] public section

noncomputable section

namespace Cert.ReferenceIdeal.Run

open Cert.ReferenceIdeal Cert.ReferenceIdeal.Gen Cert.Value
open Idealize.ShloMosaic Idealize.ShloMosaic.ValueIdx

/-! # The reference's nucleus and its pick over the extended reals -/

theorem fill_apply (v : BitVec 32) (i : S64x100000.Idx) :
    (broadcastInDim S64x100000 ![] bcast_S_S64x100000 (constant S_ .f32 v) : FVec Ideal S64x100000 .f32) i
      = FloatOps.ofBits (F := Ideal) .f32 v := bcast_at _ _ _ _ (fun _ => rfl) _

theorem expo_apply (X : FArr Ideal) (i : Fin 64) (L : Fin 100000 → ℝ) (hX : ∀ k, X (ix2 i k) = (L k : EReal)) (q : Fin 100000) :
    expo X (ix2 i q) = ((Real.exp (L q - top L) : ℝ) : EReal) := by
  unfold expo
  rw [exp_at, subf_at, rows_apply, maximumf_at, hostMax_row L X _ reducesTo_S64x100000_S64_d1 h_S_ i hX bits_bot, hX,
    bcast_at ![] bcast_S_S64 (constant S_ .f32 0xFF800000#32 : FVec Ideal S_ .f32) (⊥ : EReal) (fun _ => bits_bot), max_eq_right bot_le,
    ← EReal.coe_sub]
  rfl

theorem shares_apply (X : FArr Ideal) (i : Fin 64) (L : Fin 100000 → ℝ) (hX : ∀ k, X (ix2 i k) = (L k : EReal)) (q : Fin 100000) :
    shares X (ix2 i q) = ((Real.exp (L q - top L) / mass L : ℝ) : EReal) := by
  unfold shares
  rw [divf_at, rows_apply, hostSum_row' (fun k => Real.exp (L k - top L)) (expo X) _ reducesTo_S64x100000_S64_d1 h_S_ i
    (expo_apply X i L hX) bits_zero, expo_apply X i L hX]
  have hm := (mass_pos L).ne'
  generalize Real.exp (L q - top L) = e
  change Ideal.div (e : EReal) ((mass L : ℝ) : EReal) = _
  generalize mass L = Z at hm ⊢
  rw [Ideal.div, if_neg (by rw [← EReal.coe_zero, EReal.coe_eq_coe_iff]; exact hm), ← EReal.coe_inv, ← EReal.coe_mul, div_eq_mul_inv]

theorem before_apply (X : FArr Ideal) (i : Fin 64) (L : Fin 100000 → ℝ) (σ : Equiv.Perm (Fin 100000))
    (hX : ∀ q, X (ix2 i q) = (L (σ q) : EReal)) (r : Fin 100000) :
    subf (running (shares X)) (shares X) (ix2 i r) = (before L (top L) (mass L) σ r : EReal) := by
  have hq : ∀ q, shares X (ix2 i q) = (share L (top L) (mass L) σ q : EReal) := by
    intro q
    rw [shares_apply X i (fun q => L (σ q)) hX, top_perm, mass_perm, share]
  have hr : running (shares X) (ix2 i r) = ((∑ q, if q ≤ r then share L (top L) (mass L) σ q else 0 : ℝ) : EReal) := by
    unfold running
    exact hostRunning_row' (by norm_num) (share L (top L) (mass L) σ) (shares X) _ _ _ bits_zero i hq r
  rw [subf_at, hr, hq, ← EReal.coe_sub, before]

theorem masked_apply (X : FArr Ideal) (A3 : S64.Idx → Elt Ideal .f32) (i : Fin 64) (L : Fin 100000 → ℝ)
    (σ : Equiv.Perm (Fin 100000)) (hX : ∀ q, X (ix2 i q) = (L (σ q) : EReal)) (r : Fin 100000) :
    masked X A3 (ix2 i r)
      = if (before L (top L) (mass L) σ r : EReal) ≤ A3 (ix1 i) then (L (σ r) : EReal) else ⊥ := by
  unfold masked
  rw [select_apply, cmpf_at, before_apply X i L σ hX, rows_apply, fill_apply, bits_bot, hX, cmp_ogt]
  by_cases h : (before L (top L) (mass L) σ r : EReal) ≤ A3 (ix1 i)
  · rw [if_pos h, decide_eq_false (not_lt.mpr h)]; exact select_zero _ _
  · rw [if_neg h, decide_eq_true (not_le.mp h)]; exact select_one _ _

/-- The order of a row's columns by falling logit. -/
def falling (L : Fin 100000 → ℝ) : Equiv.Perm (Fin 100000) := perm (fun k k' => decide (-L k < -L k'))

/-- The tokens the reference keeps in a row. -/
abbrev kept (L : Fin 100000 → ℝ) (tp : EReal) : Fin 100000 → Prop := Kept L (top L) (mass L) (falling L) tp

theorem nucleus_apply (X : FArr Ideal) (A3 : S64.Idx → Elt Ideal .f32) (L : Fin 64 → Fin 100000 → ℝ)
    (hX : ∀ i k, X (ix2 i k) = (L i k : EReal)) (i : Fin 64) (j : Fin 100000) :
    nucleus X A3 (ix2 i j) = if kept (L i) (A3 (ix1 i)) j then (L i j : EReal) else ⊥ := by
  have ho : ∀ i q, order (F := Ideal) (Host.negf (F := Ideal) (s := S64x100000) (φ := .f32) X) (ix2 i q)
      = BitVec.ofNat 32 (falling (L i) q).val := fun i q => order_apply X L hX i q
  have hv : ∀ i k, inverse (F := Ideal) (order (F := Ideal) (Host.negf (F := Ideal) (s := S64x100000) (φ := .f32) X)) (ix2 i k) = BitVec.ofNat 32 ((falling (L i)).symm k).val :=
    fun i k => inverse_apply _ i _ (ho i) k
  unfold nucleus
  rw [taken_apply _ _ (fun i q => ⟨_, hv i q⟩) i j _ (hv i j),
    masked_apply _ A3 i (L i) (falling (L i)) (fun q => (taken_apply X _ (fun i q => ⟨_, ho i q⟩) i q _ (ho i q)).trans (hX _ _)),
    Equiv.apply_symm_apply]
  exact if_congr Iff.rfl rfl rfl

theorem picks_argmax : Picks (reducer_argmax_f32_i32 (F := Ideal)) := by
  intro a b s k hs hk
  have e : reducer_argmax_f32_i32 (F := Ideal) (a, BitVec.ofNat 32 s) (b, BitVec.ofNat 32 k)
      = (Scalar.select (IntOp.ori (Ideal.cmp .ogt a b) (Ideal.cmp .une a a)) a b,
         Scalar.select (IntOp.ori (IntOp.ori (Ideal.cmp .ogt a b) (Ideal.cmp .une a a))
          (IntOp.andi (Ideal.cmp .oeq a b) (IntOp.cmpi .slt (BitVec.ofNat 32 s) (BitVec.ofNat 32 k)))) (BitVec.ofNat 32 s) (BitVec.ofNat 32 k)) := rfl
  rw [e, WordCmp.cmpi_slt_ofNat hs hk]
  have h1 : Ideal.cmp .ogt a b = BitVec.ofBool (decide (b < a)) := rfl
  have h2 : Ideal.cmp .une a a = BitVec.ofBool false := by simp [Ideal.cmp]
  have h3 : Ideal.cmp .oeq a b = BitVec.ofBool (decide (a = b)) := rfl
  rw [h1, h2, h3]
  by_cases c1 : b < a
  · have hne : a ≠ b := c1.ne'
    rw [decide_eq_true c1, decide_eq_false hne, max_eq_left c1.le, if_pos (Or.inl c1)]
    by_cases c3 : s < k
    · rw [decide_eq_true c3]; rfl
    · rw [decide_eq_false c3]; rfl
  · rw [decide_eq_false c1, max_eq_right (not_lt.mp c1)]
    by_cases c2 : a = b
    · by_cases c3 : s < k
      · rw [decide_eq_true c2, decide_eq_true c3, if_pos (Or.inr ⟨c2, c3⟩)]; rfl
      · rw [decide_eq_true c2, decide_eq_false c3, if_neg (by rintro (h | h); exacts [c1 h, c3 h.2])]; rfl
    · rw [decide_eq_false c2, if_neg (by rintro (h | h); exacts [c1 h, c2 h.1])]
      by_cases c3 : s < k
      · rw [decide_eq_true c3]; rfl
      · rw [decide_eq_false c3]; rfl

theorem iota_apply (i : Fin 64) (k : Fin 100000) : (iotaInDim S64x100000 32 1) (ix2 i k) = BitVec.ofNat 32 k.val := rfl

theorem firstMax_def {F : FTy → Type} [FloatOps F] (X : FArr F) : firstMax X = fun j =>
    (Host.argReduce reducer_argmax_f32_i32 X (iotaInDim S64x100000 32 1) (constant S_ .f32 0xFF800000#32) (constantI S_ 32 0#32)
      reducesTo_S64x100000_S64_d1 h_S_ j).2 := rfl

theorem firstMax_apply (X : FArr Ideal) (i : Fin 64) :
    ∃ s : Fin 100000, firstMax X (ix1 i) = BitVec.ofNat 32 s.val ∧ FirstMax (fun k => (X (ix2 i k) : EReal)) s := by
  have hC : 100000 ≤ 2147483648 := by norm_num
  have h0 : (constantI S_ 32 0#32 : IVec S_ 32) (Shape.Idx.first h_S_) = 0#32 := rfl
  obtain ⟨s, h1, h2⟩ := argFirst_row (R := 64) (C := 100000) (u := S_) hC picks_argmax X (iotaInDim S64x100000 32 1) iota_apply
    (constant S_ .f32 0xFF800000#32) (constantI S_ 32 0#32) reducesTo_S64x100000_S64_d1 h_S_ bits_bot h0 i
  exact ⟨s, (congrFun (firstMax_def X) (ix1 i)).trans h1, h2⟩

end Cert.ReferenceIdeal.Run

end
-- ==== Proof.Ref.Pre.lean ====
module

public import proofs.«01_k».proof.Proof.Ref.Out

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable [Cert.Pre_resolved.Facts] {F : FTy → Type} [FloatOps F]

/-! # The precondition, of the reference's stages -/

theorem pre_argsort (X : FArr F) : Cert.Pre_resolved.fn_argsort (F := F) X = order X := rfl
theorem pre_argsort_1 (I : IArr F) : Cert.Pre_resolved.fn_argsort_1 (F := F) I = inverse (F := F) I := rfl
theorem pre_argmax (X : FArr F) : Cert.Pre_resolved.fn_argmax (F := F) X = firstMax X := rfl
theorem pre_cumsum (X : FArr F) : Cert.Pre_resolved.fn_cumsum (F := F) X = running X := rfl
theorem pre_take (X : FArr F) (I : IArr F) : Cert.Pre_resolved.fn_take_along_axis (F := F) X I = taken X I := by
  unfold Cert.Pre_resolved.fn_take_along_axis taken inside
  congr 1

theorem pre_part1 (A3 : S64.Idx → Elt F .f32) (X T : FArr F) (I : IArr F) :
    Cert.Pre_resolved.fn_part1 (F := F) A3 X I T (subf (running (shares T)) (shares T))
      = Cert.Pre_resolved.fn_part2 (F := F) A3 X
          (firstMax (addf (Cert.Pre_resolved.fn_gumbel (F := F) (key (F := F))) (taken (masked T A3) (inverse I))))
          (cmpf .ogt (taken (masked T A3) (inverse I)) (broadcastInDim S64x100000 ![] bcast_S_S64x100000 (constant S_ .f32 0xFF800000#32)))
          (constant S_ .f32 0x7F800000#32) := by
  unfold Cert.Pre_resolved.fn_part1
  simp only [pre_argsort_1, pre_take, pre_argmax]
  congr 1

theorem pre_eq (A0 : S64x768.Idx → Elt F .f32) (A1 : S100000x768.Idx → Elt F .f32) (A2 A3 : S64.Idx → Elt F .f32) :
    Cert.Pre_resolved.fn (F := F) A0 A1 A2 A3
      = Cert.Pre_resolved.fn_part2 (F := F) A3 (logits A0 A1 A2) (sampled (logits A0 A1 A2) A3)
          (cmpf .ogt (nucleus (logits A0 A1 A2) A3) (broadcastInDim S64x100000 ![] bcast_S_S64x100000 (constant S_ .f32 0xFF800000#32)))
          (constant S_ .f32 0x7F800000#32) := by
  unfold sampled nucleus
  rw [← pre_part1]
  unfold Cert.Pre_resolved.fn
  simp only [pre_argsort, pre_take, pre_cumsum]
  congr 1

end Cert.ReferenceIdeal.Run

end
-- ==== Proof.Ref.Resolved.lean ====
module

public import proofs.«01_k».proof.Proof.Ref.Nucleus
public import proofs.«01_k».proof.Proof.Ref.Pre
public import proofs.«01_k».proof.Proof.Value.At

@[expose] public section

noncomputable section

namespace Cert.ReferenceIdeal.Resolved

open Cert.Pre_resolved Cert.Pre_resolved.Facts Cert.Value
open Cert.ReferenceIdeal.Run (bits_bot bits_top bits_zero bits_thirty bits_gap)
open Idealize.ShloMosaic Idealize.ShloMosaic.ValueIdx

variable [Cert.Pre_resolved.Facts]

/-! # What the precondition says of a row -/

abbrev BArr := IVec S64x100000 1

/-- A value a row, kept as a column, over the row's columns. -/
def spread (x : FVec Ideal S64x1 .f32) : FVec Ideal S64x100000 .f32 := broadcastInDim S64x100000 ![0, 1] bcast_S64x1_S64x100000_0_1 x
def column {α : Type} (x : S64.Idx → α) : S64x1.Idx → α := broadcastInDim S64x1 ![0] bcast_S64_S64x1_0 x
def each (v : BitVec 32) : FVec Ideal S64x1 .f32 := broadcastInDim S64x1 ![] bcast_S_S64x1 (constant S_ .f32 v)

/-- The smallest logit kept. -/
def least (X : FVec Ideal S64x100000 .f32) (K : BArr) : FVec Ideal S64 .f32 :=
  Host.reduce FloatOps.minimumf (select K X (broadcastInDim S64x100000 ![] bcast_S_S64x100000 (constant S_ .f32 0x7F800000#32)))
    (constant S_ .f32 0x7F800000#32) reducesTo_S64x100000_S64_d1 h_S_

/-- The largest logit. -/
def largest (X : FVec Ideal S64x100000 .f32) : FVec Ideal S64 .f32 :=
  Host.reduce FloatOps.maximumf X (constant S_ .f32 0xFF800000#32) reducesTo_S64x100000_S64_d1 h_S_

/-- The columns clear of the threshold. -/
def clear (X : FVec Ideal S64x100000 .f32) (K : BArr) : BArr :=
  ori (cmpf .oeq X (spread (column (largest X))))
    (cmpf .oge X (spread (addf (maximumf (column (least X K)) (subf (column (largest X)) (each 0x41F00000#32))) (each 0x34F00000#32))))

/-- The column drawn. -/
def drawn (ids : IVec S64 32) : BArr :=
  cmpi .eq (iotaInDim S64x100000 32 1)
    (broadcastInDim S64x100000 ![0, 1] bcast_S64x1_S64x100000_0_1 (column ids))

theorem part2_eq (A3 : FVec Ideal S64 .f32) (X : FVec Ideal S64x100000 .f32) (ids : IVec S64 32) (K : BArr) :
    fn_part2 (F := Ideal) A3 X ids K (constant S_ .f32 0x7F800000#32)
      = andi (andi (andi
          (Host.reduce IntOp.andi (cmpf .olt (Host.absf X) (broadcastInDim S64x100000 ![] bcast_S_S64x100000 (constant S_ .f32 0x7F800000#32)))
            (constantI S_ 1 1#1) reducesTo_S64x100000_S_d0_1 h_S_)
          (Host.reduce IntOp.andi (cmpf .oge A3 (broadcastInDim S64 ![] bcast_S_S64 (constant S_ .f32 0x00000000#32)))
            (constantI S_ 1 1#1) reducesTo_S64_S_d0 h_S_))
          (Host.reduce IntOp.andi (ori K (cmpf .olt X (spread (column (least X K))))) (constantI S_ 1 1#1) reducesTo_S64x100000_S_d0_1 h_S_))
          (Host.reduce IntOp.andi (Host.reduce IntOp.ori (andi (drawn ids) (clear X K)) (constantI S_ 1 0#1) reducesTo_S64x100000_S64_d1 h_S_)
            (constantI S_ 1 1#1) reducesTo_S64_S_d0 h_S_) := rfl

instance : Subsingleton S_.Idx := ⟨fun a b => funext fun k => k.elim0⟩

/-- The precondition's conjuncts, entry by entry. -/
theorem part2_one (A3 : FVec Ideal S64 .f32) (X : FVec Ideal S64x100000 .f32) (ids : IVec S64 32) (K : BArr)
    (h : fn_part2 (F := Ideal) A3 X ids K (constant S_ .f32 0x7F800000#32) = fun _ => 1#1) :
    (∀ i, cmpf .olt (Host.absf X) (broadcastInDim S64x100000 ![] bcast_S_S64x100000 (constant S_ .f32 0x7F800000#32)) i = 1#1)
      ∧ (∀ i, cmpf .oge A3 (broadcastInDim S64 ![] bcast_S_S64 (constant S_ .f32 0x00000000#32)) i = 1#1)
      ∧ (∀ i, ori K (cmpf .olt X (spread (column (least X K)))) i = 1#1)
      ∧ ∀ i, Host.reduce IntOp.ori (andi (drawn ids) (clear X K)) (constantI S_ 1 0#1) reducesTo_S64x100000_S64_d1 h_S_ i = 1#1 := by
  rw [part2_eq] at h
  have h0 := congrFun h ix0
  rw [andi_at, andi_at, andi_at] at h0
  obtain ⟨h1, h2⟩ := IntOp.andi_eq_one.mp h0
  obtain ⟨h3, h4⟩ := IntOp.andi_eq_one.mp h1
  obtain ⟨h5, h6⟩ := IntOp.andi_eq_one.mp h3
  exact ⟨Host.reduce_andi_all _ _ _ _ _ h5, Host.reduce_andi_all _ _ _ _ _ h6, Host.reduce_andi_all _ _ _ _ _ h4,
    Host.reduce_andi_all _ _ _ _ _ h2⟩

theorem column_apply {α : Type} (x : S64.Idx → α) (i : Fin 64) : column x (ix2 i 0) = x (ix1 i) := by
  unfold column broadcastInDim
  refine congrArg x (funext fun a => Fin.ext ?_)
  match a with
  | ⟨0, _⟩ => rfl

theorem wide_apply {α : Type} (x : S64x1.Idx → α) (i : Fin 64) (k : Fin 100000) :
    broadcastInDim S64x100000 ![0, 1] bcast_S64x1_S64x100000_0_1 x (ix2 i k) = x (ix2 i 0) := by
  unfold broadcastInDim
  refine congrArg x (funext fun a => Fin.ext ?_)
  match a with
  | ⟨0, _⟩ => rfl
  | ⟨1, _⟩ => rfl

theorem spread_apply (x : FVec Ideal S64x1 .f32) (i : Fin 64) (k : Fin 100000) : spread x (ix2 i k) = x (ix2 i 0) := by
  unfold spread
  exact wide_apply x i k

theorem each_apply (v : BitVec 32) (i : S64x1.Idx) : each v i = FloatOps.ofBits (F := Ideal) .f32 v := by
  unfold each
  exact bcast_at _ _ _ _ (fun _ => rfl) _

theorem pfill_apply (v : BitVec 32) (i : S64x100000.Idx) :
    (broadcastInDim S64x100000 ![] bcast_S_S64x100000 (constant S_ .f32 v) : FVec Ideal S64x100000 .f32) i
      = FloatOps.ofBits (F := Ideal) .f32 v := bcast_at _ _ _ _ (fun _ => rfl) _

theorem ofBool_one {p : Prop} [Decidable p] (h : BitVec.ofBool (decide p) = 1#1) : p := by
  by_contra hp
  rw [decide_eq_false hp] at h
  exact absurd h (by decide)

/-- Every logit is a real number. -/
theorem finite_of (X : FVec Ideal S64x100000 .f32)
    (h : ∀ i, cmpf .olt (Host.absf X) (broadcastInDim S64x100000 ![] bcast_S_S64x100000 (constant S_ .f32 0x7F800000#32)) i = 1#1) :
    ∃ L : Fin 64 → Fin 100000 → ℝ, ∀ i k, X (ix2 i k) = (L i k : EReal) := by
  have key : ∀ i k, ∃ r : ℝ, X (ix2 i k) = (r : EReal) := by
    intro i k
    have h1 := h (ix2 i k)
    rw [cmpf_at, pfill_apply, bits_top, absf_at, cmp_olt] at h1
    have h2 : max (X (ix2 i k) : EReal) (-(X (ix2 i k))) < ⊤ := ofBool_one h1
    have h3 : (X (ix2 i k) : EReal) ≠ ⊤ := ((le_max_left _ _).trans_lt h2).ne
    have h4 : (X (ix2 i k) : EReal) ≠ ⊥ := by
      intro hb
      have := (le_max_right (X (ix2 i k) : EReal) (-(X (ix2 i k)))).trans_lt h2
      rw [hb] at this
      exact absurd this (by simp)
    exact ⟨EReal.toReal (X (ix2 i k)), (EReal.coe_toReal h3 h4).symm⟩
  choose L hL using key
  exact ⟨L, hL⟩

theorem nonneg_of (A3 : FVec Ideal S64 .f32)
    (h : ∀ i, cmpf .oge A3 (broadcastInDim S64 ![] bcast_S_S64 (constant S_ .f32 0x00000000#32)) i = 1#1) (i : Fin 64) :
    (0 : EReal) ≤ A3 (ix1 i) := by
  have h1 := h (ix1 i)
  rw [cmpf_at, bcast_at ![] bcast_S_S64 (constant S_ .f32 0x00000000#32 : FVec Ideal S_ .f32) (0 : EReal) (fun _ => bits_zero), cmp_oge] at h1
  exact ofBool_one h1

/-- The noise of a row. -/
def noise (i : Fin 64) (k : Fin 100000) : EReal := Cert.Pre_resolved.fn_gumbel (F := Ideal) (Run.key (F := Ideal)) (ix2 i k)

/-- The mask of the tokens kept. -/
def mask (X : FVec Ideal S64x100000 .f32) (A3 : FVec Ideal S64 .f32) : BArr :=
  cmpf (F := Ideal) .ogt (Run.nucleus (F := Ideal) X A3) (broadcastInDim S64x100000 ![] bcast_S_S64x100000 (constant S_ .f32 0xFF800000#32))

section
variable (X : FVec Ideal S64x100000 .f32) (A3 : FVec Ideal S64 .f32) (L : Fin 64 → Fin 100000 → ℝ)
  (hX : ∀ i k, X (ix2 i k) = (L i k : EReal)) (i : Fin 64)
include hX

theorem mask_apply (k : Fin 100000) : mask X A3 (ix2 i k) = BitVec.ofBool (decide (Run.kept (L i) (A3 (ix1 i)) k)) := by
  unfold mask
  rw [cmpf_at, pfill_apply, bits_bot, Run.nucleus_apply X A3 L hX, cmp_ogt]
  by_cases h : Run.kept (L i) (A3 (ix1 i)) k
  · rw [if_pos h, decide_eq_true (EReal.bot_lt_coe _), decide_eq_true h]
  · rw [if_neg h, decide_eq_false (lt_irrefl _), decide_eq_false h]

/-- The smallest logit kept, of a row. -/
theorem least_apply : ∃ l : EReal, least X (mask X A3) (ix1 i) = l ∧ (∀ k, Run.kept (L i) (A3 (ix1 i)) k → l ≤ (L i k : EReal))
    ∧ (l = ⊤ ∨ ∃ k, Run.kept (L i) (A3 (ix1 i)) k ∧ l = (L i k : EReal)) := by
  have e : ∀ k, (select (mask X A3) X (broadcastInDim S64x100000 ![] bcast_S_S64x100000 (constant S_ .f32 0x7F800000#32)) : FVec Ideal S64x100000 .f32) (ix2 i k)
      = if Run.kept (L i) (A3 (ix1 i)) k then (L i k : EReal) else (⊤ : EReal) := by
    intro k
    rw [select_apply, mask_apply X A3 L hX, pfill_apply, bits_top, hX]
    by_cases h : Run.kept (L i) (A3 (ix1 i)) k
    · rw [if_pos h, decide_eq_true h]; exact select_one _ _
    · rw [if_neg h, decide_eq_false h]; exact select_zero _ _
  obtain ⟨h1, h2⟩ := hostMin_row _ _ reducesTo_S64x100000_S64_d1 h_S_ i bits_top (least X (mask X A3) (ix1 i)) rfl
  refine ⟨_, rfl, fun k hk => ?_, ?_⟩
  · have := h1 k
    rw [e, if_pos hk] at this
    exact this
  · rcases h2 with h2 | ⟨k, h2⟩
    · exact Or.inl h2
    · rw [e] at h2
      by_cases hk : Run.kept (L i) (A3 (ix1 i)) k
      · rw [if_pos hk] at h2
        exact Or.inr ⟨k, hk, h2⟩
      · rw [if_neg hk] at h2
        exact Or.inl h2

theorem largest_apply : largest X (ix1 i) = (top (L i) : EReal) := by
  unfold largest
  exact hostMax_row (L i) X _ reducesTo_S64x100000_S64_d1 h_S_ i (hX i) bits_bot

/-- A token past the bound lies below every token kept. -/
theorem strict_of (h : ∀ j, ori (mask X A3) (cmpf .olt X (spread (column (least X (mask X A3))))) j = 1#1) (j k : Fin 100000)
    (hj : ¬ Run.kept (L i) (A3 (ix1 i)) j) (hk : Run.kept (L i) (A3 (ix1 i)) k) : L i j < L i k := by
  obtain ⟨l, hl, h1, -⟩ := least_apply X A3 L hX i
  have h2 := h (ix2 i j)
  rw [ori_at, mask_apply X A3 L hX, decide_eq_false hj, cmpf_at, spread_apply, column_apply, hl, hX, cmp_olt] at h2
  have h3 : (L i j : EReal) < l := by
    refine ofBool_one (Eq.trans ?_ h2)
    exact (BitVec.zero_or).symm
  exact EReal.coe_lt_coe_iff.mp (h3.trans_le (h1 k hk))

/-- A token clear of the threshold. -/
theorem clear_of (k : Fin 100000) (h : clear X (mask X A3) (ix2 i k) = 1#1) :
    L i k = top (L i) ∨ ((∃ j, Run.kept (L i) (A3 (ix1 i)) j ∧ L i j + 30 / 2 ^ 26 ≤ L i k) ∧ top (L i) - 30 + 30 / 2 ^ 26 ≤ L i k) := by
  obtain ⟨l, hl, -, h1⟩ := least_apply X A3 L hX i
  unfold clear at h
  rw [ori_at, cmpf_at, cmpf_at, spread_apply, spread_apply, column_apply, addf_at, maximumf_at, subf_at, column_apply, column_apply, each_apply,
    each_apply, bits_thirty, bits_gap, hl, largest_apply X L hX, hX, cmp_oeq, cmp_oge] at h
  by_cases ht : (L i k : EReal) = (top (L i) : EReal)
  · exact Or.inl (EReal.coe_eq_coe_iff.mp ht)
  · right
    rw [decide_eq_false ht] at h
    have h2 : max l ((top (L i) : EReal) - ((30 : ℝ) : EReal)) + ((30 / 2 ^ 26 : ℝ) : EReal) ≤ (L i k : EReal) :=
      ofBool_one (Eq.trans (BitVec.zero_or).symm h)
    have h3 := (add_le_add_left (le_max_left l ((top (L i) : EReal) - ((30 : ℝ) : EReal))) ((30 / 2 ^ 26 : ℝ) : EReal)).trans h2
    have h4 := (add_le_add_left (le_max_right l ((top (L i) : EReal) - ((30 : ℝ) : EReal))) ((30 / 2 ^ 26 : ℝ) : EReal)).trans h2
    rw [← EReal.coe_sub, ← EReal.coe_add, EReal.coe_le_coe_iff] at h4
    refine ⟨?_, h4⟩
    rcases h1 with rfl | ⟨j, hj, rfl⟩
    · rw [EReal.top_add_coe] at h3
      exact absurd h3 (not_le.mpr (EReal.coe_lt_top _))
    · rw [← EReal.coe_add, EReal.coe_le_coe_iff] at h3
      exact ⟨j, hj, h3⟩

/-- What the reference draws. -/
theorem sampled_apply : ∃ s : Fin 100000, Run.sampled (F := Ideal) X A3 (ix1 i) = BitVec.ofNat 32 s.val
    ∧ FirstMax (score (Run.kept (L i) (A3 (ix1 i))) (L i) (noise i)) s := by
  obtain ⟨s, h1, h2⟩ := Run.firstMax_apply (addf (Cert.Pre_resolved.fn_gumbel (F := Ideal) (Run.key (F := Ideal))) (Run.nucleus (F := Ideal) X A3)) i
  refine ⟨s, h1, ?_⟩
  have e : (fun k => (addf (Cert.Pre_resolved.fn_gumbel (F := Ideal) (Run.key (F := Ideal))) (Run.nucleus (F := Ideal) X A3) (ix2 i k) : EReal))
      = score (Run.kept (L i) (A3 (ix1 i))) (L i) (noise i) := by
    funext k
    rw [addf_at, Run.nucleus_apply X A3 L hX, score, noise]
    by_cases h : Run.kept (L i) (A3 (ix1 i)) k
    · rw [if_pos h, if_pos h, add_comm]
    · rw [if_neg h, if_neg h, EReal.add_bot]
  exact e ▸ h2
end

theorem drawn_apply (ids : IVec S64 32) (i : Fin 64) (s k : Fin 100000) (hs : ids (ix1 i) = BitVec.ofNat 32 s.val)
    (h : drawn ids (ix2 i k) = 1#1) : k = s := by
  unfold drawn at h
  rw [cmpi_at, wide_apply, column_apply, hs, WordCmp.cmpi_eq_eq] at h
  have h1 : BitVec.ofNat 32 k.val = BitVec.ofNat 32 s.val := ofBool_one h
  have h2 := congrArg BitVec.toNat h1
  have h3 := k.isLt
  have h4 := s.isLt
  simp only [BitVec.toNat_ofNat] at h2
  exact Fin.ext (by omega)

/-- The precondition, row by row. -/
theorem row_of (A0 : S64x768.Idx → Elt Ideal .f32) (A1 : S100000x768.Idx → Elt Ideal .f32) (A2 A3 : S64.Idx → Elt Ideal .f32)
    (h : Cert.Pre_resolved.fn (F := Ideal) A0 A1 A2 A3 = fun _ => 1#1) :
    ∃ L : Fin 64 → Fin 100000 → ℝ, (∀ i k, Run.logits A0 A1 A2 (ix2 i k) = (L i k : EReal)) ∧ ∀ i,
      (0 : EReal) ≤ A3 (ix1 i) ∧ (∀ j k, ¬ Run.kept (L i) (A3 (ix1 i)) j → Run.kept (L i) (A3 (ix1 i)) k → L i j < L i k)
      ∧ ∃ s : Fin 100000, Run.sampled (F := Ideal) (Run.logits A0 A1 A2) A3 (ix1 i) = BitVec.ofNat 32 s.val
        ∧ FirstMax (score (Run.kept (L i) (A3 (ix1 i))) (L i) (noise i)) s
        ∧ (L i s = top (L i) ∨ ((∃ j, Run.kept (L i) (A3 (ix1 i)) j ∧ L i j + 30 / 2 ^ 26 ≤ L i s) ∧ top (L i) - 30 + 30 / 2 ^ 26 ≤ L i s)) := by
  rw [Run.pre_eq] at h
  generalize Run.logits A0 A1 A2 = X at h ⊢
  obtain ⟨h1, h2, h3, h4⟩ := part2_one A3 X (Run.sampled (F := Ideal) X A3) (mask X A3) h
  obtain ⟨L, hL⟩ := finite_of _ h1
  refine ⟨L, hL, fun i => ⟨nonneg_of A3 h2 i, strict_of _ A3 L hL i h3, ?_⟩⟩
  obtain ⟨s, hs, hf⟩ := sampled_apply _ A3 L hL i
  refine ⟨s, hs, hf, ?_⟩
  obtain ⟨k, hk⟩ := hostAny_row _ _ reducesTo_S64x100000_S64_d1 h_S_ i rfl (h4 (ix1 i))
  obtain ⟨hd, hc⟩ := IntOp.andi_eq_one.mp hk
  obtain rfl := drawn_apply _ i s k hs hd
  exact clear_of _ A3 L hL i k hc

end Cert.ReferenceIdeal.Resolved

end
-- ==== Proof.Ideal.Result.lean ====
module

public import proofs.«01_k».proof.Proof.Ideal.Host
public import proofs.«01_k».proof.Proof.Ideal.Threshold
public import proofs.«01_k».proof.Proof.Ideal.Sample
public import proofs.«01_k».proof.Proof.Value.Nucleus
public import proofs.«01_k».proof.Proof.Ref.Resolved

@[expose] public section

noncomputable section

namespace Cert.KernelIdeal.Run

open Cert.KernelIdeal Cert.KernelIdeal.Gen Cert.Value
open Idealize.ShloMosaic hiding ix1 ix2
open Idealize.ShloMosaic.ValueIdx Idealize.ShloMosaic.TcCoe Idealize.ShloMosaic.StableHlo
open Cert.ReferenceIdeal.Resolved (noise row_of)
open Cert.ReferenceIdeal.Run (kept)

variable [Cert.Pre_resolved.Facts]

/-! # The kernel's result is the reference's -/

section Reads
variable (m : (ℓ : Loc nD τ sig) → Buf (Elt Ideal) ℓ) (o : OO (F := Ideal)) (c : Dev nD)

theorem read2_arg0 : V2 m c main_arg0 = m ((c : Thread nD τ).loc main_arg0) :=
  (V2_of m c main_arg0 (by decide)).trans (V1_of m c main_arg0 (by decide))
theorem read2_arg1 : V2 m c main_arg1 = m ((c : Thread nD τ).loc main_arg1) :=
  (V2_of m c main_arg1 (by decide)).trans (V1_of m c main_arg1 (by decide))
theorem read2_v1 (i : Fin 64) (z : Fin 128) : V2 m c main_v1 (ix2 i z) = m ((c : Thread nD τ).loc main_arg2) (ix1 i) := by
  rw [V2_of m c main_v1 (by decide)]
  exact (congrFun (hostOps0_v1 (V0 m c)) _).trans (lanes_apply _ i z)
theorem read2_v3 (i : Fin 64) (z : Fin 128) : V2 m c main_v3 (ix2 i z) = m ((c : Thread nD τ).loc main_arg3) (ix1 i) := by
  rw [V2_of m c main_v3 (by decide)]
  exact (congrFun (hostOps0_v3 (V0 m c)) _).trans (lanes_apply _ i z)
theorem read2_v11 : V2 m c main_v11 = Cert.Pre_resolved.fn_gumbel (F := Ideal) (Cert.ReferenceIdeal.Run.key (F := Ideal)) :=
  (Noise.noise (V1 m c)).trans (congrArg _ (hostOps0_v10 (V0 m c)))

theorem read2_noise (i : Fin 64) (j : Fin 100000) : V2 m c main_v11 (ix2 i j) = noise i j := by
  unfold noise
  rw [read2_v11]

theorem read3_logits : rd (W3 m o) c main_v12_0 = o.1 := (congrFun (rd_W3 m o c) main_v12_0).trans (left0_logits _ c o)
theorem read3_max : rd (W3 m o) c main_v12_1 = o.2 := (congrFun (rd_W3 m o c) main_v12_1).trans (left0_max _ c o)
theorem read3_v3 : rd (W3 m o) c main_v3 = V2 m c main_v3 :=
  (congrFun (rd_W3 m o c) main_v3).trans (left0_ne _ c o main_v3 (by decide) (by decide))
theorem read3_v11 : rd (W3 m o) c main_v11 = V2 m c main_v11 :=
  (congrFun (rd_W3 m o c) main_v11).trans (left0_ne _ c o main_v11 (by decide) (by decide))

theorem read4_logits : rd (W4 m o) c main_v12_0 = o.1 :=
  ((congrFun (rd_W4 m o c) main_v12_0).trans (left1_ne _ c main_v12_0 (by decide))).trans (read3_logits m o c)
theorem read4_max : rd (W4 m o) c main_v12_1 = o.2 :=
  ((congrFun (rd_W4 m o c) main_v12_1).trans (left1_ne _ c main_v12_1 (by decide))).trans (read3_max m o c)
theorem read4_v11 : rd (W4 m o) c main_v11 = V2 m c main_v11 :=
  ((congrFun (rd_W4 m o c) main_v11).trans (left1_ne _ c main_v11 (by decide))).trans (read3_v11 m o c)
theorem read4_v13 : rd (W4 m o) c main_v13 = chi (F := Ideal) o.1 o.2 (V2 m c main_v3) := by
  refine ((congrFun (rd_W4 m o c) main_v13).trans (left1_self _ c)).trans ?_
  unfold res1
  rw [read3_logits, read3_max, read3_v3]

theorem read5_v14 : rd (W5 m o) c main_v14
    = (best (F := Ideal) o.1 (V2 m c main_v11) o.2 (chi (F := Ideal) o.1 o.2 (V2 m c main_v3)) 49).2 := by
  refine ((congrFun (rd_W5 m o c) main_v14).trans (left2_self _ c)).trans ?_
  unfold res2
  rw [read4_logits, read4_max, read4_v11, read4_v13]

theorem read6_v16 : W6 m o c main_v16
    = firstLane (F := Ideal) (best (F := Ideal) o.1 (V2 m c main_v11) o.2 (chi (F := Ideal) o.1 o.2 (V2 m c main_v3)) 49).2 :=
  (hostOps3_v16 (W5 m o c)).trans (congrArg (firstLane (F := Ideal)) (read5_v14 m o c))

end Reads

/-- Under the precondition the kernel leaves the tokens the reference draws. -/
theorem result (m : (ℓ : Loc nD τ sig) → Buf (Elt Ideal) ℓ) (o : OO (F := Ideal)) (c : Dev nD) (ho : sel m o c)
    (hpre : Cert.Pre_resolved.fn (F := Ideal) (m ((c : Thread nD τ).loc main_arg0)) (m ((c : Thread nD τ).loc main_arg1))
      (m ((c : Thread nD τ).loc main_arg2)) (m ((c : Thread nD τ).loc main_arg3)) = fun _ => 1#1) :
    W6 m o c main_v16 = Cert.ReferenceIdeal.Run.sampled (F := Ideal)
      (Cert.ReferenceIdeal.Run.logits (F := Ideal) (m ((c : Thread nD τ).loc main_arg0)) (m ((c : Thread nD τ).loc main_arg1))
        (m ((c : Thread nD τ).loc main_arg2))) (m ((c : Thread nD τ).loc main_arg3)) := by
  obtain ⟨L, hL, hrow⟩ := row_of _ _ _ _ hpre
  have hE : ∀ i j, logit (rd (V2 m) c main_arg0) (rd (V2 m) c main_arg1) (fun i => rd (V2 m) c main_v1 (ix2 i (0 : Fin 128))) i j
      = (L i j : EReal) := fun i j => by
    rw [← hL i j, reference_logits]
    have h0 : rd (V2 m) c main_arg0 = _ := read2_arg0 m c
    have h1 : rd (V2 m) c main_arg1 = _ := read2_arg1 m c
    have h2 : (fun i => rd (V2 m) c main_v1 (ix2 i (0 : Fin 128))) = _ := funext fun i => read2_v1 m c i 0
    rw [h0, h1, h2]
  have hX : ∀ i j, o.1 (ix2 i j) = (L i j : EReal) := fun i j =>
    (logits_after (rd (V2 m)) c o.1 ho.1 i j).trans (hE i j)
  have hM : ∀ i z, o.2 (ix2 i z) = (top (L i) : EReal) := fun i z => max_after (rd (V2 m)) c L o.2 ho.2 hE i z
  rw [read6_v16]
  refine funext fun y => ?_
  obtain ⟨i, rfl⟩ : ∃ i : Fin 64, y = ix1 i := ⟨y 0, funext fun a => by rw [Subsingleton.elim a 0]⟩
  obtain ⟨ht, hstr, s, hs, hfirst, hclear⟩ := hrow i
  obtain ⟨tp, htp⟩ : ∃ tp : EReal, m ((c : Thread nD τ).loc main_arg3) (ix1 i) = tp := ⟨_, rfl⟩
  rw [htp] at ht hstr hfirst hclear
  have hchi := chi_at o.1 o.2 (V2 m c main_v3) i (L i) (top (L i)) (fun j => hX i j) (hM i 0)
    (tp * (mass (L i) : EReal)) (by rw [read2_v3, htp]; rfl) (0 : Fin 128)
  obtain ⟨t, hbest, hfirst'⟩ := drawn_at o.1 (V2 m c main_v11) o.2 (chi (F := Ideal) o.1 o.2 (V2 m c main_v3)) i (L i) (noise i)
    (top (L i)) _ (fun j => hX i j) (fun j => read2_noise m c i j) (hM i 0) hchi
  have heq : s = t := FirstMax.unique
    (drawn_eq (isNucleus (mass_pos _) (perm_antitone _) _)
      (bracket_iter (le_top _) (mul_nonneg ht (EReal.coe_nonneg.mpr (mass_pos _).le)) 26) hstr hfirst fun _ => hclear) hfirst'
  rw [firstLane_apply, hbest, hs, heq]

end Cert.KernelIdeal.Run

end
-- ==== Proof.Algebraic.lean ====
module

public import proofs.«01_k».proof.Defs
public import proofs.«01_k».proof.Proof.Frames
public import proofs.«01_k».proof.Proof.Ideal.Result

@[expose] public section

noncomputable section

namespace Cert.Proof

open Idealize.ShloMosaic Idealize.ShloMosaic.TcCoe Idealize.SL.Sem

/-! # The value: the kernel draws the tokens the reference draws -/

theorem algebraic [Cert.Pre_resolved.Facts] : Cert.algebraic_KernelIdeal_ReferenceIdeal_pre_resolved := by
  intro m g m' g' hpre harg
  refine ⟨fun c => Cert.ReferenceIdeal.Run.sampled (F := Ideal)
    (Cert.ReferenceIdeal.Run.logits (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
    (m ((c.tc : Thread Cert.KernelIdeal.nD Cert.KernelIdeal.τ).loc Cert.KernelIdeal.main_arg3)), ?_, ?_⟩
  · refine (θ_run _ _ _).mono (fun r h c => ?_) (Cert.KernelIdeal.Run.run m g)
    obtain ⟨o, ho, hv, hargs⟩ := h.1 c
    exact ⟨hv.trans (Cert.KernelIdeal.Run.result m o c ho (hpre c)), hargs⟩
  · refine (θ_run _ _ _).mono (fun r h c => ?_) (Cert.ReferenceIdeal.Run.run m' g')
    obtain ⟨h0, h1, h2, h3⟩ := Cert.ReferenceIdeal.Run.ops_args (F := Ideal) (StableHlo.launchContents m' c)
    obtain ⟨a0, a1, a2, a3⟩ := harg c
    refine ⟨?_, (h.1 c _).trans h0, (h.1 c _).trans h1, (h.1 c _).trans h2, (h.1 c _).trans h3⟩
    refine ((h.1 c _).trans (Cert.ReferenceIdeal.Run.result (F := Ideal) (StableHlo.launchContents m' c))).trans ?_
    exact congrArg₂ (Cert.ReferenceIdeal.Run.sampled (F := Ideal))
      (congr (congrArg₂ (Cert.ReferenceIdeal.Run.logits (F := Ideal)) a0 a1) a2) a3

end Cert.Proof

end
-- ==== Proof.lean ====
module

public import proofs.«01_k».proof.Defs
public import proofs.«01_k».proof.Proof.Algebraic
public import proofs.«01_k».proof.Proof.Gen.Pre_resolved

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_resolved.Gen.facts, frame_kernel, fun m g _ => frame_ideal m g, fun m g _ => frame_ideal m g,
    fun m g _ => frame_reference m g, fun m g _ => frame_reference m g, trivial,
    @algebraic Cert.Pre_resolved.Gen.facts⟩

end Cert.Proof

end
